-- ==== Defs.lean ====
def Pre_Wscale (m : (ℓ : Loc Cert.Wscale.nD Cert.Wscale.τ Cert.Wscale.sig) → Buf (Elt Bits) ℓ) : Prop :=
  True

def Pre_WscaleIdeal (m : (ℓ : Loc Cert.WscaleIdeal.nD Cert.WscaleIdeal.τ Cert.WscaleIdeal.sig) → Buf (Elt Ideal) ℓ) : Prop :=
  True

def Pre_RefWscaleIdeal (m : (ℓ : Loc Cert.RefWscaleIdeal.nD Cert.RefWscaleIdeal.τ Cert.RefWscaleIdeal.sig) → Buf (Elt Ideal) ℓ) : Prop :=
  True

def Pre_Wquant (m : (ℓ : Loc Cert.Wquant.nD Cert.Wquant.τ Cert.Wquant.sig) → Buf (Elt Bits) ℓ) : Prop :=
  True

def Pre_WquantIdeal (m : (ℓ : Loc Cert.WquantIdeal.nD Cert.WquantIdeal.τ Cert.WquantIdeal.sig) → Buf (Elt Ideal) ℓ) : Prop :=
  True

def Pre_RefWquantIdeal (m : (ℓ : Loc Cert.RefWquantIdeal.nD Cert.RefWquantIdeal.τ Cert.RefWquantIdeal.sig) → Buf (Elt Ideal) ℓ) : Prop :=
  True

def Pre_Xnorm (m : (ℓ : Loc Cert.Xnorm.nD Cert.Xnorm.τ Cert.Xnorm.sig) → Buf (Elt Bits) ℓ) : Prop :=
  True

def Pre_XnormIdeal (m : (ℓ : Loc Cert.XnormIdeal.nD Cert.XnormIdeal.τ Cert.XnormIdeal.sig) → Buf (Elt Ideal) ℓ) : Prop :=
  True

def Pre_RefXnormIdeal (m : (ℓ : Loc Cert.RefXnormIdeal.nD Cert.RefXnormIdeal.τ Cert.RefXnormIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_sat [hPre_sat : Cert.Pre_sat.Facts] (m : (ℓ : Loc Cert.DownIdeal.nD Cert.DownIdeal.τ Cert.DownIdeal.sig) → Buf (Elt Ideal) ℓ) : Prop :=
  ∀ c : Dev Cert.DownIdeal.nD,
    (Cert.Pre_sat.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6)) (m ((c.tc : Thread Cert.DownIdeal.nD Cert.DownIdeal.τ).loc Cert.DownIdeal.main_arg7)) (m ((c.tc : Thread Cert.DownIdeal.nD Cert.DownIdeal.τ).loc Cert.DownIdeal.main_arg8)) (m ((c.tc : Thread Cert.DownIdeal.nD Cert.DownIdeal.τ).loc Cert.DownIdeal.main_arg9)) (m ((c.tc : Thread Cert.DownIdeal.nD Cert.DownIdeal.τ).loc Cert.DownIdeal.main_arg10)) (m ((c.tc : Thread Cert.DownIdeal.nD Cert.DownIdeal.τ).loc Cert.DownIdeal.main_arg11)) (m ((c.tc : Thread Cert.DownIdeal.nD Cert.DownIdeal.τ).loc Cert.DownIdeal.main_arg12)) (m ((c.tc : Thread Cert.DownIdeal.nD Cert.DownIdeal.τ).loc Cert.DownIdeal.main_arg13)) (m ((c.tc : Thread Cert.DownIdeal.nD Cert.DownIdeal.τ).loc Cert.DownIdeal.main_arg14)) (m ((c.tc : Thread Cert.DownIdeal.nD Cert.DownIdeal.τ).loc Cert.DownIdeal.main_arg15))) = (fun _ => 1#1)

def Pre_RefDownIdeal (m : (ℓ : Loc Cert.RefDownIdeal.nD Cert.RefDownIdeal.τ Cert.RefDownIdeal.sig) → Buf (Elt Ideal) ℓ) : Prop :=
  True

def Pre_RefDownIdeal_sat [hPre_sat : Cert.Pre_sat.Facts] (m : (ℓ : Loc Cert.RefDownIdeal.nD Cert.RefDownIdeal.τ Cert.RefDownIdeal.sig) → Buf (Elt Ideal) ℓ) : Prop :=
  ∀ c : Dev Cert.RefDownIdeal.nD,
    (Cert.Pre_sat.fn (F := Ideal) (m ((c.tc : Thread Cert.RefDownIdeal.nD Cert.RefDownIdeal.τ).loc Cert.RefDownIdeal.main_arg0)) (m ((c.tc : Thread Cert.RefDownIdeal.nD Cert.RefDownIdeal.τ).loc Cert.RefDownIdeal.main_arg1)) (m ((c.tc : Thread Cert.RefDownIdeal.nD Cert.RefDownIdeal.τ).loc Cert.RefDownIdeal.main_arg2)) (m ((c.tc : Thread Cert.RefDownIdeal.nD Cert.RefDownIdeal.τ).loc Cert.RefDownIdeal.main_arg3)) (m ((c.tc : Thread Cert.RefDownIdeal.nD Cert.RefDownIdeal.τ).loc Cert.RefDownIdeal.main_arg4)) (m ((c.tc : Thread Cert.RefDownIdeal.nD Cert.RefDownIdeal.τ).loc Cert.RefDownIdeal.main_arg5)) (m ((c.tc : Thread Cert.RefDownIdeal.nD Cert.RefDownIdeal.τ).loc Cert.RefDownIdeal.main_arg6)) (m ((c.tc : Thread Cert.RefDownIdeal.nD Cert.RefDownIdeal.τ).loc Cert.RefDownIdeal.main_arg7)) (m ((c.tc : Thread Cert.RefDownIdeal.nD Cert.RefDownIdeal.τ).loc Cert.RefDownIdeal.main_arg8)) (m ((c.tc : Thread Cert.RefDownIdeal.nD Cert.RefDownIdeal.τ).loc Cert.RefDownIdeal.main_arg9)) (m ((c.tc : Thread Cert.RefDownIdeal.nD Cert.RefDownIdeal.τ).loc Cert.RefDownIdeal.main_arg10)) (m ((c.tc : Thread Cert.RefDownIdeal.nD Cert.RefDownIdeal.τ).loc Cert.RefDownIdeal.main_arg11)) (m ((c.tc : Thread Cert.RefDownIdeal.nD Cert.RefDownIdeal.τ).loc Cert.RefDownIdeal.main_arg12)) (m ((c.tc : Thread Cert.RefDownIdeal.nD Cert.RefDownIdeal.τ).loc Cert.RefDownIdeal.main_arg13)) (m ((c.tc : Thread Cert.RefDownIdeal.nD Cert.RefDownIdeal.τ).loc Cert.RefDownIdeal.main_arg14)) (m ((c.tc : Thread Cert.RefDownIdeal.nD Cert.RefDownIdeal.τ).loc Cert.RefDownIdeal.main_arg15))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_RefDwInIdeal (m : (ℓ : Loc Cert.RefDwInIdeal.nD Cert.RefDwInIdeal.τ Cert.RefDwInIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDwDownIdeal (m : (ℓ : Loc Cert.RefDwDownIdeal.nD Cert.RefDwDownIdeal.τ Cert.RefDwDownIdeal.sig) → Buf (Elt Ideal) ℓ) : Prop :=
  True

def quiescent_Wscale [hWscale : Cert.Wscale.Facts] : Prop :=
  ∀ (m : (ℓ : Loc Cert.Wscale.nD Cert.Wscale.τ Cert.Wscale.sig) → Buf (Elt Bits) ℓ) (g : Dev Cert.Wscale.nD → PrngReg), Pre_Wscale m →
    θ_run (Cert.Wscale.defs (F := Bits)) (onTc (τ := Cert.Wscale.τ) (Cert.Wscale.main (F := Bits))) ⟨m, fun _ => 0, g⟩ (fun r => (∀ c : Dev Cert.Wscale.nD,
      r.2.mem ((c.tc : Thread Cert.Wscale.nD Cert.Wscale.τ).loc Cert.Wscale.main_arg0) = m ((c.tc : Thread Cert.Wscale.nD Cert.Wscale.τ).loc Cert.Wscale.main_arg0)
      ∧ r.2.mem ((c.tc : Thread Cert.Wscale.nD Cert.Wscale.τ).loc Cert.Wscale.main_arg1) = m ((c.tc : Thread Cert.Wscale.nD Cert.Wscale.τ).loc Cert.Wscale.main_arg1)
      ∧ r.2.mem ((c.tc : Thread Cert.Wscale.nD Cert.Wscale.τ).loc Cert.Wscale.main_arg2) = m ((c.tc : Thread Cert.Wscale.nD Cert.Wscale.τ).loc Cert.Wscale.main_arg2))
      ∧ r.2.sem = fun _ => 0)

def quiescent_WscaleIdeal [hWscaleIdeal : Cert.WscaleIdeal.Facts] : Prop :=
  ∀ (m : (ℓ : Loc Cert.WscaleIdeal.nD Cert.WscaleIdeal.τ Cert.WscaleIdeal.sig) → Buf (Elt Ideal) ℓ) (g : Dev Cert.WscaleIdeal.nD → PrngReg), Pre_WscaleIdeal m →
    θ_run (Cert.WscaleIdeal.defs (F := Ideal)) (onTc (τ := Cert.WscaleIdeal.τ) (Cert.WscaleIdeal.main (F := Ideal))) ⟨m, fun _ => 0, g⟩ (fun r => (∀ c : Dev Cert.WscaleIdeal.nD,
      r.2.mem ((c.tc : Thread Cert.WscaleIdeal.nD Cert.WscaleIdeal.τ).loc Cert.WscaleIdeal.main_arg0) = m ((c.tc : Thread Cert.WscaleIdeal.nD Cert.WscaleIdeal.τ).loc Cert.WscaleIdeal.main_arg0)
      ∧ r.2.mem ((c.tc : Thread Cert.WscaleIdeal.nD Cert.WscaleIdeal.τ).loc Cert.WscaleIdeal.main_arg1) = m ((c.tc : Thread Cert.WscaleIdeal.nD Cert.WscaleIdeal.τ).loc Cert.WscaleIdeal.main_arg1)
      ∧ r.2.mem ((c.tc : Thread Cert.WscaleIdeal.nD Cert.WscaleIdeal.τ).loc Cert.WscaleIdeal.main_arg2) = m ((c.tc : Thread Cert.WscaleIdeal.nD Cert.WscaleIdeal.τ).loc Cert.WscaleIdeal.main_arg2))
      ∧ r.2.sem = fun _ => 0)

def quiescent_RefWscaleIdeal [hRefWscaleIdeal : Cert.RefWscaleIdeal.Facts] : Prop :=
  ∀ (m : (ℓ : Loc Cert.RefWscaleIdeal.nD Cert.RefWscaleIdeal.τ Cert.RefWscaleIdeal.sig) → Buf (Elt Ideal) ℓ) (g : Dev Cert.RefWscaleIdeal.nD → PrngReg), Pre_RefWscaleIdeal m →
    θ_run (Cert.RefWscaleIdeal.defs (F := Ideal)) (onTc (τ := Cert.RefWscaleIdeal.τ) (Cert.RefWscaleIdeal.main (F := Ideal))) ⟨m, fun _ => 0, g⟩ (fun r => (∀ c : Dev Cert.RefWscaleIdeal.nD,
      r.2.mem ((c.tc : Thread Cert.RefWscaleIdeal.nD Cert.RefWscaleIdeal.τ).loc Cert.RefWscaleIdeal.main_arg0) = m ((c.tc : Thread Cert.RefWscaleIdeal.nD Cert.RefWscaleIdeal.τ).loc Cert.RefWscaleIdeal.main_arg0)
      ∧ r.2.mem ((c.tc : Thread Cert.RefWscaleIdeal.nD Cert.RefWscaleIdeal.τ).loc Cert.RefWscaleIdeal.main_arg1) = m ((c.tc : Thread Cert.RefWscaleIdeal.nD Cert.RefWscaleIdeal.τ).loc Cert.RefWscaleIdeal.main_arg1)
      ∧ r.2.mem ((c.tc : Thread Cert.RefWscaleIdeal.nD Cert.RefWscaleIdeal.τ).loc Cert.RefWscaleIdeal.main_arg2) = m ((c.tc : Thread Cert.RefWscaleIdeal.nD Cert.RefWscaleIdeal.τ).loc Cert.RefWscaleIdeal.main_arg2))
      ∧ r.2.sem = fun _ => 0)

def quiescent_Wquant [hWquant : Cert.Wquant.Facts] : Prop :=
  ∀ (m : (ℓ : Loc Cert.Wquant.nD Cert.Wquant.τ Cert.Wquant.sig) → Buf (Elt Bits) ℓ) (g : Dev Cert.Wquant.nD → PrngReg), Pre_Wquant m →
    θ_run (Cert.Wquant.defs (F := Bits)) (onTc (τ := Cert.Wquant.τ) (Cert.Wquant.main (F := Bits))) ⟨m, fun _ => 0, g⟩ (fun r => (∀ c : Dev Cert.Wquant.nD,
      r.2.mem ((c.tc : Thread Cert.Wquant.nD Cert.Wquant.τ).loc Cert.Wquant.main_arg0) = m ((c.tc : Thread Cert.Wquant.nD Cert.Wquant.τ).loc Cert.Wquant.main_arg0)
      ∧ r.2.mem ((c.tc : Thread Cert.Wquant.nD Cert.Wquant.τ).loc Cert.Wquant.main_arg1) = m ((c.tc : Thread Cert.Wquant.nD Cert.Wquant.τ).loc Cert.Wquant.main_arg1)
      ∧ r.2.mem ((c.tc : Thread Cert.Wquant.nD Cert.Wquant.τ).loc Cert.Wquant.main_arg2) = m ((c.tc : Thread Cert.Wquant.nD Cert.Wquant.τ).loc Cert.Wquant.main_arg2)
      ∧ r.2.mem ((c.tc : Thread Cert.Wquant.nD Cert.Wquant.τ).loc Cert.Wquant.main_arg3) = m ((c.tc : Thread Cert.Wquant.nD Cert.Wquant.τ).loc Cert.Wquant.main_arg3)
      ∧ r.2.mem ((c.tc : Thread Cert.Wquant.nD Cert.Wquant.τ).loc Cert.Wquant.main_arg4) = m ((c.tc : Thread Cert.Wquant.nD Cert.Wquant.τ).loc Cert.Wquant.main_arg4)
      ∧ r.2.mem ((c.tc : Thread Cert.Wquant.nD Cert.Wquant.τ).loc Cert.Wquant.main_arg5) = m ((c.tc : Thread Cert.Wquant.nD Cert.Wquant.τ).loc Cert.Wquant.main_arg5))
      ∧ r.2.sem = fun _ => 0)

def quiescent_WquantIdeal [hWquantIdeal : Cert.WquantIdeal.Facts] : Prop :=
  ∀ (m : (ℓ : Loc Cert.WquantIdeal.nD Cert.WquantIdeal.τ Cert.WquantIdeal.sig) → Buf (Elt Ideal) ℓ) (g : Dev Cert.WquantIdeal.nD → PrngReg), Pre_WquantIdeal m →
    θ_run (Cert.WquantIdeal.defs (F := Ideal)) (onTc (τ := Cert.WquantIdeal.τ) (Cert.WquantIdeal.main (F := Ideal))) ⟨m, fun _ => 0, g⟩ (fun r => (∀ c : Dev Cert.WquantIdeal.nD,
      r.2.mem ((c.tc : Thread Cert.WquantIdeal.nD Cert.WquantIdeal.τ).loc Cert.WquantIdeal.main_arg0) = m ((c.tc : Thread Cert.WquantIdeal.nD Cert.WquantIdeal.τ).loc Cert.WquantIdeal.main_arg0)
      ∧ r.2.mem ((c.tc : Thread Cert.WquantIdeal.nD Cert.WquantIdeal.τ).loc Cert.WquantIdeal.main_arg1) = m ((c.tc : Thread Cert.WquantIdeal.nD Cert.WquantIdeal.τ).loc Cert.WquantIdeal.main_arg1)
      ∧ r.2.mem ((c.tc : Thread Cert.WquantIdeal.nD Cert.WquantIdeal.τ).loc Cert.WquantIdeal.main_arg2) = m ((c.tc : Thread Cert.WquantIdeal.nD Cert.WquantIdeal.τ).loc Cert.WquantIdeal.main_arg2)
      ∧ r.2.mem ((c.tc : Thread Cert.WquantIdeal.nD Cert.WquantIdeal.τ).loc Cert.WquantIdeal.main_arg3) = m ((c.tc : Thread Cert.WquantIdeal.nD Cert.WquantIdeal.τ).loc Cert.WquantIdeal.main_arg3)
      ∧ r.2.mem ((c.tc : Thread Cert.WquantIdeal.nD Cert.WquantIdeal.τ).loc Cert.WquantIdeal.main_arg4) = m ((c.tc : Thread Cert.WquantIdeal.nD Cert.WquantIdeal.τ).loc Cert.WquantIdeal.main_arg4)
      ∧ r.2.mem ((c.tc : Thread Cert.WquantIdeal.nD Cert.WquantIdeal.τ).loc Cert.WquantIdeal.main_arg5) = m ((c.tc : Thread Cert.WquantIdeal.nD Cert.WquantIdeal.τ).loc Cert.WquantIdeal.main_arg5))
      ∧ r.2.sem = fun _ => 0)

def quiescent_RefWquantIdeal [hRefWquantIdeal : Cert.RefWquantIdeal.Facts] : Prop :=
  ∀ (m : (ℓ : Loc Cert.RefWquantIdeal.nD Cert.RefWquantIdeal.τ Cert.RefWquantIdeal.sig) → Buf (Elt Ideal) ℓ) (g : Dev Cert.RefWquantIdeal.nD → PrngReg), Pre_RefWquantIdeal m →
    θ_run (Cert.RefWquantIdeal.defs (F := Ideal)) (onTc (τ := Cert.RefWquantIdeal.τ) (Cert.RefWquantIdeal.main (F := Ideal))) ⟨m, fun _ => 0, g⟩ (fun r => (∀ c : Dev Cert.RefWquantIdeal.nD,
      r.2.mem ((c.tc : Thread Cert.RefWquantIdeal.nD Cert.RefWquantIdeal.τ).loc Cert.RefWquantIdeal.main_arg0) = m ((c.tc : Thread Cert.RefWquantIdeal.nD Cert.RefWquantIdeal.τ).loc Cert.RefWquantIdeal.main_arg0)
      ∧ r.2.mem ((c.tc : Thread Cert.RefWquantIdeal.nD Cert.RefWquantIdeal.τ).loc Cert.RefWquantIdeal.main_arg1) = m ((c.tc : Thread Cert.RefWquantIdeal.nD Cert.RefWquantIdeal.τ).loc Cert.RefWquantIdeal.main_arg1)
      ∧ r.2.mem ((c.tc : Thread Cert.RefWquantIdeal.nD Cert.RefWquantIdeal.τ).loc Cert.RefWquantIdeal.main_arg2) = m ((c.tc : Thread Cert.RefWquantIdeal.nD Cert.RefWquantIdeal.τ).loc Cert.RefWquantIdeal.main_arg2)
      ∧ r.2.mem ((c.tc : Thread Cert.RefWquantIdeal.nD Cert.RefWquantIdeal.τ).loc Cert.RefWquantIdeal.main_arg3) = m ((c.tc : Thread Cert.RefWquantIdeal.nD Cert.RefWquantIdeal.τ).loc Cert.RefWquantIdeal.main_arg3)
      ∧ r.2.mem ((c.tc : Thread Cert.RefWquantIdeal.nD Cert.RefWquantIdeal.τ).loc Cert.RefWquantIdeal.main_arg4) = m ((c.tc : Thread Cert.RefWquantIdeal.nD Cert.RefWquantIdeal.τ).loc Cert.RefWquantIdeal.main_arg4)
      ∧ r.2.mem ((c.tc : Thread Cert.RefWquantIdeal.nD Cert.RefWquantIdeal.τ).loc Cert.RefWquantIdeal.main_arg5) = m ((c.tc : Thread Cert.RefWquantIdeal.nD Cert.RefWquantIdeal.τ).loc Cert.RefWquantIdeal.main_arg5))
      ∧ r.2.sem = fun _ => 0)

def quiescent_Xnorm [hXnorm : Cert.Xnorm.Facts] : Prop :=
  ∀ (m : (ℓ : Loc Cert.Xnorm.nD Cert.Xnorm.τ Cert.Xnorm.sig) → Buf (Elt Bits) ℓ) (g : Dev Cert.Xnorm.nD → PrngReg), Pre_Xnorm m →
    θ_run (Cert.Xnorm.defs (F := Bits)) (onTc (τ := Cert.Xnorm.τ) (Cert.Xnorm.main (F := Bits))) ⟨m, fun _ => 0, g⟩ (fun r => (∀ c : Dev Cert.Xnorm.nD,
      r.2.mem ((c.tc : Thread Cert.Xnorm.nD Cert.Xnorm.τ).loc Cert.Xnorm.main_arg0) = m ((c.tc : Thread Cert.Xnorm.nD Cert.Xnorm.τ).loc Cert.Xnorm.main_arg0)
      ∧ r.2.mem ((c.tc : Thread Cert.Xnorm.nD Cert.Xnorm.τ).loc Cert.Xnorm.main_arg1) = m ((c.tc : Thread Cert.Xnorm.nD Cert.Xnorm.τ).loc Cert.Xnorm.main_arg1))
      ∧ r.2.sem = fun _ => 0)

def quiescent_XnormIdeal [hXnormIdeal : Cert.XnormIdeal.Facts] : Prop :=
  ∀ (m : (ℓ : Loc Cert.XnormIdeal.nD Cert.XnormIdeal.τ Cert.XnormIdeal.sig) → Buf (Elt Ideal) ℓ) (g : Dev Cert.XnormIdeal.nD → PrngReg), Pre_XnormIdeal m →
    θ_run (Cert.XnormIdeal.defs (F := Ideal)) (onTc (τ := Cert.XnormIdeal.τ) (Cert.XnormIdeal.main (F := Ideal))) ⟨m, fun _ => 0, g⟩ (fun r => (∀ c : Dev Cert.XnormIdeal.nD,
      r.2.mem ((c.tc : Thread Cert.XnormIdeal.nD Cert.XnormIdeal.τ).loc Cert.XnormIdeal.main_arg0) = m ((c.tc : Thread Cert.XnormIdeal.nD Cert.XnormIdeal.τ).loc Cert.XnormIdeal.main_arg0)
      ∧ r.2.mem ((c.tc : Thread Cert.XnormIdeal.nD Cert.XnormIdeal.τ).loc Cert.XnormIdeal.main_arg1) = m ((c.tc : Thread Cert.XnormIdeal.nD Cert.XnormIdeal.τ).loc Cert.XnormIdeal.main_arg1))
      ∧ r.2.sem = fun _ => 0)

def quiescent_RefXnormIdeal [hRefXnormIdeal : Cert.RefXnormIdeal.Facts] : Prop :=
  ∀ (m : (ℓ : Loc Cert.RefXnormIdeal.nD Cert.RefXnormIdeal.τ Cert.RefXnormIdeal.sig) → Buf (Elt Ideal) ℓ) (g : Dev Cert.RefXnormIdeal.nD → PrngReg), Pre_RefXnormIdeal m →
    θ_run (Cert.RefXnormIdeal.defs (F := Ideal)) (onTc (τ := Cert.RefXnormIdeal.τ) (Cert.RefXnormIdeal.main (F := Ideal))) ⟨m, fun _ => 0, g⟩ (fun r => (∀ c : Dev Cert.RefXnormIdeal.nD,
      r.2.mem ((c.tc : Thread Cert.RefXnormIdeal.nD Cert.RefXnormIdeal.τ).loc Cert.RefXnormIdeal.main_arg0) = m ((c.tc : Thread Cert.RefXnormIdeal.nD Cert.RefXnormIdeal.τ).loc Cert.RefXnormIdeal.main_arg0)
      ∧ r.2.mem ((c.tc : Thread Cert.RefXnormIdeal.nD Cert.RefXnormIdeal.τ).loc Cert.RefXnormIdeal.main_arg1) = m ((c.tc : Thread Cert.RefXnormIdeal.nD Cert.RefXnormIdeal.τ).loc Cert.RefXnormIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7)
      ∧ r.2.mem ((c.tc : Thread Cert.Up.nD Cert.Up.τ).loc Cert.Up.main_arg8) = m ((c.tc : Thread Cert.Up.nD Cert.Up.τ).loc Cert.Up.main_arg8)
      ∧ r.2.mem ((c.tc : Thread Cert.Up.nD Cert.Up.τ).loc Cert.Up.main_arg9) = m ((c.tc : Thread Cert.Up.nD Cert.Up.τ).loc Cert.Up.main_arg9))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8)
      ∧ r.2.mem ((c.tc : Thread Cert.UpIdeal.nD Cert.UpIdeal.τ).loc Cert.UpIdeal.main_arg9) = m ((c.tc : Thread Cert.UpIdeal.nD Cert.UpIdeal.τ).loc Cert.UpIdeal.main_arg9))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4)
      ∧ r.2.mem ((c.tc : Thread Cert.RefUpIdeal.nD Cert.RefUpIdeal.τ).loc Cert.RefUpIdeal.main_arg5) = m ((c.tc : Thread Cert.RefUpIdeal.nD Cert.RefUpIdeal.τ).loc Cert.RefUpIdeal.main_arg5)
      ∧ r.2.mem ((c.tc : Thread Cert.RefUpIdeal.nD Cert.RefUpIdeal.τ).loc Cert.RefUpIdeal.main_arg6) = m ((c.tc : Thread Cert.RefUpIdeal.nD Cert.RefUpIdeal.τ).loc Cert.RefUpIdeal.main_arg6)
      ∧ r.2.mem ((c.tc : Thread Cert.RefUpIdeal.nD Cert.RefUpIdeal.τ).loc Cert.RefUpIdeal.main_arg7) = m ((c.tc : Thread Cert.RefUpIdeal.nD Cert.RefUpIdeal.τ).loc Cert.RefUpIdeal.main_arg7)
      ∧ r.2.mem ((c.tc : Thread Cert.RefUpIdeal.nD Cert.RefUpIdeal.τ).loc Cert.RefUpIdeal.main_arg8) = m ((c.tc : Thread Cert.RefUpIdeal.nD Cert.RefUpIdeal.τ).loc Cert.RefUpIdeal.main_arg8)
      ∧ r.2.mem ((c.tc : Thread Cert.RefUpIdeal.nD Cert.RefUpIdeal.τ).loc Cert.RefUpIdeal.main_arg9) = m ((c.tc : Thread Cert.RefUpIdeal.nD Cert.RefUpIdeal.τ).loc Cert.RefUpIdeal.main_arg9))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8)
      ∧ r.2.mem ((c.tc : Thread Cert.Down.nD Cert.Down.τ).loc Cert.Down.main_arg9) = m ((c.tc : Thread Cert.Down.nD Cert.Down.τ).loc Cert.Down.main_arg9)
      ∧ r.2.mem ((c.tc : Thread Cert.Down.nD Cert.Down.τ).loc Cert.Down.main_arg10) = m ((c.tc : Thread Cert.Down.nD Cert.Down.τ).loc Cert.Down.main_arg10)
      ∧ r.2.mem ((c.tc : Thread Cert.Down.nD Cert.Down.τ).loc Cert.Down.main_arg11) = m ((c.tc : Thread Cert.Down.nD Cert.Down.τ).loc Cert.Down.main_arg11)
      ∧ r.2.mem ((c.tc : Thread Cert.Down.nD Cert.Down.τ).loc Cert.Down.main_arg12) = m ((c.tc : Thread Cert.Down.nD Cert.Down.τ).loc Cert.Down.main_arg12)
      ∧ r.2.mem ((c.tc : Thread Cert.Down.nD Cert.Down.τ).loc Cert.Down.main_arg13) = m ((c.tc : Thread Cert.Down.nD Cert.Down.τ).loc Cert.Down.main_arg13)
      ∧ r.2.mem ((c.tc : Thread Cert.Down.nD Cert.Down.τ).loc Cert.Down.main_arg14) = m ((c.tc : Thread Cert.Down.nD Cert.Down.τ).loc Cert.Down.main_arg14)
      ∧ r.2.mem ((c.tc : Thread Cert.Down.nD Cert.Down.τ).loc Cert.Down.main_arg15) = m ((c.tc : Thread Cert.Down.nD Cert.Down.τ).loc Cert.Down.main_arg15))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9)
      ∧ r.2.mem ((c.tc : Thread Cert.DownIdeal.nD Cert.DownIdeal.τ).loc Cert.DownIdeal.main_arg10) = m ((c.tc : Thread Cert.DownIdeal.nD Cert.DownIdeal.τ).loc Cert.DownIdeal.main_arg10)
      ∧ r.2.mem ((c.tc : Thread Cert.DownIdeal.nD Cert.DownIdeal.τ).loc Cert.DownIdeal.main_arg11) = m ((c.tc : Thread Cert.DownIdeal.nD Cert.DownIdeal.τ).loc Cert.DownIdeal.main_arg11)
      ∧ r.2.mem ((c.tc : Thread Cert.DownIdeal.nD Cert.DownIdeal.τ).loc Cert.DownIdeal.main_arg12) = m ((c.tc : Thread Cert.DownIdeal.nD Cert.DownIdeal.τ).loc Cert.DownIdeal.main_arg12)
      ∧ r.2.mem ((c.tc : Thread Cert.DownIdeal.nD Cert.DownIdeal.τ).loc Cert.DownIdeal.main_arg13) = m ((c.tc : Thread Cert.DownIdeal.nD Cert.DownIdeal.τ).loc Cert.DownIdeal.main_arg13)
      ∧ r.2.mem ((c.tc : Thread Cert.DownIdeal.nD Cert.DownIdeal.τ).loc Cert.DownIdeal.main_arg14) = m ((c.tc : Thread Cert.DownIdeal.nD Cert.DownIdeal.τ).loc Cert.DownIdeal.main_arg14)
      ∧ r.2.mem ((c.tc : Thread Cert.DownIdeal.nD Cert.DownIdeal.τ).loc Cert.DownIdeal.main_arg15) = m ((c.tc : Thread Cert.DownIdeal.nD Cert.DownIdeal.τ).loc Cert.DownIdeal.main_arg15))
      ∧ r.2.sem = fun _ => 0)

def quiescent_DownIdeal_pre_sat [hDownIdeal : Cert.DownIdeal.Facts] [hPre_sat : Cert.Pre_sat.Facts] : Prop :=
  ∀ (m : (ℓ : Loc Cert.DownIdeal.nD Cert.DownIdeal.τ Cert.DownIdeal.sig) → Buf (Elt Ideal) ℓ) (g : Dev Cert.DownIdeal.nD → PrngReg), Pre_DownIdeal_sat m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
      ∧ r.2.mem ((c.tc : Thread Cert.DownIdeal.nD Cert.DownIdeal.τ).loc Cert.DownIdeal.main_arg9) = m ((c.tc : Thread Cert.DownIdeal.nD Cert.DownIdeal.τ).loc Cert.DownIdeal.main_arg9)
      ∧ r.2.mem ((c.tc : Thread Cert.DownIdeal.nD Cert.DownIdeal.τ).loc Cert.DownIdeal.main_arg10) = m ((c.tc : Thread Cert.DownIdeal.nD Cert.DownIdeal.τ).loc Cert.DownIdeal.main_arg10)
      ∧ r.2.mem ((c.tc : Thread Cert.DownIdeal.nD Cert.DownIdeal.τ).loc Cert.DownIdeal.main_arg11) = m ((c.tc : Thread Cert.DownIdeal.nD Cert.DownIdeal.τ).loc Cert.DownIdeal.main_arg11)
      ∧ r.2.mem ((c.tc : Thread Cert.DownIdeal.nD Cert.DownIdeal.τ).loc Cert.DownIdeal.main_arg12) = m ((c.tc : Thread Cert.DownIdeal.nD Cert.DownIdeal.τ).loc Cert.DownIdeal.main_arg12)
      ∧ r.2.mem ((c.tc : Thread Cert.DownIdeal.nD Cert.DownIdeal.τ).loc Cert.DownIdeal.main_arg13) = m ((c.tc : Thread Cert.DownIdeal.nD Cert.DownIdeal.τ).loc Cert.DownIdeal.main_arg13)
      ∧ r.2.mem ((c.tc : Thread Cert.DownIdeal.nD Cert.DownIdeal.τ).loc Cert.DownIdeal.main_arg14) = m ((c.tc : Thread Cert.DownIdeal.nD Cert.DownIdeal.τ).loc Cert.DownIdeal.main_arg14)
      ∧ r.2.mem ((c.tc : Thread Cert.DownIdeal.nD Cert.DownIdeal.τ).loc Cert.DownIdeal.main_arg15) = m ((c.tc : Thread Cert.DownIdeal.nD Cert.DownIdeal.τ).loc Cert.DownIdeal.main_arg15))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3)
      ∧ r.2.mem ((c.tc : Thread Cert.RefDownIdeal.nD Cert.RefDownIdeal.τ).loc Cert.RefDownIdeal.main_arg4) = m ((c.tc : Thread Cert.RefDownIdeal.nD Cert.RefDownIdeal.τ).loc Cert.RefDownIdeal.main_arg4)
      ∧ r.2.mem ((c.tc : Thread Cert.RefDownIdeal.nD Cert.RefDownIdeal.τ).loc Cert.RefDownIdeal.main_arg5) = m ((c.tc : Thread Cert.RefDownIdeal.nD Cert.RefDownIdeal.τ).loc Cert.RefDownIdeal.main_arg5)
      ∧ r.2.mem ((c.tc : Thread Cert.RefDownIdeal.nD Cert.RefDownIdeal.τ).loc Cert.RefDownIdeal.main_arg6) = m ((c.tc : Thread Cert.RefDownIdeal.nD Cert.RefDownIdeal.τ).loc Cert.RefDownIdeal.main_arg6)
      ∧ r.2.mem ((c.tc : Thread Cert.RefDownIdeal.nD Cert.RefDownIdeal.τ).loc Cert.RefDownIdeal.main_arg7) = m ((c.tc : Thread Cert.RefDownIdeal.nD Cert.RefDownIdeal.τ).loc Cert.RefDownIdeal.main_arg7)
      ∧ r.2.mem ((c.tc : Thread Cert.RefDownIdeal.nD Cert.RefDownIdeal.τ).loc Cert.RefDownIdeal.main_arg8) = m ((c.tc : Thread Cert.RefDownIdeal.nD Cert.RefDownIdeal.τ).loc Cert.RefDownIdeal.main_arg8)
      ∧ r.2.mem ((c.tc : Thread Cert.RefDownIdeal.nD Cert.RefDownIdeal.τ).loc Cert.RefDownIdeal.main_arg9) = m ((c.tc : Thread Cert.RefDownIdeal.nD Cert.RefDownIdeal.τ).loc Cert.RefDownIdeal.main_arg9)
      ∧ r.2.mem ((c.tc : Thread Cert.RefDownIdeal.nD Cert.RefDownIdeal.τ).loc Cert.RefDownIdeal.main_arg10) = m ((c.tc : Thread Cert.RefDownIdeal.nD Cert.RefDownIdeal.τ).loc Cert.RefDownIdeal.main_arg10)
      ∧ r.2.mem ((c.tc : Thread Cert.RefDownIdeal.nD Cert.RefDownIdeal.τ).loc Cert.RefDownIdeal.main_arg11) = m ((c.tc : Thread Cert.RefDownIdeal.nD Cert.RefDownIdeal.τ).loc Cert.RefDownIdeal.main_arg11)
      ∧ r.2.mem ((c.tc : Thread Cert.RefDownIdeal.nD Cert.RefDownIdeal.τ).loc Cert.RefDownIdeal.main_arg12) = m ((c.tc : Thread Cert.RefDownIdeal.nD Cert.RefDownIdeal.τ).loc Cert.RefDownIdeal.main_arg12)
      ∧ r.2.mem ((c.tc : Thread Cert.RefDownIdeal.nD Cert.RefDownIdeal.τ).loc Cert.RefDownIdeal.main_arg13) = m ((c.tc : Thread Cert.RefDownIdeal.nD Cert.RefDownIdeal.τ).loc Cert.RefDownIdeal.main_arg13)
      ∧ r.2.mem ((c.tc : Thread Cert.RefDownIdeal.nD Cert.RefDownIdeal.τ).loc Cert.RefDownIdeal.main_arg14) = m ((c.tc : Thread Cert.RefDownIdeal.nD Cert.RefDownIdeal.τ).loc Cert.RefDownIdeal.main_arg14)
      ∧ r.2.mem ((c.tc : Thread Cert.RefDownIdeal.nD Cert.RefDownIdeal.τ).loc Cert.RefDownIdeal.main_arg15) = m ((c.tc : Thread Cert.RefDownIdeal.nD Cert.RefDownIdeal.τ).loc Cert.RefDownIdeal.main_arg15))
      ∧ r.2.sem = fun _ => 0)

def quiescent_RefDownIdeal_pre_sat [hRefDownIdeal : Cert.RefDownIdeal.Facts] [hPre_sat : Cert.Pre_sat.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal_sat m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3)
      ∧ r.2.mem ((c.tc : Thread Cert.RefDownIdeal.nD Cert.RefDownIdeal.τ).loc Cert.RefDownIdeal.main_arg4) = m ((c.tc : Thread Cert.RefDownIdeal.nD Cert.RefDownIdeal.τ).loc Cert.RefDownIdeal.main_arg4)
      ∧ r.2.mem ((c.tc : Thread Cert.RefDownIdeal.nD Cert.RefDownIdeal.τ).loc Cert.RefDownIdeal.main_arg5) = m ((c.tc : Thread Cert.RefDownIdeal.nD Cert.RefDownIdeal.τ).loc Cert.RefDownIdeal.main_arg5)
      ∧ r.2.mem ((c.tc : Thread Cert.RefDownIdeal.nD Cert.RefDownIdeal.τ).loc Cert.RefDownIdeal.main_arg6) = m ((c.tc : Thread Cert.RefDownIdeal.nD Cert.RefDownIdeal.τ).loc Cert.RefDownIdeal.main_arg6)
      ∧ r.2.mem ((c.tc : Thread Cert.RefDownIdeal.nD Cert.RefDownIdeal.τ).loc Cert.RefDownIdeal.main_arg7) = m ((c.tc : Thread Cert.RefDownIdeal.nD Cert.RefDownIdeal.τ).loc Cert.RefDownIdeal.main_arg7)
      ∧ r.2.mem ((c.tc : Thread Cert.RefDownIdeal.nD Cert.RefDownIdeal.τ).loc Cert.RefDownIdeal.main_arg8) = m ((c.tc : Thread Cert.RefDownIdeal.nD Cert.RefDownIdeal.τ).loc Cert.RefDownIdeal.main_arg8)
      ∧ r.2.mem ((c.tc : Thread Cert.RefDownIdeal.nD Cert.RefDownIdeal.τ).loc Cert.RefDownIdeal.main_arg9) = m ((c.tc : Thread Cert.RefDownIdeal.nD Cert.RefDownIdeal.τ).loc Cert.RefDownIdeal.main_arg9)
      ∧ r.2.mem ((c.tc : Thread Cert.RefDownIdeal.nD Cert.RefDownIdeal.τ).loc Cert.RefDownIdeal.main_arg10) = m ((c.tc : Thread Cert.RefDownIdeal.nD Cert.RefDownIdeal.τ).loc Cert.RefDownIdeal.main_arg10)
      ∧ r.2.mem ((c.tc : Thread Cert.RefDownIdeal.nD Cert.RefDownIdeal.τ).loc Cert.RefDownIdeal.main_arg11) = m ((c.tc : Thread Cert.RefDownIdeal.nD Cert.RefDownIdeal.τ).loc Cert.RefDownIdeal.main_arg11)
      ∧ r.2.mem ((c.tc : Thread Cert.RefDownIdeal.nD Cert.RefDownIdeal.τ).loc Cert.RefDownIdeal.main_arg12) = m ((c.tc : Thread Cert.RefDownIdeal.nD Cert.RefDownIdeal.τ).loc Cert.RefDownIdeal.main_arg12)
      ∧ r.2.mem ((c.tc : Thread Cert.RefDownIdeal.nD Cert.RefDownIdeal.τ).loc Cert.RefDownIdeal.main_arg13) = m ((c.tc : Thread Cert.RefDownIdeal.nD Cert.RefDownIdeal.τ).loc Cert.RefDownIdeal.main_arg13)
      ∧ r.2.mem ((c.tc : Thread Cert.RefDownIdeal.nD Cert.RefDownIdeal.τ).loc Cert.RefDownIdeal.main_arg14) = m ((c.tc : Thread Cert.RefDownIdeal.nD Cert.RefDownIdeal.τ).loc Cert.RefDownIdeal.main_arg14)
      ∧ r.2.mem ((c.tc : Thread Cert.RefDownIdeal.nD Cert.RefDownIdeal.τ).loc Cert.RefDownIdeal.main_arg15) = m ((c.tc : Thread Cert.RefDownIdeal.nD Cert.RefDownIdeal.τ).loc Cert.RefDownIdeal.main_arg15))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_RefDwInIdeal [hRefDwInIdeal : Cert.RefDwInIdeal.Facts] : Prop :=
  ∀ (m : (ℓ : Loc Cert.RefDwInIdeal.nD Cert.RefDwInIdeal.τ Cert.RefDwInIdeal.sig) → Buf (Elt Ideal) ℓ) (g : Dev Cert.RefDwInIdeal.nD → PrngReg), Pre_RefDwInIdeal m →
    θ_run (Cert.RefDwInIdeal.defs (F := Ideal)) (onTc (τ := Cert.RefDwInIdeal.τ) (Cert.RefDwInIdeal.main (F := Ideal))) ⟨m, fun _ => 0, g⟩ (fun r => (∀ c : Dev Cert.RefDwInIdeal.nD,
      r.2.mem ((c.tc : Thread Cert.RefDwInIdeal.nD Cert.RefDwInIdeal.τ).loc Cert.RefDwInIdeal.main_arg0) = m ((c.tc : Thread Cert.RefDwInIdeal.nD Cert.RefDwInIdeal.τ).loc Cert.RefDwInIdeal.main_arg0)
      ∧ r.2.mem ((c.tc : Thread Cert.RefDwInIdeal.nD Cert.RefDwInIdeal.τ).loc Cert.RefDwInIdeal.main_arg1) = m ((c.tc : Thread Cert.RefDwInIdeal.nD Cert.RefDwInIdeal.τ).loc Cert.RefDwInIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_RefDwDownIdeal [hRefDwDownIdeal : Cert.RefDwDownIdeal.Facts] : Prop :=
  ∀ (m : (ℓ : Loc Cert.RefDwDownIdeal.nD Cert.RefDwDownIdeal.τ Cert.RefDwDownIdeal.sig) → Buf (Elt Ideal) ℓ) (g : Dev Cert.RefDwDownIdeal.nD → PrngReg), Pre_RefDwDownIdeal m →
    θ_run (Cert.RefDwDownIdeal.defs (F := Ideal)) (onTc (τ := Cert.RefDwDownIdeal.τ) (Cert.RefDwDownIdeal.main (F := Ideal))) ⟨m, fun _ => 0, g⟩ (fun r => (∀ c : Dev Cert.RefDwDownIdeal.nD,
      r.2.mem ((c.tc : Thread Cert.RefDwDownIdeal.nD Cert.RefDwDownIdeal.τ).loc Cert.RefDwDownIdeal.main_arg0) = m ((c.tc : Thread Cert.RefDwDownIdeal.nD Cert.RefDwDownIdeal.τ).loc Cert.RefDwDownIdeal.main_arg0)
      ∧ r.2.mem ((c.tc : Thread Cert.RefDwDownIdeal.nD Cert.RefDwDownIdeal.τ).loc Cert.RefDwDownIdeal.main_arg1) = m ((c.tc : Thread Cert.RefDwDownIdeal.nD Cert.RefDwDownIdeal.τ).loc Cert.RefDwDownIdeal.main_arg1)
      ∧ r.2.mem ((c.tc : Thread Cert.RefDwDownIdeal.nD Cert.RefDwDownIdeal.τ).loc Cert.RefDwDownIdeal.main_arg2) = m ((c.tc : Thread Cert.RefDwDownIdeal.nD Cert.RefDwDownIdeal.τ).loc Cert.RefDwDownIdeal.main_arg2))
      ∧ r.2.sem = fun _ => 0)

def preserves_Wscale_WscaleIdeal : Prop :=
  True

def algebraic_WscaleIdeal_RefWscaleIdeal [hWscaleIdeal : Cert.WscaleIdeal.Facts] [hRefWscaleIdeal : Cert.RefWscaleIdeal.Facts] : Prop :=
  ∀ (m : (ℓ : Loc Cert.WscaleIdeal.nD Cert.WscaleIdeal.τ Cert.WscaleIdeal.sig) → Buf (Elt Ideal) ℓ) (g : Dev Cert.WscaleIdeal.nD → PrngReg)
    (m' : (ℓ : Loc Cert.RefWscaleIdeal.nD Cert.RefWscaleIdeal.τ Cert.RefWscaleIdeal.sig) → Buf (Elt Ideal) ℓ) (g' : Dev Cert.RefWscaleIdeal.nD → PrngReg), Pre_WscaleIdeal m →
    (∀ c : Dev Cert.WscaleIdeal.nD,
      m' ((c.tc : Thread Cert.RefWscaleIdeal.nD Cert.RefWscaleIdeal.τ).loc Cert.RefWscaleIdeal.main_arg0) = m ((c.tc : Thread Cert.WscaleIdeal.nD Cert.WscaleIdeal.τ).loc Cert.WscaleIdeal.main_arg0)
      ∧ m' ((c.tc : Thread Cert.RefWscaleIdeal.nD Cert.RefWscaleIdeal.τ).loc Cert.RefWscaleIdeal.main_arg1) = m ((c.tc : Thread Cert.WscaleIdeal.nD Cert.WscaleIdeal.τ).loc Cert.WscaleIdeal.main_arg1)
      ∧ m' ((c.tc : Thread Cert.RefWscaleIdeal.nD Cert.RefWscaleIdeal.τ).loc Cert.RefWscaleIdeal.main_arg2) = m ((c.tc : Thread Cert.WscaleIdeal.nD Cert.WscaleIdeal.τ).loc Cert.WscaleIdeal.main_arg2)) →
    ∃ (v0 : (c : Dev Cert.WscaleIdeal.nD) → Buf (Elt Ideal) ((c.tc : Thread Cert.WscaleIdeal.nD Cert.WscaleIdeal.τ).loc Cert.WscaleIdeal.main_v0_0)) (v1 : (c : Dev Cert.WscaleIdeal.nD) → Buf (Elt Ideal) ((c.tc : Thread Cert.WscaleIdeal.nD Cert.WscaleIdeal.τ).loc Cert.WscaleIdeal.main_v0_1)) (v2 : (c : Dev Cert.WscaleIdeal.nD) → Buf (Elt Ideal) ((c.tc : Thread Cert.WscaleIdeal.nD Cert.WscaleIdeal.τ).loc Cert.WscaleIdeal.main_v0_2)),
      θ_run (Cert.WscaleIdeal.defs (F := Ideal)) (onTc (τ := Cert.WscaleIdeal.τ) (Cert.WscaleIdeal.main (F := Ideal))) ⟨m, fun _ => 0, g⟩ (fun r => ∀ c : Dev Cert.WscaleIdeal.nD,
          r.2.mem ((c.tc : Thread Cert.WscaleIdeal.nD Cert.WscaleIdeal.τ).loc Cert.WscaleIdeal.main_v0_0) = v0 c
          ∧ r.2.mem ((c.tc : Thread Cert.WscaleIdeal.nD Cert.WscaleIdeal.τ).loc Cert.WscaleIdeal.main_v0_1) = v1 c
          ∧ r.2.mem ((c.tc : Thread Cert.WscaleIdeal.nD Cert.WscaleIdeal.τ).loc Cert.WscaleIdeal.main_v0_2) = v2 c
          ∧ r.2.mem ((c.tc : Thread Cert.WscaleIdeal.nD Cert.WscaleIdeal.τ).loc Cert.WscaleIdeal.main_arg0) = m ((c.tc : Thread Cert.WscaleIdeal.nD Cert.WscaleIdeal.τ).loc Cert.WscaleIdeal.main_arg0)
          ∧ r.2.mem ((c.tc : Thread Cert.WscaleIdeal.nD Cert.WscaleIdeal.τ).loc Cert.WscaleIdeal.main_arg1) = m ((c.tc : Thread Cert.WscaleIdeal.nD Cert.WscaleIdeal.τ).loc Cert.WscaleIdeal.main_arg1)
          ∧ r.2.mem ((c.tc : Thread Cert.WscaleIdeal.nD Cert.WscaleIdeal.τ).loc Cert.WscaleIdeal.main_arg2) = m ((c.tc : Thread Cert.WscaleIdeal.nD Cert.WscaleIdeal.τ).loc Cert.WscaleIdeal.main_arg2))
      ∧ θ_run (Cert.RefWscaleIdeal.defs (F := Ideal)) (onTc (τ := Cert.RefWscaleIdeal.τ) (Cert.RefWscaleIdeal.main (F := Ideal))) ⟨m', fun _ => 0, g'⟩ (fun r => ∀ c : Dev Cert.RefWscaleIdeal.nD,
          r.2.mem ((c.tc : Thread Cert.RefWscaleIdeal.nD Cert.RefWscaleIdeal.τ).loc Cert.RefWscaleIdeal.main_v8) = v0 c
          ∧ r.2.mem ((c.tc : Thread Cert.RefWscaleIdeal.nD Cert.RefWscaleIdeal.τ).loc Cert.RefWscaleIdeal.main_v17) = v1 c
          ∧ r.2.mem ((c.tc : Thread Cert.RefWscaleIdeal.nD Cert.RefWscaleIdeal.τ).loc Cert.RefWscaleIdeal.main_v26) = v2 c
          ∧ r.2.mem ((c.tc : Thread Cert.RefWscaleIdeal.nD Cert.RefWscaleIdeal.τ).loc Cert.RefWscaleIdeal.main_arg0) = m' ((c.tc : Thread Cert.RefWscaleIdeal.nD Cert.RefWscaleIdeal.τ).loc Cert.RefWscaleIdeal.main_arg0)
          ∧ r.2.mem ((c.tc : Thread Cert.RefWscaleIdeal.nD Cert.RefWscaleIdeal.τ).loc Cert.RefWscaleIdeal.main_arg1) = m' ((c.tc : Thread Cert.RefWscaleIdeal.nD Cert.RefWscaleIdeal.τ).loc Cert.RefWscaleIdeal.main_arg1)
          ∧ r.2.mem ((c.tc : Thread Cert.RefWscaleIdeal.nD Cert.RefWscaleIdeal.τ).loc Cert.RefWscaleIdeal.main_arg2) = m' ((c.tc : Thread Cert.RefWscaleIdeal.nD Cert.RefWscaleIdeal.τ).loc Cert.RefWscaleIdeal.main_arg2))

def preserves_Wquant_WquantIdeal : Prop :=
  True

def algebraic_WquantIdeal_RefWquantIdeal [hWquantIdeal : Cert.WquantIdeal.Facts] [hRefWquantIdeal : Cert.RefWquantIdeal.Facts] : Prop :=
  ∀ (m : (ℓ : Loc Cert.WquantIdeal.nD Cert.WquantIdeal.τ Cert.WquantIdeal.sig) → Buf (Elt Ideal) ℓ) (g : Dev Cert.WquantIdeal.nD → PrngReg)
    (m' : (ℓ : Loc Cert.RefWquantIdeal.nD Cert.RefWquantIdeal.τ Cert.RefWquantIdeal.sig) → Buf (Elt Ideal) ℓ) (g' : Dev Cert.RefWquantIdeal.nD → PrngReg), Pre_WquantIdeal m →
    (∀ c : Dev Cert.WquantIdeal.nD,
      m' ((c.tc : Thread Cert.RefWquantIdeal.nD Cert.RefWquantIdeal.τ).loc Cert.RefWquantIdeal.main_arg0) = m ((c.tc : Thread Cert.WquantIdeal.nD Cert.WquantIdeal.τ).loc Cert.WquantIdeal.main_arg0)
      ∧ m' ((c.tc : Thread Cert.RefWquantIdeal.nD Cert.RefWquantIdeal.τ).loc Cert.RefWquantIdeal.main_arg1) = m ((c.tc : Thread Cert.WquantIdeal.nD Cert.WquantIdeal.τ).loc Cert.WquantIdeal.main_arg1)
      ∧ m' ((c.tc : Thread Cert.RefWquantIdeal.nD Cert.RefWquantIdeal.τ).loc Cert.RefWquantIdeal.main_arg2) = m ((c.tc : Thread Cert.WquantIdeal.nD Cert.WquantIdeal.τ).loc Cert.WquantIdeal.main_arg2)
      ∧ m' ((c.tc : Thread Cert.RefWquantIdeal.nD Cert.RefWquantIdeal.τ).loc Cert.RefWquantIdeal.main_arg3) = m ((c.tc : Thread Cert.WquantIdeal.nD Cert.WquantIdeal.τ).loc Cert.WquantIdeal.main_arg3)
      ∧ m' ((c.tc : Thread Cert.RefWquantIdeal.nD Cert.RefWquantIdeal.τ).loc Cert.RefWquantIdeal.main_arg4) = m ((c.tc : Thread Cert.WquantIdeal.nD Cert.WquantIdeal.τ).loc Cert.WquantIdeal.main_arg4)
      ∧ m' ((c.tc : Thread Cert.RefWquantIdeal.nD Cert.RefWquantIdeal.τ).loc Cert.RefWquantIdeal.main_arg5) = m ((c.tc : Thread Cert.WquantIdeal.nD Cert.WquantIdeal.τ).loc Cert.WquantIdeal.main_arg5)) →
    ∃ (v0 : (c : Dev Cert.WquantIdeal.nD) → Buf (Elt Ideal) ((c.tc : Thread Cert.WquantIdeal.nD Cert.WquantIdeal.τ).loc Cert.WquantIdeal.main_v0_0)) (v1 : (c : Dev Cert.WquantIdeal.nD) → Buf (Elt Ideal) ((c.tc : Thread Cert.WquantIdeal.nD Cert.WquantIdeal.τ).loc Cert.WquantIdeal.main_v0_1)) (v2 : (c : Dev Cert.WquantIdeal.nD) → Buf (Elt Ideal) ((c.tc : Thread Cert.WquantIdeal.nD Cert.WquantIdeal.τ).loc Cert.WquantIdeal.main_v0_2)) (v3 : (c : Dev Cert.WquantIdeal.nD) → Buf (Elt Ideal) ((c.tc : Thread Cert.WquantIdeal.nD Cert.WquantIdeal.τ).loc Cert.WquantIdeal.main_v0_3)) (v4 : (c : Dev Cert.WquantIdeal.nD) → Buf (Elt Ideal) ((c.tc : Thread Cert.WquantIdeal.nD Cert.WquantIdeal.τ).loc Cert.WquantIdeal.main_v0_4)) (v5 : (c : Dev Cert.WquantIdeal.nD) → Buf (Elt Ideal) ((c.tc : Thread Cert.WquantIdeal.nD Cert.WquantIdeal.τ).loc Cert.WquantIdeal.main_v0_5)),
      θ_run (Cert.WquantIdeal.defs (F := Ideal)) (onTc (τ := Cert.WquantIdeal.τ) (Cert.WquantIdeal.main (F := Ideal))) ⟨m, fun _ => 0, g⟩ (fun r => ∀ c : Dev Cert.WquantIdeal.nD,
          r.2.mem ((c.tc : Thread Cert.WquantIdeal.nD Cert.WquantIdeal.τ).loc Cert.WquantIdeal.main_v0_0) = v0 c
          ∧ r.2.mem ((c.tc : Thread Cert.WquantIdeal.nD Cert.WquantIdeal.τ).loc Cert.WquantIdeal.main_v0_1) = v1 c
          ∧ r.2.mem ((c.tc : Thread Cert.WquantIdeal.nD Cert.WquantIdeal.τ).loc Cert.WquantIdeal.main_v0_2) = v2 c
          ∧ r.2.mem ((c.tc : Thread Cert.WquantIdeal.nD Cert.WquantIdeal.τ).loc Cert.WquantIdeal.main_v0_3) = v3 c
          ∧ r.2.mem ((c.tc : Thread Cert.WquantIdeal.nD Cert.WquantIdeal.τ).loc Cert.WquantIdeal.main_v0_4) = v4 c
          ∧ r.2.mem ((c.tc : Thread Cert.WquantIdeal.nD Cert.WquantIdeal.τ).loc Cert.WquantIdeal.main_v0_5) = v5 c
          ∧ r.2.mem ((c.tc : Thread Cert.WquantIdeal.nD Cert.WquantIdeal.τ).loc Cert.WquantIdeal.main_arg0) = m ((c.tc : Thread Cert.WquantIdeal.nD Cert.WquantIdeal.τ).loc Cert.WquantIdeal.main_arg0)
          ∧ r.2.mem ((c.tc : Thread Cert.WquantIdeal.nD Cert.WquantIdeal.τ).loc Cert.WquantIdeal.main_arg1) = m ((c.tc : Thread Cert.WquantIdeal.nD Cert.WquantIdeal.τ).loc Cert.WquantIdeal.main_arg1)
          ∧ r.2.mem ((c.tc : Thread Cert.WquantIdeal.nD Cert.WquantIdeal.τ).loc Cert.WquantIdeal.main_arg2) = m ((c.tc : Thread Cert.WquantIdeal.nD Cert.WquantIdeal.τ).loc Cert.WquantIdeal.main_arg2)
          ∧ r.2.mem ((c.tc : Thread Cert.WquantIdeal.nD Cert.WquantIdeal.τ).loc Cert.WquantIdeal.main_arg3) = m ((c.tc : Thread Cert.WquantIdeal.nD Cert.WquantIdeal.τ).loc Cert.WquantIdeal.main_arg3)
          ∧ r.2.mem ((c.tc : Thread Cert.WquantIdeal.nD Cert.WquantIdeal.τ).loc Cert.WquantIdeal.main_arg4) = m ((c.tc : Thread Cert.WquantIdeal.nD Cert.WquantIdeal.τ).loc Cert.WquantIdeal.main_arg4)
          ∧ r.2.mem ((c.tc : Thread Cert.WquantIdeal.nD Cert.WquantIdeal.τ).loc Cert.WquantIdeal.main_arg5) = m ((c.tc : Thread Cert.WquantIdeal.nD Cert.WquantIdeal.τ).loc Cert.WquantIdeal.main_arg5))
      ∧ θ_run (Cert.RefWquantIdeal.defs (F := Ideal)) (onTc (τ := Cert.RefWquantIdeal.τ) (Cert.RefWquantIdeal.main (F := Ideal))) ⟨m', fun _ => 0, g'⟩ (fun r => ∀ c : Dev Cert.RefWquantIdeal.nD,
          r.2.mem ((c.tc : Thread Cert.RefWquantIdeal.nD Cert.RefWquantIdeal.τ).loc Cert.RefWquantIdeal.main_v6) = v0 c
          ∧ r.2.mem ((c.tc : Thread Cert.RefWquantIdeal.nD Cert.RefWquantIdeal.τ).loc Cert.RefWquantIdeal.main_v13) = v1 c
          ∧ r.2.mem ((c.tc : Thread Cert.RefWquantIdeal.nD Cert.RefWquantIdeal.τ).loc Cert.RefWquantIdeal.main_v20) = v2 c
          ∧ r.2.mem ((c.tc : Thread Cert.RefWquantIdeal.nD Cert.RefWquantIdeal.τ).loc Cert.RefWquantIdeal.main_v42) = v3 c
          ∧ r.2.mem ((c.tc : Thread Cert.RefWquantIdeal.nD Cert.RefWquantIdeal.τ).loc Cert.RefWquantIdeal.main_v64) = v4 c
          ∧ r.2.mem ((c.tc : Thread Cert.RefWquantIdeal.nD Cert.RefWquantIdeal.τ).loc Cert.RefWquantIdeal.main_v86) = v5 c
          ∧ r.2.mem ((c.tc : Thread Cert.RefWquantIdeal.nD Cert.RefWquantIdeal.τ).loc Cert.RefWquantIdeal.main_arg0) = m' ((c.tc : Thread Cert.RefWquantIdeal.nD Cert.RefWquantIdeal.τ).loc Cert.RefWquantIdeal.main_arg0)
          ∧ r.2.mem ((c.tc : Thread Cert.RefWquantIdeal.nD Cert.RefWquantIdeal.τ).loc Cert.RefWquantIdeal.main_arg1) = m' ((c.tc : Thread Cert.RefWquantIdeal.nD Cert.RefWquantIdeal.τ).loc Cert.RefWquantIdeal.main_arg1)
          ∧ r.2.mem ((c.tc : Thread Cert.RefWquantIdeal.nD Cert.RefWquantIdeal.τ).loc Cert.RefWquantIdeal.main_arg2) = m' ((c.tc : Thread Cert.RefWquantIdeal.nD Cert.RefWquantIdeal.τ).loc Cert.RefWquantIdeal.main_arg2)
          ∧ r.2.mem ((c.tc : Thread Cert.RefWquantIdeal.nD Cert.RefWquantIdeal.τ).loc Cert.RefWquantIdeal.main_arg3) = m' ((c.tc : Thread Cert.RefWquantIdeal.nD Cert.RefWquantIdeal.τ).loc Cert.RefWquantIdeal.main_arg3)
          ∧ r.2.mem ((c.tc : Thread Cert.RefWquantIdeal.nD Cert.RefWquantIdeal.τ).loc Cert.RefWquantIdeal.main_arg4) = m' ((c.tc : Thread Cert.RefWquantIdeal.nD Cert.RefWquantIdeal.τ).loc Cert.RefWquantIdeal.main_arg4)
          ∧ r.2.mem ((c.tc : Thread Cert.RefWquantIdeal.nD Cert.RefWquantIdeal.τ).loc Cert.RefWquantIdeal.main_arg5) = m' ((c.tc : Thread Cert.RefWquantIdeal.nD Cert.RefWquantIdeal.τ).loc Cert.RefWquantIdeal.main_arg5))

def preserves_Xnorm_XnormIdeal : Prop :=
  True

def algebraic_XnormIdeal_RefXnormIdeal [hXnormIdeal : Cert.XnormIdeal.Facts] [hRefXnormIdeal : Cert.RefXnormIdeal.Facts] : Prop :=
  ∀ (m : (ℓ : Loc Cert.XnormIdeal.nD Cert.XnormIdeal.τ Cert.XnormIdeal.sig) → Buf (Elt Ideal) ℓ) (g : Dev Cert.XnormIdeal.nD → PrngReg)
    (m' : (ℓ : Loc Cert.RefXnormIdeal.nD Cert.RefXnormIdeal.τ Cert.RefXnormIdeal.sig) → Buf (Elt Ideal) ℓ) (g' : Dev Cert.RefXnormIdeal.nD → PrngReg), Pre_XnormIdeal m →
    (∀ c : Dev Cert.XnormIdeal.nD,
      m' ((c.tc : Thread Cert.RefXnormIdeal.nD Cert.RefXnormIdeal.τ).loc Cert.RefXnormIdeal.main_arg0) = m ((c.tc : Thread Cert.XnormIdeal.nD Cert.XnormIdeal.τ).loc Cert.XnormIdeal.main_arg0)
      ∧ m' ((c.tc : Thread Cert.RefXnormIdeal.nD Cert.RefXnormIdeal.τ).loc Cert.RefXnormIdeal.main_arg1) = m ((c.tc : Thread Cert.XnormIdeal.nD Cert.XnormIdeal.τ).loc Cert.XnormIdeal.main_arg1)) →
    ∃ (v0 : (c : Dev Cert.XnormIdeal.nD) → Buf (Elt Ideal) ((c.tc : Thread Cert.XnormIdeal.nD Cert.XnormIdeal.τ).loc Cert.XnormIdeal.main_v0_0)) (v1 : (c : Dev Cert.XnormIdeal.nD) → Buf (Elt Ideal) ((c.tc : Thread Cert.XnormIdeal.nD Cert.XnormIdeal.τ).loc Cert.XnormIdeal.main_v0_1)) (v2 : (c : Dev Cert.XnormIdeal.nD) → Buf (Elt Ideal) ((c.tc : Thread Cert.XnormIdeal.nD Cert.XnormIdeal.τ).loc Cert.XnormIdeal.main_v0_2)),
      θ_run (Cert.XnormIdeal.defs (F := Ideal)) (onTc (τ := Cert.XnormIdeal.τ) (Cert.XnormIdeal.main (F := Ideal))) ⟨m, fun _ => 0, g⟩ (fun r => ∀ c : Dev Cert.XnormIdeal.nD,
          r.2.mem ((c.tc : Thread Cert.XnormIdeal.nD Cert.XnormIdeal.τ).loc Cert.XnormIdeal.main_v0_0) = v0 c
          ∧ r.2.mem ((c.tc : Thread Cert.XnormIdeal.nD Cert.XnormIdeal.τ).loc Cert.XnormIdeal.main_v0_1) = v1 c
          ∧ r.2.mem ((c.tc : Thread Cert.XnormIdeal.nD Cert.XnormIdeal.τ).loc Cert.XnormIdeal.main_v0_2) = v2 c
          ∧ r.2.mem ((c.tc : Thread Cert.XnormIdeal.nD Cert.XnormIdeal.τ).loc Cert.XnormIdeal.main_arg0) = m ((c.tc : Thread Cert.XnormIdeal.nD Cert.XnormIdeal.τ).loc Cert.XnormIdeal.main_arg0)
          ∧ r.2.mem ((c.tc : Thread Cert.XnormIdeal.nD Cert.XnormIdeal.τ).loc Cert.XnormIdeal.main_arg1) = m ((c.tc : Thread Cert.XnormIdeal.nD Cert.XnormIdeal.τ).loc Cert.XnormIdeal.main_arg1))
      ∧ θ_run (Cert.RefXnormIdeal.defs (F := Ideal)) (onTc (τ := Cert.RefXnormIdeal.τ) (Cert.RefXnormIdeal.main (F := Ideal))) ⟨m', fun _ => 0, g'⟩ (fun r => ∀ c : Dev Cert.RefXnormIdeal.nD,
          r.2.mem ((c.tc : Thread Cert.RefXnormIdeal.nD Cert.RefXnormIdeal.τ).loc Cert.RefXnormIdeal.main_v28) = v0 c
          ∧ r.2.mem ((c.tc : Thread Cert.RefXnormIdeal.nD Cert.RefXnormIdeal.τ).loc Cert.RefXnormIdeal.main_v29) = v1 c
          ∧ r.2.mem ((c.tc : Thread Cert.RefXnormIdeal.nD Cert.RefXnormIdeal.τ).loc Cert.RefXnormIdeal.main_v36) = v2 c
          ∧ r.2.mem ((c.tc : Thread Cert.RefXnormIdeal.nD Cert.RefXnormIdeal.τ).loc Cert.RefXnormIdeal.main_arg0) = m' ((c.tc : Thread Cert.RefXnormIdeal.nD Cert.RefXnormIdeal.τ).loc Cert.RefXnormIdeal.main_arg0)
          ∧ r.2.mem ((c.tc : Thread Cert.RefXnormIdeal.nD Cert.RefXnormIdeal.τ).loc Cert.RefXnormIdeal.main_arg1) = m' ((c.tc : Thread Cert.RefXnormIdeal.nD Cert.RefXnormIdeal.τ).loc Cert.RefXnormIdeal.main_arg1))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)
      ∧ m' ((c.tc : Thread Cert.RefUpIdeal.nD Cert.RefUpIdeal.τ).loc Cert.RefUpIdeal.main_arg3) = m ((c.tc : Thread Cert.UpIdeal.nD Cert.UpIdeal.τ).loc Cert.UpIdeal.main_arg3)
      ∧ m' ((c.tc : Thread Cert.RefUpIdeal.nD Cert.RefUpIdeal.τ).loc Cert.RefUpIdeal.main_arg4) = m ((c.tc : Thread Cert.UpIdeal.nD Cert.UpIdeal.τ).loc Cert.UpIdeal.main_arg4)
      ∧ m' ((c.tc : Thread Cert.RefUpIdeal.nD Cert.RefUpIdeal.τ).loc Cert.RefUpIdeal.main_arg5) = m ((c.tc : Thread Cert.UpIdeal.nD Cert.UpIdeal.τ).loc Cert.UpIdeal.main_arg5)
      ∧ m' ((c.tc : Thread Cert.RefUpIdeal.nD Cert.RefUpIdeal.τ).loc Cert.RefUpIdeal.main_arg6) = m ((c.tc : Thread Cert.UpIdeal.nD Cert.UpIdeal.τ).loc Cert.UpIdeal.main_arg6)
      ∧ m' ((c.tc : Thread Cert.RefUpIdeal.nD Cert.RefUpIdeal.τ).loc Cert.RefUpIdeal.main_arg7) = m ((c.tc : Thread Cert.UpIdeal.nD Cert.UpIdeal.τ).loc Cert.UpIdeal.main_arg7)
      ∧ m' ((c.tc : Thread Cert.RefUpIdeal.nD Cert.RefUpIdeal.τ).loc Cert.RefUpIdeal.main_arg8) = m ((c.tc : Thread Cert.UpIdeal.nD Cert.UpIdeal.τ).loc Cert.UpIdeal.main_arg8)
      ∧ m' ((c.tc : Thread Cert.RefUpIdeal.nD Cert.RefUpIdeal.τ).loc Cert.RefUpIdeal.main_arg9) = m ((c.tc : Thread Cert.UpIdeal.nD Cert.UpIdeal.τ).loc Cert.UpIdeal.main_arg9)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)) (v3 : (c : Dev Cert.UpIdeal.nD) → Buf (Elt Ideal) ((c.tc : Thread Cert.UpIdeal.nD Cert.UpIdeal.τ).loc Cert.UpIdeal.main_v0_3)) (v4 : (c : Dev Cert.UpIdeal.nD) → Buf (Elt Ideal) ((c.tc : Thread Cert.UpIdeal.nD Cert.UpIdeal.τ).loc Cert.UpIdeal.main_v0_4)) (v5 : (c : Dev Cert.UpIdeal.nD) → Buf (Elt Ideal) ((c.tc : Thread Cert.UpIdeal.nD Cert.UpIdeal.τ).loc Cert.UpIdeal.main_v0_5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_v0_3) = v3 c
          ∧ r.2.mem ((c.tc : Thread Cert.UpIdeal.nD Cert.UpIdeal.τ).loc Cert.UpIdeal.main_v0_4) = v4 c
          ∧ r.2.mem ((c.tc : Thread Cert.UpIdeal.nD Cert.UpIdeal.τ).loc Cert.UpIdeal.main_v0_5) = v5 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
          ∧ r.2.mem ((c.tc : Thread Cert.UpIdeal.nD Cert.UpIdeal.τ).loc Cert.UpIdeal.main_arg8) = m ((c.tc : Thread Cert.UpIdeal.nD Cert.UpIdeal.τ).loc Cert.UpIdeal.main_arg8)
          ∧ r.2.mem ((c.tc : Thread Cert.UpIdeal.nD Cert.UpIdeal.τ).loc Cert.UpIdeal.main_arg9) = m ((c.tc : Thread Cert.UpIdeal.nD Cert.UpIdeal.τ).loc Cert.UpIdeal.main_arg9))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v11) = v0 c
          ∧ r.2.mem ((c.tc : Thread Cert.RefUpIdeal.nD Cert.RefUpIdeal.τ).loc Cert.RefUpIdeal.main_v19) = v1 c
          ∧ r.2.mem ((c.tc : Thread Cert.RefUpIdeal.nD Cert.RefUpIdeal.τ).loc Cert.RefUpIdeal.main_v50) = v2 c
          ∧ r.2.mem ((c.tc : Thread Cert.RefUpIdeal.nD Cert.RefUpIdeal.τ).loc Cert.RefUpIdeal.main_v58) = v3 c
          ∧ r.2.mem ((c.tc : Thread Cert.RefUpIdeal.nD Cert.RefUpIdeal.τ).loc Cert.RefUpIdeal.main_v59) = v4 c
          ∧ r.2.mem ((c.tc : Thread Cert.RefUpIdeal.nD Cert.RefUpIdeal.τ).loc Cert.RefUpIdeal.main_v60) = v5 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3)
          ∧ r.2.mem ((c.tc : Thread Cert.RefUpIdeal.nD Cert.RefUpIdeal.τ).loc Cert.RefUpIdeal.main_arg4) = m' ((c.tc : Thread Cert.RefUpIdeal.nD Cert.RefUpIdeal.τ).loc Cert.RefUpIdeal.main_arg4)
          ∧ r.2.mem ((c.tc : Thread Cert.RefUpIdeal.nD Cert.RefUpIdeal.τ).loc Cert.RefUpIdeal.main_arg5) = m' ((c.tc : Thread Cert.RefUpIdeal.nD Cert.RefUpIdeal.τ).loc Cert.RefUpIdeal.main_arg5)
          ∧ r.2.mem ((c.tc : Thread Cert.RefUpIdeal.nD Cert.RefUpIdeal.τ).loc Cert.RefUpIdeal.main_arg6) = m' ((c.tc : Thread Cert.RefUpIdeal.nD Cert.RefUpIdeal.τ).loc Cert.RefUpIdeal.main_arg6)
          ∧ r.2.mem ((c.tc : Thread Cert.RefUpIdeal.nD Cert.RefUpIdeal.τ).loc Cert.RefUpIdeal.main_arg7) = m' ((c.tc : Thread Cert.RefUpIdeal.nD Cert.RefUpIdeal.τ).loc Cert.RefUpIdeal.main_arg7)
          ∧ r.2.mem ((c.tc : Thread Cert.RefUpIdeal.nD Cert.RefUpIdeal.τ).loc Cert.RefUpIdeal.main_arg8) = m' ((c.tc : Thread Cert.RefUpIdeal.nD Cert.RefUpIdeal.τ).loc Cert.RefUpIdeal.main_arg8)
          ∧ r.2.mem ((c.tc : Thread Cert.RefUpIdeal.nD Cert.RefUpIdeal.τ).loc Cert.RefUpIdeal.main_arg9) = m' ((c.tc : Thread Cert.RefUpIdeal.nD Cert.RefUpIdeal.τ).loc Cert.RefUpIdeal.main_arg9))

def preserves_Down_DownIdeal : Prop :=
  True

def algebraic_DownIdeal_RefDownIdeal_pre_sat [hDownIdeal : Cert.DownIdeal.Facts] [hRefDownIdeal : Cert.RefDownIdeal.Facts] [hPre_sat : Cert.Pre_sat.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal_sat m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)
      ∧ m' ((c.tc : Thread Cert.RefDownIdeal.nD Cert.RefDownIdeal.τ).loc Cert.RefDownIdeal.main_arg4) = m ((c.tc : Thread Cert.DownIdeal.nD Cert.DownIdeal.τ).loc Cert.DownIdeal.main_arg4)
      ∧ m' ((c.tc : Thread Cert.RefDownIdeal.nD Cert.RefDownIdeal.τ).loc Cert.RefDownIdeal.main_arg5) = m ((c.tc : Thread Cert.DownIdeal.nD Cert.DownIdeal.τ).loc Cert.DownIdeal.main_arg5)
      ∧ m' ((c.tc : Thread Cert.RefDownIdeal.nD Cert.RefDownIdeal.τ).loc Cert.RefDownIdeal.main_arg6) = m ((c.tc : Thread Cert.DownIdeal.nD Cert.DownIdeal.τ).loc Cert.DownIdeal.main_arg6)
      ∧ m' ((c.tc : Thread Cert.RefDownIdeal.nD Cert.RefDownIdeal.τ).loc Cert.RefDownIdeal.main_arg7) = m ((c.tc : Thread Cert.DownIdeal.nD Cert.DownIdeal.τ).loc Cert.DownIdeal.main_arg7)
      ∧ m' ((c.tc : Thread Cert.RefDownIdeal.nD Cert.RefDownIdeal.τ).loc Cert.RefDownIdeal.main_arg8) = m ((c.tc : Thread Cert.DownIdeal.nD Cert.DownIdeal.τ).loc Cert.DownIdeal.main_arg8)
      ∧ m' ((c.tc : Thread Cert.RefDownIdeal.nD Cert.RefDownIdeal.τ).loc Cert.RefDownIdeal.main_arg9) = m ((c.tc : Thread Cert.DownIdeal.nD Cert.DownIdeal.τ).loc Cert.DownIdeal.main_arg9)
      ∧ m' ((c.tc : Thread Cert.RefDownIdeal.nD Cert.RefDownIdeal.τ).loc Cert.RefDownIdeal.main_arg10) = m ((c.tc : Thread Cert.DownIdeal.nD Cert.DownIdeal.τ).loc Cert.DownIdeal.main_arg10)
      ∧ m' ((c.tc : Thread Cert.RefDownIdeal.nD Cert.RefDownIdeal.τ).loc Cert.RefDownIdeal.main_arg11) = m ((c.tc : Thread Cert.DownIdeal.nD Cert.DownIdeal.τ).loc Cert.DownIdeal.main_arg11)
      ∧ m' ((c.tc : Thread Cert.RefDownIdeal.nD Cert.RefDownIdeal.τ).loc Cert.RefDownIdeal.main_arg12) = m ((c.tc : Thread Cert.DownIdeal.nD Cert.DownIdeal.τ).loc Cert.DownIdeal.main_arg12)
      ∧ m' ((c.tc : Thread Cert.RefDownIdeal.nD Cert.RefDownIdeal.τ).loc Cert.RefDownIdeal.main_arg13) = m ((c.tc : Thread Cert.DownIdeal.nD Cert.DownIdeal.τ).loc Cert.DownIdeal.main_arg13)
      ∧ m' ((c.tc : Thread Cert.RefDownIdeal.nD Cert.RefDownIdeal.τ).loc Cert.RefDownIdeal.main_arg14) = m ((c.tc : Thread Cert.DownIdeal.nD Cert.DownIdeal.τ).loc Cert.DownIdeal.main_arg14)
      ∧ m' ((c.tc : Thread Cert.RefDownIdeal.nD Cert.RefDownIdeal.τ).loc Cert.RefDownIdeal.main_arg15) = m ((c.tc : Thread Cert.DownIdeal.nD Cert.DownIdeal.τ).loc Cert.DownIdeal.main_arg15)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)) (v4 : (c : Dev Cert.DownIdeal.nD) → Buf (Elt Ideal) ((c.tc : Thread Cert.DownIdeal.nD Cert.DownIdeal.τ).loc Cert.DownIdeal.main_v0_4)) (v5 : (c : Dev Cert.DownIdeal.nD) → Buf (Elt Ideal) ((c.tc : Thread Cert.DownIdeal.nD Cert.DownIdeal.τ).loc Cert.DownIdeal.main_v0_5)) (v6 : (c : Dev Cert.DownIdeal.nD) → Buf (Elt Ideal) ((c.tc : Thread Cert.DownIdeal.nD Cert.DownIdeal.τ).loc Cert.DownIdeal.main_v0_6)) (v7 : (c : Dev Cert.DownIdeal.nD) → Buf (Elt Ideal) ((c.tc : Thread Cert.DownIdeal.nD Cert.DownIdeal.τ).loc Cert.DownIdeal.main_v0_7)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_v0_4) = v4 c
          ∧ r.2.mem ((c.tc : Thread Cert.DownIdeal.nD Cert.DownIdeal.τ).loc Cert.DownIdeal.main_v0_5) = v5 c
          ∧ r.2.mem ((c.tc : Thread Cert.DownIdeal.nD Cert.DownIdeal.τ).loc Cert.DownIdeal.main_v0_6) = v6 c
          ∧ r.2.mem ((c.tc : Thread Cert.DownIdeal.nD Cert.DownIdeal.τ).loc Cert.DownIdeal.main_v0_7) = v7 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8)
          ∧ r.2.mem ((c.tc : Thread Cert.DownIdeal.nD Cert.DownIdeal.τ).loc Cert.DownIdeal.main_arg9) = m ((c.tc : Thread Cert.DownIdeal.nD Cert.DownIdeal.τ).loc Cert.DownIdeal.main_arg9)
          ∧ r.2.mem ((c.tc : Thread Cert.DownIdeal.nD Cert.DownIdeal.τ).loc Cert.DownIdeal.main_arg10) = m ((c.tc : Thread Cert.DownIdeal.nD Cert.DownIdeal.τ).loc Cert.DownIdeal.main_arg10)
          ∧ r.2.mem ((c.tc : Thread Cert.DownIdeal.nD Cert.DownIdeal.τ).loc Cert.DownIdeal.main_arg11) = m ((c.tc : Thread Cert.DownIdeal.nD Cert.DownIdeal.τ).loc Cert.DownIdeal.main_arg11)
          ∧ r.2.mem ((c.tc : Thread Cert.DownIdeal.nD Cert.DownIdeal.τ).loc Cert.DownIdeal.main_arg12) = m ((c.tc : Thread Cert.DownIdeal.nD Cert.DownIdeal.τ).loc Cert.DownIdeal.main_arg12)
          ∧ r.2.mem ((c.tc : Thread Cert.DownIdeal.nD Cert.DownIdeal.τ).loc Cert.DownIdeal.main_arg13) = m ((c.tc : Thread Cert.DownIdeal.nD Cert.DownIdeal.τ).loc Cert.DownIdeal.main_arg13)
          ∧ r.2.mem ((c.tc : Thread Cert.DownIdeal.nD Cert.DownIdeal.τ).loc Cert.DownIdeal.main_arg14) = m ((c.tc : Thread Cert.DownIdeal.nD Cert.DownIdeal.τ).loc Cert.DownIdeal.main_arg14)
          ∧ r.2.mem ((c.tc : Thread Cert.DownIdeal.nD Cert.DownIdeal.τ).loc Cert.DownIdeal.main_arg15) = m ((c.tc : Thread Cert.DownIdeal.nD Cert.DownIdeal.τ).loc Cert.DownIdeal.main_arg15))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v16) = v0 c
          ∧ r.2.mem ((c.tc : Thread Cert.RefDownIdeal.nD Cert.RefDownIdeal.τ).loc Cert.RefDownIdeal.main_v46) = v1 c
          ∧ r.2.mem ((c.tc : Thread Cert.RefDownIdeal.nD Cert.RefDownIdeal.τ).loc Cert.RefDownIdeal.main_v41) = v2 c
          ∧ r.2.mem ((c.tc : Thread Cert.RefDownIdeal.nD Cert.RefDownIdeal.τ).loc Cert.RefDownIdeal.main_v29) = v3 c
          ∧ r.2.mem ((c.tc : Thread Cert.RefDownIdeal.nD Cert.RefDownIdeal.τ).loc Cert.RefDownIdeal.main_v89) = v4 c
          ∧ r.2.mem ((c.tc : Thread Cert.RefDownIdeal.nD Cert.RefDownIdeal.τ).loc Cert.RefDownIdeal.main_v90) = v5 c
          ∧ r.2.mem ((c.tc : Thread Cert.RefDownIdeal.nD Cert.RefDownIdeal.τ).loc Cert.RefDownIdeal.main_v32) = v6 c
          ∧ r.2.mem ((c.tc : Thread Cert.RefDownIdeal.nD Cert.RefDownIdeal.τ).loc Cert.RefDownIdeal.main_v74) = v7 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3)
          ∧ r.2.mem ((c.tc : Thread Cert.RefDownIdeal.nD Cert.RefDownIdeal.τ).loc Cert.RefDownIdeal.main_arg4) = m' ((c.tc : Thread Cert.RefDownIdeal.nD Cert.RefDownIdeal.τ).loc Cert.RefDownIdeal.main_arg4)
          ∧ r.2.mem ((c.tc : Thread Cert.RefDownIdeal.nD Cert.RefDownIdeal.τ).loc Cert.RefDownIdeal.main_arg5) = m' ((c.tc : Thread Cert.RefDownIdeal.nD Cert.RefDownIdeal.τ).loc Cert.RefDownIdeal.main_arg5)
          ∧ r.2.mem ((c.tc : Thread Cert.RefDownIdeal.nD Cert.RefDownIdeal.τ).loc Cert.RefDownIdeal.main_arg6) = m' ((c.tc : Thread Cert.RefDownIdeal.nD Cert.RefDownIdeal.τ).loc Cert.RefDownIdeal.main_arg6)
          ∧ r.2.mem ((c.tc : Thread Cert.RefDownIdeal.nD Cert.RefDownIdeal.τ).loc Cert.RefDownIdeal.main_arg7) = m' ((c.tc : Thread Cert.RefDownIdeal.nD Cert.RefDownIdeal.τ).loc Cert.RefDownIdeal.main_arg7)
          ∧ r.2.mem ((c.tc : Thread Cert.RefDownIdeal.nD Cert.RefDownIdeal.τ).loc Cert.RefDownIdeal.main_arg8) = m' ((c.tc : Thread Cert.RefDownIdeal.nD Cert.RefDownIdeal.τ).loc Cert.RefDownIdeal.main_arg8)
          ∧ r.2.mem ((c.tc : Thread Cert.RefDownIdeal.nD Cert.RefDownIdeal.τ).loc Cert.RefDownIdeal.main_arg9) = m' ((c.tc : Thread Cert.RefDownIdeal.nD Cert.RefDownIdeal.τ).loc Cert.RefDownIdeal.main_arg9)
          ∧ r.2.mem ((c.tc : Thread Cert.RefDownIdeal.nD Cert.RefDownIdeal.τ).loc Cert.RefDownIdeal.main_arg10) = m' ((c.tc : Thread Cert.RefDownIdeal.nD Cert.RefDownIdeal.τ).loc Cert.RefDownIdeal.main_arg10)
          ∧ r.2.mem ((c.tc : Thread Cert.RefDownIdeal.nD Cert.RefDownIdeal.τ).loc Cert.RefDownIdeal.main_arg11) = m' ((c.tc : Thread Cert.RefDownIdeal.nD Cert.RefDownIdeal.τ).loc Cert.RefDownIdeal.main_arg11)
          ∧ r.2.mem ((c.tc : Thread Cert.RefDownIdeal.nD Cert.RefDownIdeal.τ).loc Cert.RefDownIdeal.main_arg12) = m' ((c.tc : Thread Cert.RefDownIdeal.nD Cert.RefDownIdeal.τ).loc Cert.RefDownIdeal.main_arg12)
          ∧ r.2.mem ((c.tc : Thread Cert.RefDownIdeal.nD Cert.RefDownIdeal.τ).loc Cert.RefDownIdeal.main_arg13) = m' ((c.tc : Thread Cert.RefDownIdeal.nD Cert.RefDownIdeal.τ).loc Cert.RefDownIdeal.main_arg13)
          ∧ r.2.mem ((c.tc : Thread Cert.RefDownIdeal.nD Cert.RefDownIdeal.τ).loc Cert.RefDownIdeal.main_arg14) = m' ((c.tc : Thread Cert.RefDownIdeal.nD Cert.RefDownIdeal.τ).loc Cert.RefDownIdeal.main_arg14)
          ∧ r.2.mem ((c.tc : Thread Cert.RefDownIdeal.nD Cert.RefDownIdeal.τ).loc Cert.RefDownIdeal.main_arg15) = m' ((c.tc : Thread Cert.RefDownIdeal.nD Cert.RefDownIdeal.τ).loc Cert.RefDownIdeal.main_arg15))

def preserves_DwIn_DwInIdeal : Prop :=
  True

def algebraic_DwInIdeal_RefDwInIdeal [hDwInIdeal : Cert.DwInIdeal.Facts] [hRefDwInIdeal : Cert.RefDwInIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.RefDwInIdeal.nD Cert.RefDwInIdeal.τ Cert.RefDwInIdeal.sig) → Buf (Elt Ideal) ℓ) (g' : Dev Cert.RefDwInIdeal.nD → PrngReg), Pre_DwInIdeal m →
    (∀ c : Dev Cert.DwInIdeal.nD,
      m' ((c.tc : Thread Cert.RefDwInIdeal.nD Cert.RefDwInIdeal.τ).loc Cert.RefDwInIdeal.main_arg0) = m ((c.tc : Thread Cert.DwInIdeal.nD Cert.DwInIdeal.τ).loc Cert.DwInIdeal.main_arg0)
      ∧ m' ((c.tc : Thread Cert.RefDwInIdeal.nD Cert.RefDwInIdeal.τ).loc Cert.RefDwInIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.RefDwInIdeal.defs (F := Ideal)) (onTc (τ := Cert.RefDwInIdeal.τ) (Cert.RefDwInIdeal.main (F := Ideal))) ⟨m', fun _ => 0, g'⟩ (fun r => ∀ c : Dev Cert.RefDwInIdeal.nD,
          r.2.mem ((c.tc : Thread Cert.RefDwInIdeal.nD Cert.RefDwInIdeal.τ).loc Cert.RefDwInIdeal.main_v1) = v0 c
          ∧ r.2.mem ((c.tc : Thread Cert.RefDwInIdeal.nD Cert.RefDwInIdeal.τ).loc Cert.RefDwInIdeal.main_arg0) = m' ((c.tc : Thread Cert.RefDwInIdeal.nD Cert.RefDwInIdeal.τ).loc Cert.RefDwInIdeal.main_arg0)
          ∧ r.2.mem ((c.tc : Thread Cert.RefDwInIdeal.nD Cert.RefDwInIdeal.τ).loc Cert.RefDwInIdeal.main_arg1) = m' ((c.tc : Thread Cert.RefDwInIdeal.nD Cert.RefDwInIdeal.τ).loc Cert.RefDwInIdeal.main_arg1))

def preserves_DwDown_DwDownIdeal : Prop :=
  True

def algebraic_DwDownIdeal_RefDwDownIdeal [hDwDownIdeal : Cert.DwDownIdeal.Facts] [hRefDwDownIdeal : Cert.RefDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDwDownIdeal.nD Cert.RefDwDownIdeal.τ Cert.RefDwDownIdeal.sig) → Buf (Elt Ideal) ℓ) (g' : Dev Cert.RefDwDownIdeal.nD → PrngReg), Pre_DwDownIdeal m →
    (∀ c : Dev Cert.DwDownIdeal.nD,
      m' ((c.tc : Thread Cert.RefDwDownIdeal.nD Cert.RefDwDownIdeal.τ).loc Cert.RefDwDownIdeal.main_arg0) = m ((c.tc : Thread Cert.DwDownIdeal.nD Cert.DwDownIdeal.τ).loc Cert.DwDownIdeal.main_arg0)
      ∧ m' ((c.tc : Thread Cert.RefDwDownIdeal.nD Cert.RefDwDownIdeal.τ).loc Cert.RefDwDownIdeal.main_arg1) = m ((c.tc : Thread Cert.DwDownIdeal.nD Cert.DwDownIdeal.τ).loc Cert.DwDownIdeal.main_arg1)
      ∧ m' ((c.tc : Thread Cert.RefDwDownIdeal.nD Cert.RefDwDownIdeal.τ).loc Cert.RefDwDownIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.RefDwDownIdeal.defs (F := Ideal)) (onTc (τ := Cert.RefDwDownIdeal.τ) (Cert.RefDwDownIdeal.main (F := Ideal))) ⟨m', fun _ => 0, g'⟩ (fun r => ∀ c : Dev Cert.RefDwDownIdeal.nD,
          r.2.mem ((c.tc : Thread Cert.RefDwDownIdeal.nD Cert.RefDwDownIdeal.τ).loc Cert.RefDwDownIdeal.main_v8) = v0 c
          ∧ r.2.mem ((c.tc : Thread Cert.RefDwDownIdeal.nD Cert.RefDwDownIdeal.τ).loc Cert.RefDwDownIdeal.main_arg0) = m' ((c.tc : Thread Cert.RefDwDownIdeal.nD Cert.RefDwDownIdeal.τ).loc Cert.RefDwDownIdeal.main_arg0)
          ∧ r.2.mem ((c.tc : Thread Cert.RefDwDownIdeal.nD Cert.RefDwDownIdeal.τ).loc Cert.RefDwDownIdeal.main_arg1) = m' ((c.tc : Thread Cert.RefDwDownIdeal.nD Cert.RefDwDownIdeal.τ).loc Cert.RefDwDownIdeal.main_arg1)
          ∧ r.2.mem ((c.tc : Thread Cert.RefDwDownIdeal.nD Cert.RefDwDownIdeal.τ).loc Cert.RefDwDownIdeal.main_arg2) = m' ((c.tc : Thread Cert.RefDwDownIdeal.nD Cert.RefDwDownIdeal.τ).loc Cert.RefDwDownIdeal.main_arg2))

def Claim : Prop :=
  ∃ (hWscale : Cert.Wscale.Facts) (hWscaleIdeal : Cert.WscaleIdeal.Facts) (hRefWscaleIdeal : Cert.RefWscaleIdeal.Facts) (hWquant : Cert.Wquant.Facts) (hWquantIdeal : Cert.WquantIdeal.Facts) (hRefWquantIdeal : Cert.RefWquantIdeal.Facts) (hXnorm : Cert.Xnorm.Facts) (hXnormIdeal : Cert.XnormIdeal.Facts) (hRefXnormIdeal : Cert.RefXnormIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hDwIn : Cert.DwIn.Facts) (hDwInIdeal : Cert.DwInIdeal.Facts) (hRefDwInIdeal : Cert.RefDwInIdeal.Facts) (hDwDown : Cert.DwDown.Facts) (hDwDownIdeal : Cert.DwDownIdeal.Facts) (hRefDwDownIdeal : Cert.RefDwDownIdeal.Facts) (hPre_sat : Cert.Pre_sat.Facts),
    quiescent_Wscale (hWscale := hWscale)
    ∧ quiescent_WscaleIdeal (hWscaleIdeal := hWscaleIdeal)
    ∧ quiescent_RefWscaleIdeal (hRefWscaleIdeal := hRefWscaleIdeal)
    ∧ quiescent_Wquant (hWquant := hWquant)
    ∧ quiescent_WquantIdeal (hWquantIdeal := hWquantIdeal)
    ∧ quiescent_RefWquantIdeal (hRefWquantIdeal := hRefWquantIdeal)
    ∧ quiescent_Xnorm (hXnorm := hXnorm)
    ∧ quiescent_XnormIdeal (hXnormIdeal := hXnormIdeal)
    ∧ quiescent_RefXnormIdeal (hRefXnormIdeal := hRefXnormIdeal)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_DownIdeal_pre_sat (hDownIdeal := hDownIdeal) (hPre_sat := hPre_sat)
    ∧ quiescent_RefDownIdeal (hRefDownIdeal := hRefDownIdeal)
    ∧ quiescent_RefDownIdeal_pre_sat (hRefDownIdeal := hRefDownIdeal) (hPre_sat := hPre_sat)
    ∧ quiescent_DwIn (hDwIn := hDwIn)
    ∧ quiescent_DwInIdeal (hDwInIdeal := hDwInIdeal)
    ∧ quiescent_RefDwInIdeal (hRefDwInIdeal := hRefDwInIdeal)
    ∧ quiescent_DwDown (hDwDown := hDwDown)
    ∧ quiescent_DwDownIdeal (hDwDownIdeal := hDwDownIdeal)
    ∧ quiescent_RefDwDownIdeal (hRefDwDownIdeal := hRefDwDownIdeal)
    ∧ preserves_Wscale_WscaleIdeal
    ∧ algebraic_WscaleIdeal_RefWscaleIdeal (hWscaleIdeal := hWscaleIdeal) (hRefWscaleIdeal := hRefWscaleIdeal)
    ∧ preserves_Wquant_WquantIdeal
    ∧ algebraic_WquantIdeal_RefWquantIdeal (hWquantIdeal := hWquantIdeal) (hRefWquantIdeal := hRefWquantIdeal)
    ∧ preserves_Xnorm_XnormIdeal
    ∧ algebraic_XnormIdeal_RefXnormIdeal (hXnormIdeal := hXnormIdeal) (hRefXnormIdeal := hRefXnormIdeal)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal_pre_sat (hDownIdeal := hDownIdeal) (hRefDownIdeal := hRefDownIdeal) (hPre_sat := hPre_sat)
    ∧ preserves_DwIn_DwInIdeal
    ∧ algebraic_DwInIdeal_RefDwInIdeal (hDwInIdeal := hDwInIdeal) (hRefDwInIdeal := hRefDwInIdeal)
    ∧ preserves_DwDown_DwDownIdeal
    ∧ algebraic_DwDownIdeal_RefDwDownIdeal (hDwDownIdeal := hDwDownIdeal) (hRefDwDownIdeal := hRefDwDownIdeal)
-- ==== Pre_sat.lean ====
abbrev S1x1 : Shape := ⟨2, ![1, 1]⟩
abbrev S4096x6912 : Shape := ⟨2, ![4096, 6912]⟩
abbrev S4096x128 : Shape := ⟨2, ![4096, 128]⟩
abbrev S1x6912 : Shape := ⟨2, ![1, 6912]⟩
abbrev S2560x6912 : Shape := ⟨2, ![2560, 6912]⟩
abbrev S6912x2560 : Shape := ⟨2, ![6912, 2560]⟩
abbrev S4096x2560 : Shape := ⟨2, ![4096, 2560]⟩
abbrev S1x2560 : Shape := ⟨2, ![1, 2560]⟩
abbrev S_ : Shape := ⟨0, ![]⟩
abbrev S2x1 : Shape := ⟨2, ![2, 1]⟩

class Facts : Prop where
  bcast_S_S1x1 : S_.BroadcastsInDim S1x1 (![] : Fin 0 → Fin S1x1.rank)
  concatenates_S1x1_S1x1_S2x1_d0 : Shape.Concatenates [S1x1, S1x1] S2x1 0

variable [Facts]

def fn {F : FTy → Type} [FloatOps F] (main_arg0 : FVec F S1x1 .f32) (main_arg1 : FVec F S1x1 .f32) (main_arg2 : FVec F S1x1 .f32) (main_arg3 : FVec F S4096x6912 .f32) (main_arg4 : FVec F S4096x6912 .f32) (main_arg5 : FVec F S4096x6912 .f32) (main_arg6 : FVec F S4096x128 .f32) (main_arg7 : FVec F S4096x128 .f32) (main_arg8 : FVec F S4096x128 .f32) (main_arg9 : FVec F S1x6912 .f32) (main_arg10 : IVec S2560x6912 8) (main_arg11 : IVec S2560x6912 8) (main_arg12 : IVec S6912x2560 8) (main_arg13 : FVec F S4096x2560 .bf16) (main_arg14 : FVec F S4096x2560 .bf16) (main_arg15 : FVec F S1x2560 .f32) : IVec S2x1 1 :=
  let main_cst : FVec F S_ .f32 := constant S_ .f32 0x00000000#32
  let main_v0 : FVec F S1x1 .f32 := broadcastInDim S1x1 ![] bcast_S_S1x1 main_cst
  let main_v1 : IVec S1x1 1 := cmpf .oge main_arg0 main_v0
  let main_cst_0 : FVec F S_ .f32 := constant S_ .f32 0x7F800000#32
  let main_v2 : FVec F S1x1 .f32 := broadcastInDim S1x1 ![] bcast_S_S1x1 main_cst_0
  let main_v3 : IVec S1x1 1 := cmpf .olt main_arg0 main_v2
  let main_v4 : IVec S1x1 1 := andi main_v1 main_v3
  let main_cst_1 : FVec F S_ .f32 := constant S_ .f32 0x00000000#32
  let main_v5 : FVec F S1x1 .f32 := broadcastInDim S1x1 ![] bcast_S_S1x1 main_cst_1
  let main_v6 : IVec S1x1 1 := cmpf .oge main_arg1 main_v5
  let main_cst_2 : FVec F S_ .f32 := constant S_ .f32 0x7F800000#32
  let main_v7 : FVec F S1x1 .f32 := broadcastInDim S1x1 ![] bcast_S_S1x1 main_cst_2
  let main_v8 : IVec S1x1 1 := cmpf .olt main_arg1 main_v7
  let main_v9 : IVec S1x1 1 := andi main_v6 main_v8
  let main_v10 : IVec S2x1 1 := (fun a b => concatenate S2x1 0 [⟨S1x1, a⟩, ⟨S1x1, b⟩] concatenates_S1x1_S1x1_S2x1_d0) main_v4 main_v9
  main_v10
-- ==== Wscale.lean ====
abbrev S2560x6912 : Shape := ⟨2, ![2560, 6912]⟩
abbrev S6912x2560 : Shape := ⟨2, ![6912, 2560]⟩
abbrev S1x1 : Shape := ⟨2, ![1, 1]⟩
abbrev S320x6912 : Shape := ⟨2, ![320, 6912]⟩
abbrev S864x2560 : Shape := ⟨2, ![864, 2560]⟩
abbrev S8x6912 : Shape := ⟨2, ![8, 6912]⟩
abbrev S8x2560 : Shape := ⟨2, ![8, 2560]⟩
abbrev S40x8x6912 : Shape := ⟨3, ![40, 8, 6912]⟩
abbrev S6912 : Shape := ⟨1, ![6912]⟩
abbrev S1x6912 : Shape := ⟨2, ![1, 6912]⟩
abbrev S1x1x6912 : Shape := ⟨3, ![1, 1, 6912]⟩
abbrev S1 : Shape := ⟨1, ![1]⟩
abbrev S1x1x1 : Shape := ⟨3, ![1, 1, 1]⟩
abbrev S108x8x2560 : Shape := ⟨3, ![108, 8, 2560]⟩
abbrev S2560 : Shape := ⟨1, ![2560]⟩
abbrev S1x2560 : Shape := ⟨2, ![1, 2560]⟩
abbrev S1x1x2560 : Shape := ⟨3, ![1, 1, 2560]⟩

abbrev nBuf : Space → Nat
  | .hbm => 6
  | .vmem => 9
  | .smem => 3
  | _ => 0

abbrev bufTy : (tb : Table) → Fin (tcTables nBuf tb) → BufTy
  | .hbm, ⟨0, _⟩ => ⟨S2560x6912, .bf16⟩
  | .hbm, ⟨1, _⟩ => ⟨S2560x6912, .bf16⟩
  | .hbm, ⟨2, _⟩ => ⟨S6912x2560, .bf16⟩
  | .hbm, ⟨3, _⟩ => ⟨S1x1, .f32⟩
  | .hbm, ⟨4, _⟩ => ⟨S1x1, .f32⟩
  | .hbm, ⟨5, _⟩ => ⟨S1x1, .f32⟩
  | .local _ .vmem, ⟨0, _⟩ => ⟨S320x6912, .bf16⟩
  | .local _ .vmem, ⟨1, _⟩ => ⟨S320x6912, .bf16⟩
  | .local _ .vmem, ⟨2, _⟩ => ⟨S320x6912, .bf16⟩
  | .local _ .vmem, ⟨3, _⟩ => ⟨S320x6912, .bf16⟩
  | .local _ .vmem, ⟨4, _⟩ => ⟨S864x2560, .bf16⟩
  | .local _ .vmem, ⟨5, _⟩ => ⟨S864x2560, .bf16⟩
  | .local _ .vmem, ⟨6, _⟩ => ⟨S8x6912, .f32⟩
  | .local _ .vmem, ⟨7, _⟩ => ⟨S8x6912, .f32⟩
  | .local _ .vmem, ⟨8, _⟩ => ⟨S8x2560, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S2560x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_4 : BitVec 32 := 0#32
  let v13 : BitVec 1 := Scalar.cmpi .ne v12 c0_i32_4
  v13

def k0_cond6 (i : grid0.Coords) : BitVec 1 :=
  let arg0 : BitVec 32 := BitVec.ofNat 32 (i 0).val
  let c7_i32_12 : BitVec 32 := 7#32
  let v25 : BitVec 1 := Scalar.cmpi .eq arg0 c7_i32_12
  let v26 : BitVec 32 := Scalar.extui v25
  let c0_i32_13 : BitVec 32 := 0#32
  let v27 : BitVec 1 := Scalar.cmpi .ne v26 c0_i32_13
  v27

def k0_cond9 (i : grid0.Coords) : BitVec 1 :=
  let arg0 : BitVec 32 := BitVec.ofNat 32 (i 0).val
  let c7_i32_21 : BitVec 32 := 7#32
  let v39 : BitVec 1 := Scalar.cmpi .eq arg0 c7_i32_21
  let v40 : BitVec 32 := Scalar.extui v39
  let c0_i32_22 : BitVec 32 := 0#32
  let v41 : BitVec 1 := Scalar.cmpi .ne v40 c0_i32_22
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x6912 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S864x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefWscaleIdeal.lean ====
abbrev S2560x6912 : Shape := ⟨2, ![2560, 6912]⟩
abbrev S6912x2560 : Shape := ⟨2, ![6912, 2560]⟩
abbrev S_ : Shape := ⟨0, ![]⟩
abbrev S6912 : Shape := ⟨1, ![6912]⟩
abbrev S1x1 : Shape := ⟨2, ![1, 1]⟩
abbrev S2560 : Shape := ⟨1, ![2560]⟩

abbrev nBuf : Space → Nat
  | .hbm => 45
  | .vmem => 0
  | .smem => 0
  | _ => 0

abbrev bufTy : (tb : Table) → Fin (tcTables nBuf tb) → BufTy
  | .hbm, ⟨0, _⟩ => ⟨S2560x6912, .bf16⟩
  | .hbm, ⟨1, _⟩ => ⟨S2560x6912, .bf16⟩
  | .hbm, ⟨2, _⟩ => ⟨S6912x2560, .bf16⟩
  | .hbm, ⟨3, _⟩ => ⟨S2560x6912, .f32⟩
  | .hbm, ⟨4, _⟩ => ⟨S2560x6912, .f32⟩
  | .hbm, ⟨5, _⟩ => ⟨S_, .f32⟩
  | .hbm, ⟨6, _⟩ => ⟨S6912, .f32⟩
  | .hbm, ⟨7, _⟩ => ⟨S_, .f32⟩
  | .hbm, ⟨8, _⟩ => ⟨S6912, .f32⟩
  | .hbm, ⟨9, _⟩ => ⟨S6912, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S2560x6912, .f32⟩
  | .hbm, ⟨18, _⟩ => ⟨S2560x6912, .f32⟩
  | .hbm, ⟨19, _⟩ => ⟨S_, .f32⟩
  | .hbm, ⟨20, _⟩ => ⟨S6912, .f32⟩
  | .hbm, ⟨21, _⟩ => ⟨S_, .f32⟩
  | .hbm, ⟨22, _⟩ => ⟨S6912, .f32⟩
  | .hbm, ⟨23, _⟩ => ⟨S6912, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x1, .f32⟩
  | .hbm, ⟨31, _⟩ => ⟨S6912x2560, .f32⟩
  | .hbm, ⟨32, _⟩ => ⟨S6912x2560, .f32⟩
  | .hbm, ⟨33, _⟩ => ⟨S_, .f32⟩
  | .hbm, ⟨34, _⟩ => ⟨S2560, .f32⟩
  | .hbm, ⟨35, _⟩ => ⟨S_, .f32⟩
  | .hbm, ⟨36, _⟩ => ⟨S2560, .f32⟩
  | .hbm, ⟨37, _⟩ => ⟨S2560, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x1, .f32⟩
  | _, _ => ⟨S2560x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev main_cst_8 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_9 : Ref sig .tc := ⟨.hbm, 33, rfl⟩
abbrev main_v20 : Ref sig .tc := ⟨.hbm, 34, rfl⟩
abbrev main_cst_10 : Ref sig .tc := ⟨.hbm, 35, rfl⟩
abbrev main_v21 : Ref sig .tc := ⟨.hbm, 36, rfl⟩
abbrev main_v22 : Ref sig .tc := ⟨.hbm, 37, rfl⟩
abbrev main_cst_11 : Ref sig .tc := ⟨.hbm, 38, rfl⟩
abbrev main_v23 : Ref sig .tc := ⟨.hbm, 39, rfl⟩
abbrev main_cst_12 : Ref sig .tc := ⟨.hbm, 40, rfl⟩
abbrev main_v24 : Ref sig .tc := ⟨.hbm, 41, rfl⟩
abbrev main_cst_13 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Wquant.lean ====
abbrev S1x1 : Shape := ⟨2, ![1, 1]⟩
abbrev S2560x6912 : Shape := ⟨2, ![2560, 6912]⟩
abbrev S6912x2560 : Shape := ⟨2, ![6912, 2560]⟩
abbrev S640x6912 : Shape := ⟨2, ![640, 6912]⟩
abbrev S1728x2560 : Shape := ⟨2, ![1728, 2560]⟩
abbrev S2560x256 : Shape := ⟨2, ![2560, 256]⟩
abbrev S256x2560 : Shape := ⟨2, ![256, 2560]⟩
abbrev S640x256 : Shape := ⟨2, ![640, 256]⟩
abbrev S64x2560 : Shape := ⟨2, ![64, 2560]⟩

abbrev nBuf : Space → Nat
  | .hbm => 12
  | .vmem => 18
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S2560x6912, .bf16⟩
  | .hbm, ⟨4, _⟩ => ⟨S2560x6912, .bf16⟩
  | .hbm, ⟨5, _⟩ => ⟨S6912x2560, .bf16⟩
  | .hbm, ⟨6, _⟩ => ⟨S2560x6912, .i8⟩
  | .hbm, ⟨7, _⟩ => ⟨S2560x6912, .i8⟩
  | .hbm, ⟨8, _⟩ => ⟨S6912x2560, .i8⟩
  | .hbm, ⟨9, _⟩ => ⟨S640x6912, .i8⟩
  | .hbm, ⟨10, _⟩ => ⟨S640x6912, .i8⟩
  | .hbm, ⟨11, _⟩ => ⟨S1728x2560, .i8⟩
  | .local _ .vmem, ⟨0, _⟩ => ⟨S2560x256, .bf16⟩
  | .local _ .vmem, ⟨1, _⟩ => ⟨S2560x256, .bf16⟩
  | .local _ .vmem, ⟨2, _⟩ => ⟨S2560x256, .bf16⟩
  | .local _ .vmem, ⟨3, _⟩ => ⟨S2560x256, .bf16⟩
  | .local _ .vmem, ⟨4, _⟩ => ⟨S256x2560, .bf16⟩
  | .local _ .vmem, ⟨5, _⟩ => ⟨S256x2560, .bf16⟩
  | .local _ .vmem, ⟨6, _⟩ => ⟨S2560x256, .i8⟩
  | .local _ .vmem, ⟨7, _⟩ => ⟨S2560x256, .i8⟩
  | .local _ .vmem, ⟨8, _⟩ => ⟨S2560x256, .i8⟩
  | .local _ .vmem, ⟨9, _⟩ => ⟨S2560x256, .i8⟩
  | .local _ .vmem, ⟨10, _⟩ => ⟨S256x2560, .i8⟩
  | .local _ .vmem, ⟨11, _⟩ => ⟨S256x2560, .i8⟩
  | .local _ .vmem, ⟨12, _⟩ => ⟨S640x256, .i8⟩
  | .local _ .vmem, ⟨13, _⟩ => ⟨S640x256, .i8⟩
  | .local _ .vmem, ⟨14, _⟩ => ⟨S640x256, .i8⟩
  | .local _ .vmem, ⟨15, _⟩ => ⟨S640x256, .i8⟩
  | .local _ .vmem, ⟨16, _⟩ => ⟨S64x2560, .i8⟩
  | .local _ .vmem, ⟨17, _⟩ => ⟨S64x2560, .i8⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2560x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2560x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2560x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2560 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefWquantIdeal.lean ====
abbrev S1x1 : Shape := ⟨2, ![1, 1]⟩
abbrev S2560x6912 : Shape := ⟨2, ![2560, 6912]⟩
abbrev S6912x2560 : Shape := ⟨2, ![6912, 2560]⟩
abbrev S_ : Shape := ⟨0, ![]⟩
abbrev S640x4x6912 : Shape := ⟨3, ![640, 4, 6912]⟩
abbrev S640x1x6912 : Shape := ⟨3, ![640, 1, 6912]⟩
abbrev S640x6912 : Shape := ⟨2, ![640, 6912]⟩
abbrev S1728x4x2560 : Shape := ⟨3, ![1728, 4, 2560]⟩
abbrev S1728x1x2560 : Shape := ⟨3, ![1728, 1, 2560]⟩
abbrev S1728x2560 : Shape := ⟨2, ![1728, 2560]⟩

abbrev nBuf : Space → Nat
  | .hbm => 126
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S2560x6912, .bf16⟩
  | .hbm, ⟨4, _⟩ => ⟨S2560x6912, .bf16⟩
  | .hbm, ⟨5, _⟩ => ⟨S6912x2560, .bf16⟩
  | .hbm, ⟨6, _⟩ => ⟨S2560x6912, .f32⟩
  | .hbm, ⟨7, _⟩ => ⟨S2560x6912, .f32⟩
  | .hbm, ⟨8, _⟩ => ⟨S2560x6912, .f32⟩
  | .hbm, ⟨9, _⟩ => ⟨S2560x6912, .f32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S2560x6912, .f32⟩
  | .hbm, ⟨14, _⟩ => ⟨S2560x6912, .f32⟩
  | .hbm, ⟨15, _⟩ => ⟨S_, .f32⟩
  | .hbm, ⟨16, _⟩ => ⟨S2560x6912, .f32⟩
  | .hbm, ⟨17, _⟩ => ⟨S2560x6912, .f32⟩
  | .hbm, ⟨18, _⟩ => ⟨S2560x6912, .i32⟩
  | .hbm, ⟨19, _⟩ => ⟨S2560x6912, .i8⟩
  | .hbm, ⟨20, _⟩ => ⟨S2560x6912, .f32⟩
  | .hbm, ⟨21, _⟩ => ⟨S2560x6912, .f32⟩
  | .hbm, ⟨22, _⟩ => ⟨S2560x6912, .f32⟩
  | .hbm, ⟨23, _⟩ => ⟨S2560x6912, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S2560x6912, .f32⟩
  | .hbm, ⟨28, _⟩ => ⟨S2560x6912, .f32⟩
  | .hbm, ⟨29, _⟩ => ⟨S_, .f32⟩
  | .hbm, ⟨30, _⟩ => ⟨S2560x6912, .f32⟩
  | .hbm, ⟨31, _⟩ => ⟨S2560x6912, .f32⟩
  | .hbm, ⟨32, _⟩ => ⟨S2560x6912, .i32⟩
  | .hbm, ⟨33, _⟩ => ⟨S2560x6912, .i8⟩
  | .hbm, ⟨34, _⟩ => ⟨S6912x2560, .f32⟩
  | .hbm, ⟨35, _⟩ => ⟨S6912x2560, .f32⟩
  | .hbm, ⟨36, _⟩ => ⟨S6912x2560, .f32⟩
  | .hbm, ⟨37, _⟩ => ⟨S6912x2560, .f32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S6912x2560, .f32⟩
  | .hbm, ⟨42, _⟩ => ⟨S6912x2560, .f32⟩
  | .hbm, ⟨43, _⟩ => ⟨S_, .f32⟩
  | .hbm, ⟨44, _⟩ => ⟨S6912x2560, .f32⟩
  | .hbm, ⟨45, _⟩ => ⟨S6912x2560, .f32⟩
  | .hbm, ⟨46, _⟩ => ⟨S6912x2560, .i32⟩
  | .hbm, ⟨47, _⟩ => ⟨S6912x2560, .i8⟩
  | .hbm, ⟨48, _⟩ => ⟨S2560x6912, .i32⟩
  | .hbm, ⟨49, _⟩ => ⟨S_, .i32⟩
  | .hbm, ⟨50, _⟩ => ⟨S2560x6912, .i32⟩
  | .hbm, ⟨51, _⟩ => ⟨S2560x6912, .i32⟩
  | .hbm, ⟨52, _⟩ => ⟨S640x4x6912, .i32⟩
  | .hbm, ⟨53, _⟩ => ⟨S640x1x6912, .i32⟩
  | .hbm, ⟨54, _⟩ => ⟨S640x6912, .i32⟩
  | .hbm, ⟨55, _⟩ => ⟨S640x1x6912, .i32⟩
  | .hbm, ⟨56, _⟩ => ⟨S640x6912, .i32⟩
  | .hbm, ⟨57, _⟩ => ⟨S_, .i32⟩
  | .hbm, ⟨58, _⟩ => ⟨S640x6912, .i32⟩
  | .hbm, ⟨59, _⟩ => ⟨S640x6912, .i32⟩
  | .hbm, ⟨60, _⟩ => ⟨S640x6912, .i32⟩
  | .hbm, ⟨61, _⟩ => ⟨S640x1x6912, .i32⟩
  | .hbm, ⟨62, _⟩ => ⟨S640x6912, .i32⟩
  | .hbm, ⟨63, _⟩ => ⟨S_, .i32⟩
  | .hbm, ⟨64, _⟩ => ⟨S640x6912, .i32⟩
  | .hbm, ⟨65, _⟩ => ⟨S640x6912, .i32⟩
  | .hbm, ⟨66, _⟩ => ⟨S640x6912, .i32⟩
  | .hbm, ⟨67, _⟩ => ⟨S640x1x6912, .i32⟩
  | .hbm, ⟨68, _⟩ => ⟨S640x6912, .i32⟩
  | .hbm, ⟨69, _⟩ => ⟨S_, .i32⟩
  | .hbm, ⟨70, _⟩ => ⟨S640x6912, .i32⟩
  | .hbm, ⟨71, _⟩ => ⟨S640x6912, .i32⟩
  | .hbm, ⟨72, _⟩ => ⟨S640x6912, .i32⟩
  | .hbm, ⟨73, _⟩ => ⟨S640x6912, .i8⟩
  | .hbm, ⟨74, _⟩ => ⟨S2560x6912, .i32⟩
  | .hbm, ⟨75, _⟩ => ⟨S_, .i32⟩
  | .hbm, ⟨76, _⟩ => ⟨S2560x6912, .i32⟩
  | .hbm, ⟨77, _⟩ => ⟨S2560x6912, .i32⟩
  | .hbm, ⟨78, _⟩ => ⟨S640x4x6912, .i32⟩
  | .hbm, ⟨79, _⟩ => ⟨S640x1x6912, .i32⟩
  | .hbm, ⟨80, _⟩ => ⟨S640x6912, .i32⟩
  | .hbm, ⟨81, _⟩ => ⟨S640x1x6912, .i32⟩
  | .hbm, ⟨82, _⟩ => ⟨S640x6912, .i32⟩
  | .hbm, ⟨83, _⟩ => ⟨S_, .i32⟩
  | .hbm, ⟨84, _⟩ => ⟨S640x6912, .i32⟩
  | .hbm, ⟨85, _⟩ => ⟨S640x6912, .i32⟩
  | .hbm, ⟨86, _⟩ => ⟨S640x6912, .i32⟩
  | .hbm, ⟨87, _⟩ => ⟨S640x1x6912, .i32⟩
  | .hbm, ⟨88, _⟩ => ⟨S640x6912, .i32⟩
  | .hbm, ⟨89, _⟩ => ⟨S_, .i32⟩
  | .hbm, ⟨90, _⟩ => ⟨S640x6912, .i32⟩
  | .hbm, ⟨91, _⟩ => ⟨S640x6912, .i32⟩
  | .hbm, ⟨92, _⟩ => ⟨S640x6912, .i32⟩
  | .hbm, ⟨93, _⟩ => ⟨S640x1x6912, .i32⟩
  | .hbm, ⟨94, _⟩ => ⟨S640x6912, .i32⟩
  | .hbm, ⟨95, _⟩ => ⟨S_, .i32⟩
  | .hbm, ⟨96, _⟩ => ⟨S640x6912, .i32⟩
  | .hbm, ⟨97, _⟩ => ⟨S640x6912, .i32⟩
  | .hbm, ⟨98, _⟩ => ⟨S640x6912, .i32⟩
  | .hbm, ⟨99, _⟩ => ⟨S640x6912, .i8⟩
  | .hbm, ⟨100, _⟩ => ⟨S6912x2560, .i32⟩
  | .hbm, ⟨101, _⟩ => ⟨S_, .i32⟩
  | .hbm, ⟨102, _⟩ => ⟨S6912x2560, .i32⟩
  | .hbm, ⟨103, _⟩ => ⟨S6912x2560, .i32⟩
  | .hbm, ⟨104, _⟩ => ⟨S1728x4x2560, .i32⟩
  | .hbm, ⟨105, _⟩ => ⟨S1728x1x2560, .i32⟩
  | .hbm, ⟨106, _⟩ => ⟨S1728x2560, .i32⟩
  | .hbm, ⟨107, _⟩ => ⟨S1728x1x2560, .i32⟩
  | .hbm, ⟨108, _⟩ => ⟨S1728x2560, .i32⟩
  | .hbm, ⟨109, _⟩ => ⟨S_, .i32⟩
  | .hbm, ⟨110, _⟩ => ⟨S1728x2560, .i32⟩
  | .hbm, ⟨111, _⟩ => ⟨S1728x2560, .i32⟩
  | .hbm, ⟨112, _⟩ => ⟨S1728x2560, .i32⟩
  | .hbm, ⟨113, _⟩ => ⟨S1728x1x2560, .i32⟩
  | .hbm, ⟨114, _⟩ => ⟨S1728x2560, .i32⟩
  | .hbm, ⟨115, _⟩ => ⟨S_, .i32⟩
  | .hbm, ⟨116, _⟩ => ⟨S1728x2560, .i32⟩
  | .hbm, ⟨117, _⟩ => ⟨S1728x2560, .i32⟩
  | .hbm, ⟨118, _⟩ => ⟨S1728x2560, .i32⟩
  | .hbm, ⟨119, _⟩ => ⟨S1728x1x2560, .i32⟩
  | .hbm, ⟨120, _⟩ => ⟨S1728x2560, .i32⟩
  | .hbm, ⟨121, _⟩ => ⟨S_, .i32⟩
  | .hbm, ⟨122, _⟩ => ⟨S1728x2560, .i32⟩
  | .hbm, ⟨123, _⟩ => ⟨S1728x2560, .i32⟩
  | .hbm, ⟨124, _⟩ => ⟨S1728x2560, .i32⟩
  | .hbm, ⟨125, _⟩ => ⟨S1728x2560, .i8⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_c_2 : Ref sig .tc := ⟨.hbm, 25, rfl⟩
abbrev main_call3_v0 : Ref sig .tc := ⟨.hbm, 26, rfl⟩
abbrev main_call3_v1 : Ref sig .tc := ⟨.hbm, 27, rfl⟩
abbrev main_call3_v2 : Ref sig .tc := ⟨.hbm, 28, rfl⟩
abbrev main_call3_v3 : Ref sig .tc := ⟨.hbm, 29, rfl⟩
abbrev main_call3_v4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_c_4 : Ref sig .tc := ⟨.hbm, 39, rfl⟩
abbrev main_call5_v0 : Ref sig .tc := ⟨.hbm, 40, rfl⟩
abbrev main_call5_v1 : Ref sig .tc := ⟨.hbm, 41, rfl⟩
abbrev main_call5_v2 : Ref sig .tc := ⟨.hbm, 42, rfl⟩
abbrev main_call5_v3 : Ref sig .tc := ⟨.hbm, 43, rfl⟩
abbrev main_call5_v4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_16 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== Xnorm.lean ====
abbrev S4096x2560 : Shape := ⟨2, ![4096, 2560]⟩
abbrev S1x2560 : Shape := ⟨2, ![1, 2560]⟩
abbrev S4096x128 : Shape := ⟨2, ![4096, 128]⟩
abbrev S2560x4096 : Shape := ⟨2, ![2560, 4096]⟩
abbrev S256x2560 : Shape := ⟨2, ![256, 2560]⟩
abbrev S256x128 : Shape := ⟨2, ![256, 128]⟩
abbrev S2560x256 : Shape := ⟨2, ![2560, 256]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2560, .bf16⟩
  | .hbm, ⟨1, _⟩ => ⟨S1x2560, .f32⟩
  | .hbm, ⟨2, _⟩ => ⟨S4096x2560, .i8⟩
  | .hbm, ⟨3, _⟩ => ⟨S4096x128, .f32⟩
  | .hbm, ⟨4, _⟩ => ⟨S2560x4096, .bf16⟩
  | .local _ .vmem, ⟨0, _⟩ => ⟨S256x2560, .bf16⟩
  | .local _ .vmem, ⟨1, _⟩ => ⟨S256x2560, .bf16⟩
  | .local _ .vmem, ⟨2, _⟩ => ⟨S1x2560, .f32⟩
  | .local _ .vmem, ⟨3, _⟩ => ⟨S256x2560, .i8⟩
  | .local _ .vmem, ⟨4, _⟩ => ⟨S256x2560, .i8⟩
  | .local _ .vmem, ⟨5, _⟩ => ⟨S256x128, .f32⟩
  | .local _ .vmem, ⟨6, _⟩ => ⟨S256x128, .f32⟩
  | .local _ .vmem, ⟨7, _⟩ => ⟨S2560x256, .bf16⟩
  | .local _ .vmem, ⟨8, _⟩ => ⟨S2560x256, .bf16⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefXnormIdeal.lean ====
abbrev S4096x2560 : Shape := ⟨2, ![4096, 2560]⟩
abbrev S1x2560 : Shape := ⟨2, ![1, 2560]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S2560x4096 : Shape := ⟨2, ![2560, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S1x2560, .f32⟩
  | .hbm, ⟨2, _⟩ => ⟨S4096x2560, .f32⟩
  | .hbm, ⟨3, _⟩ => ⟨S4096x2560, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2560, .f32⟩
  | .hbm, ⟨18, _⟩ => ⟨S4096x2560, .f32⟩
  | .hbm, ⟨19, _⟩ => ⟨S4096x2560, .f32⟩
  | .hbm, ⟨20, _⟩ => ⟨S4096x2560, .f32⟩
  | .hbm, ⟨21, _⟩ => ⟨S4096x2560, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .i1⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2560, .f32⟩
  | .hbm, ⟨36, _⟩ => ⟨S4096x2560, .f32⟩
  | .hbm, ⟨37, _⟩ => ⟨S4096x2560, .f32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S4096x2560, .f32⟩
  | .hbm, ⟨42, _⟩ => ⟨S4096x2560, .f32⟩
  | .hbm, ⟨43, _⟩ => ⟨S_, .f32⟩
  | .hbm, ⟨44, _⟩ => ⟨S4096x2560, .f32⟩
  | .hbm, ⟨45, _⟩ => ⟨S4096x2560, .f32⟩
  | .hbm, ⟨46, _⟩ => ⟨S4096x2560, .i32⟩
  | .hbm, ⟨47, _⟩ => ⟨S4096x2560, .i8⟩
  | .hbm, ⟨48, _⟩ => ⟨S4096x128, .f32⟩
  | .hbm, ⟨49, _⟩ => ⟨S4096x2560, .i32⟩
  | .hbm, ⟨50, _⟩ => ⟨S4096x2560, .f32⟩
  | .hbm, ⟨51, _⟩ => ⟨S4096x2560, .bf16⟩
  | .hbm, ⟨52, _⟩ => ⟨S4096x1, .bf16⟩
  | .hbm, ⟨53, _⟩ => ⟨S4096x2560, .bf16⟩
  | .hbm, ⟨54, _⟩ => ⟨S4096x2560, .bf16⟩
  | .hbm, ⟨55, _⟩ => ⟨S2560x4096, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_c_7 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Up.lean ====
abbrev S1x1 : Shape := ⟨2, ![1, 1]⟩
abbrev S4096x2560 : Shape := ⟨2, ![4096, 2560]⟩
abbrev S4096x128 : Shape := ⟨2, ![4096, 128]⟩
abbrev S2560x6912 : Shape := ⟨2, ![2560, 6912]⟩
abbrev S6912x2560 : Shape := ⟨2, ![6912, 2560]⟩
abbrev S1x6912 : Shape := ⟨2, ![1, 6912]⟩
abbrev S4096x6912 : Shape := ⟨2, ![4096, 6912]⟩
abbrev S512x2560 : Shape := ⟨2, ![512, 2560]⟩
abbrev S512x128 : Shape := ⟨2, ![512, 128]⟩
abbrev S2560x768 : Shape := ⟨2, ![2560, 768]⟩
abbrev S768x2560 : Shape := ⟨2, ![768, 2560]⟩
abbrev S1x768 : Shape := ⟨2, ![1, 768]⟩
abbrev S512x768 : Shape := ⟨2, ![512, 768]⟩
abbrev S512x1 : Shape := ⟨2, ![512, 1]⟩
abbrev S2560x256 : Shape := ⟨2, ![2560, 256]⟩
abbrev S512x256 : Shape := ⟨2, ![512, 256]⟩
abbrev S256x2560 : Shape := ⟨2, ![256, 2560]⟩
abbrev S1x256 : Shape := ⟨2, ![1, 256]⟩
abbrev S512 : Shape := ⟨1, ![512]⟩

abbrev nBuf : Space → Nat
  | .hbm => 16
  | .vmem => 30
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S4096x2560, .i8⟩
  | .hbm, ⟨4, _⟩ => ⟨S4096x128, .f32⟩
  | .hbm, ⟨5, _⟩ => ⟨S4096x2560, .bf16⟩
  | .hbm, ⟨6, _⟩ => ⟨S2560x6912, .i8⟩
  | .hbm, ⟨7, _⟩ => ⟨S2560x6912, .i8⟩
  | .hbm, ⟨8, _⟩ => ⟨S6912x2560, .i8⟩
  | .hbm, ⟨9, _⟩ => ⟨S1x6912, .f32⟩
  | .hbm, ⟨10, _⟩ => ⟨S4096x6912, .f32⟩
  | .hbm, ⟨11, _⟩ => ⟨S4096x6912, .f32⟩
  | .hbm, ⟨12, _⟩ => ⟨S4096x6912, .f32⟩
  | .hbm, ⟨13, _⟩ => ⟨S4096x128, .f32⟩
  | .hbm, ⟨14, _⟩ => ⟨S4096x128, .f32⟩
  | .hbm, ⟨15, _⟩ => ⟨S4096x128, .f32⟩
  | .local _ .vmem, ⟨0, _⟩ => ⟨S512x2560, .i8⟩
  | .local _ .vmem, ⟨1, _⟩ => ⟨S512x2560, .i8⟩
  | .local _ .vmem, ⟨2, _⟩ => ⟨S512x128, .f32⟩
  | .local _ .vmem, ⟨3, _⟩ => ⟨S512x128, .f32⟩
  | .local _ .vmem, ⟨4, _⟩ => ⟨S512x2560, .bf16⟩
  | .local _ .vmem, ⟨5, _⟩ => ⟨S512x2560, .bf16⟩
  | .local _ .vmem, ⟨6, _⟩ => ⟨S2560x768, .i8⟩
  | .local _ .vmem, ⟨7, _⟩ => ⟨S2560x768, .i8⟩
  | .local _ .vmem, ⟨8, _⟩ => ⟨S2560x768, .i8⟩
  | .local _ .vmem, ⟨9, _⟩ => ⟨S2560x768, .i8⟩
  | .local _ .vmem, ⟨10, _⟩ => ⟨S768x2560, .i8⟩
  | .local _ .vmem, ⟨11, _⟩ => ⟨S768x2560, .i8⟩
  | .local _ .vmem, ⟨12, _⟩ => ⟨S1x768, .f32⟩
  | .local _ .vmem, ⟨13, _⟩ => ⟨S1x768, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S512x2560, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c0_i32 : BitVec 32 := 0#32
  let v158 : BitVec 1 := Scalar.cmpi .eq arg0 c0_i32
  let v159 : BitVec 32 := Scalar.extui v158
  let c0_i32_93 : BitVec 32 := 0#32
  let v160 : BitVec 1 := Scalar.cmpi .ne v159 c0_i32_93
  v160

def k0_off1 (i : grid0.Coords) : Fin 2 → Nat :=
  let arg1 : BitVec 32 := BitVec.ofNat 32 (i 1).val
  let c512_i32 : BitVec 32 := 512#32
  let v0 : BitVec 32 := Scalar.muli arg1 c512_i32
  let v167 : Index := Scalar.indexCast v0
  let c0_97 : Index := 0#32
  ![v167.toNat, 0]
def k0_cond2 (i : grid0.Coords) : BitVec 1 :=
  let arg0 : BitVec 32 := BitVec.ofNat 32 (i 0).val
  let c0_i32_94 : BitVec 32 := 0#32
  let v161 : BitVec 1 := Scalar.cmpi .sgt arg0 c0_i32_94
  let v162 : BitVec 32 := Scalar.extui v161
  let c0_i32_95 : BitVec 32 := 0#32
  let v163 : BitVec 1 := Scalar.cmpi .ne v162 c0_i32_95
  v163

def k0_off2 (i : grid0.Coords) : Fin 2 → Nat :=
  let arg1 : BitVec 32 := BitVec.ofNat 32 (i 1).val
  let c512_i32 : BitVec 32 := 512#32
  let v0 : BitVec 32 := Scalar.muli arg1 c512_i32
  let v167 : Index := Scalar.indexCast v0
  let c0_97 : Index := 0#32
  ![v167.toNat, 0]
def k0_cond3 (i : grid0.Coords) : BitVec 1 :=
  let arg0 : BitVec 32 := BitVec.ofNat 32 (i 0).val
  let c8_i32 : BitVec 32 := 8#32
  let v164 : BitVec 1 := Scalar.cmpi .eq arg0 c8_i32
  let v165 : BitVec 32 := Scalar.extui v164
  let c0_i32_96 : BitVec 32 := 0#32
  let v166 : BitVec 1 := Scalar.cmpi .ne v165 c0_i32_96
  v166

def k0_off3 (i : grid0.Coords) : Fin 2 → Nat :=
  let arg1 : BitVec 32 := BitVec.ofNat 32 (i 1).val
  let c512_i32 : BitVec 32 := 512#32
  let v0 : BitVec 32 := Scalar.muli arg1 c512_i32
  let v167 : Index := Scalar.indexCast v0
  let c0_97 : Index := 0#32
  ![v167.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2560x768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2560x768 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S768x2560 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== RefUpIdeal.lean ====
abbrev S1x1 : Shape := ⟨2, ![1, 1]⟩
abbrev S4096x2560 : Shape := ⟨2, ![4096, 2560]⟩
abbrev S4096x128 : Shape := ⟨2, ![4096, 128]⟩
abbrev S2560x6912 : Shape := ⟨2, ![2560, 6912]⟩
abbrev S6912x2560 : Shape := ⟨2, ![6912, 2560]⟩
abbrev S1x6912 : Shape := ⟨2, ![1, 6912]⟩
abbrev S4096x1 : Shape := ⟨2, ![4096, 1]⟩
abbrev S4096x6912 : Shape := ⟨2, ![4096, 6912]⟩
abbrev S_ : Shape := ⟨0, ![]⟩
abbrev S4096 : Shape := ⟨1, ![4096]⟩

abbrev nBuf : Space → Nat
  | .hbm => 85
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S4096x2560, .i8⟩
  | .hbm, ⟨4, _⟩ => ⟨S4096x128, .f32⟩
  | .hbm, ⟨5, _⟩ => ⟨S4096x2560, .bf16⟩
  | .hbm, ⟨6, _⟩ => ⟨S2560x6912, .i8⟩
  | .hbm, ⟨7, _⟩ => ⟨S2560x6912, .i8⟩
  | .hbm, ⟨8, _⟩ => ⟨S6912x2560, .i8⟩
  | .hbm, ⟨9, _⟩ => ⟨S1x6912, .f32⟩
  | .hbm, ⟨10, _⟩ => ⟨S4096x1, .f32⟩
  | .hbm, ⟨11, _⟩ => ⟨S4096x2560, .i32⟩
  | .hbm, ⟨12, _⟩ => ⟨S4096x2560, .f32⟩
  | .hbm, ⟨13, _⟩ => ⟨S4096x2560, .bf16⟩
  | .hbm, ⟨14, _⟩ => ⟨S2560x6912, .i32⟩
  | .hbm, ⟨15, _⟩ => ⟨S2560x6912, .f32⟩
  | .hbm, ⟨16, _⟩ => ⟨S2560x6912, .bf16⟩
  | .hbm, ⟨17, _⟩ => ⟨S4096x6912, .f32⟩
  | .hbm, ⟨18, _⟩ => ⟨S4096x6912, .f32⟩
  | .hbm, ⟨19, _⟩ => ⟨S4096x6912, .f32⟩
  | .hbm, ⟨20, _⟩ => ⟨S4096x6912, .f32⟩
  | .hbm, ⟨21, _⟩ => ⟨S4096x6912, .f32⟩
  | .hbm, ⟨22, _⟩ => ⟨S2560x6912, .i32⟩
  | .hbm, ⟨23, _⟩ => ⟨S2560x6912, .f32⟩
  | .hbm, ⟨24, _⟩ => ⟨S2560x6912, .bf16⟩
  | .hbm, ⟨25, _⟩ => ⟨S4096x6912, .f32⟩
  | .hbm, ⟨26, _⟩ => ⟨S4096x6912, .f32⟩
  | .hbm, ⟨27, _⟩ => ⟨S4096x6912, .f32⟩
  | .hbm, ⟨28, _⟩ => ⟨S4096x6912, .f32⟩
  | .hbm, ⟨29, _⟩ => ⟨S4096x6912, .f32⟩
  | .hbm, ⟨30, _⟩ => ⟨S_, .f32⟩
  | .hbm, ⟨31, _⟩ => ⟨S4096x6912, .f32⟩
  | .hbm, ⟨32, _⟩ => ⟨S4096x6912, .f32⟩
  | .hbm, ⟨33, _⟩ => ⟨S4096x6912, .f32⟩
  | .hbm, ⟨34, _⟩ => ⟨S4096x6912, .f32⟩
  | .hbm, ⟨35, _⟩ => ⟨S4096x6912, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x6912, .f32⟩
  | .hbm, ⟨50, _⟩ => ⟨S4096x6912, .f32⟩
  | .hbm, ⟨51, _⟩ => ⟨S4096x6912, .f32⟩
  | .hbm, ⟨52, _⟩ => ⟨S4096x6912, .f32⟩
  | .hbm, ⟨53, _⟩ => ⟨S4096x6912, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .i1⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S6912x2560, .i32⟩
  | .hbm, ⟨68, _⟩ => ⟨S6912x2560, .f32⟩
  | .hbm, ⟨69, _⟩ => ⟨S6912x2560, .bf16⟩
  | .hbm, ⟨70, _⟩ => ⟨S4096x6912, .f32⟩
  | .hbm, ⟨71, _⟩ => ⟨S4096x6912, .f32⟩
  | .hbm, ⟨72, _⟩ => ⟨S4096x6912, .f32⟩
  | .hbm, ⟨73, _⟩ => ⟨S4096x6912, .f32⟩
  | .hbm, ⟨74, _⟩ => ⟨S4096x6912, .f32⟩
  | .hbm, ⟨75, _⟩ => ⟨S4096x6912, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x128, .f32⟩
  | .hbm, ⟨83, _⟩ => ⟨S4096x128, .f32⟩
  | .hbm, ⟨84, _⟩ => ⟨S4096x128, .f32⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Down.lean ====
abbrev S1x1 : Shape := ⟨2, ![1, 1]⟩
abbrev S4096x6912 : Shape := ⟨2, ![4096, 6912]⟩
abbrev S4096x128 : Shape := ⟨2, ![4096, 128]⟩
abbrev S1x6912 : Shape := ⟨2, ![1, 6912]⟩
abbrev S2560x6912 : Shape := ⟨2, ![2560, 6912]⟩
abbrev S6912x2560 : Shape := ⟨2, ![6912, 2560]⟩
abbrev S4096x2560 : Shape := ⟨2, ![4096, 2560]⟩
abbrev S1x2560 : Shape := ⟨2, ![1, 2560]⟩
abbrev S8x6912 : Shape := ⟨2, ![8, 6912]⟩
abbrev S8x2560 : Shape := ⟨2, ![8, 2560]⟩
abbrev S512x256 : Shape := ⟨2, ![512, 256]⟩
abbrev S512x128 : Shape := ⟨2, ![512, 128]⟩
abbrev S1x256 : Shape := ⟨2, ![1, 256]⟩
abbrev S2560x256 : Shape := ⟨2, ![2560, 256]⟩
abbrev S256x2560 : Shape := ⟨2, ![256, 2560]⟩
abbrev S512x2560 : Shape := ⟨2, ![512, 2560]⟩
abbrev S512x1 : Shape := ⟨2, ![512, 1]⟩
abbrev S8x256 : Shape := ⟨2, ![8, 256]⟩
abbrev S64x8x256 : Shape := ⟨3, ![64, 8, 256]⟩
abbrev S256x256 : Shape := ⟨2, ![256, 256]⟩
abbrev S512 : Shape := ⟨1, ![512]⟩
abbrev S64x8x2560 : Shape := ⟨3, ![64, 8, 2560]⟩

abbrev nBuf : Space → Nat
  | .hbm => 24
  | .vmem => 42
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S4096x6912, .f32⟩
  | .hbm, ⟨4, _⟩ => ⟨S4096x6912, .f32⟩
  | .hbm, ⟨5, _⟩ => ⟨S4096x6912, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S1x6912, .f32⟩
  | .hbm, ⟨10, _⟩ => ⟨S2560x6912, .i8⟩
  | .hbm, ⟨11, _⟩ => ⟨S2560x6912, .i8⟩
  | .hbm, ⟨12, _⟩ => ⟨S6912x2560, .i8⟩
  | .hbm, ⟨13, _⟩ => ⟨S4096x2560, .bf16⟩
  | .hbm, ⟨14, _⟩ => ⟨S4096x2560, .bf16⟩
  | .hbm, ⟨15, _⟩ => ⟨S1x2560, .f32⟩
  | .hbm, ⟨16, _⟩ => ⟨S4096x6912, .i8⟩
  | .hbm, ⟨17, _⟩ => ⟨S4096x6912, .bf16⟩
  | .hbm, ⟨18, _⟩ => ⟨S4096x6912, .bf16⟩
  | .hbm, ⟨19, _⟩ => ⟨S4096x2560, .bf16⟩
  | .hbm, ⟨20, _⟩ => ⟨S4096x2560, .bf16⟩
  | .hbm, ⟨21, _⟩ => ⟨S4096x128, .f32⟩
  | .hbm, ⟨22, _⟩ => ⟨S8x6912, .f32⟩
  | .hbm, ⟨23, _⟩ => ⟨S8x2560, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x256, .f32⟩
  | .local _ .vmem, ⟨13, _⟩ => ⟨S1x256, .f32⟩
  | .local _ .vmem, ⟨14, _⟩ => ⟨S2560x256, .i8⟩
  | .local _ .vmem, ⟨15, _⟩ => ⟨S2560x256, .i8⟩
  | .local _ .vmem, ⟨16, _⟩ => ⟨S2560x256, .i8⟩
  | .local _ .vmem, ⟨17, _⟩ => ⟨S2560x256, .i8⟩
  | .local _ .vmem, ⟨18, _⟩ => ⟨S256x2560, .i8⟩
  | .local _ .vmem, ⟨19, _⟩ => ⟨S256x2560, .i8⟩
  | .local _ .vmem, ⟨20, _⟩ => ⟨S512x2560, .bf16⟩
  | .local _ .vmem, ⟨21, _⟩ => ⟨S512x2560, .bf16⟩
  | .local _ .vmem, ⟨22, _⟩ => ⟨S512x2560, .bf16⟩
  | .local _ .vmem, ⟨23, _⟩ => ⟨S512x2560, .bf16⟩
  | .local _ .vmem, ⟨24, _⟩ => ⟨S1x2560, .f32⟩
  | .local _ .vmem, ⟨25, _⟩ => ⟨S512x256, .i8⟩
  | .local _ .vmem, ⟨26, _⟩ => ⟨S512x256, .i8⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x2560, .bf16⟩
  | .local _ .vmem, ⟨32, _⟩ => ⟨S512x2560, .bf16⟩
  | .local _ .vmem, ⟨33, _⟩ => ⟨S512x2560, .bf16⟩
  | .local _ .vmem, ⟨34, _⟩ => ⟨S512x2560, .bf16⟩
  | .local _ .vmem, ⟨35, _⟩ => ⟨S512x128, .f32⟩
  | .local _ .vmem, ⟨36, _⟩ => ⟨S512x128, .f32⟩
  | .local _ .vmem, ⟨37, _⟩ => ⟨S8x6912, .f32⟩
  | .local _ .vmem, ⟨38, _⟩ => ⟨S8x2560, .f32⟩
  | .local _ .vmem, ⟨39, _⟩ => ⟨S512x2560, .f32⟩
  | .local _ .vmem, ⟨40, _⟩ => ⟨S512x2560, .f32⟩
  | .local _ .vmem, ⟨41, _⟩ => ⟨S512x256, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem23_0 : DmaSem sig := 41

abbrev nD : Nat := 1
abbrev τ : Topo := Topo.v7x

variable {F : FTy → Type} [FloatOps F]

abbrev grid0 : Pipeline.Grid := ⟨2, ![8, 27], ![false, false]⟩

def k0_mult1 (i : grid0.Coords) : BitVec 32 :=
  let arg1 : BitVec 32 := BitVec.ofNat 32 (i 1).val
  let c256_i32 : BitVec 32 := 256#32
  let v34 : BitVec 32 := Scalar.muli arg1 c256_i32
  v34
def k0_off1 (i : grid0.Coords) : Fin 2 → Nat :=
  let c0_19 : Index := 0#32
  let arg1 : BitVec 32 := BitVec.ofNat 32 (i 1).val
  let c256_i32 : BitVec 32 := 256#32
  let v34 : BitVec 32 := Scalar.muli arg1 c256_i32
  let v35 : BitVec 32 := v34
  let v36 : Index := Scalar.indexCast v35
  ![0, v36.toNat]
def k0_cond3 (i : grid0.Coords) : BitVec 1 :=
  let arg1 : BitVec 32 := BitVec.ofNat 32 (i 1).val
  let c26_i32 : BitVec 32 := 26#32
  let v375 : BitVec 1 := Scalar.cmpi .eq arg1 c26_i32
  let v376 : BitVec 32 := Scalar.extui v375
  let c0_i32_290 : BitVec 32 := 0#32
  let v377 : BitVec 1 := Scalar.cmpi .ne v376 c0_i32_290
  v377

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2560x256 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2560x256 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x2560 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x2560 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x256 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x2560 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S512x2560 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 1 → Memref sig .tc .vmem S8x6912 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S8x2560 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]
-- ==== RefDownIdeal.lean ====
abbrev S1x1 : Shape := ⟨2, ![1, 1]⟩
abbrev S4096x6912 : Shape := ⟨2, ![4096, 6912]⟩
abbrev S4096x128 : Shape := ⟨2, ![4096, 128]⟩
abbrev S1x6912 : Shape := ⟨2, ![1, 6912]⟩
abbrev S2560x6912 : Shape := ⟨2, ![2560, 6912]⟩
abbrev S6912x2560 : Shape := ⟨2, ![6912, 2560]⟩
abbrev S4096x2560 : Shape := ⟨2, ![4096, 2560]⟩
abbrev S1x2560 : Shape := ⟨2, ![1, 2560]⟩
abbrev S4096x1 : Shape := ⟨2, ![4096, 1]⟩
abbrev S_ : Shape := ⟨0, ![]⟩
abbrev S512x8x6912 : Shape := ⟨3, ![512, 8, 6912]⟩
abbrev S8x6912 : Shape := ⟨2, ![8, 6912]⟩
abbrev S4096 : Shape := ⟨1, ![4096]⟩
abbrev S512x8x2560 : Shape := ⟨3, ![512, 8, 2560]⟩
abbrev S8x2560 : Shape := ⟨2, ![8, 2560]⟩

abbrev nBuf : Space → Nat
  | .hbm => 125
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S4096x6912, .f32⟩
  | .hbm, ⟨4, _⟩ => ⟨S4096x6912, .f32⟩
  | .hbm, ⟨5, _⟩ => ⟨S4096x6912, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S1x6912, .f32⟩
  | .hbm, ⟨10, _⟩ => ⟨S2560x6912, .i8⟩
  | .hbm, ⟨11, _⟩ => ⟨S2560x6912, .i8⟩
  | .hbm, ⟨12, _⟩ => ⟨S6912x2560, .i8⟩
  | .hbm, ⟨13, _⟩ => ⟨S4096x2560, .bf16⟩
  | .hbm, ⟨14, _⟩ => ⟨S4096x2560, .bf16⟩
  | .hbm, ⟨15, _⟩ => ⟨S1x2560, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2560, .f32⟩
  | .hbm, ⟨20, _⟩ => ⟨S_, .f32⟩
  | .hbm, ⟨21, _⟩ => ⟨S4096x6912, .f32⟩
  | .hbm, ⟨22, _⟩ => ⟨S4096x6912, .f32⟩
  | .hbm, ⟨23, _⟩ => ⟨S4096x6912, .f32⟩
  | .hbm, ⟨24, _⟩ => ⟨S4096x6912, .f32⟩
  | .hbm, ⟨25, _⟩ => ⟨S4096x6912, .f32⟩
  | .hbm, ⟨26, _⟩ => ⟨S4096x6912, .f32⟩
  | .hbm, ⟨27, _⟩ => ⟨S4096x6912, .f32⟩
  | .hbm, ⟨28, _⟩ => ⟨S4096x6912, .f32⟩
  | .hbm, ⟨29, _⟩ => ⟨S4096x6912, .f32⟩
  | .hbm, ⟨30, _⟩ => ⟨S4096x6912, .f32⟩
  | .hbm, ⟨31, _⟩ => ⟨S4096x6912, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S4096x6912, .f32⟩
  | .hbm, ⟨36, _⟩ => ⟨S4096x6912, .f32⟩
  | .hbm, ⟨37, _⟩ => ⟨S_, .f32⟩
  | .hbm, ⟨38, _⟩ => ⟨S4096x6912, .f32⟩
  | .hbm, ⟨39, _⟩ => ⟨S4096x6912, .f32⟩
  | .hbm, ⟨40, _⟩ => ⟨S4096x6912, .i32⟩
  | .hbm, ⟨41, _⟩ => ⟨S4096x6912, .i8⟩
  | .hbm, ⟨42, _⟩ => ⟨S4096x6912, .i32⟩
  | .hbm, ⟨43, _⟩ => ⟨S4096x6912, .f32⟩
  | .hbm, ⟨44, _⟩ => ⟨S4096x6912, .bf16⟩
  | .hbm, ⟨45, _⟩ => ⟨S6912x2560, .i32⟩
  | .hbm, ⟨46, _⟩ => ⟨S6912x2560, .f32⟩
  | .hbm, ⟨47, _⟩ => ⟨S6912x2560, .bf16⟩
  | .hbm, ⟨48, _⟩ => ⟨S4096x2560, .f32⟩
  | .hbm, ⟨49, _⟩ => ⟨S4096x2560, .f32⟩
  | .hbm, ⟨50, _⟩ => ⟨S4096x2560, .f32⟩
  | .hbm, ⟨51, _⟩ => ⟨S4096x2560, .f32⟩
  | .hbm, ⟨52, _⟩ => ⟨S4096x2560, .f32⟩
  | .hbm, ⟨53, _⟩ => ⟨S4096x2560, .f32⟩
  | .hbm, ⟨54, _⟩ => ⟨S4096x2560, .bf16⟩
  | .hbm, ⟨55, _⟩ => ⟨S4096x6912, .f32⟩
  | .hbm, ⟨56, _⟩ => ⟨S512x8x6912, .f32⟩
  | .hbm, ⟨57, _⟩ => ⟨S_, .f32⟩
  | .hbm, ⟨58, _⟩ => ⟨S8x6912, .f32⟩
  | .hbm, ⟨59, _⟩ => ⟨S4096x6912, .f32⟩
  | .hbm, ⟨60, _⟩ => ⟨S4096x6912, .f32⟩
  | .hbm, ⟨61, _⟩ => ⟨S4096x6912, .f32⟩
  | .hbm, ⟨62, _⟩ => ⟨S4096x6912, .f32⟩
  | .hbm, ⟨63, _⟩ => ⟨S4096x6912, .f32⟩
  | .hbm, ⟨64, _⟩ => ⟨S4096x6912, .f32⟩
  | .hbm, ⟨65, _⟩ => ⟨S4096x6912, .f32⟩
  | .hbm, ⟨66, _⟩ => ⟨S4096x6912, .f32⟩
  | .hbm, ⟨67, _⟩ => ⟨S4096x6912, .bf16⟩
  | .hbm, ⟨68, _⟩ => ⟨S_, .f32⟩
  | .hbm, ⟨69, _⟩ => ⟨S4096x6912, .f32⟩
  | .hbm, ⟨70, _⟩ => ⟨S4096x6912, .f32⟩
  | .hbm, ⟨71, _⟩ => ⟨S4096x6912, .f32⟩
  | .hbm, ⟨72, _⟩ => ⟨S4096x6912, .f32⟩
  | .hbm, ⟨73, _⟩ => ⟨S4096x6912, .bf16⟩
  | .hbm, ⟨74, _⟩ => ⟨S2560x6912, .i32⟩
  | .hbm, ⟨75, _⟩ => ⟨S2560x6912, .f32⟩
  | .hbm, ⟨76, _⟩ => ⟨S2560x6912, .bf16⟩
  | .hbm, ⟨77, _⟩ => ⟨S4096x2560, .f32⟩
  | .hbm, ⟨78, _⟩ => ⟨S4096x2560, .f32⟩
  | .hbm, ⟨79, _⟩ => ⟨S4096x2560, .f32⟩
  | .hbm, ⟨80, _⟩ => ⟨S2560x6912, .i32⟩
  | .hbm, ⟨81, _⟩ => ⟨S2560x6912, .f32⟩
  | .hbm, ⟨82, _⟩ => ⟨S2560x6912, .bf16⟩
  | .hbm, ⟨83, _⟩ => ⟨S4096x2560, .f32⟩
  | .hbm, ⟨84, _⟩ => ⟨S4096x2560, .f32⟩
  | .hbm, ⟨85, _⟩ => ⟨S4096x2560, .f32⟩
  | .hbm, ⟨86, _⟩ => ⟨S4096x2560, .f32⟩
  | .hbm, ⟨87, _⟩ => ⟨S4096x2560, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S4096x2560, .f32⟩
  | .hbm, ⟨102, _⟩ => ⟨S4096x2560, .f32⟩
  | .hbm, ⟨103, _⟩ => ⟨S4096x2560, .f32⟩
  | .hbm, ⟨104, _⟩ => ⟨S512x8x2560, .f32⟩
  | .hbm, ⟨105, _⟩ => ⟨S_, .f32⟩
  | .hbm, ⟨106, _⟩ => ⟨S8x2560, .f32⟩
  | .hbm, ⟨107, _⟩ => ⟨S4096x2560, .f32⟩
  | .hbm, ⟨108, _⟩ => ⟨S4096x2560, .f32⟩
  | .hbm, ⟨109, _⟩ => ⟨S4096x2560, .f32⟩
  | .hbm, ⟨110, _⟩ => ⟨S_, .f32⟩
  | .hbm, ⟨111, _⟩ => ⟨S4096, .f32⟩
  | .hbm, ⟨112, _⟩ => ⟨S4096x1, .f32⟩
  | .hbm, ⟨113, _⟩ => ⟨S_, .f32⟩
  | .hbm, ⟨114, _⟩ => ⟨S4096x1, .f32⟩
  | .hbm, ⟨115, _⟩ => ⟨S4096x1, .f32⟩
  | .hbm, ⟨116, _⟩ => ⟨S4096x2560, .f32⟩
  | .hbm, ⟨117, _⟩ => ⟨S4096x2560, .f32⟩
  | .hbm, ⟨118, _⟩ => ⟨S4096x2560, .f32⟩
  | .hbm, ⟨119, _⟩ => ⟨S4096x2560, .f32⟩
  | .hbm, ⟨120, _⟩ => ⟨S4096x2560, .f32⟩
  | .hbm, ⟨121, _⟩ => ⟨S4096x2560, .f32⟩
  | .hbm, ⟨122, _⟩ => ⟨S4096x2560, .f32⟩
  | .hbm, ⟨123, _⟩ => ⟨S4096x2560, .bf16⟩
  | .hbm, ⟨124, _⟩ => ⟨S4096x128, .f32⟩
  | _, _ => ⟨S1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_c_0 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_2 : Ref sig .tc := ⟨.hbm, 88, rfl⟩
abbrev main_v61 : Ref sig .tc := ⟨.hbm, 89, rfl⟩
abbrev main_v62 : Ref sig .tc := ⟨.hbm, 90, rfl⟩
abbrev main_cst_3 : Ref sig .tc := ⟨.hbm, 91, rfl⟩
abbrev main_v63 : Ref sig .tc := ⟨.hbm, 92, rfl⟩
abbrev main_v64 : Ref sig .tc := ⟨.hbm, 93, rfl⟩
abbrev main_cst_4 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_5 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_6 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_7 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]
-- ==== DwIn.lean ====
abbrev S2560x4096 : Shape := ⟨2, ![2560, 4096]⟩
abbrev S4096x6912 : Shape := ⟨2, ![4096, 6912]⟩
abbrev S2560x6912 : Shape := ⟨2, ![2560, 6912]⟩
abbrev S4096x768 : Shape := ⟨2, ![4096, 768]⟩
abbrev S2560x768 : Shape := ⟨2, ![2560, 768]⟩
abbrev S512x4096 : Shape := ⟨2, ![512, 4096]⟩
abbrev S4096x256 : Shape := ⟨2, ![4096, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S2560x4096, .bf16⟩
  | .hbm, ⟨1, _⟩ => ⟨S4096x6912, .bf16⟩
  | .hbm, ⟨2, _⟩ => ⟨S2560x6912, .bf16⟩
  | .local _ .vmem, ⟨0, _⟩ => ⟨S2560x4096, .bf16⟩
  | .local _ .vmem, ⟨1, _⟩ => ⟨S4096x768, .bf16⟩
  | .local _ .vmem, ⟨2, _⟩ => ⟨S4096x768, .bf16⟩
  | .local _ .vmem, ⟨3, _⟩ => ⟨S2560x768, .bf16⟩
  | .local _ .vmem, ⟨4, _⟩ => ⟨S2560x768, .bf16⟩
  | _, _ => ⟨S2560x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2560x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefDwInIdeal.lean ====
abbrev S2560x4096 : Shape := ⟨2, ![2560, 4096]⟩
abbrev S4096x6912 : Shape := ⟨2, ![4096, 6912]⟩
abbrev S2560x6912 : Shape := ⟨2, ![2560, 6912]⟩

abbrev nBuf : Space → Nat
  | .hbm => 4
  | .vmem => 0
  | .smem => 0
  | _ => 0

abbrev bufTy : (tb : Table) → Fin (tcTables nBuf tb) → BufTy
  | .hbm, ⟨0, _⟩ => ⟨S2560x4096, .bf16⟩
  | .hbm, ⟨1, _⟩ => ⟨S4096x6912, .bf16⟩
  | .hbm, ⟨2, _⟩ => ⟨S2560x6912, .f32⟩
  | .hbm, ⟨3, _⟩ => ⟨S2560x6912, .bf16⟩
  | _, _ => ⟨S2560x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwDown.lean ====
abbrev S4096x6912 : Shape := ⟨2, ![4096, 6912]⟩
abbrev S4096x128 : Shape := ⟨2, ![4096, 128]⟩
abbrev S4096x2560 : Shape := ⟨2, ![4096, 2560]⟩
abbrev S6912x2560 : Shape := ⟨2, ![6912, 2560]⟩
abbrev S4096x256 : Shape := ⟨2, ![4096, 256]⟩
abbrev S256x2560 : Shape := ⟨2, ![256, 2560]⟩
abbrev S256x4096 : Shape := ⟨2, ![256, 4096]⟩
abbrev S256x256 : Shape := ⟨2, ![256, 256]⟩
abbrev S256x1 : Shape := ⟨2, ![256, 1]⟩
abbrev S4096x512 : Shape := ⟨2, ![4096, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x6912, .i8⟩
  | .hbm, ⟨1, _⟩ => ⟨S4096x128, .f32⟩
  | .hbm, ⟨2, _⟩ => ⟨S4096x2560, .bf16⟩
  | .hbm, ⟨3, _⟩ => ⟨S6912x2560, .bf16⟩
  | .local _ .vmem, ⟨0, _⟩ => ⟨S4096x256, .i8⟩
  | .local _ .vmem, ⟨1, _⟩ => ⟨S4096x256, .i8⟩
  | .local _ .vmem, ⟨2, _⟩ => ⟨S4096x128, .f32⟩
  | .local _ .vmem, ⟨3, _⟩ => ⟨S4096x2560, .bf16⟩
  | .local _ .vmem, ⟨4, _⟩ => ⟨S256x2560, .bf16⟩
  | .local _ .vmem, ⟨5, _⟩ => ⟨S256x2560, .bf16⟩
  | .local _ .vmem, ⟨6, _⟩ => ⟨S256x4096, .bf16⟩
  | _, _ => ⟨S4096x6912, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefDwDownIdeal.lean ====
abbrev S4096x6912 : Shape := ⟨2, ![4096, 6912]⟩
abbrev S4096x128 : Shape := ⟨2, ![4096, 128]⟩
abbrev S4096x2560 : Shape := ⟨2, ![4096, 2560]⟩
abbrev S4096x1 : Shape := ⟨2, ![4096, 1]⟩
abbrev S6912x2560 : Shape := ⟨2, ![6912, 2560]⟩

abbrev nBuf : Space → Nat
  | .hbm => 12
  | .vmem => 0
  | .smem => 0
  | _ => 0

abbrev bufTy : (tb : Table) → Fin (tcTables nBuf tb) → BufTy
  | .hbm, ⟨0, _⟩ => ⟨S4096x6912, .i8⟩
  | .hbm, ⟨1, _⟩ => ⟨S4096x128, .f32⟩
  | .hbm, ⟨2, _⟩ => ⟨S4096x2560, .bf16⟩
  | .hbm, ⟨3, _⟩ => ⟨S4096x6912, .i32⟩
  | .hbm, ⟨4, _⟩ => ⟨S4096x6912, .f32⟩
  | .hbm, ⟨5, _⟩ => ⟨S4096x6912, .bf16⟩
  | .hbm, ⟨6, _⟩ => ⟨S4096x1, .f32⟩
  | .hbm, ⟨7, _⟩ => ⟨S4096x1, .bf16⟩
  | .hbm, ⟨8, _⟩ => ⟨S4096x6912, .bf16⟩
  | .hbm, ⟨9, _⟩ => ⟨S4096x6912, .bf16⟩
  | .hbm, ⟨10, _⟩ => ⟨S6912x2560, .f32⟩
  | .hbm, ⟨11, _⟩ => ⟨S6912x2560, .bf16⟩
  | _, _ => ⟨S4096x6912, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Extended.lean ====
/- Facts about extended reals used by several calls: moving a scale through a sum or a largest magnitude,
   and the inverse root mean square of a row being a finite nonnegative number. -/
module

public import Idealize.ShloMosaic.Lib.Pointwise
public import Idealize.ShloMosaic.Lib.IdealHost
public import Idealize.ShloMosaic.Lib.Pipeline.ValueKit

@[expose] public section

noncomputable section

namespace Cert.Proof

open Idealize.ShloMosaic
open scoped BigOperators

/-- The 32-bit pattern of minus infinity. -/
theorem lit_bot : Ideal.ofBits .f32 0xFF800000#32 = ⊥ := by
  simp [Ideal.ofBits, Ideal.ieee]

/-- The row length of the inner layer. -/
theorem lit_6912 : Ideal.ofBits .f32 0x45D80000#32 = ((6912 : ℝ) : EReal) := by
  simp [Ideal.ofBits, Ideal.ieee, -EReal.coe_mul]; norm_num

/-- The row length of the model. -/
theorem lit_2560 : Ideal.ofBits .f32 0x45200000#32 = ((2560 : ℝ) : EReal) := by
  simp [Ideal.ofBits, Ideal.ieee, -EReal.coe_mul]; norm_num

/-- The small number added under the root is positive. -/
theorem lit_eps : 0 < Ideal.ofBits .f32 0x3727C5AC#32 := by
  simp [Ideal.ofBits, Ideal.ieee, -EReal.coe_mul]

/-- A code widened to 32 bits stands for the same number. -/
theorem sitofp_ext (f g : FTy) (x : BitVec 8) :
    FloatOps.sitofp (F := Ideal) f (x.signExtend 32) = FloatOps.sitofp (F := Ideal) g x := by
  show (((x.signExtend 32).toInt : ℝ) : EReal) = ((x.toInt : ℝ) : EReal)
  rw [BitVec.toInt_signExtend_of_le (by decide)]

theorem sq_nonneg (x : EReal) : 0 ≤ x * x := by
  rcases le_total 0 x with h | h
  · exact mul_nonneg h h
  · have : 0 ≤ -x := by simpa using EReal.neg_le_neg_iff.mpr h
    have h2 := mul_nonneg this this
    rwa [EReal.neg_mul, mul_comm, EReal.neg_mul, neg_neg] at h2

/-- One over the root of a mean plus a positive number. -/
def inverse (n : ℝ) (e s : EReal) : EReal := Ideal.div 1 (Ideal.sqrt (Ideal.div s (n : EReal) + e))

theorem inverse_spec (n : ℝ) (hn : 0 < n) (e s : EReal) (he : 0 < e) (hs : 0 ≤ s) : 0 ≤ inverse n e s ∧ inverse n e s ≠ ⊤ := by
  unfold inverse
  rw [Ideal.div_coe hn.ne']
  have h1 : 0 ≤ s * ((1 / n : ℝ) : EReal) := mul_nonneg hs (by exact_mod_cast (one_div_pos.mpr hn).le)
  have h2 : 0 < s * ((1 / n : ℝ) : EReal) + e := lt_of_lt_of_le he (le_add_of_nonneg_left h1)
  generalize s * ((1 / n : ℝ) : EReal) + e = z at h2
  induction z with
  | bot => simp at h2
  | top => rw [show Ideal.sqrt ⊤ = ⊤ from rfl]; simp [Ideal.div]
  | coe r =>
    have hr : 0 < r := by exact_mod_cast h2
    rw [Ideal.sqrt_coe]
    rw [if_neg (not_lt.mpr hr.le)]
    rw [Ideal.div_coe (Real.sqrt_pos.mpr hr).ne', one_mul]
    exact ⟨by exact_mod_cast (one_div_pos.mpr (Real.sqrt_pos.mpr hr)).le, EReal.coe_ne_top _⟩

/-- A finite nonnegative factor goes through a sum. -/
theorem sum_mul_nonneg {ι : Type} (S : Finset ι) (f : ι → EReal) (r : EReal) (h0 : 0 ≤ r) (ht : r ≠ ⊤) :
    (∑ i ∈ S, f i) * r = ∑ i ∈ S, f i * r := by
  classical
  induction S using Finset.induction_on with
  | empty => simp
  | insert a S ha ih => rw [Finset.sum_insert ha, Finset.sum_insert ha, EReal.right_distrib_of_nonneg_of_ne_top h0 ht, ih]

/-- The largest of nonnegative numbers, started from nothing, is the one started from zero. -/
theorem fold_bot {n : ℕ} [NeZero n] (f : Fin n → EReal) (h : ∀ i, 0 ≤ f i) :
    Finset.univ.fold max ⊥ f = Finset.univ.fold max 0 f := by
  refine eq_of_forall_ge_iff fun b => ?_
  rw [Finset.fold_max_le, Finset.fold_max_le]
  constructor
  · rintro ⟨_, h2⟩
    exact ⟨(h 0).trans (h2 0 (Finset.mem_univ _)), h2⟩
  · rintro ⟨_, h2⟩
    exact ⟨bot_le, h2⟩

/-- A nonnegative factor goes through the largest of nonnegative numbers. -/
theorem fold_mul {n : ℕ} [NeZero n] (f : Fin n → EReal) (h : ∀ i, 0 ≤ f i) (r : EReal) (h0 : 0 ≤ r) :
    Finset.univ.fold max ⊥ f * r = Finset.univ.fold max ⊥ fun i => f i * r := by
  rw [fold_bot f h, fold_bot _ fun i => mul_nonneg (h i) h0]
  have hm : Monotone fun x : EReal => x * r := fun a b hab => mul_le_mul_of_nonneg_right hab h0
  have := Finset.fold_hom (op := max) (op' := max) (b := (0 : EReal)) (s := Finset.univ) (f := f) (m := fun x : EReal => x * r)
    (fun x y => hm.map_max)
  simpa using this.symm

theorem absf_nonneg (x : EReal) : 0 ≤ FloatOps.absf (F := Ideal) (φ := .f32) x := by
  show 0 ≤ max x (-x)
  rcases le_total 0 x with h | h
  · exact le_max_of_le_left h
  · exact le_max_of_le_right (by simpa using EReal.neg_le_neg_iff.mpr h)

/-- A nonnegative factor goes through a magnitude. -/
theorem absf_mul (x r : EReal) (h0 : 0 ≤ r) :
    FloatOps.absf (F := Ideal) (φ := .f32) x * r = FloatOps.absf (F := Ideal) (φ := .f32) (x * r) := by
  show max x (-x) * r = max (x * r) (-(x * r))
  have hm : Monotone fun x : EReal => x * r := fun a b hab => mul_le_mul_of_nonneg_right hab h0
  rw [show max x (-x) * r = max (x * r) (-x * r) from hm.map_max, EReal.neg_mul]

end Cert.Proof

end
-- ==== Proof.WscaleBlock.lean ====
/- The weight scales: what one grid point adds to the column sums, and what the last one makes of them. -/
module

public import proofs.«01_k».proof.Proof.Gen.WscaleIdeal.Value
public import proofs.«01_k».proof.Proof.Extended
public import Idealize.ShloMosaic.Lib.Pipeline.ValueKit
public import Idealize.ShloMosaic.Lib.Pointwise

@[expose] public section

noncomputable section

namespace Cert.Proof.Wscale

open Cert.WscaleIdeal Cert.WscaleIdeal.Gen Idealize.ShloMosaic Idealize.ShloMosaic.TcCoe Idealize.SL.Sem
open scoped BigOperators

/-- The magnitude of a number. -/
abbrev mag (x : EReal) : EReal := FloatOps.absf (F := Ideal) (φ := .f32) x

/-- The magnitudes of a block, every eighth row added up. -/
def foldG (x : Vec Ideal S320x6912 .bf16) : Vec Ideal S8x6912 .f32 :=
  fun y => ∑ g : Fin 40, mag (x (ix2 ⟨g.val * 8 + (y 0).val, by have := g.isLt; have := (y 0).isLt; change _ < 8 at this; omega⟩ (y 1)))
def foldD (x : Vec Ideal S864x2560 .bf16) : Vec Ideal S8x2560 .f32 :=
  fun y => ∑ g : Fin 108, mag (x (ix2 ⟨g.val * 8 + (y 0).val, by have := g.isLt; have := (y 0).isLt; change _ < 8 at this; omega⟩ (y 1)))

/-- The scale made of the column sums. -/
def ofColsG (s : Fin 6912 → EReal) : EReal :=
  max (Ideal.div (∑ f : Fin 6912, Ideal.div (s f) (Ideal.ofBits .f32 0x45200000#32)) (Ideal.ofBits .f32 0x45D80000#32)) (Ideal.ofBits .f32 0x3727C5AC#32)
def ofColsD (s : Fin 2560 → EReal) : EReal :=
  max (Ideal.div (∑ f : Fin 2560, Ideal.div (s f) (Ideal.ofBits .f32 0x45D80000#32)) (Ideal.ofBits .f32 0x45200000#32)) (Ideal.ofBits .f32 0x3727C5AC#32)

def plusG (s z : Vec Ideal S8x6912 .f32) : Vec Ideal S8x6912 .f32 := fun y => s y + z y
def plusD (s z : Vec Ideal S8x2560 .f32) : Vec Ideal S8x2560 .f32 := fun y => s y + z y

theorem pay6_eq (x : Vec Ideal S320x6912 .bf16) : k0_pay6 x = foldG x := by
  funext y
  unfold k0_pay6 k0_pay5 foldG
  pointwise []
theorem pay7_eq (x : Vec Ideal S320x6912 .bf16) (s : Vec Ideal S8x6912 .f32) : k0_pay7 x s = plusG s (foldG x) := by
  rw [← pay6_eq]
  funext y
  unfold k0_pay7 k0_pay6 plusG
  pointwise []
theorem pay8_eq (s : Vec Ideal S8x6912 .f32) : k0_pay8 s = ofColsG fun f => ∑ r : Fin 8, s (ix2 r f) := by
  unfold k0_pay8 ofColsG
  pointwise []
  rw [Fintype.sum_unique]

theorem pay10_eq (x : Vec Ideal S320x6912 .bf16) : k0_pay10 x = foldG x := by
  funext y
  unfold k0_pay10 k0_pay9 foldG
  pointwise []
theorem pay11_eq (x : Vec Ideal S320x6912 .bf16) (s : Vec Ideal S8x6912 .f32) : k0_pay11 x s = plusG s (foldG x) := by
  rw [← pay10_eq]
  funext y
  unfold k0_pay11 k0_pay10 plusG
  pointwise []
theorem pay12_eq (s : Vec Ideal S8x6912 .f32) : k0_pay12 s = ofColsG fun f => ∑ r : Fin 8, s (ix2 r f) := by
  unfold k0_pay12 ofColsG
  pointwise []
  rw [Fintype.sum_unique]

theorem pay2_eq (x : Vec Ideal S864x2560 .bf16) : k0_pay2 (k0_pay13 x) = foldD x := by
  funext y
  unfold k0_pay2 k0_pay1 k0_pay13 foldD
  pointwise []
theorem pay3_eq (x : Vec Ideal S864x2560 .bf16) (s : Vec Ideal S8x2560 .f32) : k0_pay3 (k0_pay13 x) s = plusD s (foldD x) := by
  rw [← pay2_eq]
  funext y
  unfold k0_pay3 k0_pay2 plusD
  pointwise []
theorem pay4_eq (s : Vec Ideal S8x2560 .f32) : k0_pay4 s = ofColsD fun f => ∑ r : Fin 8, s (ix2 r f) := by
  unfold k0_pay4 ofColsD
  pointwise []
  rw [Fintype.sum_unique]

end Cert.Proof.Wscale

end
-- ==== Proof.WscaleAcc.lean ====
/- The weight scales: the column sums after each grid point, and the scale stored at the last one. -/
module

public import proofs.«01_k».proof.Proof.WscaleBlock

@[expose] public section

noncomputable section

namespace Cert.Proof.Wscale

open Cert.WscaleIdeal Cert.WscaleIdeal.Gen Idealize.ShloMosaic Idealize.ShloMosaic.TcCoe Idealize.SL.Sem
open scoped BigOperators

variable (m : (ℓ : Loc nD τ sig) → Buf (Elt Ideal) ℓ)

theorem first0 (c : Dev nD) (t : Fin cfg0.N) (h : t.val = 0) : (outsAt0 m c t.val t.isLt).2.2.2.1 = foldG (iblk m c 0 t) := by
  rw [outsAt0_A m c t (by omega) (by omega) (by omega) (by omega) (by omega) (by omega) (by omega) (by omega) (by omega)]
  refine Eq.trans ?_ (pay6_eq _)
  unfold sout0_A_0
  frame_out
theorem next0 (c : Dev nD) (t : Fin cfg0.N) (h0 : 1 ≤ t.val) (h7 : t.val < 7) :
    (outsAt0 m c t.val t.isLt).2.2.2.1 = plusG (outsAt0 m c (t.val - 1) (lt_of_le_of_lt (Nat.sub_le _ _) t.isLt)).2.2.2.1 (foldG (iblk m c 0 t)) := by
  rw [outsAt0_B m c t (by omega) (by omega) (by omega) (by omega) (by omega) (by omega) (by omega) (by omega) (by omega)]
  refine Eq.trans ?_ (pay7_eq _ _)
  unfold sout0_B_0
  frame_out
  exact congrArg _ ((Memref.isWhole_whole cc0_scratch0).read_unread _)
theorem last0 (c : Dev nD) (t : Fin cfg0.N) (h : t.val = 7) :
    (outsAt0 m c t.val t.isLt).1 = fun _ => ofColsG fun f => ∑ r : Fin 8,
      plusG (outsAt0 m c (t.val - 1) (lt_of_le_of_lt (Nat.sub_le _ _) t.isLt)).2.2.2.1 (foldG (iblk m c 0 t)) (ix2 r f) := by
  rw [outsAt0_C m c t (by omega) (by omega) (by omega) (by omega) (by omega) (by omega) (by omega) (by omega) (by omega)]
  rw [← pay7_eq, ← pay8_eq]
  unfold out0_C_3
  frame_out
  exact funext fun _ => congrArg (fun z => k0_pay8 (k0_pay7 _ z)) ((Memref.isWhole_whole cc0_scratch0).read_unread _)

theorem first1 (c : Dev nD) (t : Fin cfg0.N) (h : t.val = 0) : (outsAt0 m c t.val t.isLt).2.2.2.2.1 = foldG (iblk m c 1 t) := by
  rw [outsAt0_A m c t (by omega) (by omega) (by omega) (by omega) (by omega) (by omega) (by omega) (by omega) (by omega)]
  refine Eq.trans ?_ (pay10_eq _)
  unfold sout0_A_1
  frame_out
theorem next1 (c : Dev nD) (t : Fin cfg0.N) (h0 : 1 ≤ t.val) (h7 : t.val < 7) :
    (outsAt0 m c t.val t.isLt).2.2.2.2.1 = plusG (outsAt0 m c (t.val - 1) (lt_of_le_of_lt (Nat.sub_le _ _) t.isLt)).2.2.2.2.1 (foldG (iblk m c 1 t)) := by
  rw [outsAt0_B m c t (by omega) (by omega) (by omega) (by omega) (by omega) (by omega) (by omega) (by omega) (by omega)]
  refine Eq.trans ?_ (pay11_eq _ _)
  unfold sout0_B_1
  frame_out
  exact congrArg _ ((Memref.isWhole_whole cc0_scratch1).read_unread _)
theorem last1 (c : Dev nD) (t : Fin cfg0.N) (h : t.val = 7) :
    (outsAt0 m c t.val t.isLt).2.1 = fun _ => ofColsG fun f => ∑ r : Fin 8,
      plusG (outsAt0 m c (t.val - 1) (lt_of_le_of_lt (Nat.sub_le _ _) t.isLt)).2.2.2.2.1 (foldG (iblk m c 1 t)) (ix2 r f) := by
  rw [outsAt0_C m c t (by omega) (by omega) (by omega) (by omega) (by omega) (by omega) (by omega) (by omega) (by omega)]
  rw [← pay11_eq, ← pay12_eq]
  unfold out0_C_4
  frame_out
  exact funext fun _ => congrArg (fun z => k0_pay12 (k0_pay11 _ z)) ((Memref.isWhole_whole cc0_scratch1).read_unread _)

theorem first2 (c : Dev nD) (t : Fin cfg0.N) (h : t.val = 0) : (outsAt0 m c t.val t.isLt).2.2.2.2.2 = foldD (iblk m c 2 t) := by
  rw [outsAt0_A m c t (by omega) (by omega) (by omega) (by omega) (by omega) (by omega) (by omega) (by omega) (by omega)]
  refine Eq.trans ?_ (pay2_eq _)
  unfold sout0_A_2
  frame_out
theorem next2 (c : Dev nD) (t : Fin cfg0.N) (h0 : 1 ≤ t.val) (h7 : t.val < 7) :
    (outsAt0 m c t.val t.isLt).2.2.2.2.2 = plusD (outsAt0 m c (t.val - 1) (lt_of_le_of_lt (Nat.sub_le _ _) t.isLt)).2.2.2.2.2 (foldD (iblk m c 2 t)) := by
  rw [outsAt0_B m c t (by omega) (by omega) (by omega) (by omega) (by omega) (by omega) (by omega) (by omega) (by omega)]
  refine Eq.trans ?_ (pay3_eq _ _)
  unfold sout0_B_2
  frame_out
  exact congrArg _ ((Memref.isWhole_whole cc0_scratch2).read_unread _)
theorem last2 (c : Dev nD) (t : Fin cfg0.N) (h : t.val = 7) :
    (outsAt0 m c t.val t.isLt).2.2.1 = fun _ => ofColsD fun f => ∑ r : Fin 8,
      plusD (outsAt0 m c (t.val - 1) (lt_of_le_of_lt (Nat.sub_le _ _) t.isLt)).2.2.2.2.2 (foldD (iblk m c 2 t)) (ix2 r f) := by
  rw [outsAt0_C m c t (by omega) (by omega) (by omega) (by omega) (by omega) (by omega) (by omega) (by omega) (by omega)]
  rw [← pay3_eq, ← pay4_eq]
  unfold out0_C_5
  frame_out
  exact funext fun _ => congrArg (fun z => k0_pay4 (k0_pay3 _ z)) ((Memref.isWhole_whole cc0_scratch2).read_unread _)

end Cert.Proof.Wscale

end
-- ==== Proof.WscaleFinal.lean ====
/- The weight scales after the whole grid: the mean of the column means of the magnitudes, at least a small number. -/
module

public import proofs.«01_k».proof.Proof.WscaleAcc
public import Idealize.ShloMosaic.Lib.Pipeline.ReadBack

@[expose] public section

noncomputable section

namespace Cert.Proof.Wscale

open Cert.WscaleIdeal Cert.WscaleIdeal.Gen Idealize.ShloMosaic Idealize.ShloMosaic.TcCoe Idealize.SL.Sem
open scoped BigOperators

variable (m : (ℓ : Loc nD τ sig) → Buf (Elt Ideal) ℓ)

/-- The scale of a whole weight array. -/
def ScaleG (X : Vec Ideal S2560x6912 .bf16) : Vec Ideal S1x1 .f32 := fun _ => ofColsG fun f => ∑ k : Fin 2560, mag (X (ix2 k f))
def ScaleD (X : Vec Ideal S6912x2560 .bf16) : Vec Ideal S1x1 .f32 := fun _ => ofColsD fun f => ∑ k : Fin 6912, mag (X (ix2 k f))

abbrev a0 (c : Dev nD) : Vec Ideal S2560x6912 .bf16 := m ((c : Thread nD τ).loc main_arg0)
abbrev a1 (c : Dev nD) : Vec Ideal S2560x6912 .bf16 := m ((c : Thread nD τ).loc main_arg1)
abbrev a2 (c : Dev nD) : Vec Ideal S6912x2560 .bf16 := m ((c : Thread nD τ).loc main_arg2)

theorem ix0_ : ∀ t : Fin cfg0.N, win0_0.index t = ![t.val, 0] := (by decide +kernel : ∀ t : Fin grid0.N, _)
theorem ix1_ : ∀ t : Fin cfg0.N, win0_1.index t = ![t.val, 0] := (by decide +kernel : ∀ t : Fin grid0.N, _)
theorem ix2_ : ∀ t : Fin cfg0.N, win0_2.index t = ![t.val, 0] := (by decide +kernel : ∀ t : Fin grid0.N, _)
theorem fx3_ : ∀ t : Fin cfg0.N, (cfg0.win 3).flush t = true → t.val = 7 := (by decide +kernel : ∀ t : Fin grid0.N, _)
theorem fx4_ : ∀ t : Fin cfg0.N, (cfg0.win 4).flush t = true → t.val = 7 := (by decide +kernel : ∀ t : Fin grid0.N, _)
theorem fx5_ : ∀ t : Fin cfg0.N, (cfg0.win 5).flush t = true → t.val = 7 := (by decide +kernel : ∀ t : Fin grid0.N, _)

/-- Grid points, groups of eight rows and rows of a group together run over all rows. -/
theorem rows (n N : ℕ) (h : 8 * (n * 8) = N) (G : ℕ → EReal) :
    ∑ r : Fin 8, ∑ i ∈ Finset.range 8, ∑ g : Fin n, G (i * (n * 8) + (g.val * 8 + r.val)) = ∑ k : Fin N, G k.val := by
  have h1 (i : ℕ) : ∑ r : Fin 8, ∑ g : Fin n, G (i * (n * 8) + (g.val * 8 + r.val)) = ∑ l : Fin (n * 8), G (i * (n * 8) + l.val) := by
    rw [Finset.sum_comm, ← Fin.sum_mul_add_fin n 8 (fun l : Fin (n * 8) => G (i * (n * 8) + l.val)) rfl]
  rw [Finset.sum_comm, Finset.sum_congr rfl fun i _ => h1 i, Finset.sum_range,
    ← Fin.sum_mul_add_fin 8 (n * 8) (fun f : Fin N => G f.val) h.symm]

/-- The magnitude in row `k` and column `f` of argument 0; the row number is reduced to make it total. -/
def at0 (c : Dev nD) (f : Fin 6912) (k : ℕ) : EReal := mag (a0 m c (ix2 ⟨k % 2560, Nat.mod_lt _ (by norm_num)⟩ f))

theorem fold0 (c : Dev nD) (t : Fin cfg0.N) (r : Fin 8) (f : Fin 6912) :
    foldG (iblk m c 0 t) (ix2 r f) = ∑ g : Fin 40, at0 m c f (t.val * (40 * 8) + (g.val * 8 + r.val)) := by
  unfold foldG at0
  refine Finset.sum_congr rfl fun g _ => congrArg mag ?_
  have hg := g.isLt
  have hr := r.isLt
  have ht : t.val < 8 := lt_of_lt_of_eq t.isLt (show cfg0.N = 8 from N_0)
  have e : (t.val * (40 * 8) + (g.val * 8 + r.val)) % 2560 = t.val * (40 * 8) + (g.val * 8 + r.val) := Nat.mod_eq_of_lt (by omega)
  blk_ext [iblk, V, ix0_, e]

theorem sum0 (c : Dev nD) (r : Fin 8) (f : Fin 6912) : ∀ n (hn : n < cfg0.N), n < 7 → (outsAt0 m c n hn).2.2.2.1 (ix2 r f)
    = ∑ i ∈ Finset.range (n + 1), ∑ g : Fin 40, at0 m c f (i * (40 * 8) + (g.val * 8 + r.val)) := by
  intro n
  induction n with
  | zero =>
    intro hn _
    rw [Finset.sum_range_one]
    exact (congrFun (first0 m c ⟨0, hn⟩ rfl) _).trans (fold0 m c ⟨0, hn⟩ r f)
  | succ n ih =>
    intro hn h7
    rw [Finset.sum_range_succ, ← ih (by omega) (by omega), ← fold0 m c ⟨n + 1, hn⟩ r f]
    exact congrFun (next0 m c ⟨n + 1, hn⟩ (Nat.succ_le_succ (Nat.zero_le n)) h7) _

theorem cols0 (c : Dev nD) (t : Fin cfg0.N) (h : t.val = 7) (f : Fin 6912) :
    ∑ r : Fin 8, plusG (outsAt0 m c (t.val - 1) (lt_of_le_of_lt (Nat.sub_le _ _) t.isLt)).2.2.2.1 (foldG (iblk m c 0 t)) (ix2 r f)
      = ∑ k : Fin 2560, mag (a0 m c (ix2 k f)) := by
  have h1 : t.val - 1 < 7 := by omega
  have e (r : Fin 8) : plusG (outsAt0 m c (t.val - 1) (lt_of_le_of_lt (Nat.sub_le _ _) t.isLt)).2.2.2.1 (foldG (iblk m c 0 t)) (ix2 r f)
      = ∑ i ∈ Finset.range 8, ∑ g : Fin 40, at0 m c f (i * (40 * 8) + (g.val * 8 + r.val)) := by
    unfold plusG
    rw [sum0 m c r f _ _ h1, fold0, h, ← Finset.sum_range_succ]
  rw [Finset.sum_congr rfl fun r _ => e r, rows 40 2560 (by norm_num)]
  refine Finset.sum_congr rfl fun k _ => ?_
  exact congrArg (fun q => mag (a0 m c (ix2 q f))) (Fin.ext (Nat.mod_eq_of_lt k.isLt))

theorem final3 (c : Dev nD) : (dats m 0 c).arrAt 3 cfg0.N = ScaleG (a0 m c) := by
  refine (dats m 0 c).arrAt_eq_of_covers 3 _ (by decide +kernel) fun t hf y => ?_
  have h7 := fx3_ t hf
  blk_simp
  rw [after0_3, last0 m c t h7]
  exact congrArg ofColsG (funext fun f => cols0 m c t h7 f)

/-- The magnitude in row `k` and column `f` of argument 1; the row number is reduced to make it total. -/
def at1 (c : Dev nD) (f : Fin 6912) (k : ℕ) : EReal := mag (a1 m c (ix2 ⟨k % 2560, Nat.mod_lt _ (by norm_num)⟩ f))

theorem fold1 (c : Dev nD) (t : Fin cfg0.N) (r : Fin 8) (f : Fin 6912) :
    foldG (iblk m c 1 t) (ix2 r f) = ∑ g : Fin 40, at1 m c f (t.val * (40 * 8) + (g.val * 8 + r.val)) := by
  unfold foldG at1
  refine Finset.sum_congr rfl fun g _ => congrArg mag ?_
  have hg := g.isLt
  have hr := r.isLt
  have ht : t.val < 8 := lt_of_lt_of_eq t.isLt (show cfg0.N = 8 from N_0)
  have e : (t.val * (40 * 8) + (g.val * 8 + r.val)) % 2560 = t.val * (40 * 8) + (g.val * 8 + r.val) := Nat.mod_eq_of_lt (by omega)
  blk_ext [iblk, V, ix1_, e]

theorem sum1 (c : Dev nD) (r : Fin 8) (f : Fin 6912) : ∀ n (hn : n < cfg0.N), n < 7 → (outsAt0 m c n hn).2.2.2.2.1 (ix2 r f)
    = ∑ i ∈ Finset.range (n + 1), ∑ g : Fin 40, at1 m c f (i * (40 * 8) + (g.val * 8 + r.val)) := by
  intro n
  induction n with
  | zero =>
    intro hn _
    rw [Finset.sum_range_one]
    exact (congrFun (first1 m c ⟨0, hn⟩ rfl) _).trans (fold1 m c ⟨0, hn⟩ r f)
  | succ n ih =>
    intro hn h7
    rw [Finset.sum_range_succ, ← ih (by omega) (by omega), ← fold1 m c ⟨n + 1, hn⟩ r f]
    exact congrFun (next1 m c ⟨n + 1, hn⟩ (Nat.succ_le_succ (Nat.zero_le n)) h7) _

theorem cols1 (c : Dev nD) (t : Fin cfg0.N) (h : t.val = 7) (f : Fin 6912) :
    ∑ r : Fin 8, plusG (outsAt0 m c (t.val - 1) (lt_of_le_of_lt (Nat.sub_le _ _) t.isLt)).2.2.2.2.1 (foldG (iblk m c 1 t)) (ix2 r f)
      = ∑ k : Fin 2560, mag (a1 m c (ix2 k f)) := by
  have h1 : t.val - 1 < 7 := by omega
  have e (r : Fin 8) : plusG (outsAt0 m c (t.val - 1) (lt_of_le_of_lt (Nat.sub_le _ _) t.isLt)).2.2.2.2.1 (foldG (iblk m c 1 t)) (ix2 r f)
      = ∑ i ∈ Finset.range 8, ∑ g : Fin 40, at1 m c f (i * (40 * 8) + (g.val * 8 + r.val)) := by
    unfold plusG
    rw [sum1 m c r f _ _ h1, fold1, h, ← Finset.sum_range_succ]
  rw [Finset.sum_congr rfl fun r _ => e r, rows 40 2560 (by norm_num)]
  refine Finset.sum_congr rfl fun k _ => ?_
  exact congrArg (fun q => mag (a1 m c (ix2 q f))) (Fin.ext (Nat.mod_eq_of_lt k.isLt))

theorem final4 (c : Dev nD) : (dats m 0 c).arrAt 4 cfg0.N = ScaleG (a1 m c) := by
  refine (dats m 0 c).arrAt_eq_of_covers 4 _ (by decide +kernel) fun t hf y => ?_
  have h7 := fx4_ t hf
  blk_simp
  rw [after0_4, last1 m c t h7]
  exact congrArg ofColsG (funext fun f => cols1 m c t h7 f)

/-- The magnitude in row `k` and column `f` of argument 2; the row number is reduced to make it total. -/
def at2 (c : Dev nD) (f : Fin 2560) (k : ℕ) : EReal := mag (a2 m c (ix2 ⟨k % 6912, Nat.mod_lt _ (by norm_num)⟩ f))

theorem fold2 (c : Dev nD) (t : Fin cfg0.N) (r : Fin 8) (f : Fin 2560) :
    foldD (iblk m c 2 t) (ix2 r f) = ∑ g : Fin 108, at2 m c f (t.val * (108 * 8) + (g.val * 8 + r.val)) := by
  unfold foldD at2
  refine Finset.sum_congr rfl fun g _ => congrArg mag ?_
  have hg := g.isLt
  have hr := r.isLt
  have ht : t.val < 8 := lt_of_lt_of_eq t.isLt (show cfg0.N = 8 from N_0)
  have e : (t.val * (108 * 8) + (g.val * 8 + r.val)) % 6912 = t.val * (108 * 8) + (g.val * 8 + r.val) := Nat.mod_eq_of_lt (by omega)
  blk_ext [iblk, V, ix2_, e]

theorem sum2 (c : Dev nD) (r : Fin 8) (f : Fin 2560) : ∀ n (hn : n < cfg0.N), n < 7 → (outsAt0 m c n hn).2.2.2.2.2 (ix2 r f)
    = ∑ i ∈ Finset.range (n + 1), ∑ g : Fin 108, at2 m c f (i * (108 * 8) + (g.val * 8 + r.val)) := by
  intro n
  induction n with
  | zero =>
    intro hn _
    rw [Finset.sum_range_one]
    exact (congrFun (first2 m c ⟨0, hn⟩ rfl) _).trans (fold2 m c ⟨0, hn⟩ r f)
  | succ n ih =>
    intro hn h7
    rw [Finset.sum_range_succ, ← ih (by omega) (by omega), ← fold2 m c ⟨n + 1, hn⟩ r f]
    exact congrFun (next2 m c ⟨n + 1, hn⟩ (Nat.succ_le_succ (Nat.zero_le n)) h7) _

theorem cols2 (c : Dev nD) (t : Fin cfg0.N) (h : t.val = 7) (f : Fin 2560) :
    ∑ r : Fin 8, plusD (outsAt0 m c (t.val - 1) (lt_of_le_of_lt (Nat.sub_le _ _) t.isLt)).2.2.2.2.2 (foldD (iblk m c 2 t)) (ix2 r f)
      = ∑ k : Fin 6912, mag (a2 m c (ix2 k f)) := by
  have h1 : t.val - 1 < 7 := by omega
  have e (r : Fin 8) : plusD (outsAt0 m c (t.val - 1) (lt_of_le_of_lt (Nat.sub_le _ _) t.isLt)).2.2.2.2.2 (foldD (iblk m c 2 t)) (ix2 r f)
      = ∑ i ∈ Finset.range 8, ∑ g : Fin 108, at2 m c f (i * (108 * 8) + (g.val * 8 + r.val)) := by
    unfold plusD
    rw [sum2 m c r f _ _ h1, fold2, h, ← Finset.sum_range_succ]
  rw [Finset.sum_congr rfl fun r _ => e r, rows 108 6912 (by norm_num)]
  refine Finset.sum_congr rfl fun k _ => ?_
  exact congrArg (fun q => mag (a2 m c (ix2 q f))) (Fin.ext (Nat.mod_eq_of_lt k.isLt))

theorem final5 (c : Dev nD) : (dats m 0 c).arrAt 5 cfg0.N = ScaleD (a2 m c) := by
  refine (dats m 0 c).arrAt_eq_of_covers 5 _ (by decide +kernel) fun t hf y => ?_
  have h7 := fx5_ t hf
  blk_simp
  rw [after0_5, last2 m c t h7]
  exact congrArg ofColsD (funext fun f => cols2 m c t h7 f)

end Cert.Proof.Wscale

end
-- ==== Proof.WscaleRef.lean ====
/- The weight scales' reference: its three results. -/
module

public import proofs.«01_k».proof.Proof.WscaleFinal
public import proofs.«01_k».proof.Proof.Gen.RefWscaleIdeal.Read

@[expose] public section

noncomputable section

namespace Cert.Proof.Wscale

open Cert.RefWscaleIdeal Cert.RefWscaleIdeal.Read Idealize.ShloMosaic Idealize.ShloMosaic.TcCoe Idealize.SL.Sem
open scoped BigOperators

theorem cols_8 (x : Vec Ideal S2560x6912 .bf16) (j : S6912.Idx) : val_main_v4 x j
    = Ideal.div (∑ k, mag (x (ix2 k (j 0)))) (Ideal.ofBits .f32 0x45200000#32) := by
  pointwise [val_main_v4, val_main_v3, val_main_v2, val_main_v1, val_main_v0, val_main_cst, val_main_cst_0]

theorem ref8 (x : Vec Ideal S2560x6912 .bf16) : val_main_v8 x = ScaleG x := by
  funext y
  unfold ScaleG ofColsG val_main_v8 val_main_v7 val_main_v6 val_main_v5
  have h := cols_8 x
  generalize val_main_v4 x = Z at h ⊢
  have h' (f : Fin 6912) : Ideal.div (∑ k, mag (x (ix2 k f))) (Ideal.ofBits .f32 0x45200000#32) = Z (ix1 f) := (h (ix1 f)).symm
  dsimp only
  rw [Finset.sum_congr rfl fun f _ => h' f]
  pointwise [val_main_cst_1, val_main_cst_2, val_main_cst_3]

theorem cols_17 (x : Vec Ideal S2560x6912 .bf16) (j : S6912.Idx) : val_main_v13 x j
    = Ideal.div (∑ k, mag (x (ix2 k (j 0)))) (Ideal.ofBits .f32 0x45200000#32) := by
  pointwise [val_main_v13, val_main_v12, val_main_v11, val_main_v10, val_main_v9, val_main_cst_4, val_main_cst_5]

theorem ref17 (x : Vec Ideal S2560x6912 .bf16) : val_main_v17 x = ScaleG x := by
  funext y
  unfold ScaleG ofColsG val_main_v17 val_main_v16 val_main_v15 val_main_v14
  have h := cols_17 x
  generalize val_main_v13 x = Z at h ⊢
  have h' (f : Fin 6912) : Ideal.div (∑ k, mag (x (ix2 k f))) (Ideal.ofBits .f32 0x45200000#32) = Z (ix1 f) := (h (ix1 f)).symm
  dsimp only
  rw [Finset.sum_congr rfl fun f _ => h' f]
  pointwise [val_main_cst_6, val_main_cst_7, val_main_cst_8]

theorem cols_26 (x : Vec Ideal S6912x2560 .bf16) (j : S2560.Idx) : val_main_v22 x j
    = Ideal.div (∑ k, mag (x (ix2 k (j 0)))) (Ideal.ofBits .f32 0x45D80000#32) := by
  pointwise [val_main_v22, val_main_v21, val_main_v20, val_main_v19, val_main_v18, val_main_cst_9, val_main_cst_10]

theorem ref26 (x : Vec Ideal S6912x2560 .bf16) : val_main_v26 x = ScaleD x := by
  funext y
  unfold ScaleD ofColsD val_main_v26 val_main_v25 val_main_v24 val_main_v23
  have h := cols_26 x
  generalize val_main_v22 x = Z at h ⊢
  have h' (f : Fin 2560) : Ideal.div (∑ k, mag (x (ix2 k f))) (Ideal.ofBits .f32 0x45D80000#32) = Z (ix1 f) := (h (ix1 f)).symm
  dsimp only
  rw [Finset.sum_congr rfl fun f _ => h' f]
  pointwise [val_main_cst_11, val_main_cst_12, val_main_cst_13]

end Cert.Proof.Wscale

end
-- ==== Proof.WscaleClaim.lean ====
/- The weight scales and their reference end with the same three numbers, over the extended reals. -/
module

public import proofs.«01_k».proof.Defs
public import proofs.«01_k».proof.Proof.WscaleFinal
public import proofs.«01_k».proof.Proof.WscaleRef
public import proofs.«01_k».proof.Proof.Gen.WscaleIdeal
public import proofs.«01_k».proof.Proof.Gen.RefWscaleIdeal
public import proofs.«01_k».proof.Proof.Gen.RefWscaleIdeal.Run
public import Idealize.ShloMosaic.Lib.Claim

@[expose] public section

noncomputable section

namespace Cert.Proof.Wscale

open Idealize.ShloMosaic Idealize.ShloMosaic.TcCoe Idealize.SL.Sem

set_option maxHeartbeats 1000000 in
theorem algebraic : Cert.algebraic_WscaleIdeal_RefWscaleIdeal (hWscaleIdeal := Cert.WscaleIdeal.Gen.facts)
    (hRefWscaleIdeal := Cert.RefWscaleIdeal.Gen.facts) := by
  intro m g m' g' _ hag
  refine ⟨fun c => ScaleG (a0 m c),
    fun c => ScaleG (a1 m c),
    fun c => ScaleD (a2 m c), ?_, ?_⟩
  · refine (θ_run Cert.WscaleIdeal.defs _ _).mono (fun r h c => ?_) (Cert.WscaleIdeal.Gen.run_main (F := Ideal) m g)
    exact ⟨((h c).1 3).trans (final3 m c),
      ((h c).1 4).trans (final4 m c),
      ((h c).1 5).trans (final5 m c),
      ((h c).1 0).trans (((Cert.WscaleIdeal.Gen.dats m 0 c).arrAt_in 0 rfl _).trans ((Cert.WscaleIdeal.Gen.A_eq m c 0).trans (Cert.WscaleIdeal.Gen.V_main_arg0 m c))),
      ((h c).1 1).trans (((Cert.WscaleIdeal.Gen.dats m 0 c).arrAt_in 1 rfl _).trans ((Cert.WscaleIdeal.Gen.A_eq m c 1).trans (Cert.WscaleIdeal.Gen.V_main_arg1 m c))),
      ((h c).1 2).trans (((Cert.WscaleIdeal.Gen.dats m 0 c).arrAt_in 2 rfl _).trans ((Cert.WscaleIdeal.Gen.A_eq m c 2).trans (Cert.WscaleIdeal.Gen.V_main_arg2 m c)))⟩
  · refine (θ_run Cert.RefWscaleIdeal.defs _ _).mono (fun r h c => ?_) (Cert.RefWscaleIdeal.Value.run (F := Ideal) m' g')
    obtain ⟨h0, h1, h2, hs⟩ := h c
    obtain ⟨e0, e1, e2⟩ := hag c
    refine ⟨h0.trans ?_, h1.trans ?_, h2.trans ?_, hs⟩
    · rw [Cert.RefWscaleIdeal.Read.val_main_v8_eq, e0]
      exact ref8 _
    · rw [Cert.RefWscaleIdeal.Read.val_main_v17_eq, e1]
      exact ref17 _
    · rw [Cert.RefWscaleIdeal.Read.val_main_v26_eq, e2]
      exact ref26 _

end Cert.Proof.Wscale

end
-- ==== Proof.Codes.lean ====
/- Rounding to 8-bit codes: a rounded and clipped number is an integer, and the code stored for it stands for it. -/
module

public import Idealize.ShloMosaic.Lib.Pointwise
public import Idealize.ShloMosaic.Lib.IdealHost
public import Idealize.ShloMosaic.Lib.Pipeline.ValueKit

@[expose] public section

noncomputable section

namespace Cert.Proof

open Idealize.ShloMosaic

/-- `z` rounded to the nearest integer (ties to even) and clipped to `-127 … 127`. -/
def clip (z : EReal) : EReal :=
  min ((((127#32 : BitVec 32).toInt : ℝ)) : EReal) (max ((((4294967169#32 : BitVec 32).toInt : ℝ)) : EReal)
    (Ideal.liftRound Ideal.roundHalfEven z))

theorem clip_int (z : EReal) : ∃ n : ℤ, -127 ≤ n ∧ n ≤ 127 ∧ clip z = ((n : ℝ) : EReal) := by
  have e1 : (127#32 : BitVec 32).toInt = 127 := by decide
  have e2 : (4294967169#32 : BitVec 32).toInt = -127 := by decide
  unfold clip
  rw [e1, e2]
  induction z with
  | bot => exact ⟨-127, by norm_num, by norm_num, by
      rw [Ideal.liftRound_bot, max_eq_left bot_le, min_eq_right (by exact_mod_cast (by norm_num : (-127 : ℝ) ≤ 127))]⟩
  | top => exact ⟨127, by norm_num, by norm_num, by rw [Ideal.liftRound_top, max_eq_right le_top, min_eq_left le_top]⟩
  | coe r =>
    refine ⟨min 127 (max (-127) (Ideal.roundHalfEven r)), le_min (by norm_num) (le_max_left _ _), min_le_left _ _, ?_⟩
    rw [Ideal.liftRound_coe, ← EReal.coe_strictMono.monotone.map_max, ← EReal.coe_strictMono.monotone.map_min, Int.cast_min, Int.cast_max]

theorem fptosi_int (w : ℕ) (n : ℤ) (h1 : -(2 ^ (w - 1) : ℕ) ≤ n) (h2 : n ≤ (2 ^ (w - 1) : ℕ) - 1) :
    FloatOps.fptosi (F := Ideal) (φ := .f32) w ((n : ℝ) : EReal) = BitVec.ofInt w n := by
  show BitVec.ofInt w (max (-(2 ^ (w - 1) : ℕ)) (min ((2 ^ (w - 1) : ℕ) - 1) (if 0 ≤ (n : ℝ) then ⌊(n : ℝ)⌋ else ⌈(n : ℝ)⌉))) = _
  rw [Int.floor_intCast, Int.ceil_intCast, ite_self, min_eq_right h2, max_eq_right h1]

/-- Converting to 32 bits and keeping the low 8 stores the same code as converting to 8 bits. -/
theorem code_eq (z : EReal) : (FloatOps.fptosi (F := Ideal) (φ := .f32) 32 (clip z)).truncate 8 = FloatOps.fptosi (F := Ideal) (φ := .f32) 8 (clip z) := by
  obtain ⟨n, h1, h2, h⟩ := clip_int z
  rw [h, fptosi_int 32 n (by norm_num; omega) (by norm_num; omega), fptosi_int 8 n (by norm_num; omega) (by norm_num; omega)]
  apply BitVec.eq_of_toInt_eq
  rw [BitVec.toInt_setWidth, BitVec.toNat_ofInt, BitVec.toInt_ofInt, Int.toNat_of_nonneg (Int.emod_nonneg _ (by norm_num))]
  simp only [Int.bmod_def]
  omega

/-- The code stored for a clipped number stands for that number. -/
theorem decode (f : FTy) (z : EReal) : FloatOps.sitofp (F := Ideal) f (FloatOps.fptosi (F := Ideal) (φ := .f32) 8 (clip z)) = clip z := by
  obtain ⟨n, h1, h2, h⟩ := clip_int z
  rw [h, fptosi_int 8 n (by norm_num; omega) (by norm_num; omega)]
  show (((BitVec.ofInt 8 n).toInt : ℝ) : EReal) = _
  rw [BitVec.toInt_ofInt_eq_self (by decide) (by norm_num; omega) (by norm_num; omega)]

end Cert.Proof

end
-- ==== Proof.Ternary.lean ====
/- Rounding to the three codes -1, 0 and 1, and packing four of them into one byte. -/
module

public import Idealize.ShloMosaic.Lib.Pointwise
public import Idealize.ShloMosaic.Lib.BitcastFour
public import proofs.«01_k».proof.Proof.Codes

@[expose] public section

noncomputable section

namespace Cert.Proof

open Idealize.ShloMosaic

/-- `z` rounded to the nearest integer (ties to even) and clipped to `-1 … 1`. -/
def tern (z : EReal) : EReal :=
  min ((((1#32 : BitVec 32).toInt : ℝ)) : EReal) (max ((((4294967295#32 : BitVec 32).toInt : ℝ)) : EReal)
    (Ideal.liftRound Ideal.roundHalfEven z))

theorem tern_int (z : EReal) : ∃ n : ℤ, -1 ≤ n ∧ n ≤ 1 ∧ tern z = ((n : ℝ) : EReal) := by
  have e1 : (1#32 : BitVec 32).toInt = 1 := by decide
  have e2 : (4294967295#32 : BitVec 32).toInt = -1 := by decide
  unfold tern
  rw [e1, e2]
  induction z with
  | bot => exact ⟨-1, by norm_num, by norm_num, by
      rw [Ideal.liftRound_bot, max_eq_left bot_le, min_eq_right (by exact_mod_cast (by norm_num : (-1 : ℝ) ≤ 1))]⟩
  | top => exact ⟨1, by norm_num, by norm_num, by rw [Ideal.liftRound_top, max_eq_right le_top, min_eq_left le_top]⟩
  | coe r =>
    refine ⟨min 1 (max (-1) (Ideal.roundHalfEven r)), le_min (by norm_num) (le_max_left _ _), min_le_left _ _, ?_⟩
    rw [Ideal.liftRound_coe, ← EReal.coe_strictMono.monotone.map_max, ← EReal.coe_strictMono.monotone.map_min, Int.cast_min, Int.cast_max]

/-- The code of `z`, in 8 bits. -/
def tcode (z : EReal) : BitVec 8 := FloatOps.fptosi (F := Ideal) (φ := .f32) 8 (tern z)

theorem tcode_cases (z : EReal) : tcode z = 255#8 ∨ tcode z = 0#8 ∨ tcode z = 1#8 := by
  obtain ⟨n, h1, h2, h⟩ := tern_int z
  unfold tcode
  rw [h, fptosi_int 8 n (by norm_num; omega) (by norm_num; omega)]
  have hn : n = -1 ∨ n = 0 ∨ n = 1 := by omega
  rcases hn with rfl | rfl | rfl
  · exact Or.inl (by decide)
  · exact Or.inr (Or.inl (by decide))
  · exact Or.inr (Or.inr (by decide))

/-- Converting to 32 bits and keeping the low 8 stores the same code as converting to 8 bits. -/
theorem tcode_eq (z : EReal) : (FloatOps.fptosi (F := Ideal) (φ := .f32) 32 (tern z)).setWidth 8 = tcode z := by
  obtain ⟨n, h1, h2, h⟩ := tern_int z
  unfold tcode
  rw [h, fptosi_int 32 n (by norm_num; omega) (by norm_num; omega), fptosi_int 8 n (by norm_num; omega) (by norm_num; omega)]
  have hn : n = -1 ∨ n = 0 ∨ n = 1 := by omega
  rcases hn with rfl | rfl | rfl <;> decide

/-- Four codes in one byte: each code plus one in two bits, the first code lowest. -/
def pack (a b c d : BitVec 8) : BitVec 8 :=
  ((((a.signExtend 32 + 1#32) ||| ((b.signExtend 32 + 1#32) <<< 2)) ||| ((c.signExtend 32 + 1#32) <<< 4)) |||
    ((d.signExtend 32 + 1#32) <<< 6)).setWidth 8

/-- Two bits of each byte of a word, plus one. -/
def fields (w : BitVec 32) : BitVec 32 := ((w &&& 50529027#32) + 16843009#32) &&& 50529027#32

/-- Those fields moved together into the lowest byte. -/
def gather (w : BitVec 32) : BitVec 8 :=
  ((((fields w ||| (fields w).sshiftRight 6) ||| (fields w).sshiftRight 12) ||| (fields w).sshiftRight 18) &&& 255#32).setWidth 8

/-- The word whose four bytes are `b`, lowest first. -/
def wordOf (b : Fin 4 → BitVec 8) : BitVec 32 :=
  (b 0).setWidth 32 ||| ((b 1).setWidth 32 <<< 8) ||| ((b 2).setWidth 32 <<< 16) ||| ((b 3).setWidth 32 <<< 24)

/-- Gathering the fields of a word whose bytes are codes packs the codes. -/
theorem gather_wordOf (b : Fin 4 → BitVec 8) (h : ∀ k, b k = 255#8 ∨ b k = 0#8 ∨ b k = 1#8) :
    gather (wordOf b) = pack (b 0) (b 1) (b 2) (b 3) := by
  unfold wordOf
  rcases h 0 with e0 | e0 | e0 <;> rcases h 1 with e1 | e1 | e1 <;> rcases h 2 with e2 | e2 | e2 <;> rcases h 3 with e3 | e3 | e3 <;>
    rw [e0, e1, e2, e3] <;> decide

/-- The word an 8-bit array's reinterpretation holds at row `a`, column `l`. -/
theorem bitcast_wordOf {R r n : Nat} (x : (⟨2, ![R, n]⟩ : Shape).Idx → BitVec 8)
    (h : (⟨2, ![R, n]⟩ : Shape).Bitcasts 8 ⟨2, ![r, n]⟩ 32) (a : Fin r) (l : Fin n) (p : Fin 4 → Fin R)
    (hp : ∀ k, (p k).val = 4 * a.val + k.val) :
    bitcast ⟨2, ![r, n]⟩ 32 x h (ValueIdx.ix2 a l) = wordOf fun k => x (ValueIdx.ix2 (p k) l) := by
  apply BitVec.eq_of_getLsbD_eq
  intro q hq
  rw [bitcast_8_32_getLsbD_ix2 x h a l q hq (p ⟨q / 8, by omega⟩) (hp _)]
  exact (four_bytes_getLsbD (fun k => x (ValueIdx.ix2 (p k) l)) q hq).symm

end Cert.Proof

end
-- ==== Proof.WquantBlock.lean ====
/- The weights' codes, and four codes to the byte: over any array, and over one block of the kernel. -/
module

public import proofs.«01_k».proof.Proof.Gen.WquantIdeal.Value
public import proofs.«01_k».proof.Proof.Ternary
public import Idealize.ShloMosaic.Lib.Pipeline.ValueKit
public import Idealize.ShloMosaic.Lib.Pointwise

@[expose] public section

noncomputable section

namespace Cert.Proof.Wquant

open Cert.WquantIdeal Cert.WquantIdeal.Gen Idealize.ShloMosaic Idealize.ShloMosaic.TcCoe Idealize.SL.Sem
open scoped BigOperators

/-- The codes of `x` for the scale `s`. -/
def codes {R n : Nat} (x : Vec Ideal (⟨2, ![R, n]⟩ : Shape) .bf16) (s : Vec Ideal S1x1 .f32) : Vec Ideal (⟨2, ![R, n]⟩ : Shape) .i8 :=
  fun y => tcode (Ideal.div (x y) (s (ix2 0 0)))

/-- Row `4a + k` of an array of `4r` rows. -/
def rowK {R r : Nat} (h : R = 4 * r) (a : Fin r) (k : Fin 4) : Fin R :=
  ⟨4 * a.val + k.val, by have := a.isLt; have := k.isLt; omega⟩

/-- Four rows of codes packed into one row of bytes. -/
def packed {R r n : Nat} (h : R = 4 * r) (x : Vec Ideal (⟨2, ![R, n]⟩ : Shape) .bf16) (s : Vec Ideal S1x1 .f32) :
    Vec Ideal (⟨2, ![r, n]⟩ : Shape) .i8 :=
  fun y => pack (codes x s (ix2 (rowK h (y 0) 0) (y 1))) (codes x s (ix2 (rowK h (y 0) 1) (y 1)))
    (codes x s (ix2 (rowK h (y 0) 2) (y 1))) (codes x s (ix2 (rowK h (y 0) 3) (y 1)))

/-- Gathering the fields of the codes' words packs the codes. -/
theorem gather_codes {R r n : Nat} (h : R = 4 * r) (x : Vec Ideal (⟨2, ![R, n]⟩ : Shape) .bf16) (s : Vec Ideal S1x1 .f32)
    (hb : (⟨2, ![R, n]⟩ : Shape).Bitcasts 8 ⟨2, ![r, n]⟩ 32) (a : Fin r) (l : Fin n) :
    gather (bitcast ⟨2, ![r, n]⟩ 32 (codes x s) hb (ix2 a l)) = packed h x s (ix2 a l) := by
  refine (congrArg gather (bitcast_wordOf (codes x s) hb a l (rowK h a) fun _ => rfl)).trans ?_
  refine (gather_wordOf _ fun k => tcode_cases _).trans ?_
  unfold packed
  rfl

theorem codes0_eq (x : Vec Ideal S2560x256 .bf16) (s : Vec Ideal S1x1 .f32) : k0_pay3 x (s (ix2 0 0)) = codes x s := by
  funext y
  unfold k0_pay3 codes tcode tern
  pointwise []
theorem gather0_eq (x : Vec Ideal S2560x256 .bf16) (s : Vec Ideal S1x1 .f32) (y : S640x256.Idx) :
    (k0_pay4 x (s (ix2 0 0)) : IVec S640x256 8) y = gather (bitcast S640x256 32 (k0_pay3 x (s (ix2 0 0))) bitcasts_S2560x256_w8_S640x256_w32 y) := by
  unfold k0_pay4
  generalize bitcast S640x256 32 (k0_pay3 x (s (ix2 0 0))) bitcasts_S2560x256_w8_S640x256_w32 = z
  rfl
theorem packed0_eq (x : Vec Ideal S2560x256 .bf16) (s : Vec Ideal S1x1 .f32) :
    k0_pay4 x (s (ix2 0 0)) = packed (R := 2560) (r := 640) (by norm_num) x s := by
  funext y
  refine (gather0_eq x s y).trans ?_
  rw [codes0_eq]
  have hy : y = ix2 (y 0) (y 1) := by funext a; fin_cases a <;> rfl
  rw [hy]
  exact gather_codes (by norm_num) x s _ _ _

theorem codes1_eq (x : Vec Ideal S2560x256 .bf16) (s : Vec Ideal S1x1 .f32) : k0_pay6 (k0_pay5 x) (s (ix2 0 0)) = codes x s := by
  funext y
  unfold k0_pay6 k0_pay5 codes tcode tern
  pointwise []
theorem gather1_eq (x : Vec Ideal S2560x256 .bf16) (s : Vec Ideal S1x1 .f32) (y : S640x256.Idx) :
    (k0_pay7 (k0_pay5 x) (s (ix2 0 0)) : IVec S640x256 8) y = gather (bitcast S640x256 32 (k0_pay6 (k0_pay5 x) (s (ix2 0 0))) bitcasts_S2560x256_w8_S640x256_w32 y) := by
  unfold k0_pay7
  generalize bitcast S640x256 32 (k0_pay6 (k0_pay5 x) (s (ix2 0 0))) bitcasts_S2560x256_w8_S640x256_w32 = z
  rfl
theorem packed1_eq (x : Vec Ideal S2560x256 .bf16) (s : Vec Ideal S1x1 .f32) :
    k0_pay7 (k0_pay5 x) (s (ix2 0 0)) = packed (R := 2560) (r := 640) (by norm_num) x s := by
  funext y
  refine (gather1_eq x s y).trans ?_
  rw [codes1_eq]
  have hy : y = ix2 (y 0) (y 1) := by funext a; fin_cases a <;> rfl
  rw [hy]
  exact gather_codes (by norm_num) x s _ _ _

theorem codes2_eq (x : Vec Ideal S256x2560 .bf16) (s : Vec Ideal S1x1 .f32) : k0_pay1 (k0_pay8 x (s (ix2 0 0))) 1#32 k0_pay9 = codes x s := by
  funext y
  unfold k0_pay1 k0_pay8 k0_pay9 codes tcode tern
  pointwise []
theorem gather2_eq (x : Vec Ideal S256x2560 .bf16) (s : Vec Ideal S1x1 .f32) (y : S64x2560.Idx) :
    (k0_pay2 (k0_pay8 x (s (ix2 0 0))) 1#32 k0_pay9 : IVec S64x2560 8) y = gather (bitcast S64x2560 32 (k0_pay1 (k0_pay8 x (s (ix2 0 0))) 1#32 k0_pay9) bitcasts_S256x2560_w8_S64x2560_w32 y) := by
  unfold k0_pay2
  generalize bitcast S64x2560 32 (k0_pay1 (k0_pay8 x (s (ix2 0 0))) 1#32 k0_pay9) bitcasts_S256x2560_w8_S64x2560_w32 = z
  rfl
theorem packed2_eq (x : Vec Ideal S256x2560 .bf16) (s : Vec Ideal S1x1 .f32) :
    k0_pay2 (k0_pay8 x (s (ix2 0 0))) 1#32 k0_pay9 = packed (R := 256) (r := 64) (by norm_num) x s := by
  funext y
  refine (gather2_eq x s y).trans ?_
  rw [codes2_eq]
  have hy : y = ix2 (y 0) (y 1) := by funext a; fin_cases a <;> rfl
  rw [hy]
  exact gather_codes (by norm_num) x s _ _ _

end Cert.Proof.Wquant

end
-- ==== Proof.WquantWhole.lean ====
/- The weights' codes and packed codes: the kernel's six output arrays after the whole grid. -/
module

public import proofs.«01_k».proof.Proof.WquantBlock
public import Idealize.ShloMosaic.Lib.Pipeline.ValueKit
public import Idealize.ShloMosaic.Lib.Pointwise

@[expose] public section

noncomputable section

namespace Cert.Proof.Wquant

open Cert.WquantIdeal Cert.WquantIdeal.Gen Idealize.ShloMosaic Idealize.ShloMosaic.TcCoe Idealize.SL.Sem
open scoped BigOperators

variable (m : (ℓ : Loc nD τ sig) → Buf (Elt Ideal) ℓ) (c : Dev nD)

theorem ix0_ : ∀ t : Fin cfg0.N, win0_0.index t = ![0, 0] := (by decide +kernel : ∀ t : Fin grid0.N, _)
theorem ix1_ : ∀ t : Fin cfg0.N, win0_1.index t = ![0, 0] := (by decide +kernel : ∀ t : Fin grid0.N, _)
theorem ix2_ : ∀ t : Fin cfg0.N, win0_2.index t = ![0, 0] := (by decide +kernel : ∀ t : Fin grid0.N, _)
theorem ix3_ : ∀ t : Fin cfg0.N, win0_3.index t = ![0, t.val] := (by decide +kernel : ∀ t : Fin grid0.N, _)
theorem ix4_ : ∀ t : Fin cfg0.N, win0_4.index t = ![0, t.val] := (by decide +kernel : ∀ t : Fin grid0.N, _)
theorem ix5_ : ∀ t : Fin cfg0.N, win0_5.index t = ![t.val, 0] := (by decide +kernel : ∀ t : Fin grid0.N, _)
theorem ix6_ : ∀ t : Fin cfg0.N, win0_6.index t = ![0, t.val] := (by decide +kernel : ∀ t : Fin grid0.N, _)
theorem ix7_ : ∀ t : Fin cfg0.N, win0_7.index t = ![0, t.val] := (by decide +kernel : ∀ t : Fin grid0.N, _)
theorem ix8_ : ∀ t : Fin cfg0.N, win0_8.index t = ![t.val, 0] := (by decide +kernel : ∀ t : Fin grid0.N, _)
theorem ix9_ : ∀ t : Fin cfg0.N, win0_9.index t = ![0, t.val] := (by decide +kernel : ∀ t : Fin grid0.N, _)
theorem ix10_ : ∀ t : Fin cfg0.N, win0_10.index t = ![0, t.val] := (by decide +kernel : ∀ t : Fin grid0.N, _)
theorem ix11_ : ∀ t : Fin cfg0.N, win0_11.index t = ![t.val, 0] := (by decide +kernel : ∀ t : Fin grid0.N, _)

abbrev a0 : Vec Ideal S1x1 .f32 := m ((c.tc : Thread nD τ).loc main_arg0)
abbrev a1 : Vec Ideal S1x1 .f32 := m ((c.tc : Thread nD τ).loc main_arg1)
abbrev a2 : Vec Ideal S1x1 .f32 := m ((c.tc : Thread nD τ).loc main_arg2)
abbrev a3 : Vec Ideal S2560x6912 .bf16 := m ((c.tc : Thread nD τ).loc main_arg3)
abbrev a4 : Vec Ideal S2560x6912 .bf16 := m ((c.tc : Thread nD τ).loc main_arg4)
abbrev a5 : Vec Ideal S6912x2560 .bf16 := m ((c.tc : Thread nD τ).loc main_arg5)

theorem s0_eq (t : Fin cfg0.N) : iblk m c 0 t (ix2 0 0) = a0 m c (ix2 0 0) := by
  show a0 m c _ = a0 m c _
  refine congrArg (a0 m c) ?_
  blk_ext [ix0_]
theorem code0_eq (t : Fin cfg0.N) (r : Fin 2560) (l : Fin 256) (Y : S2560x6912.Idx) (h0 : (Y 0).val = r.val) (h1 : (Y 1).val = 256 * t.val + l.val) :
    codes (iblk m c 3 t) (iblk m c 0 t) (ix2 r l) = codes (a3 m c) (a0 m c) Y := by
  unfold codes
  refine congrArg₂ (fun u v => tcode (Ideal.div u v)) ?_ (s0_eq m c t)
  show a3 m c _ = a3 m c _
  refine congrArg (a3 m c) ?_
  blk_ext [ix3_, h0, h1]

theorem s1_eq (t : Fin cfg0.N) : iblk m c 1 t (ix2 0 0) = a1 m c (ix2 0 0) := by
  show a1 m c _ = a1 m c _
  refine congrArg (a1 m c) ?_
  blk_ext [ix1_]
theorem code1_eq (t : Fin cfg0.N) (r : Fin 2560) (l : Fin 256) (Y : S2560x6912.Idx) (h0 : (Y 0).val = r.val) (h1 : (Y 1).val = 256 * t.val + l.val) :
    codes (iblk m c 4 t) (iblk m c 1 t) (ix2 r l) = codes (a4 m c) (a1 m c) Y := by
  unfold codes
  refine congrArg₂ (fun u v => tcode (Ideal.div u v)) ?_ (s1_eq m c t)
  show a4 m c _ = a4 m c _
  refine congrArg (a4 m c) ?_
  blk_ext [ix4_, h0, h1]

theorem s2_eq (t : Fin cfg0.N) : iblk m c 2 t (ix2 0 0) = a2 m c (ix2 0 0) := by
  show a2 m c _ = a2 m c _
  refine congrArg (a2 m c) ?_
  blk_ext [ix2_]
theorem code2_eq (t : Fin cfg0.N) (r : Fin 256) (l : Fin 2560) (Y : S6912x2560.Idx) (h0 : (Y 0).val = 256 * t.val + r.val) (h1 : (Y 1).val = l.val) :
    codes (iblk m c 5 t) (iblk m c 2 t) (ix2 r l) = codes (a5 m c) (a2 m c) Y := by
  unfold codes
  refine congrArg₂ (fun u v => tcode (Ideal.div u v)) ?_ (s2_eq m c t)
  show a5 m c _ = a5 m c _
  refine congrArg (a5 m c) ?_
  blk_ext [ix5_, h0, h1]

theorem out6 (t : Fin cfg0.N) : (outsAt0 m c t).1 = codes (iblk m c 3 t) (iblk m c 0 t) := by
  refine Eq.trans ?_ (codes0_eq _ _)
  unfold outsAt0
  dsimp only
  unfold out0_A_6
  frame_out
  exact congrArg (fun z => k0_pay3 (iblk m c 3 t) z) (congrArg (iblk m c 0 t) (by funext a; fin_cases a <;> rfl))
theorem final6 : (dats m 0 c).arrAt 6 cfg0.N = codes (a3 m c) (a0 m c) := by
  refine (dats m 0 c).arrAt_eq_of_covers 6 _ (by decide +kernel) fun t hf y => ?_
  blk_simp
  rw [after0_6, out6]
  rw [show y = ix2 (y 0) (y 1) from by funext a; fin_cases a <;> rfl]
  refine code0_eq m c t (y 0) (y 1) _ ?_ ?_
  · simp [ix6_] <;> omega
  · simp [ix6_] <;> omega

theorem out9 (t : Fin cfg0.N) : (outsAt0 m c t).2.2.2.1 = packed (R := 2560) (r := 640) (by norm_num) (iblk m c 3 t) (iblk m c 0 t) := by
  refine Eq.trans ?_ (packed0_eq _ _)
  unfold outsAt0
  dsimp only
  unfold out0_A_9
  frame_out
  exact congrArg (fun z => k0_pay4 (iblk m c 3 t) z) (congrArg (iblk m c 0 t) (by funext a; fin_cases a <;> rfl))
theorem final9 : (dats m 0 c).arrAt 9 cfg0.N = packed (R := 2560) (r := 640) (by norm_num) (a3 m c) (a0 m c) := by
  refine (dats m 0 c).arrAt_eq_of_covers 9 _ (by decide +kernel) fun t hf y => ?_
  blk_simp
  rw [after0_9, out9]
  unfold packed
  have e0 : ((win0_9.blk t).view.emb y 0).val = (y 0).val := by simp [ix9_] <;> omega
  have e1 : ((win0_9.blk t).view.emb y 1).val = 256 * t.val + (y 1).val := by simp [ix9_] <;> omega
  refine congr (congr (congr (congrArg pack ?_) ?_) ?_) ?_
  all_goals
    refine code0_eq m c t _ (y 1) _ ?_ ?_
    · refine (congrArg (fun z => 4 * z + _) e0).trans ?_
      rfl
    · exact e1

theorem out7 (t : Fin cfg0.N) : (outsAt0 m c t).2.1 = codes (iblk m c 4 t) (iblk m c 1 t) := by
  refine Eq.trans ?_ (codes1_eq _ _)
  unfold outsAt0
  dsimp only
  unfold out0_A_7
  frame_out
  exact congrArg (fun z => k0_pay6 (k0_pay5 (iblk m c 4 t)) z) (congrArg (iblk m c 1 t) (by funext a; fin_cases a <;> rfl))
theorem final7 : (dats m 0 c).arrAt 7 cfg0.N = codes (a4 m c) (a1 m c) := by
  refine (dats m 0 c).arrAt_eq_of_covers 7 _ (by decide +kernel) fun t hf y => ?_
  blk_simp
  rw [after0_7, out7]
  rw [show y = ix2 (y 0) (y 1) from by funext a; fin_cases a <;> rfl]
  refine code1_eq m c t (y 0) (y 1) _ ?_ ?_
  · simp [ix7_] <;> omega
  · simp [ix7_] <;> omega

theorem out10 (t : Fin cfg0.N) : (outsAt0 m c t).2.2.2.2.1 = packed (R := 2560) (r := 640) (by norm_num) (iblk m c 4 t) (iblk m c 1 t) := by
  refine Eq.trans ?_ (packed1_eq _ _)
  unfold outsAt0
  dsimp only
  unfold out0_A_10
  frame_out
  exact congrArg (fun z => k0_pay7 (k0_pay5 (iblk m c 4 t)) z) (congrArg (iblk m c 1 t) (by funext a; fin_cases a <;> rfl))
theorem final10 : (dats m 0 c).arrAt 10 cfg0.N = packed (R := 2560) (r := 640) (by norm_num) (a4 m c) (a1 m c) := by
  refine (dats m 0 c).arrAt_eq_of_covers 10 _ (by decide +kernel) fun t hf y => ?_
  blk_simp
  rw [after0_10, out10]
  unfold packed
  have e0 : ((win0_10.blk t).view.emb y 0).val = (y 0).val := by simp [ix10_] <;> omega
  have e1 : ((win0_10.blk t).view.emb y 1).val = 256 * t.val + (y 1).val := by simp [ix10_] <;> omega
  refine congr (congr (congr (congrArg pack ?_) ?_) ?_) ?_
  all_goals
    refine code1_eq m c t _ (y 1) _ ?_ ?_
    · refine (congrArg (fun z => 4 * z + _) e0).trans ?_
      rfl
    · exact e1

theorem out8 (t : Fin cfg0.N) : (outsAt0 m c t).2.2.1 = codes (iblk m c 5 t) (iblk m c 2 t) := by
  refine Eq.trans ?_ (codes2_eq _ _)
  unfold outsAt0
  dsimp only
  unfold out0_A_8
  frame_out
  exact congrArg (fun z => k0_pay1 (k0_pay8 (iblk m c 5 t) z) 1#32 k0_pay9) (congrArg (iblk m c 2 t) (by funext a; fin_cases a <;> rfl))
theorem final8 : (dats m 0 c).arrAt 8 cfg0.N = codes (a5 m c) (a2 m c) := by
  refine (dats m 0 c).arrAt_eq_of_covers 8 _ (by decide +kernel) fun t hf y => ?_
  blk_simp
  rw [after0_8, out8]
  rw [show y = ix2 (y 0) (y 1) from by funext a; fin_cases a <;> rfl]
  refine code2_eq m c t (y 0) (y 1) _ ?_ ?_
  · simp [ix8_] <;> omega
  · simp [ix8_] <;> omega

theorem out11 (t : Fin cfg0.N) : (outsAt0 m c t).2.2.2.2.2 = packed (R := 256) (r := 64) (by norm_num) (iblk m c 5 t) (iblk m c 2 t) := by
  refine Eq.trans ?_ (packed2_eq _ _)
  unfold outsAt0
  dsimp only
  unfold out0_A_11
  frame_out
  exact congrArg (fun z => k0_pay2 (k0_pay8 (iblk m c 5 t) z) 1#32 k0_pay9) (congrArg (iblk m c 2 t) (by funext a; fin_cases a <;> rfl))
theorem final11 : (dats m 0 c).arrAt 11 cfg0.N = packed (R := 6912) (r := 1728) (by norm_num) (a5 m c) (a2 m c) := by
  refine (dats m 0 c).arrAt_eq_of_covers 11 _ (by decide +kernel) fun t hf y => ?_
  blk_simp
  rw [after0_11, out11]
  unfold packed
  have e0 : ((win0_11.blk t).view.emb y 0).val = 64 * t.val + (y 0).val := by simp [ix11_] <;> omega
  have e1 : ((win0_11.blk t).view.emb y 1).val = (y 1).val := by simp [ix11_] <;> omega
  refine congr (congr (congr (congrArg pack ?_) ?_) ?_) ?_
  all_goals
    refine code2_eq m c t _ (y 1) _ ?_ ?_
    · refine (congrArg (fun z => 4 * z + _) e0).trans ?_
      unfold rowK; dsimp only; omega
    · exact e1

end Cert.Proof.Wquant

end
-- ==== Proof.WquantRef.lean ====
/- The weights' codes and packed codes: the reference's six results. -/
module

public import proofs.«01_k».proof.Proof.WquantBlock
public import proofs.«01_k».proof.Proof.Gen.RefWquantIdeal.Read

@[expose] public section

noncomputable section

namespace Cert.Proof.Wquant

open Cert.RefWquantIdeal Cert.RefWquantIdeal.Read Cert.RefWquantIdeal.Gen Idealize.ShloMosaic Idealize.ShloMosaic.TcCoe Idealize.SL.Sem
open scoped BigOperators

theorem refc0 (s : Vec Ideal S1x1 .f32) (x : Vec Ideal S2560x6912 .bf16) : val_main_v6 s x = codes x s := by
  funext y
  refine Eq.trans ?_ (tcode_eq _)
  unfold tern
  pointwise [val_main_v6, val_main_v5, val_main_v4, val_main_call1_v4, val_main_call1_v3, val_main_call1_v2, val_main_call1_v1, val_main_call1_v0, val_main_c_0, val_main_c, val_main_v3, val_main_v2, val_main_v1, val_main_v0]
  rfl

theorem refc1 (s : Vec Ideal S1x1 .f32) (x : Vec Ideal S2560x6912 .bf16) : val_main_v13 s x = codes x s := by
  funext y
  refine Eq.trans ?_ (tcode_eq _)
  unfold tern
  pointwise [val_main_v13, val_main_v12, val_main_v11, val_main_call3_v4, val_main_call3_v3, val_main_call3_v2, val_main_call3_v1, val_main_call3_v0, val_main_c_2, val_main_c_1, val_main_v10, val_main_v9, val_main_v8, val_main_v7]
  rfl

theorem refc2 (s : Vec Ideal S1x1 .f32) (x : Vec Ideal S6912x2560 .bf16) : val_main_v20 s x = codes x s := by
  funext y
  refine Eq.trans ?_ (tcode_eq _)
  unfold tern
  pointwise [val_main_v20, val_main_v19, val_main_v18, val_main_call5_v4, val_main_call5_v3, val_main_call5_v2, val_main_call5_v1, val_main_call5_v0, val_main_c_4, val_main_c_3, val_main_v17, val_main_v16, val_main_v15, val_main_v14]
  rfl

theorem refp0 (s : Vec Ideal S1x1 .f32) (x : Vec Ideal S2560x6912 .bf16) : val_main_v42 s x = packed (R := 2560) (r := 640) (by norm_num) x s := by
  funext y
  have h0 : (y 0).val < 640 := (y 0).isLt
  have h1 : (y 1).val < 6912 := (y 1).isLt
  simp only [val_main_v42_apply, val_main_v41_apply, val_main_v40_apply, val_main_v39_apply, val_main_c_8_apply, val_main_v38_apply, val_main_v37_apply, val_main_v36_apply, val_main_v35_apply, val_main_v34_apply, val_main_c_7_apply, val_main_v33_apply, val_main_v32_apply, val_main_v31_apply, val_main_v30_apply, val_main_v29_apply, val_main_c_6_apply, val_main_v28_apply, val_main_v27_apply, val_main_v26_apply, val_main_v25_apply, val_main_v24_apply, val_main_v23_apply, val_main_v22_apply, val_main_c_5_apply, val_main_v21_apply]
  rw [refc0]
  unfold packed
  show pack (codes x s _) (codes x s _) (codes x s _) (codes x s _) = _
  refine congr (congr (congr (congrArg pack ?_) ?_) ?_) ?_
  · refine congrArg (codes x s) ?_
    funext a
    match a with
    | ⟨0, _⟩ =>
      refine Fin.ext ?_
      show ((((y 0).val * 6912 + (y 1).val) / 6912 * 4 + (0 + 0)) * 6912 + ((y 0).val * 6912 + (y 1).val) % 6912) / 6912 = 4 * (y 0).val + 0
      omega
    | ⟨1, _⟩ =>
      refine Fin.ext ?_
      show ((((y 0).val * 6912 + (y 1).val) / 6912 * 4 + (0 + 0)) * 6912 + ((y 0).val * 6912 + (y 1).val) % 6912) % 6912 = (y 1).val
      omega
  · refine congrArg (codes x s) ?_
    funext a
    match a with
    | ⟨0, _⟩ =>
      refine Fin.ext ?_
      show ((((y 0).val * 6912 + (y 1).val) / 6912 * 4 + (1 + 0)) * 6912 + ((y 0).val * 6912 + (y 1).val) % 6912) / 6912 = 4 * (y 0).val + 1
      omega
    | ⟨1, _⟩ =>
      refine Fin.ext ?_
      show ((((y 0).val * 6912 + (y 1).val) / 6912 * 4 + (1 + 0)) * 6912 + ((y 0).val * 6912 + (y 1).val) % 6912) % 6912 = (y 1).val
      omega
  · refine congrArg (codes x s) ?_
    funext a
    match a with
    | ⟨0, _⟩ =>
      refine Fin.ext ?_
      show ((((y 0).val * 6912 + (y 1).val) / 6912 * 4 + (2 + 0)) * 6912 + ((y 0).val * 6912 + (y 1).val) % 6912) / 6912 = 4 * (y 0).val + 2
      omega
    | ⟨1, _⟩ =>
      refine Fin.ext ?_
      show ((((y 0).val * 6912 + (y 1).val) / 6912 * 4 + (2 + 0)) * 6912 + ((y 0).val * 6912 + (y 1).val) % 6912) % 6912 = (y 1).val
      omega
  · refine congrArg (codes x s) ?_
    funext a
    match a with
    | ⟨0, _⟩ =>
      refine Fin.ext ?_
      show ((((y 0).val * 6912 + (y 1).val) / 6912 * 4 + (3 + 0)) * 6912 + ((y 0).val * 6912 + (y 1).val) % 6912) / 6912 = 4 * (y 0).val + 3
      omega
    | ⟨1, _⟩ =>
      refine Fin.ext ?_
      show ((((y 0).val * 6912 + (y 1).val) / 6912 * 4 + (3 + 0)) * 6912 + ((y 0).val * 6912 + (y 1).val) % 6912) % 6912 = (y 1).val
      omega

theorem refp1 (s : Vec Ideal S1x1 .f32) (x : Vec Ideal S2560x6912 .bf16) : val_main_v64 s x = packed (R := 2560) (r := 640) (by norm_num) x s := by
  funext y
  have h0 : (y 0).val < 640 := (y 0).isLt
  have h1 : (y 1).val < 6912 := (y 1).isLt
  simp only [val_main_v64_apply, val_main_v63_apply, val_main_v62_apply, val_main_v61_apply, val_main_c_12_apply, val_main_v60_apply, val_main_v59_apply, val_main_v58_apply, val_main_v57_apply, val_main_v56_apply, val_main_c_11_apply, val_main_v55_apply, val_main_v54_apply, val_main_v53_apply, val_main_v52_apply, val_main_v51_apply, val_main_c_10_apply, val_main_v50_apply, val_main_v49_apply, val_main_v48_apply, val_main_v47_apply, val_main_v46_apply, val_main_v45_apply, val_main_v44_apply, val_main_c_9_apply, val_main_v43_apply]
  rw [refc1]
  unfold packed
  show pack (codes x s _) (codes x s _) (codes x s _) (codes x s _) = _
  refine congr (congr (congr (congrArg pack ?_) ?_) ?_) ?_
  · refine congrArg (codes x s) ?_
    funext a
    match a with
    | ⟨0, _⟩ =>
      refine Fin.ext ?_
      show ((((y 0).val * 6912 + (y 1).val) / 6912 * 4 + (0 + 0)) * 6912 + ((y 0).val * 6912 + (y 1).val) % 6912) / 6912 = 4 * (y 0).val + 0
      omega
    | ⟨1, _⟩ =>
      refine Fin.ext ?_
      show ((((y 0).val * 6912 + (y 1).val) / 6912 * 4 + (0 + 0)) * 6912 + ((y 0).val * 6912 + (y 1).val) % 6912) % 6912 = (y 1).val
      omega
  · refine congrArg (codes x s) ?_
    funext a
    match a with
    | ⟨0, _⟩ =>
      refine Fin.ext ?_
      show ((((y 0).val * 6912 + (y 1).val) / 6912 * 4 + (1 + 0)) * 6912 + ((y 0).val * 6912 + (y 1).val) % 6912) / 6912 = 4 * (y 0).val + 1
      omega
    | ⟨1, _⟩ =>
      refine Fin.ext ?_
      show ((((y 0).val * 6912 + (y 1).val) / 6912 * 4 + (1 + 0)) * 6912 + ((y 0).val * 6912 + (y 1).val) % 6912) % 6912 = (y 1).val
      omega
  · refine congrArg (codes x s) ?_
    funext a
    match a with
    | ⟨0, _⟩ =>
      refine Fin.ext ?_
      show ((((y 0).val * 6912 + (y 1).val) / 6912 * 4 + (2 + 0)) * 6912 + ((y 0).val * 6912 + (y 1).val) % 6912) / 6912 = 4 * (y 0).val + 2
      omega
    | ⟨1, _⟩ =>
      refine Fin.ext ?_
      show ((((y 0).val * 6912 + (y 1).val) / 6912 * 4 + (2 + 0)) * 6912 + ((y 0).val * 6912 + (y 1).val) % 6912) % 6912 = (y 1).val
      omega
  · refine congrArg (codes x s) ?_
    funext a
    match a with
    | ⟨0, _⟩ =>
      refine Fin.ext ?_
      show ((((y 0).val * 6912 + (y 1).val) / 6912 * 4 + (3 + 0)) * 6912 + ((y 0).val * 6912 + (y 1).val) % 6912) / 6912 = 4 * (y 0).val + 3
      omega
    | ⟨1, _⟩ =>
      refine Fin.ext ?_
      show ((((y 0).val * 6912 + (y 1).val) / 6912 * 4 + (3 + 0)) * 6912 + ((y 0).val * 6912 + (y 1).val) % 6912) % 6912 = (y 1).val
      omega

theorem refp2 (s : Vec Ideal S1x1 .f32) (x : Vec Ideal S6912x2560 .bf16) : val_main_v86 s x = packed (R := 6912) (r := 1728) (by norm_num) x s := by
  funext y
  have h0 : (y 0).val < 1728 := (y 0).isLt
  have h1 : (y 1).val < 2560 := (y 1).isLt
  simp only [val_main_v86_apply, val_main_v85_apply, val_main_v84_apply, val_main_v83_apply, val_main_c_16_apply, val_main_v82_apply, val_main_v81_apply, val_main_v80_apply, val_main_v79_apply, val_main_v78_apply, val_main_c_15_apply, val_main_v77_apply, val_main_v76_apply, val_main_v75_apply, val_main_v74_apply, val_main_v73_apply, val_main_c_14_apply, val_main_v72_apply, val_main_v71_apply, val_main_v70_apply, val_main_v69_apply, val_main_v68_apply, val_main_v67_apply, val_main_v66_apply, val_main_c_13_apply, val_main_v65_apply]
  rw [refc2]
  unfold packed
  show pack (codes x s _) (codes x s _) (codes x s _) (codes x s _) = _
  refine congr (congr (congr (congrArg pack ?_) ?_) ?_) ?_
  · refine congrArg (codes x s) ?_
    funext a
    match a with
    | ⟨0, _⟩ =>
      refine Fin.ext ?_
      show ((((y 0).val * 2560 + (y 1).val) / 2560 * 4 + (0 + 0)) * 2560 + ((y 0).val * 2560 + (y 1).val) % 2560) / 2560 = 4 * (y 0).val + 0
      omega
    | ⟨1, _⟩ =>
      refine Fin.ext ?_
      show ((((y 0).val * 2560 + (y 1).val) / 2560 * 4 + (0 + 0)) * 2560 + ((y 0).val * 2560 + (y 1).val) % 2560) % 2560 = (y 1).val
      omega
  · refine congrArg (codes x s) ?_
    funext a
    match a with
    | ⟨0, _⟩ =>
      refine Fin.ext ?_
      show ((((y 0).val * 2560 + (y 1).val) / 2560 * 4 + (1 + 0)) * 2560 + ((y 0).val * 2560 + (y 1).val) % 2560) / 2560 = 4 * (y 0).val + 1
      omega
    | ⟨1, _⟩ =>
      refine Fin.ext ?_
      show ((((y 0).val * 2560 + (y 1).val) / 2560 * 4 + (1 + 0)) * 2560 + ((y 0).val * 2560 + (y 1).val) % 2560) % 2560 = (y 1).val
      omega
  · refine congrArg (codes x s) ?_
    funext a
    match a with
    | ⟨0, _⟩ =>
      refine Fin.ext ?_
      show ((((y 0).val * 2560 + (y 1).val) / 2560 * 4 + (2 + 0)) * 2560 + ((y 0).val * 2560 + (y 1).val) % 2560) / 2560 = 4 * (y 0).val + 2
      omega
    | ⟨1, _⟩ =>
      refine Fin.ext ?_
      show ((((y 0).val * 2560 + (y 1).val) / 2560 * 4 + (2 + 0)) * 2560 + ((y 0).val * 2560 + (y 1).val) % 2560) % 2560 = (y 1).val
      omega
  · refine congrArg (codes x s) ?_
    funext a
    match a with
    | ⟨0, _⟩ =>
      refine Fin.ext ?_
      show ((((y 0).val * 2560 + (y 1).val) / 2560 * 4 + (3 + 0)) * 2560 + ((y 0).val * 2560 + (y 1).val) % 2560) / 2560 = 4 * (y 0).val + 3
      omega
    | ⟨1, _⟩ =>
      refine Fin.ext ?_
      show ((((y 0).val * 2560 + (y 1).val) / 2560 * 4 + (3 + 0)) * 2560 + ((y 0).val * 2560 + (y 1).val) % 2560) % 2560 = (y 1).val
      omega

end Cert.Proof.Wquant

end
-- ==== Proof.WquantClaim.lean ====
/- The weights' codes and packed codes and their reference end with the same six arrays, over the extended reals. -/
module

public import proofs.«01_k».proof.Defs
public import proofs.«01_k».proof.Proof.WquantWhole
public import proofs.«01_k».proof.Proof.WquantRef
public import proofs.«01_k».proof.Proof.Gen.WquantIdeal
public import proofs.«01_k».proof.Proof.Gen.RefWquantIdeal
public import proofs.«01_k».proof.Proof.Gen.RefWquantIdeal.Run
public import Idealize.ShloMosaic.Lib.Claim

@[expose] public section

noncomputable section

namespace Cert.Proof.Wquant

open Idealize.ShloMosaic Idealize.ShloMosaic.TcCoe Idealize.SL.Sem

set_option maxHeartbeats 1000000 in
theorem algebraic : Cert.algebraic_WquantIdeal_RefWquantIdeal (hWquantIdeal := Cert.WquantIdeal.Gen.facts)
    (hRefWquantIdeal := Cert.RefWquantIdeal.Gen.facts) := by
  intro m g m' g' _ hag
  refine ⟨fun c => codes (a3 m c) (a0 m c),
    fun c => codes (a4 m c) (a1 m c),
    fun c => codes (a5 m c) (a2 m c),
    fun c => packed (R := 2560) (r := 640) (by norm_num) (a3 m c) (a0 m c),
    fun c => packed (R := 2560) (r := 640) (by norm_num) (a4 m c) (a1 m c),
    fun c => packed (R := 6912) (r := 1728) (by norm_num) (a5 m c) (a2 m c), ?_, ?_⟩
  · refine (θ_run Cert.WquantIdeal.defs _ _).mono (fun r h c => ?_) (Cert.WquantIdeal.Gen.run_main (F := Ideal) m g)
    exact ⟨((h c).1 6).trans (final6 m c),
      ((h c).1 7).trans (final7 m c),
      ((h c).1 8).trans (final8 m c),
      ((h c).1 9).trans (final9 m c),
      ((h c).1 10).trans (final10 m c),
      ((h c).1 11).trans (final11 m c),
      ((h c).1 0).trans (((Cert.WquantIdeal.Gen.dats m 0 c).arrAt_in 0 rfl _).trans ((Cert.WquantIdeal.Gen.A_eq m c 0).trans (Cert.WquantIdeal.Gen.V_main_arg0 m c))),
      ((h c).1 1).trans (((Cert.WquantIdeal.Gen.dats m 0 c).arrAt_in 1 rfl _).trans ((Cert.WquantIdeal.Gen.A_eq m c 1).trans (Cert.WquantIdeal.Gen.V_main_arg1 m c))),
      ((h c).1 2).trans (((Cert.WquantIdeal.Gen.dats m 0 c).arrAt_in 2 rfl _).trans ((Cert.WquantIdeal.Gen.A_eq m c 2).trans (Cert.WquantIdeal.Gen.V_main_arg2 m c))),
      ((h c).1 3).trans (((Cert.WquantIdeal.Gen.dats m 0 c).arrAt_in 3 rfl _).trans ((Cert.WquantIdeal.Gen.A_eq m c 3).trans (Cert.WquantIdeal.Gen.V_main_arg3 m c))),
      ((h c).1 4).trans (((Cert.WquantIdeal.Gen.dats m 0 c).arrAt_in 4 rfl _).trans ((Cert.WquantIdeal.Gen.A_eq m c 4).trans (Cert.WquantIdeal.Gen.V_main_arg4 m c))),
      ((h c).1 5).trans (((Cert.WquantIdeal.Gen.dats m 0 c).arrAt_in 5 rfl _).trans ((Cert.WquantIdeal.Gen.A_eq m c 5).trans (Cert.WquantIdeal.Gen.V_main_arg5 m c)))⟩
  · refine (θ_run Cert.RefWquantIdeal.defs _ _).mono (fun r h c => ?_) (Cert.RefWquantIdeal.Value.run (F := Ideal) m' g')
    obtain ⟨h0, h1, h2, h3, h4, h5, hs⟩ := h c
    obtain ⟨e0, e1, e2, e3, e4, e5⟩ := hag c
    refine ⟨h0.trans ?_, h1.trans ?_, h2.trans ?_, h3.trans ?_, h4.trans ?_, h5.trans ?_, hs⟩
    · rw [Cert.RefWquantIdeal.Read.val_main_v6_eq, e0, e3]
      exact refc0 _ _
    · rw [Cert.RefWquantIdeal.Read.val_main_v13_eq, e1, e4]
      exact refc1 _ _
    · rw [Cert.RefWquantIdeal.Read.val_main_v20_eq, e2, e5]
      exact refc2 _ _
    · rw [Cert.RefWquantIdeal.Read.val_main_v42_eq, e0, e3]
      exact refp0 _ _
    · rw [Cert.RefWquantIdeal.Read.val_main_v64_eq, e1, e4]
      exact refp1 _ _
    · rw [Cert.RefWquantIdeal.Read.val_main_v86_eq, e2, e5]
      exact refp2 _ _

end Cert.Proof.Wquant

end
-- ==== Proof.XnormBlock.lean ====
/- The input norm and its quantisation, over one row, over one block, and over the whole arrays. -/
module

public import proofs.«01_k».proof.Proof.Gen.XnormIdeal.Value
public import proofs.«01_k».proof.Proof.Extended
public import proofs.«01_k».proof.Proof.Codes
public import Idealize.ShloMosaic.Lib.Pipeline.ValueKit
public import Idealize.ShloMosaic.Lib.Pointwise

@[expose] public section

noncomputable section

namespace Cert.Proof.Xnorm

open Cert.XnormIdeal Cert.XnormIdeal.Gen Idealize.ShloMosaic Idealize.ShloMosaic.TcCoe Idealize.SL.Sem
open scoped BigOperators

/-! ## One row `p`, with the norm's weights `w` -/

/-- The inverse root mean square of the row. -/
def rms (p : Fin 2560 → EReal) : EReal := inverse 2560 (Ideal.ofBits .f32 0x3727C5AC#32) (∑ n : Fin 2560, p n * p n)

/-- An entry of the normalised and weighted row. -/
def val (p w : Fin 2560 → EReal) (n : Fin 2560) : EReal := p n * rms p * w n

/-- The largest absolute value of that row. -/
def peak (p w : Fin 2560 → EReal) : EReal :=
  Finset.univ.fold max ⊥ fun n : Fin 2560 => FloatOps.absf (F := Ideal) (φ := .f32) (val p w n)

/-- The row's scale. -/
def scale (p w : Fin 2560 → EReal) : EReal :=
  if peak p w = 0 then 1 else Ideal.div (peak p w) (Ideal.ofBits .f32 0x42FE0000#32)

/-- The code of an entry, as a number. -/
def code (p w : Fin 2560 → EReal) (n : Fin 2560) : EReal := clip (Ideal.div (val p w n) (scale p w))

/-! ## The whole arrays -/

abbrev row (X : Vec Ideal S4096x2560 .bf16) (r : Fin 4096) : Fin 2560 → EReal := fun k => X (ix2 r k)
abbrev wt (W : Vec Ideal S1x2560 .f32) : Fin 2560 → EReal := fun k => W (ix2 0 k)

/-- The codes, the scales (each in 128 lanes), and codes times scales, transposed. -/
def Codes (X : Vec Ideal S4096x2560 .bf16) (W : Vec Ideal S1x2560 .f32) : Vec Ideal S4096x2560 .i8 :=
  fun y => FloatOps.fptosi (F := Ideal) (φ := .f32) 8 (code (row X (y 0)) (wt W) (y 1))
def Scales (X : Vec Ideal S4096x2560 .bf16) (W : Vec Ideal S1x2560 .f32) : Vec Ideal S4096x128 .f32 :=
  fun y => scale (row X (y 0)) (wt W)
def Back (X : Vec Ideal S4096x2560 .bf16) (W : Vec Ideal S1x2560 .f32) : Vec Ideal S2560x4096 .bf16 :=
  fun y => code (row X (y 1)) (wt W) (y 0) * scale (row X (y 1)) (wt W)

/-! ## One block -/

variable (x0 : Vec Ideal S256x2560 .bf16) (x1 : Vec Ideal S1x2560 .f32)

abbrev brow (r : Fin 256) : Fin 2560 → EReal := fun k => x0 (ix2 r k)

theorem pay2_apply (y : S256x2560.Idx) : k0_pay2 x0 x1 y = val (brow x0 (y 0)) (wt x1) (y 1) := by
  unfold_payloads
  pointwise []
  unfold val rms inverse
  rw [lit_2560]
  exact congrArg (fun z => x0 z * _ * _) (by funext a; fin_cases a <;> rfl)

theorem pay3_apply (y : S256x1.Idx) : k0_pay3 x0 x1 y = scale (brow x0 (y 0)) (wt x1) := by
  unfold k0_pay3
  generalize hv : k0_pay2 x0 x1 = V
  unfold scale
  have e : peak (brow x0 (y 0)) (wt x1) = Finset.univ.fold max ⊥ fun n : Fin 2560 => FloatOps.absf (F := Ideal) (φ := .f32) (V (ix2 (y 0) n)) := by
    unfold peak
    refine congrArg (fun g => Finset.univ.fold max ⊥ g) (funext fun n => ?_)
    rw [← hv, pay2_apply]; rfl
  rw [e]
  pointwise []
  rw [lit_bot]

theorem pay4_apply (y : S256x2560.Idx) : k0_pay4 x0 x1 y = code (brow x0 (y 0)) (wt x1) (y 1) := by
  unfold k0_pay4
  have h := pay2_apply x0 x1 y
  have h3 := pay3_apply x0 x1 (ix2 (y 0) 0)
  unfold code clip
  generalize k0_pay2 x0 x1 = V at h ⊢
  generalize k0_pay3 x0 x1 = S at h3 ⊢
  rw [← h, show scale (brow x0 (y 0)) (wt x1) = S (ix2 (y 0) 0) from h3.symm]
  pointwise []

theorem pay5_apply (y : S256x2560.Idx) : k0_pay5 x0 x1 y = FloatOps.fptosi (F := Ideal) (φ := .f32) 8 (code (brow x0 (y 0)) (wt x1) (y 1)) :=
  congrArg (FloatOps.fptosi (F := Ideal) (φ := .f32) 8) (pay4_apply x0 x1 y)

theorem pay6_apply (y : S256x128.Idx) : k0_pay6 x0 x1 y = scale (brow x0 (y 0)) (wt x1) := by
  unfold k0_pay6
  have h3 := pay3_apply x0 x1 (ix2 (y 0) 0)
  generalize k0_pay3 x0 x1 = S at h3 ⊢
  rw [show scale (brow x0 (y 0)) (wt x1) = S (ix2 (y 0) 0) from h3.symm]
  pointwise []

theorem pay1_apply (y : S2560x256.Idx) : k0_pay1 (k0_pay3 x0 x1) (k0_pay4 x0 x1) y
    = code (brow x0 (y 1)) (wt x1) (y 0) * scale (brow x0 (y 1)) (wt x1) := by
  unfold k0_pay1
  have h3 := pay3_apply x0 x1 (ix2 (y 1) 0)
  have h4 := pay4_apply x0 x1 (ix2 (y 1) (y 0))
  generalize k0_pay3 x0 x1 = S at h3 ⊢
  generalize k0_pay4 x0 x1 = C at h4 ⊢
  rw [show scale (brow x0 (y 1)) (wt x1) = S (ix2 (y 1) 0) from h3.symm,
    show code (brow x0 (y 1)) (wt x1) (y 0) = C (ix2 (y 1) (y 0)) from h4.symm]
  pointwise []

/-- What the body leaves in the three output blocks. -/
theorem out2_apply (y : S256x2560.Idx) : out0_2 x0 x1 y = FloatOps.fptosi (F := Ideal) (φ := .f32) 8 (code (brow x0 (y 0)) (wt x1) (y 1)) := by
  rw [← pay5_apply]; unfold out0_2; frame_out
theorem out3_apply (y : S256x128.Idx) : out0_3 x0 x1 y = scale (brow x0 (y 0)) (wt x1) := by
  rw [← pay6_apply]; unfold out0_3; frame_out
theorem out4_apply (y : S2560x256.Idx) : out0_4 x0 x1 y = code (brow x0 (y 1)) (wt x1) (y 0) * scale (brow x0 (y 1)) (wt x1) := by
  rw [← pay1_apply]; unfold out0_4; frame_out

end Cert.Proof.Xnorm

end
-- ==== Proof.XnormWhole.lean ====
/- The input norm's three output arrays after the whole grid. -/
module

public import proofs.«01_k».proof.Proof.XnormBlock
public import Idealize.ShloMosaic.Lib.Pipeline.ValueKit
public import Idealize.ShloMosaic.Lib.Pointwise

@[expose] public section

noncomputable section

namespace Cert.Proof.Xnorm

open Cert.XnormIdeal Cert.XnormIdeal.Gen Idealize.ShloMosaic Idealize.ShloMosaic.TcCoe Idealize.SL.Sem
open scoped BigOperators

/-! ## After the grid -/

variable (m : (ℓ : Loc nD τ sig) → Buf (Elt Ideal) ℓ) (c : Dev nD)

theorem ix0_ : ∀ t : Fin cfg0.N, win0_0.index t = ![t.val, 0] := (by decide +kernel : ∀ t : Fin grid0.N, _)
theorem ix1_ : ∀ t : Fin cfg0.N, win0_1.index t = ![0, 0] := (by decide +kernel : ∀ t : Fin grid0.N, _)
theorem ix2_ : ∀ t : Fin cfg0.N, win0_2.index t = ![t.val, 0] := (by decide +kernel : ∀ t : Fin grid0.N, _)
theorem ix3_ : ∀ t : Fin cfg0.N, win0_3.index t = ![t.val, 0] := (by decide +kernel : ∀ t : Fin grid0.N, _)
theorem ix4_ : ∀ t : Fin cfg0.N, win0_4.index t = ![0, t.val] := (by decide +kernel : ∀ t : Fin grid0.N, _)

abbrev a0 : Vec Ideal S4096x2560 .bf16 := m ((c.tc : Thread nD τ).loc main_arg0)
abbrev a1 : Vec Ideal S1x2560 .f32 := m ((c.tc : Thread nD τ).loc main_arg1)

/-- Row `r` of the block of point `t`. -/
def rowT (t : Fin cfg0.N) (r : Fin 256) : Fin 4096 := ⟨256 * t.val + r.val, by
  have h : t.val < 16 := lt_of_lt_of_eq t.isLt (by decide); have := r.isLt; omega⟩

theorem brow_eq (t : Fin cfg0.N) (r : Fin 256) : brow (iblk m c 0 t) r = row (a0 m c) (rowT t r) := by
  funext k
  show a0 m c _ = a0 m c _
  refine congrArg (a0 m c) ?_
  blk_ext [rowT, ix0_]
theorem wt_eq (t : Fin cfg0.N) : wt (iblk m c 1 t) = wt (a1 m c) := by
  funext k
  show a1 m c _ = a1 m c _
  refine congrArg (a1 m c) ?_
  blk_ext [ix1_]

theorem self2 (y : S256x2560.Idx) : y = ix2 (y 0) (y 1) := by funext a; fin_cases a <;> rfl

theorem at2 (x0 : Vec Ideal S256x2560 .bf16) (x1 : Vec Ideal S1x2560 .f32) (r : Fin 256) (n : Fin 2560) (p w : Fin 2560 → EReal)
    (hp : brow x0 r = p) (hw : wt x1 = w) : out0_2 x0 x1 (ix2 r n) = FloatOps.fptosi (F := Ideal) (φ := .f32) 8 (code p w n) := by
  subst hp hw
  exact out2_apply x0 x1 (ix2 r n)

theorem blk2 (t : Fin cfg0.N) (y : S256x2560.Idx) : out0_2 (iblk m c 0 t) (iblk m c 1 t) y = Codes (a0 m c) (a1 m c) (ix2 (rowT t (y 0)) (y 1)) := by
  refine (Eq.trans (congrArg _ (self2 y)) (at2 _ _ (y 0) (y 1) _ _ (brow_eq m c t _) (wt_eq m c t))).trans ?_
  rfl

theorem final2 : (dats m 0 c).arrAt 2 cfg0.N = Codes (a0 m c) (a1 m c) := by
  refine (dats m 0 c).arrAt_eq_of_covers 2 _ (by decide +kernel) fun t hf y => ?_
  blk_simp
  rw [after0_2]
  refine (blk2 m c t y).trans ?_
  refine congrArg (Codes (a0 m c) (a1 m c)) ?_
  blk_ext [rowT, ix2_]

theorem self3 (y : S256x128.Idx) : y = ix2 (y 0) (y 1) := by funext a; fin_cases a <;> rfl

theorem at3 (x0 : Vec Ideal S256x2560 .bf16) (x1 : Vec Ideal S1x2560 .f32) (r : Fin 256) (n : Fin 128) (p w : Fin 2560 → EReal)
    (hp : brow x0 r = p) (hw : wt x1 = w) : out0_3 x0 x1 (ix2 r n) = scale p w := by
  subst hp hw
  exact out3_apply x0 x1 (ix2 r n)

theorem blk3 (t : Fin cfg0.N) (y : S256x128.Idx) : out0_3 (iblk m c 0 t) (iblk m c 1 t) y = Scales (a0 m c) (a1 m c) (ix2 (rowT t (y 0)) (y 1)) := by
  refine (Eq.trans (congrArg _ (self3 y)) (at3 _ _ (y 0) (y 1) _ _ (brow_eq m c t _) (wt_eq m c t))).trans ?_
  rfl

theorem final3 : (dats m 0 c).arrAt 3 cfg0.N = Scales (a0 m c) (a1 m c) := by
  refine (dats m 0 c).arrAt_eq_of_covers 3 _ (by decide +kernel) fun t hf y => ?_
  blk_simp
  rw [after0_3]
  refine (blk3 m c t y).trans ?_
  refine congrArg (Scales (a0 m c) (a1 m c)) ?_
  blk_ext [rowT, ix3_]

theorem self4 (y : S2560x256.Idx) : y = ix2 (y 0) (y 1) := by funext a; fin_cases a <;> rfl

theorem at4 (x0 : Vec Ideal S256x2560 .bf16) (x1 : Vec Ideal S1x2560 .f32) (n : Fin 2560) (r : Fin 256) (p w : Fin 2560 → EReal)
    (hp : brow x0 r = p) (hw : wt x1 = w) : out0_4 x0 x1 (ix2 n r) = code p w n * scale p w := by
  subst hp hw
  exact out4_apply x0 x1 (ix2 n r)

theorem blk4 (t : Fin cfg0.N) (y : S2560x256.Idx) : out0_4 (iblk m c 0 t) (iblk m c 1 t) y = Back (a0 m c) (a1 m c) (ix2 (y 0) (rowT t (y 1))) := by
  refine (Eq.trans (congrArg _ (self4 y)) (at4 _ _ (y 0) (y 1) _ _ (brow_eq m c t _) (wt_eq m c t))).trans ?_
  rfl

theorem final4 : (dats m 0 c).arrAt 4 cfg0.N = Back (a0 m c) (a1 m c) := by
  refine (dats m 0 c).arrAt_eq_of_covers 4 _ (by decide +kernel) fun t hf y => ?_
  blk_simp
  rw [after0_4]
  refine (blk4 m c t y).trans ?_
  refine congrArg (Back (a0 m c) (a1 m c)) ?_
  blk_ext [rowT, ix4_]

end Cert.Proof.Xnorm

end
-- ==== Proof.XnormRef.lean ====
/- The input norm's reference: its three results, entry by entry. -/
module

public import proofs.«01_k».proof.Proof.XnormBlock
public import proofs.«01_k».proof.Proof.Gen.RefXnormIdeal.Read

@[expose] public section

noncomputable section

namespace Cert.Proof.Xnorm

open Cert.RefXnormIdeal Cert.RefXnormIdeal.Read Cert.RefXnormIdeal.Gen Idealize.ShloMosaic Idealize.ShloMosaic.TcCoe Idealize.SL.Sem
open scoped BigOperators

variable (x0 : Vec Ideal S4096x2560 .bf16) (x1 : Vec Ideal S1x2560 .f32)

/-- The normalised and weighted rows. -/
def Val (X : Vec Ideal S4096x2560 .bf16) (W : Vec Ideal S1x2560 .f32) : Vec Ideal S4096x2560 .f32 :=
  fun y => val (row X (y 0)) (wt W) (y 1)

theorem ref10 (r : Fin 4096) : val_main_v10 x0 (ix2 r 0) = rms (row x0 r) := by
  pointwise [val_main_v10, val_main_v9, val_main_v8, val_main_v7, val_main_v6, val_main_v5, val_main_v4, val_main_v3, val_main_v2,
    val_main_v1, val_main_v0, val_main_cst_2, val_main_cst_1, val_main_cst_0, val_main_cst]
  unfold rms inverse
  rw [lit_2560]

theorem ref14 : val_main_v14 x0 x1 = Val x0 x1 := by
  funext y
  have h := ref10 x0 (y 0)
  unfold val_main_v14 val_main_v12 val_main_v11 Val val
  generalize val_main_v10 x0 = R at h ⊢
  rw [← h]
  pointwise [val_main_v13, val_main_v0]
  exact congrArg (fun z => x0 z * _ * _) (by funext a; fin_cases a <;> rfl)

theorem ref17 (r : Fin 4096) : val_main_v17 x0 x1 (ix2 r 0) = peak (row x0 r) (wt x1) := by
  unfold val_main_v17 val_main_v16 val_main_v15
  rw [ref14]
  have e : peak (row x0 r) (wt x1) = Finset.univ.fold max ⊥ fun n : Fin 2560 => FloatOps.absf (F := Ideal) (φ := .f32) (Val x0 x1 (ix2 r n)) := rfl
  rw [e]
  generalize Val x0 x1 = V
  pointwise [val_main_cst_3]
  refine congrArg₂ (fun b g => Finset.univ.fold max b g) lit_bot ?_
  rfl

theorem one_apply (i : S4096x1.Idx) : val_main_call0_v1 (F := Ideal) i = 1 := by
  pointwise [val_main_call0_v1, val_main_call0_v0_apply, val_main_cst_6_apply]

theorem sel (P : EReal) : Scalar.select (FloatOps.cmpf (F := Ideal) (φ := .f32) .oeq P (FloatOps.ofBits (F := Ideal) .f32 0x00000000#32)) (1 : EReal)
      (FloatOps.hostDivf (F := Ideal) (φ := .f32) P (FloatOps.ofBits (F := Ideal) .f32 0x42FE0000#32))
    = if P = 0 then 1 else Ideal.div P (Ideal.ofBits .f32 0x42FE0000#32) := by
  by_cases h : P = 0
  · rw [if_pos h]; pointwise []; simp [h]
  · rw [if_neg h]; pointwise []; simp [h]

theorem ref22 (r : Fin 4096) : val_main_v22 x0 x1 (ix2 r 0) = scale (row x0 r) (wt x1) := by
  have h := ref17 x0 x1 r
  rw [val_main_v22_apply, val_main_v21_apply, val_main_v19_apply, h, one_apply, val_main_v18_apply, val_main_v20_apply]
  exact sel _

/-- Dividing by the rows' scales, rounding and clipping, entry by entry. -/
theorem clip_apply (V : Vec Ideal S4096x2560 .f32) (S : Vec Ideal S4096x1 .f32) (y : S4096x2560.Idx) :
    minimumf (F := Ideal) (s := S4096x2560) (φ := .f32) (val_main_call2_v4 (F := Ideal)) (maximumf (val_main_call2_v1 (F := Ideal))
      (Host.roundeven (Host.divf V (broadcastInDim S4096x2560 ![0, 1] bcast_S4096x1_S4096x2560_0_1 S)))) y
    = clip (Ideal.div (V y) (S (ix2 (y 0) 0))) := by
  unfold clip
  pointwise [val_main_call2_v4, val_main_call2_v3, val_main_c_7, val_main_call2_v1, val_main_call2_v0, val_main_c]
  rfl

theorem ref26 : val_main_v26 x0 x1 = fun y => code (row x0 (y 0)) (wt x1) (y 1) := by
  unfold val_main_v26 val_main_call2_v2 val_main_v25 val_main_v24 val_main_v23
  rw [ref14]
  funext y
  refine (clip_apply _ _ y).trans ?_
  exact congrArg (fun s => clip (Ideal.div (Val x0 x1 y) s)) (ref22 x0 x1 (y 0))

theorem ref28 : val_main_v28 x0 x1 = Codes x0 x1 := by
  unfold val_main_v28 val_main_v27
  rw [ref26]
  funext y
  exact code_eq _

theorem ref29 : val_main_v29 x0 x1 = Scales x0 x1 := by
  funext y
  rw [val_main_v29_apply]
  refine Eq.trans (congrArg _ ?_) (ref22 x0 x1 (y 0))
  funext a; fin_cases a <;> rfl

theorem ref32 : val_main_v32 x0 x1 = fun y => code (row x0 (y 0)) (wt x1) (y 1) := by
  unfold val_main_v32 val_main_v31 val_main_v30
  rw [ref28]
  funext y
  refine (sitofp_ext .f32 .f32 _).trans ?_
  exact decode _ _

theorem ref36 : val_main_v36 x0 x1 = Back x0 x1 := by
  unfold val_main_v36 val_main_v35 val_main_v34 val_main_v33
  rw [ref32]
  funext y
  have h := ref22 x0 x1 (y 1)
  unfold Back
  rw [← h]
  generalize val_main_v22 x0 x1 = S
  pointwise []

end Cert.Proof.Xnorm

end
-- ==== Proof.XnormClaim.lean ====
/- The input norm and its reference end with the same three arrays, over the extended reals. -/
module

public import proofs.«01_k».proof.Defs
public import proofs.«01_k».proof.Proof.XnormWhole
public import proofs.«01_k».proof.Proof.XnormRef
public import proofs.«01_k».proof.Proof.Gen.XnormIdeal
public import proofs.«01_k».proof.Proof.Gen.RefXnormIdeal
public import proofs.«01_k».proof.Proof.Gen.RefXnormIdeal.Run
public import Idealize.ShloMosaic.Lib.Claim

@[expose] public section

noncomputable section

namespace Cert.Proof.Xnorm

open Idealize.ShloMosaic Idealize.ShloMosaic.TcCoe Idealize.SL.Sem

set_option maxHeartbeats 1000000 in
theorem algebraic : Cert.algebraic_XnormIdeal_RefXnormIdeal (hXnormIdeal := Cert.XnormIdeal.Gen.facts)
    (hRefXnormIdeal := Cert.RefXnormIdeal.Gen.facts) := by
  intro m g m' g' _ hag
  refine ⟨fun c => Codes (a0 m c) (a1 m c),
    fun c => Scales (a0 m c) (a1 m c),
    fun c => Back (a0 m c) (a1 m c), ?_, ?_⟩
  · refine (θ_run Cert.XnormIdeal.defs _ _).mono (fun r h c => ?_) (Cert.XnormIdeal.Gen.run_main (F := Ideal) m g)
    exact ⟨((h c).1 2).trans (final2 m c),
      ((h c).1 3).trans (final3 m c),
      ((h c).1 4).trans (final4 m c),
      ((h c).1 0).trans (((Cert.XnormIdeal.Gen.dats m 0 c).arrAt_in 0 rfl _).trans ((Cert.XnormIdeal.Gen.A_eq m c 0).trans (Cert.XnormIdeal.Gen.V_main_arg0 m c))),
      ((h c).1 1).trans (((Cert.XnormIdeal.Gen.dats m 0 c).arrAt_in 1 rfl _).trans ((Cert.XnormIdeal.Gen.A_eq m c 1).trans (Cert.XnormIdeal.Gen.V_main_arg1 m c)))⟩
  · refine (θ_run Cert.RefXnormIdeal.defs _ _).mono (fun r h c => ?_) (Cert.RefXnormIdeal.Value.run (F := Ideal) m' g')
    obtain ⟨h0, h1, h2, hs⟩ := h c
    obtain ⟨e0, e1⟩ := hag c
    refine ⟨h0.trans ?_, h1.trans ?_, h2.trans ?_, hs⟩
    · rw [Cert.RefXnormIdeal.Read.val_main_v28_eq, e0, e1]
      exact ref28 _ _
    · rw [Cert.RefXnormIdeal.Read.val_main_v29_eq, e0, e1]
      exact ref29 _ _
    · rw [Cert.RefXnormIdeal.Read.val_main_v36_eq, e0, e1]
      exact ref36 _ _

end Cert.Proof.Xnorm

end
-- ==== Proof.UpIdealRunA.lean ====
/- The whole-body run of the up call in case A. -/
module

public import proofs.«01_k».proof.Proof.Gen.UpIdeal.Frame
public import proofs.«01_k».proof.Proof.Gen.UpIdeal.Skeleton
public import proofs.«01_k».proof.Proof.Gen.UpIdeal.Points

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves at a point of case A (no store of the statistics; the rows of the three scratches are set): the pieces it stores into each output and each scratch, found
    by running it, with the proof that it leaves them. -/
noncomputable def kernelRun0_A (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole) (hc0 : k0_cond1 i = 1#1) (hc1 : ¬k0_cond2 i = 1#1) (hc2 : ¬k0_cond3 i = 1#1)
    (x0 : Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32) :
    Σ' (L10 : List (View.Piece (Elt F) S512x768 .f32)), Σ' (L11 : List (View.Piece (Elt F) S512x768 .f32)), Σ' (L12 : List (View.Piece (Elt F) S512x768 .f32)), Σ' (LS0 : List (View.Piece (Elt F) S4096x128 .f32)), Σ' (LS1 : List (View.Piece (Elt F) S4096x128 .f32)), Σ' (LS2 : List (View.Piece (Elt F) S4096x128 .f32)), { LT3 : List (View.Piece (Elt F) S512x2560 .bf16) //
      ∀ (xi13 : Vec F S512x128 .f32) (xi14 : Vec F S512x128 .f32) (xi15 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi13 ∗ owns (c : Thread nD τ) arg16 fullShare xi14 ∗ owns (c : Thread nD τ) arg17 fullShare xi15 ∗ owns (c : Thread nD τ) arg18 fullShare xs0 ∗ owns (c : Thread nD τ) arg19 fullShare xs1 ∗ owns (c : Thread nD τ) arg20 fullShare xs2 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xi13 ∗ owns (c : Thread nD τ) arg16 fullShare xi14 ∗ owns (c : Thread nD τ) arg17 fullShare xi15 ∗ (arg18.view.loc (c : Thread nD τ) ↦[arg18.view.set]{fullShare} arg18.view.writes (Elt F) (harg18.unread xs0) LS0) ∗ (arg19.view.loc (c : Thread nD τ) ↦[arg19.view.set]{fullShare} arg19.view.writes (Elt F) (harg19.unread xs1) LS1) ∗ (arg20.view.loc (c : Thread nD τ) ↦[arg20.view.set]{fullShare} arg20.view.writes (Elt F) (harg20.unread xs2) LS2) ∗ (∃ f, arg21.view.loc (c : Thread nD τ) ↦[arg21.view.set]{fullShare} arg21.view.writes (Elt F) f LT3)) -∗ K ⟨⟩))
          ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun xi13 xi14 xi15 E K => ?run⟩
  case run =>
    simp only [cc0_up_eq_skeleton]; unfold cc0_up_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13; obtain rfl := harg16.eq_unread hf14; obtain rfl := harg17.eq_unread hf15; obtain rfl := harg18.eq_unread hfs0; obtain rfl := harg19.eq_unread hfs1; obtain rfl := harg20.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexact HS0
    isplitl [HS1]; · iexact HS1
    isplitl [HS2]; · iexact HS2
    iexists _; iexact HS3

end Cert.UpIdeal.Gen

end
-- ==== Proof.UpIdealRows.lean ====
/- What one grid point of the up call computes, as functions of its blocks; and the rows of a scratch that a point replaces. -/
module

public import proofs.«01_k».proof.Proof.Gen.UpIdeal.Skeleton
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks' payloads -/

/-- The row scales of the quantised input (column 0 of their block), and the one entry of a scalar block. -/
abbrev col (x4 : Vec F S512x128 .f32) : Vec F S512x1 .f32 := View.ld x4 (Rect.unit ![0, 0] ![512, 1] inb_S512x128_S512x1_0_0)
abbrev one (x : Vec F S1x1 .f32) : Elt F .f32 := View.ld x (Rect.unit ![0, 0] ![1, 1] inb_S1x1_S1x1_0_0) (Shape.Idx.first (by decide))

/-- The three column tiles of the gate pre-activation, of the up projection and of the gradient `dan`. -/
def g0 (x0 : Vec F S1x1 .f32) (x3 : Vec F S512x2560 .i8) (x4 : Vec F S512x128 .f32) (x6 : Vec F S2560x768 .i8) : FVec F S512x256 .f32 :=
  k0_pay18 (col x4) (k0_pay16 x3) (View.ld x6 (Rect.unit ![0, 0] ![2560, 256] inb_S2560x768_S2560x256_0_0)) (one x0)
def g1 (x0 : Vec F S1x1 .f32) (x3 : Vec F S512x2560 .i8) (x4 : Vec F S512x128 .f32) (x6 : Vec F S2560x768 .i8) : FVec F S512x256 .f32 :=
  k0_pay27 (col x4) (k0_pay16 x3) (View.ld x6 (Rect.unit ![0, 256] ![2560, 256] inb_S2560x768_S2560x256_0_256)) (one x0)
def g2 (x0 : Vec F S1x1 .f32) (x3 : Vec F S512x2560 .i8) (x4 : Vec F S512x128 .f32) (x6 : Vec F S2560x768 .i8) : FVec F S512x256 .f32 :=
  k0_pay35 (col x4) (k0_pay16 x3) (View.ld x6 (Rect.unit ![0, 512] ![2560, 256] inb_S2560x768_S2560x256_0_512)) (one x0)
def u0 (x1 : Vec F S1x1 .f32) (x3 : Vec F S512x2560 .i8) (x4 : Vec F S512x128 .f32) (x7 : Vec F S2560x768 .i8) : FVec F S512x256 .f32 :=
  k0_pay19 (col x4) (k0_pay16 x3) (View.ld x7 (Rect.unit ![0, 0] ![2560, 256] inb_S2560x768_S2560x256_0_0)) (one x1)
def u1 (x1 : Vec F S1x1 .f32) (x3 : Vec F S512x2560 .i8) (x4 : Vec F S512x128 .f32) (x7 : Vec F S2560x768 .i8) : FVec F S512x256 .f32 :=
  k0_pay28 (col x4) (k0_pay16 x3) (View.ld x7 (Rect.unit ![0, 256] ![2560, 256] inb_S2560x768_S2560x256_0_256)) (one x1)
def u2 (x1 : Vec F S1x1 .f32) (x3 : Vec F S512x2560 .i8) (x4 : Vec F S512x128 .f32) (x7 : Vec F S2560x768 .i8) : FVec F S512x256 .f32 :=
  k0_pay36 (col x4) (k0_pay16 x3) (View.ld x7 (Rect.unit ![0, 512] ![2560, 256] inb_S2560x768_S2560x256_0_512)) (one x1)
def d0 (x2 : Vec F S1x1 .f32) (x5 : Vec F S512x2560 .bf16) (x8 : Vec F S768x2560 .i8) : FVec F S512x256 .f32 :=
  k0_pay21 (k0_pay20 x5 (View.ld x8 (Rect.unit ![0, 0] ![256, 2560] inb_S768x2560_S256x2560_0_0))) (one x2)
def d1 (x2 : Vec F S1x1 .f32) (x5 : Vec F S512x2560 .bf16) (x8 : Vec F S768x2560 .i8) : FVec F S512x256 .f32 :=
  k0_pay29 x5 (View.ld x8 (Rect.unit ![256, 0] ![256, 2560] inb_S768x2560_S256x2560_256_0)) (one x2)
def d2 (x2 : Vec F S1x1 .f32) (x5 : Vec F S512x2560 .bf16) (x8 : Vec F S768x2560 .i8) : FVec F S512x256 .f32 :=
  k0_pay37 x5 (View.ld x8 (Rect.unit ![512, 0] ![256, 2560] inb_S768x2560_S256x2560_512_0)) (one x2)

/-- Three column tiles as the stores of an output block, the last store first. -/
def tiles (a b c : FVec F S512x256 .f32) : List (View.Piece (Elt F) S512x768 .f32) :=
  [⟨Rect.unit ![0, 512] ![512, 256] inb_S512x768_S512x256_0_512, c⟩, ⟨Rect.unit ![0, 256] ![512, 256] inb_S512x768_S512x256_0_256, b⟩,
    ⟨Rect.unit ![0, 0] ![512, 256] inb_S512x768_S512x256_0_0, a⟩]

theorem tiles_cover (a b c : FVec F S512x256 .f32) (y : S512x768.Idx) : ∃ p ∈ tiles a b c, y ∈ p.1.set :=
  View.cover_of_tiled_head _ _ _ (by sl_kernel_rfl) y

def gOut (x0 : Vec F S1x1 .f32) (x3 : Vec F S512x2560 .i8) (x4 : Vec F S512x128 .f32) (x6 : Vec F S2560x768 .i8) : Vec F S512x768 .f32 :=
  View.canon (tiles (g0 x0 x3 x4 x6) (g1 x0 x3 x4 x6) (g2 x0 x3 x4 x6))
def uOut (x1 : Vec F S1x1 .f32) (x3 : Vec F S512x2560 .i8) (x4 : Vec F S512x128 .f32) (x7 : Vec F S2560x768 .i8) : Vec F S512x768 .f32 :=
  View.canon (tiles (u0 x1 x3 x4 x7) (u1 x1 x3 x4 x7) (u2 x1 x3 x4 x7))
def dOut (x2 : Vec F S1x1 .f32) (x5 : Vec F S512x2560 .bf16) (x8 : Vec F S768x2560 .i8) : Vec F S512x768 .f32 :=
  View.canon (tiles (d0 x2 x5 x8) (d1 x2 x5 x8) (d2 x2 x5 x8))

section Stats
variable (x0 x1 x2 : Vec F S1x1 .f32) (x3 : Vec F S512x2560 .i8) (x4 : Vec F S512x128 .f32) (x5 : Vec F S512x2560 .bf16)
  (x6 x7 : Vec F S2560x768 .i8) (x8 : Vec F S768x2560 .i8) (x9 : Vec F S1x768 .f32)

/-- The row statistics of the first two column tiles: the sum of squares, the largest magnitude, the weighted sum. -/
def part0 : FVec F S512x128 .f32 :=
  k0_pay32 (col x4) (k0_pay24 k0_pay17 (g0 x0 x3 x4 x6) (u0 x1 x3 x4 x7)) (g1 x0 x3 x4 x6) (k0_pay16 x3)
    (View.ld x7 (Rect.unit ![0, 256] ![2560, 256] inb_S2560x768_S2560x256_0_256)) (one x1)
def part1 : FVec F S512x128 .f32 :=
  k0_pay33 (col x4) (k0_pay25 k0_pay17 (g0 x0 x3 x4 x6) (u0 x1 x3 x4 x7) (View.ld x9 (Rect.unit ![0, 0] ![1, 256] inb_S1x768_S1x256_0_0)))
    (g1 x0 x3 x4 x6) (k0_pay16 x3) (View.ld x7 (Rect.unit ![0, 256] ![2560, 256] inb_S2560x768_S2560x256_0_256)) (one x1)
    (View.ld x9 (Rect.unit ![0, 256] ![1, 256] inb_S1x768_S1x256_0_256))
def part2 : FVec F S512x128 .f32 :=
  k0_pay34
    (k0_pay26 k0_pay17 (g0 x0 x3 x4 x6) (u0 x1 x3 x4 x7) (k0_pay20 x5 (View.ld x8 (Rect.unit ![0, 0] ![256, 2560] inb_S768x2560_S256x2560_0_0)))
      (one x2) (View.ld x9 (Rect.unit ![0, 0] ![1, 256] inb_S1x768_S1x256_0_0)))
    (d1 x2 x5 x8)
    (k0_pay31 (col x4) (g1 x0 x3 x4 x6) (k0_pay16 x3) (View.ld x7 (Rect.unit ![0, 256] ![2560, 256] inb_S2560x768_S2560x256_0_256)) (one x1)
      (View.ld x9 (Rect.unit ![0, 256] ![1, 256] inb_S1x768_S1x256_0_256)))

/-- What a row block holds after its first column step. -/
def rowA0 : FVec F S512x128 .f32 := k0_pay6 (part0 x0 x1 x3 x4 x6 x7) (g2 x0 x3 x4 x6) (u2 x1 x3 x4 x7)
def rowA1 : FVec F S512x128 .f32 :=
  k0_pay7 (part1 x0 x1 x3 x4 x6 x7 x9) (g2 x0 x3 x4 x6) (u2 x1 x3 x4 x7) (View.ld x9 (Rect.unit ![0, 512] ![1, 256] inb_S1x768_S1x256_0_512))
def rowA2 : FVec F S512x128 .f32 :=
  k0_pay8 (part2 x0 x1 x2 x3 x4 x5 x6 x7 x8 x9) (g2 x0 x3 x4 x6) (u2 x1 x3 x4 x7) (d2 x2 x5 x8)
    (View.ld x9 (Rect.unit ![0, 512] ![1, 256] inb_S1x768_S1x256_0_512))

/-- What it holds after a later column step, from what it held before. -/
def rowB0 (p : Vec F S512x128 .f32) : FVec F S512x128 .f32 := k0_pay9 (part0 x0 x1 x3 x4 x6 x7) (g2 x0 x3 x4 x6) (u2 x1 x3 x4 x7) p
def rowB1 (p : Vec F S512x128 .f32) : FVec F S512x128 .f32 :=
  k0_pay10 (part1 x0 x1 x3 x4 x6 x7 x9) (g2 x0 x3 x4 x6) (u2 x1 x3 x4 x7) (View.ld x9 (Rect.unit ![0, 512] ![1, 256] inb_S1x768_S1x256_0_512)) p
def rowB2 (p : Vec F S512x128 .f32) : FVec F S512x128 .f32 :=
  k0_pay11 (part2 x0 x1 x2 x3 x4 x5 x6 x7 x8 x9) (g2 x0 x3 x4 x6) (u2 x1 x3 x4 x7) (d2 x2 x5 x8)
    (View.ld x9 (Rect.unit ![0, 512] ![1, 256] inb_S1x768_S1x256_0_512)) p

end Stats

/-! ## Rows of a scratch -/

/-- Row block `k` of a scratch: rows `512 k` to `512 k + 511`. -/
def rows (k : Fin 8) (s : Vec F S4096x128 .f32) : Vec F S512x128 .f32 :=
  fun y => s (ix2 ⟨512 * k.val + (y 0).val, by have h : (y 0).val < 512 := (y 0).isLt; have := k.isLt; omega⟩ (y 1))

/-- The scratch with row block `k` replaced. -/
def setRows (k : Fin 8) (v : Vec F S512x128 .f32) (s : Vec F S4096x128 .f32) : Vec F S4096x128 .f32 :=
  fun y => if h : 512 * k.val ≤ (y 0).val ∧ (y 0).val < 512 * k.val + 512 then v (ix2 ⟨(y 0).val - 512 * k.val, by omega⟩ (y 1)) else s y

theorem rows_setRows (k : Fin 8) (v : Vec F S512x128 .f32) (s : Vec F S4096x128 .f32) : rows k (setRows k v s) = v := by
  funext y
  have h : (y 0).val < 512 := (y 0).isLt
  unfold rows setRows
  rw [dif_pos ⟨Nat.le_add_right _ _, by show 512 * k.val + (y 0).val < _; omega⟩]
  refine congrArg v ?_
  funext a
  fin_cases a
  · exact Fin.ext (Nat.add_sub_cancel_left _ _)
  · rfl

theorem rows_setRows_ne {k k' : Fin 8} (h : k ≠ k') (v : Vec F S512x128 .f32) (s : Vec F S4096x128 .f32) :
    rows k' (setRows k v s) = rows k' s := by
  funext y
  have h0 : (y 0).val < 512 := (y 0).isLt
  have hk : k.val ≠ k'.val := fun e => h (Fin.ext e)
  unfold rows setRows
  refine dif_neg fun hc => ?_
  have h1 : 512 * k.val ≤ 512 * k'.val + (y 0).val := hc.1
  have h2 : 512 * k'.val + (y 0).val < 512 * k.val + 512 := hc.2
  omega

/-- A load of row block `k`. -/
theorem ld_rows (k : Fin 8) (s : Vec F S4096x128 .f32) {off : Fin 2 → ℕ} (inb) (h : off = ![512 * k.val, 0]) :
    View.ld s (Rect.unit (s := S4096x128) off ![512, 128] inb) = rows k s := by
  subst h
  funext y
  refine congrArg s ?_
  funext a
  fin_cases a
  · exact Fin.ext (Rect.idx_unit_val _ _ _ y 0)
  · exact Fin.ext ((Rect.idx_unit_val _ _ _ y 1).trans (Nat.zero_add _))

/-- A store of row block `k`, read back whole. -/
theorem read_store (v : View sig .tc .vmem S4096x128 .f32) (f : v.ty.Contents (Elt F)) (s : Vec F S4096x128 .f32)
    (hs : v.read (Elt F) f = s) (k : Fin 8) {off : Fin 2 → ℕ} (inb) (w : Vec F S512x128 .f32) (h : off = ![512 * k.val, 0]) :
    v.read (Elt F) (v.writes (Elt F) f [(⟨Rect.unit (s := S4096x128) off ![512, 128] inb, w⟩ : View.Piece (Elt F) S4096x128 .f32)])
      = setRows k w s := by
  subst hs
  funext y
  unfold setRows
  split
  · rename_i hy
    exact View.read_writes_cons_unit_of_mem v f inb w [] y _ h (Fin.forall_fin_two.mpr
      ⟨by show (y 0).val = 512 * k.val + ((y 0).val - 512 * k.val); omega, (Nat.zero_add _).symm⟩)
  · rename_i hy
    exact View.read_writes_cons_unit_of_not_mem v f inb w [] y h 0 (by
      show (y 0).val < 512 * k.val ∨ 512 * k.val + 512 ≤ (y 0).val
      omega)

/-- A load of the rows just stored. -/
theorem readCov_rows (v : View sig .tc .vmem S4096x128 .f32) {off off' : Fin 2 → ℕ} (inb inb') (w : Vec F S512x128 .f32) (h : off = off') :
    v.readCov [(⟨Rect.unit (s := S4096x128) off ![512, 128] inb, w⟩ : View.Piece (Elt F) S4096x128 .f32)]
      (Rect.unit (s := S4096x128) off' ![512, 128] inb').toLoadRect = w := by
  subst h
  exact View.readCov_cons_toLoadRect v (Rect.unit (s := S4096x128) off ![512, 128] inb) w []

end Cert.UpIdeal.Gen

end
-- ==== Proof.UpIdealTripleA.lean ====
/- The triple of one grid point of the up call, case A, with what it leaves in closed form. -/
module

public import proofs.«01_k».proof.Proof.UpIdealRunA
public import proofs.«01_k».proof.Proof.UpIdealRows

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole)
  (hc0 : k0_cond1 i = 1#1) (hc1 : ¬k0_cond2 i = 1#1) (hc2 : ¬k0_cond3 i = 1#1)
  (x0: Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32)

theorem piecesA_0 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).1 = tiles (g0 x0 x3 x4 x6) (g1 x0 x3 x4 x6) (g2 x0 x3 x4 x6) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesA_1 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.1 = tiles (u0 x1 x3 x4 x7) (u1 x1 x3 x4 x7) (u2 x1 x3 x4 x7) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesA_2 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.1 = tiles (d0 x2 x5 x8) (d1 x2 x5 x8) (d2 x2 x5 x8) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem scratchA_0 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.1 = [⟨Rect.unit (s := S4096x128) (k0_off1 i) ![512, 128] (k0_off1_inb i hc0), rowA0 x0 x1 x3 x4 x6 x7⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem scratchA_1 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.1 = [⟨Rect.unit (s := S4096x128) (k0_off1 i) ![512, 128] (k0_off1_inb i hc0), rowA1 x0 x1 x3 x4 x6 x7 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem scratchA_2 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.1 = [⟨Rect.unit (s := S4096x128) (k0_off1 i) ![512, 128] (k0_off1_inb i hc0), rowA2 x0 x1 x2 x3 x4 x5 x6 x7 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

end

set_option maxHeartbeats 2000000 in
/-- The triple: the three outputs' blocks, the row blocks of the three scratches, in closed form. -/
theorem triple_A (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole)
    (hc0 : k0_cond1 i = 1#1) (hc1 : ¬k0_cond2 i = 1#1) (hc2 : ¬k0_cond3 i = 1#1)
    (x0: Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32)
    (xi13 xi14 xi15 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi13 ∗ owns (c : Thread nD τ) arg16 fullShare xi14 ∗ owns (c : Thread nD τ) arg17 fullShare xi15 ∗ owns (c : Thread nD τ) arg18 fullShare xs0 ∗ owns (c : Thread nD τ) arg19 fullShare xs1 ∗ owns (c : Thread nD τ) arg20 fullShare xs2 ∗ (∃ d, owns (c : Thread nD τ) arg21 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (gOut x0 x3 x4 x6) ∗ owns (c : Thread nD τ) arg13 fullShare (uOut x1 x3 x4 x7) ∗ owns (c : Thread nD τ) arg14 fullShare (dOut x2 x5 x8) ∗ owns (c : Thread nD τ) arg15 fullShare xi13 ∗ owns (c : Thread nD τ) arg16 fullShare xi14 ∗ owns (c : Thread nD τ) arg17 fullShare xi15 ∗ owns (c : Thread nD τ) arg18 fullShare (setRows ⟨(i 1).val, (i 1).isLt⟩ (rowA0 x0 x1 x3 x4 x6 x7) xs0) ∗ owns (c : Thread nD τ) arg19 fullShare (setRows ⟨(i 1).val, (i 1).isLt⟩ (rowA1 x0 x1 x3 x4 x6 x7 x9) xs1) ∗ owns (c : Thread nD τ) arg20 fullShare (setRows ⟨(i 1).val, (i 1).isLt⟩ (rowA2 x0 x1 x2 x3 x4 x5 x6 x7 x8 x9) xs2) ∗ (∃ d, owns (c : Thread nD τ) arg21 fullShare d)) -∗ K ⟨⟩))
    ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  iintro ⟨H0, H1, H2, H3, H4, H5, H6, H7, H8, H9, H10, H11, H12, H13, H14, H15, HS0, HS1, HS2, HS3, Hk⟩
  iapply ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.2.2 xi13 xi14 xi15 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, H13, H14, H15, HS0, HS1, HS2, ⟨%es3, HS3⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; rw [piecesA_0]; exact View.read_writes_eq_canon _ _ _ (tiles_cover _ _ _)
  isplitl [H11]
  · unfold owns; iexists _; isplitr
    swap; · iexact H11
    ipureintro; rw [piecesA_1]; exact View.read_writes_eq_canon _ _ _ (tiles_cover _ _ _)
  isplitl [H12]
  · unfold owns; iexists _; isplitr
    swap; · iexact H12
    ipureintro; rw [piecesA_2]; exact View.read_writes_eq_canon _ _ _ (tiles_cover _ _ _)
  isplitl [H13]; · iexact H13
  isplitl [H14]; · iexact H14
  isplitl [H15]; · iexact H15
  isplitl [HS0]
  · unfold owns; iexists _; isplitr
    swap; · iexact HS0
    ipureintro; rw [scratchA_0]; exact read_store _ _ _ (harg18.read_unread _) ⟨(i 1).val, (i 1).isLt⟩ _ _ (k0_off1_eq i)
  isplitl [HS1]
  · unfold owns; iexists _; isplitr
    swap; · iexact HS1
    ipureintro; rw [scratchA_1]; exact read_store _ _ _ (harg19.read_unread _) ⟨(i 1).val, (i 1).isLt⟩ _ _ (k0_off1_eq i)
  isplitl [HS2]
  · unfold owns; iexists _; isplitr
    swap; · iexact HS2
    ipureintro; rw [scratchA_2]; exact read_store _ _ _ (harg20.read_unread _) ⟨(i 1).val, (i 1).isLt⟩ _ _ (k0_off1_eq i)
  iexists _; unfold owns; iexists _; isplitr
  swap; · iexact HS3
  ipureintro; rfl

end Cert.UpIdeal.Gen

end
-- ==== Proof.UpIdealRunB.lean ====
/- The whole-body run of the up call in case B. -/
module

public import proofs.«01_k».proof.Proof.UpIdealRunA

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves at a point of case B (no store of the statistics; the rows of the three scratches are combined with their contents): the pieces it stores into each output and each scratch, found
    by running it, with the proof that it leaves them. -/
noncomputable def kernelRun0_B (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole) (hc0 : ¬k0_cond1 i = 1#1) (hc1 : k0_cond2 i = 1#1) (hc2 : ¬k0_cond3 i = 1#1)
    (x0 : Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32) :
    Σ' (L10 : List (View.Piece (Elt F) S512x768 .f32)), Σ' (L11 : List (View.Piece (Elt F) S512x768 .f32)), Σ' (L12 : List (View.Piece (Elt F) S512x768 .f32)), Σ' (LS0 : List (View.Piece (Elt F) S4096x128 .f32)), Σ' (LS1 : List (View.Piece (Elt F) S4096x128 .f32)), Σ' (LS2 : List (View.Piece (Elt F) S4096x128 .f32)), { LT3 : List (View.Piece (Elt F) S512x2560 .bf16) //
      ∀ (xi13 : Vec F S512x128 .f32) (xi14 : Vec F S512x128 .f32) (xi15 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi13 ∗ owns (c : Thread nD τ) arg16 fullShare xi14 ∗ owns (c : Thread nD τ) arg17 fullShare xi15 ∗ owns (c : Thread nD τ) arg18 fullShare xs0 ∗ owns (c : Thread nD τ) arg19 fullShare xs1 ∗ owns (c : Thread nD τ) arg20 fullShare xs2 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ owns (c : Thread nD τ) arg15 fullShare xi13 ∗ owns (c : Thread nD τ) arg16 fullShare xi14 ∗ owns (c : Thread nD τ) arg17 fullShare xi15 ∗ (arg18.view.loc (c : Thread nD τ) ↦[arg18.view.set]{fullShare} arg18.view.writes (Elt F) (harg18.unread xs0) LS0) ∗ (arg19.view.loc (c : Thread nD τ) ↦[arg19.view.set]{fullShare} arg19.view.writes (Elt F) (harg19.unread xs1) LS1) ∗ (arg20.view.loc (c : Thread nD τ) ↦[arg20.view.set]{fullShare} arg20.view.writes (Elt F) (harg20.unread xs2) LS2) ∗ (∃ f, arg21.view.loc (c : Thread nD τ) ↦[arg21.view.set]{fullShare} arg21.view.writes (Elt F) f LT3)) -∗ K ⟨⟩))
          ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, fun xi13 xi14 xi15 E K => ?run⟩
  case run =>
    simp only [cc0_up_eq_skeleton]; unfold cc0_up_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hf13; obtain rfl := harg16.eq_unread hf14; obtain rfl := harg17.eq_unread hf15; obtain rfl := harg18.eq_unread hfs0; obtain rfl := harg19.eq_unread hfs1; obtain rfl := harg20.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexact HS0
    isplitl [HS1]; · iexact HS1
    isplitl [HS2]; · iexact HS2
    iexists _; iexact HS3

end Cert.UpIdeal.Gen

end
-- ==== Proof.UpIdealTripleB.lean ====
/- The triple of one grid point of the up call, case B, with what it leaves in closed form. -/
module

public import proofs.«01_k».proof.Proof.UpIdealRunB
public import proofs.«01_k».proof.Proof.UpIdealRows

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole)
  (hc0 : ¬k0_cond1 i = 1#1) (hc1 : k0_cond2 i = 1#1) (hc2 : ¬k0_cond3 i = 1#1)
  (x0: Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32)

theorem piecesB_0 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).1 = tiles (g0 x0 x3 x4 x6) (g1 x0 x3 x4 x6) (g2 x0 x3 x4 x6) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesB_1 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.1 = tiles (u0 x1 x3 x4 x7) (u1 x1 x3 x4 x7) (u2 x1 x3 x4 x7) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesB_2 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.1 = tiles (d0 x2 x5 x8) (d1 x2 x5 x8) (d2 x2 x5 x8) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem scratchB_0 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.1 = [⟨Rect.unit (s := S4096x128) (k0_off2 i) ![512, 128] (k0_off2_inb i hc1), rowB0 x0 x1 x3 x4 x6 x7 (rows ⟨(i 1).val, (i 1).isLt⟩ xs0)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_rows (F := F) ⟨(i 1).val, (i 1).isLt⟩ xs0 _ (k0_off2_eq i)]
  rfl

theorem scratchB_1 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.1 = [⟨Rect.unit (s := S4096x128) (k0_off2 i) ![512, 128] (k0_off2_inb i hc1), rowB1 x0 x1 x3 x4 x6 x7 x9 (rows ⟨(i 1).val, (i 1).isLt⟩ xs1)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_rows (F := F) ⟨(i 1).val, (i 1).isLt⟩ xs1 _ (k0_off2_eq i)]
  rfl

theorem scratchB_2 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.1 = [⟨Rect.unit (s := S4096x128) (k0_off2 i) ![512, 128] (k0_off2_inb i hc1), rowB2 x0 x1 x2 x3 x4 x5 x6 x7 x8 x9 (rows ⟨(i 1).val, (i 1).isLt⟩ xs2)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_rows (F := F) ⟨(i 1).val, (i 1).isLt⟩ xs2 _ (k0_off2_eq i)]
  rfl

end

set_option maxHeartbeats 2000000 in
/-- The triple: the three outputs' blocks, the row blocks of the three scratches, in closed form. -/
theorem triple_B (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole)
    (hc0 : ¬k0_cond1 i = 1#1) (hc1 : k0_cond2 i = 1#1) (hc2 : ¬k0_cond3 i = 1#1)
    (x0: Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32)
    (xi13 xi14 xi15 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xi13 ∗ owns (c : Thread nD τ) arg16 fullShare xi14 ∗ owns (c : Thread nD τ) arg17 fullShare xi15 ∗ owns (c : Thread nD τ) arg18 fullShare xs0 ∗ owns (c : Thread nD τ) arg19 fullShare xs1 ∗ owns (c : Thread nD τ) arg20 fullShare xs2 ∗ (∃ d, owns (c : Thread nD τ) arg21 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (gOut x0 x3 x4 x6) ∗ owns (c : Thread nD τ) arg13 fullShare (uOut x1 x3 x4 x7) ∗ owns (c : Thread nD τ) arg14 fullShare (dOut x2 x5 x8) ∗ owns (c : Thread nD τ) arg15 fullShare xi13 ∗ owns (c : Thread nD τ) arg16 fullShare xi14 ∗ owns (c : Thread nD τ) arg17 fullShare xi15 ∗ owns (c : Thread nD τ) arg18 fullShare (setRows ⟨(i 1).val, (i 1).isLt⟩ (rowB0 x0 x1 x3 x4 x6 x7 (rows ⟨(i 1).val, (i 1).isLt⟩ xs0)) xs0) ∗ owns (c : Thread nD τ) arg19 fullShare (setRows ⟨(i 1).val, (i 1).isLt⟩ (rowB1 x0 x1 x3 x4 x6 x7 x9 (rows ⟨(i 1).val, (i 1).isLt⟩ xs1)) xs1) ∗ owns (c : Thread nD τ) arg20 fullShare (setRows ⟨(i 1).val, (i 1).isLt⟩ (rowB2 x0 x1 x2 x3 x4 x5 x6 x7 x8 x9 (rows ⟨(i 1).val, (i 1).isLt⟩ xs2)) xs2) ∗ (∃ d, owns (c : Thread nD τ) arg21 fullShare d)) -∗ K ⟨⟩))
    ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  iintro ⟨H0, H1, H2, H3, H4, H5, H6, H7, H8, H9, H10, H11, H12, H13, H14, H15, HS0, HS1, HS2, HS3, Hk⟩
  iapply ((kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.2.2 xi13 xi14 xi15 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, H13, H14, H15, HS0, HS1, HS2, ⟨%es3, HS3⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; rw [piecesB_0]; exact View.read_writes_eq_canon _ _ _ (tiles_cover _ _ _)
  isplitl [H11]
  · unfold owns; iexists _; isplitr
    swap; · iexact H11
    ipureintro; rw [piecesB_1]; exact View.read_writes_eq_canon _ _ _ (tiles_cover _ _ _)
  isplitl [H12]
  · unfold owns; iexists _; isplitr
    swap; · iexact H12
    ipureintro; rw [piecesB_2]; exact View.read_writes_eq_canon _ _ _ (tiles_cover _ _ _)
  isplitl [H13]; · iexact H13
  isplitl [H14]; · iexact H14
  isplitl [H15]; · iexact H15
  isplitl [HS0]
  · unfold owns; iexists _; isplitr
    swap; · iexact HS0
    ipureintro; rw [scratchB_0]; exact read_store _ _ _ (harg18.read_unread _) ⟨(i 1).val, (i 1).isLt⟩ _ _ (k0_off2_eq i)
  isplitl [HS1]
  · unfold owns; iexists _; isplitr
    swap; · iexact HS1
    ipureintro; rw [scratchB_1]; exact read_store _ _ _ (harg19.read_unread _) ⟨(i 1).val, (i 1).isLt⟩ _ _ (k0_off2_eq i)
  isplitl [HS2]
  · unfold owns; iexists _; isplitr
    swap; · iexact HS2
    ipureintro; rw [scratchB_2]; exact read_store _ _ _ (harg20.read_unread _) ⟨(i 1).val, (i 1).isLt⟩ _ _ (k0_off2_eq i)
  iexists _; unfold owns; iexists _; isplitr
  swap; · iexact HS3
  ipureintro; rfl

end Cert.UpIdeal.Gen

end
-- ==== Proof.UpIdealRunC.lean ====
/- The whole-body run of the up call in case C. -/
module

public import proofs.«01_k».proof.Proof.UpIdealRunB

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves at a point of case C (the rows of the three scratches are combined with their contents, then the statistics are stored): the pieces it stores into each output and each scratch, found
    by running it, with the proof that it leaves them. -/
noncomputable def kernelRun0_C (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole) (hc0 : ¬k0_cond1 i = 1#1) (hc1 : k0_cond2 i = 1#1) (hc2 : k0_cond3 i = 1#1)
    (x0 : Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32) :
    Σ' (L10 : List (View.Piece (Elt F) S512x768 .f32)), Σ' (L11 : List (View.Piece (Elt F) S512x768 .f32)), Σ' (L12 : List (View.Piece (Elt F) S512x768 .f32)), Σ' (L13 : List (View.Piece (Elt F) S512x128 .f32)), Σ' (L14 : List (View.Piece (Elt F) S512x128 .f32)), Σ' (L15 : List (View.Piece (Elt F) S512x128 .f32)), Σ' (LS0 : List (View.Piece (Elt F) S4096x128 .f32)), Σ' (LS1 : List (View.Piece (Elt F) S4096x128 .f32)), Σ' (LS2 : List (View.Piece (Elt F) S4096x128 .f32)), { LT3 : List (View.Piece (Elt F) S512x2560 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (arg18.view.loc (c : Thread nD τ) ↦[arg18.view.set]{fullShare} arg18.view.writes (Elt F) (harg18.unread xs0) LS0) ∗ (arg19.view.loc (c : Thread nD τ) ↦[arg19.view.set]{fullShare} arg19.view.writes (Elt F) (harg19.unread xs1) LS1) ∗ (arg20.view.loc (c : Thread nD τ) ↦[arg20.view.set]{fullShare} arg20.view.writes (Elt F) (harg20.unread xs2) LS2) ∗ (∃ f, arg21.view.loc (c : Thread nD τ) ↦[arg21.view.set]{fullShare} arg21.view.writes (Elt F) f LT3)) -∗ K ⟨⟩))
          ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, ?_, ?_, ?_, ?_, fun  E K => ?run⟩
  case run =>
    simp only [cc0_up_eq_skeleton]; unfold cc0_up_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg18.eq_unread hfs0; obtain rfl := harg19.eq_unread hfs1; obtain rfl := harg20.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    iexists _; iexact HS3

end Cert.UpIdeal.Gen

end
-- ==== Proof.UpIdealTripleC.lean ====
/- The triple of one grid point of the up call, case C, with what it leaves in closed form. -/
module

public import proofs.«01_k».proof.Proof.UpIdealRunC
public import proofs.«01_k».proof.Proof.UpIdealRows

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole)
  (hc0 : ¬k0_cond1 i = 1#1) (hc1 : k0_cond2 i = 1#1) (hc2 : k0_cond3 i = 1#1)
  (x0: Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32)

theorem piecesC_0 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).1 = tiles (g0 x0 x3 x4 x6) (g1 x0 x3 x4 x6) (g2 x0 x3 x4 x6) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesC_1 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.1 = tiles (u0 x1 x3 x4 x7) (u1 x1 x3 x4 x7) (u2 x1 x3 x4 x7) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesC_2 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.1 = tiles (d0 x2 x5 x8) (d1 x2 x5 x8) (d2 x2 x5 x8) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesC_3 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.1 = [⟨Rect.unit ![0, 0] ![512, 128] inb_S512x128_S512x128_0_0, k0_pay13 (rowB0 x0 x1 x3 x4 x6 x7 (rows ⟨(i 1).val, (i 1).isLt⟩ xs0))⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [readCov_rows _ _ _ _ ((k0_off2_eq i).trans (k0_off3_eq i).symm)]
  rw [ld_rows (F := F) ⟨(i 1).val, (i 1).isLt⟩ xs0 _ (k0_off2_eq i)]
  rfl

theorem piecesC_4 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.1 = [⟨Rect.unit ![0, 0] ![512, 128] inb_S512x128_S512x128_0_0, k0_pay14 (rowB0 x0 x1 x3 x4 x6 x7 (rows ⟨(i 1).val, (i 1).isLt⟩ xs0)) (rowB1 x0 x1 x3 x4 x6 x7 x9 (rows ⟨(i 1).val, (i 1).isLt⟩ xs1))⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [readCov_rows _ _ _ _ ((k0_off2_eq i).trans (k0_off3_eq i).symm), readCov_rows _ _ _ _ ((k0_off2_eq i).trans (k0_off3_eq i).symm)]
  rw [ld_rows (F := F) ⟨(i 1).val, (i 1).isLt⟩ xs0 _ (k0_off2_eq i), ld_rows (F := F) ⟨(i 1).val, (i 1).isLt⟩ xs1 _ (k0_off2_eq i)]
  rfl

theorem piecesC_5 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.1 = [⟨Rect.unit ![0, 0] ![512, 128] inb_S512x128_S512x128_0_0, k0_pay15 (rowB0 x0 x1 x3 x4 x6 x7 (rows ⟨(i 1).val, (i 1).isLt⟩ xs0)) (rowB2 x0 x1 x2 x3 x4 x5 x6 x7 x8 x9 (rows ⟨(i 1).val, (i 1).isLt⟩ xs2))⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [readCov_rows _ _ _ _ ((k0_off2_eq i).trans (k0_off3_eq i).symm), readCov_rows _ _ _ _ ((k0_off2_eq i).trans (k0_off3_eq i).symm)]
  rw [ld_rows (F := F) ⟨(i 1).val, (i 1).isLt⟩ xs0 _ (k0_off2_eq i), ld_rows (F := F) ⟨(i 1).val, (i 1).isLt⟩ xs2 _ (k0_off2_eq i)]
  rfl

theorem scratchC_0 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.2.1 = [⟨Rect.unit (s := S4096x128) (k0_off2 i) ![512, 128] (k0_off2_inb i hc1), rowB0 x0 x1 x3 x4 x6 x7 (rows ⟨(i 1).val, (i 1).isLt⟩ xs0)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_rows (F := F) ⟨(i 1).val, (i 1).isLt⟩ xs0 _ (k0_off2_eq i)]
  rfl

theorem scratchC_1 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.2.2.1 = [⟨Rect.unit (s := S4096x128) (k0_off2 i) ![512, 128] (k0_off2_inb i hc1), rowB1 x0 x1 x3 x4 x6 x7 x9 (rows ⟨(i 1).val, (i 1).isLt⟩ xs1)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_rows (F := F) ⟨(i 1).val, (i 1).isLt⟩ xs1 _ (k0_off2_eq i)]
  rfl

theorem scratchC_2 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.2.2.2.1 = [⟨Rect.unit (s := S4096x128) (k0_off2 i) ![512, 128] (k0_off2_inb i hc1), rowB2 x0 x1 x2 x3 x4 x5 x6 x7 x8 x9 (rows ⟨(i 1).val, (i 1).isLt⟩ xs2)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_rows (F := F) ⟨(i 1).val, (i 1).isLt⟩ xs2 _ (k0_off2_eq i)]
  rfl

end

set_option maxHeartbeats 2000000 in
/-- The triple: the three outputs' blocks, the row blocks of the three scratches and the statistics, in closed form. -/
theorem triple_C (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x2560 .i8) (harg5 : arg5.IsWhole) (arg6 : Memref sig .tc .vmem S512x128 .f32) (harg6 : arg6.IsWhole) (arg7 : Memref sig .tc .vmem S512x2560 .bf16) (harg7 : arg7.IsWhole) (arg8 : Memref sig .tc .vmem S2560x768 .i8) (harg8 : arg8.IsWhole) (arg9 : Memref sig .tc .vmem S2560x768 .i8) (harg9 : arg9.IsWhole) (arg10 : Memref sig .tc .vmem S768x2560 .i8) (harg10 : arg10.IsWhole) (arg11 : Memref sig .tc .vmem S1x768 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x768 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S4096x128 .f32) (harg18 : arg18.IsWhole) (arg19 : Memref sig .tc .vmem S4096x128 .f32) (harg19 : arg19.IsWhole) (arg20 : Memref sig .tc .vmem S4096x128 .f32) (harg20 : arg20.IsWhole) (arg21 : Memref sig .tc .vmem S512x2560 .bf16) (harg21 : arg21.IsWhole)
    (hc0 : ¬k0_cond1 i = 1#1) (hc1 : k0_cond2 i = 1#1) (hc2 : k0_cond3 i = 1#1)
    (x0: Vec F S1x1 .f32) (x1 : Vec F S1x1 .f32) (x2 : Vec F S1x1 .f32) (x3 : Vec F S512x2560 .i8) (x4 : Vec F S512x128 .f32) (x5 : Vec F S512x2560 .bf16) (x6 : Vec F S2560x768 .i8) (x7 : Vec F S2560x768 .i8) (x8 : Vec F S768x2560 .i8) (x9 : Vec F S1x768 .f32) (xs0 : Vec F S4096x128 .f32) (xs1 : Vec F S4096x128 .f32) (xs2 : Vec F S4096x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ (∃ d, owns (c : Thread nD τ) arg21 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (gOut x0 x3 x4 x6) ∗ owns (c : Thread nD τ) arg13 fullShare (uOut x1 x3 x4 x7) ∗ owns (c : Thread nD τ) arg14 fullShare (dOut x2 x5 x8) ∗ owns (c : Thread nD τ) arg15 fullShare (k0_pay13 (rowB0 x0 x1 x3 x4 x6 x7 (rows ⟨(i 1).val, (i 1).isLt⟩ xs0))) ∗ owns (c : Thread nD τ) arg16 fullShare (k0_pay14 (rowB0 x0 x1 x3 x4 x6 x7 (rows ⟨(i 1).val, (i 1).isLt⟩ xs0)) (rowB1 x0 x1 x3 x4 x6 x7 x9 (rows ⟨(i 1).val, (i 1).isLt⟩ xs1))) ∗ owns (c : Thread nD τ) arg17 fullShare (k0_pay15 (rowB0 x0 x1 x3 x4 x6 x7 (rows ⟨(i 1).val, (i 1).isLt⟩ xs0)) (rowB2 x0 x1 x2 x3 x4 x5 x6 x7 x8 x9 (rows ⟨(i 1).val, (i 1).isLt⟩ xs2))) ∗ owns (c : Thread nD τ) arg18 fullShare (setRows ⟨(i 1).val, (i 1).isLt⟩ (rowB0 x0 x1 x3 x4 x6 x7 (rows ⟨(i 1).val, (i 1).isLt⟩ xs0)) xs0) ∗ owns (c : Thread nD τ) arg19 fullShare (setRows ⟨(i 1).val, (i 1).isLt⟩ (rowB1 x0 x1 x3 x4 x6 x7 x9 (rows ⟨(i 1).val, (i 1).isLt⟩ xs1)) xs1) ∗ owns (c : Thread nD τ) arg20 fullShare (setRows ⟨(i 1).val, (i 1).isLt⟩ (rowB2 x0 x1 x2 x3 x4 x5 x6 x7 x8 x9 (rows ⟨(i 1).val, (i 1).isLt⟩ xs2)) xs2) ∗ (∃ d, owns (c : Thread nD τ) arg21 fullShare d)) -∗ K ⟨⟩))
    ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  iintro ⟨H0, H1, H2, H3, H4, H5, H6, H7, H8, H9, H10, H11, H12, H13, H14, H15, HS0, HS1, HS2, HS3, Hk⟩
  iapply ((kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 xs0 xs1 xs2).2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, ⟨%e12, H12⟩, ⟨%e13, H13⟩, ⟨%e14, H14⟩, ⟨%e15, H15⟩, HS0, HS1, HS2, ⟨%es3, HS3⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; rw [piecesC_0]; exact View.read_writes_eq_canon _ _ _ (tiles_cover _ _ _)
  isplitl [H11]
  · unfold owns; iexists _; isplitr
    swap; · iexact H11
    ipureintro; rw [piecesC_1]; exact View.read_writes_eq_canon _ _ _ (tiles_cover _ _ _)
  isplitl [H12]
  · unfold owns; iexists _; isplitr
    swap; · iexact H12
    ipureintro; rw [piecesC_2]; exact View.read_writes_eq_canon _ _ _ (tiles_cover _ _ _)
  isplitl [H13]
  · unfold owns; iexists _; isplitr
    swap; · iexact H13
    ipureintro; rw [piecesC_3]; refine (View.read_writes_eq_canon _ _ _ (fun y => View.cover_of_tiled_head _ _ _ (by sl_kernel_rfl) y)).trans ?_; simp (disch := decide) only [View.canon_cons_unit_lit']
  isplitl [H14]
  · unfold owns; iexists _; isplitr
    swap; · iexact H14
    ipureintro; rw [piecesC_4]; refine (View.read_writes_eq_canon _ _ _ (fun y => View.cover_of_tiled_head _ _ _ (by sl_kernel_rfl) y)).trans ?_; simp (disch := decide) only [View.canon_cons_unit_lit']
  isplitl [H15]
  · unfold owns; iexists _; isplitr
    swap; · iexact H15
    ipureintro; rw [piecesC_5]; refine (View.read_writes_eq_canon _ _ _ (fun y => View.cover_of_tiled_head _ _ _ (by sl_kernel_rfl) y)).trans ?_; simp (disch := decide) only [View.canon_cons_unit_lit']
  isplitl [HS0]
  · unfold owns; iexists _; isplitr
    swap; · iexact HS0
    ipureintro; rw [scratchC_0]; exact read_store _ _ _ (harg18.read_unread _) ⟨(i 1).val, (i 1).isLt⟩ _ _ (k0_off2_eq i)
  isplitl [HS1]
  · unfold owns; iexists _; isplitr
    swap; · iexact HS1
    ipureintro; rw [scratchC_1]; exact read_store _ _ _ (harg19.read_unread _) ⟨(i 1).val, (i 1).isLt⟩ _ _ (k0_off2_eq i)
  isplitl [HS2]
  · unfold owns; iexists _; isplitr
    swap; · iexact HS2
    ipureintro; rw [scratchC_2]; exact read_store _ _ _ (harg20.read_unread _) ⟨(i 1).val, (i 1).isLt⟩ _ _ (k0_off2_eq i)
  iexists _; unfold owns; iexists _; isplitr
  swap; · iexact HS3
  ipureintro; rfl

end Cert.UpIdeal.Gen

end
-- ==== Proof.UpIdealFrame.lean ====
/- The frame of the up call: the proof data of its pipeline, whose three carried scratches hold row blocks written at different points. -/
module

public import proofs.«01_k».proof.Proof.UpIdealTripleA
public import proofs.«01_k».proof.Proof.UpIdealTripleB
public import proofs.«01_k».proof.Proof.UpIdealTripleC
public import proofs.«01_k».proof.Proof.Gen.UpIdeal.Frame
public import proofs.«01_k».proof.Proof.Gen.UpIdeal.Points
public import Idealize.ShloMosaic.Lib.Claim

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem hcond0_1 : ∀ t : Fin cfg0.N, k0_cond1 (grid0.coords t) = 1#1 ↔ t.val < 8 := (by decide +kernel : ∀ t : Fin grid0.N, _)
theorem hcond0_2 : ∀ t : Fin cfg0.N, k0_cond2 (grid0.coords t) = 1#1 ↔ 8 ≤ t.val := (by decide +kernel : ∀ t : Fin grid0.N, _)
theorem hcond0_3 : ∀ t : Fin cfg0.N, k0_cond3 (grid0.coords t) = 1#1 ↔ 64 ≤ t.val := (by decide +kernel : ∀ t : Fin grid0.N, _)

/-- The row block of point `t`. -/
def blkRow (t : Fin cfg0.N) : Fin 8 := ⟨(grid0.coords t 1).val, (grid0.coords t 1).isLt⟩

theorem blkRow_val : ∀ t : Fin cfg0.N, (blkRow t).val = t.val % 8 := (by decide +kernel : ∀ t : Fin grid0.N, _)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, 64 ≤ t.val → cfg0.idle 13 (grid0.coords t) = false := by decide +kernel
theorem idleAt0_13 : ∀ t : Fin cfg0.N, ¬64 ≤ t.val → cfg0.idle 13 (grid0.coords t) = true := by decide +kernel
theorem noFlush0_13 : ∀ t : Fin cfg0.N, ¬64 ≤ t.val → (cfg0.win 13).flush t = false := by decide +kernel
theorem liveAt0_14 : ∀ t : Fin cfg0.N, 64 ≤ t.val → cfg0.idle 14 (grid0.coords t) = false := by decide +kernel
theorem idleAt0_14 : ∀ t : Fin cfg0.N, ¬64 ≤ t.val → cfg0.idle 14 (grid0.coords t) = true := by decide +kernel
theorem noFlush0_14 : ∀ t : Fin cfg0.N, ¬64 ≤ t.val → (cfg0.win 14).flush t = false := by decide +kernel
theorem liveAt0_15 : ∀ t : Fin cfg0.N, 64 ≤ t.val → cfg0.idle 15 (grid0.coords t) = false := by decide +kernel
theorem idleAt0_15 : ∀ t : Fin cfg0.N, ¬64 ≤ t.val → cfg0.idle 15 (grid0.coords t) = true := by decide +kernel
theorem noFlush0_15 : ∀ t : Fin cfg0.N, ¬64 ≤ t.val → (cfg0.win 15).flush t = false := by decide +kernel

/-! ## The staged blocks and the scratches -/

abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2560 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2560x768 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2560x768 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S768x2560 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x768 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x768 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x768 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x128 .f32 := win0_15.stage (cfg0.slots t 15)
abbrev hs0_15 (t : Fin cfg0.N) : (ms0_15 t).IsWhole := hstage0_15 ((cfg0.slots t 15).cast nbuf0_15)
abbrev scM0_0 : Memref sig .tc .vmem S4096x128 .f32 := Memref.whole cc0_scratch0
abbrev scM0_1 : Memref sig .tc .vmem S4096x128 .f32 := Memref.whole cc0_scratch1
abbrev scM0_2 : Memref sig .tc .vmem S4096x128 .f32 := Memref.whole cc0_scratch2
abbrev scM0_3 : Memref sig .tc .vmem S512x2560 .bf16 := Memref.whole cc0_scratch3

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the carried rows hold -/

/-- The three row blocks a first column step leaves, from the point's blocks; and a later one, from what they held. -/
def stepA (c : Dev nD) (t : Fin cfg0.N) : Vec F S512x128 .f32 × Vec F S512x128 .f32 × Vec F S512x128 .f32 :=
  (rowA0 (iblk m c 0 t) (iblk m c 1 t) (iblk m c 3 t) (iblk m c 4 t) (iblk m c 6 t) (iblk m c 7 t), rowA1 (iblk m c 0 t) (iblk m c 1 t) (iblk m c 3 t) (iblk m c 4 t) (iblk m c 6 t) (iblk m c 7 t) (iblk m c 9 t), rowA2 (iblk m c 0 t) (iblk m c 1 t) (iblk m c 2 t) (iblk m c 3 t) (iblk m c 4 t) (iblk m c 5 t) (iblk m c 6 t) (iblk m c 7 t) (iblk m c 8 t) (iblk m c 9 t))
def stepB (c : Dev nD) (t : Fin cfg0.N) (p : Vec F S512x128 .f32 × Vec F S512x128 .f32 × Vec F S512x128 .f32) :
    Vec F S512x128 .f32 × Vec F S512x128 .f32 × Vec F S512x128 .f32 :=
  (rowB0 (iblk m c 0 t) (iblk m c 1 t) (iblk m c 3 t) (iblk m c 4 t) (iblk m c 6 t) (iblk m c 7 t) p.1, rowB1 (iblk m c 0 t) (iblk m c 1 t) (iblk m c 3 t) (iblk m c 4 t) (iblk m c 6 t) (iblk m c 7 t) (iblk m c 9 t) p.2.1, rowB2 (iblk m c 0 t) (iblk m c 1 t) (iblk m c 2 t) (iblk m c 3 t) (iblk m c 4 t) (iblk m c 5 t) (iblk m c 6 t) (iblk m c 7 t) (iblk m c 8 t) (iblk m c 9 t) p.2.2)

/-- Point number `n` (the grid has 72). -/
def pt (n : ℕ) : Fin cfg0.N := ⟨n % 72, lt_of_lt_of_eq (Nat.mod_lt _ (by norm_num)) N_0.symm⟩

theorem pt_val (t : Fin cfg0.N) (n : ℕ) (h : n = t.val) : pt n = t :=
  Fin.ext (by subst h; exact Nat.mod_eq_of_lt (lt_of_lt_of_eq t.isLt N_0))

/-- Row block `k` of the three scratches after column step `j`. -/
def rowAt (c : Dev nD) (k : ℕ) : ℕ → Vec F S512x128 .f32 × Vec F S512x128 .f32 × Vec F S512x128 .f32
  | 0 => stepA m c (pt k)
  | j + 1 => stepB m c (pt (8 * (j + 1) + k)) (rowAt c k j)

/-- The same at point `t`. -/
def rowT (c : Dev nD) (t : Fin cfg0.N) : Vec F S512x128 .f32 × Vec F S512x128 .f32 × Vec F S512x128 .f32 :=
  rowAt m c (t.val % 8) (t.val / 8)

theorem rowT_first (c : Dev nD) (t : Fin cfg0.N) (h : t.val < 8) : rowT m c t = stepA m c t := by
  unfold rowT
  rw [show t.val / 8 = 0 by omega]
  show stepA m c (pt (t.val % 8)) = _
  rw [pt_val t _ (by omega)]

theorem rowT_later (c : Dev nD) (t : Fin cfg0.N) (h : 8 ≤ t.val) :
    rowT m c t = stepB m c t (rowAt m c (t.val % 8) ((t.val - 1 - t.val % 8) / 8)) := by
  unfold rowT
  obtain ⟨j, hj⟩ : ∃ j, t.val / 8 = j + 1 := ⟨t.val / 8 - 1, by omega⟩
  rw [hj, show (t.val - 1 - t.val % 8) / 8 = j by omega]
  show stepB m c (pt (8 * (j + 1) + t.val % 8)) _ = _
  rw [pt_val t _ (by omega)]

/-- Before point `n` every row block already visited holds what its last visit left. -/
def Inv (c : Dev nD) (n : ℕ) (s0 s1 s2 : Vec F S4096x128 .f32) : Prop :=
  ∀ k : Fin 8, k.val < n → (rows k s0, rows k s1, rows k s2) = rowAt m c k.val ((n - 1 - k.val) / 8)

theorem inv_zero (c : Dev nD) (s0 s1 s2 : Vec F S4096x128 .f32) : Inv m c 0 s0 s1 s2 :=
  fun k h => absurd h (Nat.not_lt_zero _)

theorem inv_succ (c : Dev nD) (t : Fin cfg0.N) (s0 s1 s2 : Vec F S4096x128 .f32) (hI : Inv m c t.val s0 s1 s2)
    (v0 v1 v2 : Vec F S512x128 .f32) (hv : (v0, v1, v2) = rowT m c t) :
    Inv m c (t.val + 1) (setRows (blkRow t) v0 s0) (setRows (blkRow t) v1 s1) (setRows (blkRow t) v2 s2) := by
  intro k hk
  have hb := blkRow_val t
  have hk8 := k.isLt
  by_cases e : blkRow t = k
  · subst e
    rw [rows_setRows, rows_setRows, rows_setRows, hv]
    unfold rowT
    rw [hb, show (t.val + 1 - 1 - t.val % 8) / 8 = t.val / 8 by omega]
  · have e' : ¬(t.val % 8 = k.val) := fun h => e (Fin.ext (hb.trans h))
    rw [rows_setRows_ne e, rows_setRows_ne e, rows_setRows_ne e, hI k (by omega),
      show (t.val + 1 - 1 - k.val) / 8 = (t.val - 1 - k.val) / 8 by omega]

/-- At a first column step the new rows are `rowT`'s. -/
theorem new_first (c : Dev nD) (t : Fin cfg0.N) (h : t.val < 8) : stepA m c t = rowT m c t := (rowT_first m c t h).symm

/-- At a later one too, over the rows the scratches hold. -/
theorem new_later (c : Dev nD) (t : Fin cfg0.N) (h : 8 ≤ t.val) (s0 s1 s2 : Vec F S4096x128 .f32) (hI : Inv m c t.val s0 s1 s2) :
    stepB m c t (rows (blkRow t) s0, rows (blkRow t) s1, rows (blkRow t) s2) = rowT m c t := by
  have hb := blkRow_val t
  rw [rowT_later m c t h, hI (blkRow t) (by omega), hb]

/-- The invariant between points. -/
def PhiS (c : Dev nD) (n : ℕ) : sProp 𝕄 :=
  iprop(∃ s0, ∃ s1, ∃ s2, ⌜Inv m c n s0 s1 s2⌝ ∗ owns (c : Thread nD τ) scM0_0 fullShare s0 ∗ owns (c : Thread nD τ) scM0_1 fullShare s1 ∗ owns (c : Thread nD τ) scM0_2 fullShare s2 ∗ (∃ d, owns (c : Thread nD τ) scM0_3 fullShare d) ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => gOut (iblk m c 0 t) (iblk m c 3 t) (iblk m c 4 t) (iblk m c 6 t)
    | ⟨11, _⟩ => uOut (iblk m c 1 t) (iblk m c 3 t) (iblk m c 4 t) (iblk m c 7 t)
    | ⟨12, _⟩ => dOut (iblk m c 2 t) (iblk m c 5 t) (iblk m c 8 t)
    | ⟨13, _⟩ => k0_pay13 (rowT m c t).1
    | ⟨14, _⟩ => k0_pay14 (rowT m c t).1 (rowT m c t).2.1
    | ⟨15, _⟩ => k0_pay15 (rowT m c t).1 (rowT m c t).2.2
    | ⟨_ + 16, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = gOut (iblk m c 0 t) (iblk m c 3 t) (iblk m c 4 t) (iblk m c 6 t) := by dsimp only [dats]
theorem after0_11 (c : Dev nD) (t : Fin cfg0.N) : (dats m 0 c).after 11 t = uOut (iblk m c 1 t) (iblk m c 3 t) (iblk m c 4 t) (iblk m c 7 t) := by dsimp only [dats]
theorem after0_12 (c : Dev nD) (t : Fin cfg0.N) : (dats m 0 c).after 12 t = dOut (iblk m c 2 t) (iblk m c 5 t) (iblk m c 8 t) := by dsimp only [dats]
theorem after0_13 (c : Dev nD) (t : Fin cfg0.N) : (dats m 0 c).after 13 t = k0_pay13 (rowT m c t).1 := by dsimp only [dats]
theorem after0_14 (c : Dev nD) (t : Fin cfg0.N) : (dats m 0 c).after 14 t = k0_pay14 (rowT m c t).1 (rowT m c t).2.1 := by dsimp only [dats]
theorem after0_15 (c : Dev nD) (t : Fin cfg0.N) : (dats m 0 c).after 15 t = k0_pay15 (rowT m c t).1 (rowT m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body at a point -/

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  by_cases h8 : t.val < 8
  · rw [Dat.leavesExact_idle (dats m 0 c) 13 t (idleAt0_13 t (by omega)) (noFlush0_13 t (by omega))]
    rw [Dat.leavesExact_idle (dats m 0 c) 14 t (idleAt0_14 t (by omega)) (noFlush0_14 t (by omega))]
    rw [Dat.leavesExact_idle (dats m 0 c) 15 t (idleAt0_15 t (by omega)) (noFlush0_15 t (by omega))]
    iintro ⟨⟨%s0, %s1, %s2, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hn := new_first m c t h8
    iapply (triple_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) ((hcond0_1 t).mpr h8) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) s0 s1 s2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, HS0, HS1, HS2, HS3⟩
    isplitl [HS0 HS1 HS2 HS3 Hg]
    · iexists _, _, _; isplitr
      · ipureintro; exact inv_succ m c t s0 s1 s2 hI _ _ _ hn
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    iexists _; iexact H15
  by_cases h64 : 64 ≤ t.val
  · rw [show (dats m 0 c).leavesExact 13 t = owns (c : Thread nD τ) (ms0_13 t) fullShare ((dats m 0 c).after 13 t) from by
      unfold Dat.leavesExact; rw [liveAt0_13 t h64], after0_13]
    rw [show (dats m 0 c).leavesExact 14 t = owns (c : Thread nD τ) (ms0_14 t) fullShare ((dats m 0 c).after 14 t) from by
      unfold Dat.leavesExact; rw [liveAt0_14 t h64], after0_14]
    rw [show (dats m 0 c).leavesExact 15 t = owns (c : Thread nD τ) (ms0_15 t) fullShare ((dats m 0 c).after 15 t) from by
      unfold Dat.leavesExact; rw [liveAt0_15 t h64], after0_15]
    iintro ⟨⟨%s0, %s1, %s2, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hn := new_later m c t (by omega) s0 s1 s2 hI
    iapply (triple_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) (fun h => absurd ((hcond0_1 t).mp h) (by omega)) ((hcond0_2 t).mpr (by omega)) ((hcond0_3 t).mpr h64) (iblk m c 0 t) (iblk m c 1 t) (iblk m c 2 t) (iblk m c 3 t) (iblk m c 4 t) (iblk m c 5 t) (iblk m c 6 t) (iblk m c 7 t) (iblk m c 8 t) (iblk m c 9 t) s0 s1 s2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, HS0, HS1, HS2, HS3⟩
    isplitl [HS0 HS1 HS2 HS3 Hg]
    · iexists _, _, _; isplitr
      · ipureintro; exact inv_succ m c t s0 s1 s2 hI _ _ _ hn
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · rw [← hn]; iexact H13
    isplitl [H14]; · rw [← hn]; iexact H14
    rw [← hn]; iexact H15
  · rw [Dat.leavesExact_idle (dats m 0 c) 13 t (idleAt0_13 t (by omega)) (noFlush0_13 t (by omega))]
    rw [Dat.leavesExact_idle (dats m 0 c) 14 t (idleAt0_14 t (by omega)) (noFlush0_14 t (by omega))]
    rw [Dat.leavesExact_idle (dats m 0 c) 15 t (idleAt0_15 t (by omega)) (noFlush0_15 t (by omega))]
    iintro ⟨⟨%s0, %s1, %s2, %hI, HS0, HS1, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    have hn := new_later m c t (by omega) s0 s1 s2 hI
    iapply (triple_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) s0 s1 s2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, HS0, HS1, HS2, HS3⟩
    isplitl [HS0 HS1 HS2 HS3 Hg]
    · iexists _, _, _; isplitr
      · ipureintro; exact inv_succ m c t s0 s1 s2 hI _ _ _ hn
      isplitl [HS0]; · iexact HS0
      isplitl [HS1]; · iexact HS1
      isplitl [HS2]; · iexact HS2
      isplitl [HS3]; · iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    iexists _; iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩, ⟨%d2, HS2⟩, HS3⟩, Hg⟩
  iexists d0, d1, d2; isplitr
  · ipureintro; exact inv_zero m c d0 d1 d2
  isplitl [HS0]; · iexact HS0
  isplitl [HS1]; · iexact HS1
  isplitl [HS2]; · iexact HS2
  isplitl [HS3]; · iexact HS3
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%s0, %s1, %s2, %hI, HS0, HS1, HS2, HS3, Hg⟩
  isplitl [HS0 HS1 HS2 HS3]
  · isplitl [HS0]; · iexists _; iexact HS0
    isplitl [HS1]; · iexists _; iexact HS1
    isplitl [HS2]; · iexists _; iexact HS2
    iexact HS3
  iexact Hg

/-! ## The run and the frame -/

set_option backward.isDefEq.respectTransparency.types false in
/-- The launch: the pipeline's post and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  θ_run_and (frame_of m ρ (dats m) (A_eq m) (run_main m ρ)) ((θ_run defs _ _).mono (fun _ h => h.2) (run_main_quiescent m ρ))

end Cert.UpIdeal.Gen

end
-- ==== Proof.UpMachine.lean ====
/- The program printed with floats as bit patterns has the same definitions as the one printed for the extended reals,
   so its frame is that one's, which is proved for any floats. -/
module

public import proofs.«01_k».proof.Defs
public import proofs.«01_k».proof.Proof.Gen.Up
public import proofs.«01_k».proof.Proof.UpIdealFrame

@[expose] public section

set_option maxHeartbeats 8000000
set_option maxRecDepth 65536

noncomputable section

namespace Cert.Proof.Up

open Idealize.ShloMosaic Idealize.SL.Sem

theorem body_eq : @Cert.Up.defs₀ Bits _ _ = @Cert.UpIdeal.defs₀ Bits _ _ := by
  unfold Cert.Up.defs₀ Cert.UpIdeal.defs₀
  refine congrArg _ (funext fun l => funext fun a => ?_)
  match l, a with
  | 0, (t, s) => rfl

theorem defs_eq : @Cert.Up.defs Bits _ _ = @Cert.UpIdeal.defs Bits _ _ := congrArg (Pipeline.defs _) body_eq

theorem frame_machine : Cert.quiescent_Up (hUp := Cert.Up.Gen.facts) := by
  intro m g _
  have h := Cert.UpIdeal.Gen.frame (F := Bits) m g
  rw [defs_eq]
  exact h

end Cert.Proof.Up

end
-- ==== Proof.UpBlock.lean ====
/- The blocks one grid point of the up call computes, entry by entry. -/
module

public import proofs.«01_k».proof.Proof.UpIdealRows
public import Idealize.ShloMosaic.Lib.Pointwise

@[expose] public section

noncomputable section

namespace Cert.Proof.Up

open Cert.UpIdeal Cert.UpIdeal.Gen Idealize.ShloMosaic Idealize.ShloMosaic.TcCoe Idealize.SL.Sem
open scoped BigOperators

/-- Codes times codes, times the row scale and the weight scale: a pre-activation. -/
def pre (q : Vec Ideal S512x2560 .i8) (s : Vec Ideal S512x128 .f32) (w : Vec Ideal S2560x768 .i8) (z : Vec Ideal S1x1 .f32) :
    Vec Ideal S512x768 .f32 :=
  fun y => (∑ k : Fin 2560, FloatOps.sitofp (F := Ideal) .bf16 (q (ix2 (y 0) k)) * FloatOps.sitofp (F := Ideal) .bf16 (w (ix2 k (y 1))))
    * s (ix2 (y 0) 0) * z (ix2 0 0)

/-- The output gradient times the transposed codes of the down weight, times their scale. -/
def grad (d : Vec Ideal S512x2560 .bf16) (w : Vec Ideal S768x2560 .i8) (z : Vec Ideal S1x1 .f32) : Vec Ideal S512x768 .f32 :=
  fun y => (∑ k : Fin 2560, d (ix2 (y 0) k) * FloatOps.sitofp (F := Ideal) .bf16 (w (ix2 (y 1) k))) * z (ix2 0 0)

/-- The 256 columns from `o` of a block. -/
def cut (o : ℕ) (ho : o + 256 ≤ 768) (G : Vec Ideal S512x768 .f32) : FVec Ideal S512x256 .f32 :=
  fun y => G (ix2 (y 0) ⟨o + (y 1).val, by have h : (y 1).val < 256 := (y 1).isLt; omega⟩)

section
variable (x0 x1 x2 : Vec Ideal S1x1 .f32) (x3 : Vec Ideal S512x2560 .i8) (x4 : Vec Ideal S512x128 .f32) (x5 : Vec Ideal S512x2560 .bf16)
  (x6 x7 : Vec Ideal S2560x768 .i8) (x8 : Vec Ideal S768x2560 .i8) (x9 : Vec Ideal S1x768 .f32)

theorem col_apply (r : Fin 512) : col x4 (ix2 r 0) = x4 (ix2 r 0) := by
  refine congrArg x4 (funext fun a => ?_)
  fin_cases a
  · exact Fin.ext (by show 0 + 1 * r.val = r.val; omega)
  · rfl

theorem one_eq : one x0 = x0 (ix2 0 0) := by
  refine congrArg x0 (funext fun a => ?_)
  fin_cases a <;> rfl

theorem g0_eq : g0 x0 x3 x4 x6 = cut 0 (by decide) (pre x3 x4 x6 x0) := by
  funext y
  unfold g0 cut pre
  unfold_payloads
  pointwise [dot_S512x2560_S2560x256_S512x256_1_0_0_1_n_n]
  exact congrArg₂ (· * ·) (congrArg (_ * ·) (col_apply x4 (y 0))) (one_eq x0)

theorem g1_eq : g1 x0 x3 x4 x6 = cut 256 (by decide) (pre x3 x4 x6 x0) := by
  funext y
  unfold g1 cut pre
  unfold_payloads
  pointwise [dot_S512x2560_S2560x256_S512x256_1_0_0_1_n_n]
  exact congrArg₂ (· * ·) (congrArg (_ * ·) (col_apply x4 (y 0))) (one_eq x0)

theorem g2_eq : g2 x0 x3 x4 x6 = cut 512 (by decide) (pre x3 x4 x6 x0) := by
  funext y
  unfold g2 cut pre
  unfold_payloads
  pointwise [dot_S512x2560_S2560x256_S512x256_1_0_0_1_n_n]
  exact congrArg₂ (· * ·) (congrArg (_ * ·) (col_apply x4 (y 0))) (one_eq x0)

theorem u0_eq : u0 x1 x3 x4 x7 = cut 0 (by decide) (pre x3 x4 x7 x1) := by
  funext y
  unfold u0 cut pre
  unfold_payloads
  pointwise [dot_S512x2560_S2560x256_S512x256_1_0_0_1_n_n]
  exact congrArg₂ (· * ·) (congrArg (_ * ·) (col_apply x4 (y 0))) (one_eq x1)

theorem u1_eq : u1 x1 x3 x4 x7 = cut 256 (by decide) (pre x3 x4 x7 x1) := by
  funext y
  unfold u1 cut pre
  unfold_payloads
  pointwise [dot_S512x2560_S2560x256_S512x256_1_0_0_1_n_n]
  exact congrArg₂ (· * ·) (congrArg (_ * ·) (col_apply x4 (y 0))) (one_eq x1)

theorem u2_eq : u2 x1 x3 x4 x7 = cut 512 (by decide) (pre x3 x4 x7 x1) := by
  funext y
  unfold u2 cut pre
  unfold_payloads
  pointwise [dot_S512x2560_S2560x256_S512x256_1_0_0_1_n_n]
  exact congrArg₂ (· * ·) (congrArg (_ * ·) (col_apply x4 (y 0))) (one_eq x1)

theorem d0_eq : d0 x2 x5 x8 = cut 0 (by decide) (grad x5 x8 x2) := by
  funext y
  unfold d0 cut grad
  unfold_payloads
  pointwise [dot_S512x2560_S256x2560_S512x256_1_1_0_0_n_n]
  exact congrArg (_ * ·) (one_eq x2)

theorem d1_eq : d1 x2 x5 x8 = cut 256 (by decide) (grad x5 x8 x2) := by
  funext y
  unfold d1 cut grad
  unfold_payloads
  pointwise [dot_S512x2560_S256x2560_S512x256_1_1_0_0_n_n]
  exact congrArg (_ * ·) (one_eq x2)

theorem d2_eq : d2 x2 x5 x8 = cut 512 (by decide) (grad x5 x8 x2) := by
  funext y
  unfold d2 cut grad
  unfold_payloads
  pointwise [dot_S512x2560_S256x2560_S512x256_1_1_0_0_n_n]
  exact congrArg (_ * ·) (one_eq x2)

/-- Three cuts of a block stored side by side are the block. -/
theorem canon_tiles (G : Vec Ideal S512x768 .f32) : View.canon (tiles (cut 0 (by decide) G) (cut 256 (by decide) G) (cut 512 (by decide) G)) = G := by
  funext y
  refine View.canon_apply_of_pieces G _ ?_ y (tiles_cover _ _ _ y)
  unfold tiles
  simp only [List.forall_mem_cons, List.not_mem_nil, IsEmpty.forall_iff, implies_true, and_true]
  refine ⟨?_, ?_, ?_⟩ <;> intro x <;>
    exact congrArg G (funext fun a => by
      fin_cases a
      · exact Fin.ext ((Rect.idx_unit_val _ _ _ x 0).trans (Nat.zero_add _)).symm
      · exact Fin.ext (Rect.idx_unit_val _ _ _ x 1).symm)

theorem gOut_eq : gOut x0 x3 x4 x6 = pre x3 x4 x6 x0 := by
  unfold gOut; rw [g0_eq, g1_eq, g2_eq, canon_tiles]
theorem uOut_eq : uOut x1 x3 x4 x7 = pre x3 x4 x7 x1 := by
  unfold uOut; rw [u0_eq, u1_eq, u2_eq, canon_tiles]
theorem dOut_eq : dOut x2 x5 x8 = grad x5 x8 x2 := by
  unfold dOut; rw [d0_eq, d1_eq, d2_eq, canon_tiles]

/-- Squared relu of the gate times the up projection. -/
def act (G U : Vec Ideal S512x768 .f32) : Vec Ideal S512x768 .f32 := fun y => max (G y) 0 * max (G y) 0 * U y

/-- Entry `(r, 128 c + l)` of a block. -/
def lane (r : Fin 512) (l : Fin 128) (c : Fin 6) : S512x768.Idx :=
  ix2 r ⟨128 * c.val + l.val, by have := c.isLt; have := l.isLt; omega⟩

/-- The three statistics of one point's block, lane by lane: squares summed, the largest magnitude, the weighted sum. -/
def sqs (G U : Vec Ideal S512x768 .f32) (y : S512x128.Idx) : EReal :=
  ∑ c : Fin 6, act G U (lane (y 0) (y 1) c) * act G U (lane (y 0) (y 1) c)
def mags (G U : Vec Ideal S512x768 .f32) (w : Vec Ideal S1x768 .f32) (y : S512x128.Idx) (c : Fin 6) : EReal :=
  FloatOps.absf (F := Ideal) (φ := .f32) (act G U (lane (y 0) (y 1) c) * w (ix2 0 (lane (y 0) (y 1) c 1)))
def dots (G U E : Vec Ideal S512x768 .f32) (w : Vec Ideal S1x768 .f32) (y : S512x128.Idx) : EReal :=
  ∑ c : Fin 6, E (lane (y 0) (y 1) c) * (act G U (lane (y 0) (y 1) c) * w (ix2 0 (lane (y 0) (y 1) c 1)))

theorem pay1_cut (G U : Vec Ideal S512x768 .f32) (o : ℕ) (h) : k0_pay1 (cut o h G) (cut o h U) = cut o h (act G U) := by
  funext y
  unfold k0_pay1 cut act
  pointwise []
theorem pay22_cut (G U : Vec Ideal S512x768 .f32) (o : ℕ) (h) : k0_pay22 (cut o h G) (cut o h U) = cut o h (act G U) := by
  funext y
  unfold k0_pay22 cut act
  pointwise []
theorem pay30_cut (G : Vec Ideal S512x768 .f32) :
    k0_pay30 (col x4) (cut 256 (by decide) G) (k0_pay16 x3) (View.ld x7 (Rect.unit ![0, 256] ![2560, 256] inb_S2560x768_S2560x256_0_256)) (one x1)
      = cut 256 (by decide) (act G (pre x3 x4 x7 x1)) := by
  unfold k0_pay30
  rw [show k0_pay28 (col x4) (k0_pay16 x3) (View.ld x7 (Rect.unit ![0, 256] ![2560, 256] inb_S2560x768_S2560x256_0_256)) (one x1) = u1 x1 x3 x4 x7 from rfl,
    u1_eq]
  generalize pre x3 x4 x7 x1 = U
  funext y
  unfold cut act
  pointwise []

theorem rowA0_eq (y : S512x128.Idx) : rowA0 x0 x1 x3 x4 x6 x7 y = sqs (pre x3 x4 x6 x0) (pre x3 x4 x7 x1) y := by
  unfold rowA0 part0 k0_pay6 k0_pay3 k0_pay32 k0_pay24 k0_pay17
  rw [g0_eq, g1_eq, g2_eq, u0_eq, u2_eq, pay1_cut, pay22_cut, pay30_cut]
  unfold sqs
  generalize act (pre x3 x4 x6 x0) (pre x3 x4 x7 x1) = A
  unfold cut lane
  rw [Fin.sum_univ_six]
  pointwise []
  simp only [← Nat.add_assoc, Nat.reduceAdd, add_assoc]

theorem rowB0_eq (p : Vec Ideal S512x128 .f32) (y : S512x128.Idx) :
    rowB0 x0 x1 x3 x4 x6 x7 p y = p y + sqs (pre x3 x4 x6 x0) (pre x3 x4 x7 x1) y := by
  rw [← rowA0_eq]
  unfold rowA0 rowB0 k0_pay6 k0_pay9
  pointwise []

theorem forall6 {P : Fin 6 → Prop} : (∀ c, P c) ↔ P 0 ∧ P 1 ∧ P 2 ∧ P 3 ∧ P 4 ∧ P 5 :=
  ⟨fun h => ⟨h 0, h 1, h 2, h 3, h 4, h 5⟩, fun h c => by
    obtain ⟨h0, h1, h2, h3, h4, h5⟩ := h
    fin_cases c <;> assumption⟩

theorem rowA1_eq (y : S512x128.Idx) (b : EReal) : rowA1 x0 x1 x3 x4 x6 x7 x9 y ≤ b ↔
    0 ≤ b ∧ ∀ c, mags (pre x3 x4 x6 x0) (pre x3 x4 x7 x1) x9 y c ≤ b := by
  unfold rowA1 part1 k0_pay7 k0_pay4 k0_pay2 k0_pay33 k0_pay31 k0_pay25 k0_pay23 k0_pay17
  rw [g0_eq, g1_eq, g2_eq, u0_eq, u2_eq, pay1_cut, pay22_cut, pay30_cut]
  unfold mags
  generalize act (pre x3 x4 x6 x0) (pre x3 x4 x7 x1) = A
  unfold cut lane
  rw [forall6]
  pointwise []
  simp only [← Nat.add_assoc, Nat.reduceAdd, max_le_iff, and_assoc]

theorem rowB1_eq (p : Vec Ideal S512x128 .f32) (y : S512x128.Idx) :
    rowB1 x0 x1 x3 x4 x6 x7 x9 p y = max (p y) (rowA1 x0 x1 x3 x4 x6 x7 x9 y) := by
  unfold rowA1 rowB1 k0_pay7 k0_pay10
  pointwise []

theorem rowA2_eq (y : S512x128.Idx) : rowA2 x0 x1 x2 x3 x4 x5 x6 x7 x8 x9 y
    = dots (pre x3 x4 x6 x0) (pre x3 x4 x7 x1) (grad x5 x8 x2) x9 y := by
  unfold rowA2 part2 k0_pay8 k0_pay5 k0_pay2 k0_pay34 k0_pay31 k0_pay26 k0_pay23 k0_pay17
  rw [show k0_pay21 (k0_pay20 x5 (View.ld x8 (Rect.unit ![0, 0] ![256, 2560] inb_S768x2560_S256x2560_0_0))) (one x2) = d0 x2 x5 x8 from rfl]
  rw [g0_eq, g1_eq, g2_eq, u0_eq, u2_eq, d0_eq, d1_eq, d2_eq, pay1_cut, pay22_cut, pay30_cut]
  unfold dots
  generalize act (pre x3 x4 x6 x0) (pre x3 x4 x7 x1) = A
  generalize grad x5 x8 x2 = E
  unfold cut lane
  rw [Fin.sum_univ_six]
  pointwise []
  simp only [← Nat.add_assoc, Nat.reduceAdd, add_assoc]

theorem rowB2_eq (p : Vec Ideal S512x128 .f32) (y : S512x128.Idx) :
    rowB2 x0 x1 x2 x3 x4 x5 x6 x7 x8 x9 p y = p y + rowA2 x0 x1 x2 x3 x4 x5 x6 x7 x8 x9 y := by
  unfold rowA2 rowB2 k0_pay8 k0_pay11
  pointwise []

end

end Cert.Proof.Up

end
-- ==== Proof.UpWhole.lean ====
/- The up call's whole arrays: what its blocks are blocks of. -/
module

public import proofs.«01_k».proof.Proof.UpIdealFrame
public import proofs.«01_k».proof.Proof.UpBlock
public import proofs.«01_k».proof.Proof.Extended
public import Idealize.ShloMosaic.Lib.Pipeline.ValueKit
public import Idealize.ShloMosaic.Lib.Pipeline.ReadBack

@[expose] public section

noncomputable section

namespace Cert.Proof.Up

open Cert.UpIdeal Cert.UpIdeal.Gen Idealize.ShloMosaic Idealize.ShloMosaic.TcCoe Idealize.SL.Sem
open scoped BigOperators

/-- Codes times codes, times the row scale and the weight scale, for all rows and columns. -/
def Pre (Q : Vec Ideal S4096x2560 .i8) (s : Vec Ideal S4096x128 .f32) (W : Vec Ideal S2560x6912 .i8) (z : Vec Ideal S1x1 .f32) :
    Vec Ideal S4096x6912 .f32 :=
  fun y => (∑ k : Fin 2560, FloatOps.sitofp (F := Ideal) .bf16 (Q (ix2 (y 0) k)) * FloatOps.sitofp (F := Ideal) .bf16 (W (ix2 k (y 1))))
    * s (ix2 (y 0) 0) * z (ix2 0 0)

/-- The gradient of the inner layer's output, for all rows and columns. -/
def Grad (d : Vec Ideal S4096x2560 .bf16) (W : Vec Ideal S6912x2560 .i8) (z : Vec Ideal S1x1 .f32) : Vec Ideal S4096x6912 .f32 :=
  fun y => (∑ k : Fin 2560, d (ix2 (y 0) k) * FloatOps.sitofp (F := Ideal) .bf16 (W (ix2 (y 1) k))) * z (ix2 0 0)

/-- Squared relu of the gate times the up projection. -/
def Act (G U : Vec Ideal S4096x6912 .f32) : Vec Ideal S4096x6912 .f32 := fun y => max (G y) 0 * max (G y) 0 * U y

/-- The inverse root mean square of row `r`. -/
def rms (A : Vec Ideal S4096x6912 .f32) (r : Fin 4096) : EReal :=
  inverse 6912 (Ideal.ofBits .f32 0x3727C5AC#32) (∑ f : Fin 6912, A (ix2 r f) * A (ix2 r f))

/-- The largest magnitude of row `r` after the norm. -/
def peak (A : Vec Ideal S4096x6912 .f32) (w : Vec Ideal S1x6912 .f32) (r : Fin 4096) : EReal :=
  Finset.univ.fold max ⊥ fun f : Fin 6912 => FloatOps.absf (F := Ideal) (φ := .f32) (A (ix2 r f) * rms A r * w (ix2 0 f))

/-- The weighted mean row `r`'s norm gradient subtracts. -/
def mean (A E : Vec Ideal S4096x6912 .f32) (w : Vec Ideal S1x6912 .f32) (r : Fin 4096) : EReal :=
  Ideal.div (∑ f : Fin 6912, E (ix2 r f) * w (ix2 0 f) * (A (ix2 r f) * rms A r)) ((6912 : ℝ) : EReal)

/-- The three statistics, each repeated over 128 lanes. -/
def Rms (A : Vec Ideal S4096x6912 .f32) : Vec Ideal S4096x128 .f32 := fun y => rms A (y 0)
def Scale (A : Vec Ideal S4096x6912 .f32) (w : Vec Ideal S1x6912 .f32) : Vec Ideal S4096x128 .f32 :=
  fun y => if peak A w (y 0) = 0 then 1 else Ideal.div (peak A w (y 0)) (Ideal.ofBits .f32 0x42FE0000#32)
def Mean (A E : Vec Ideal S4096x6912 .f32) (w : Vec Ideal S1x6912 .f32) : Vec Ideal S4096x128 .f32 := fun y => mean A E w (y 0)

/-- The block numbers of the windows at a grid point. -/
theorem ix0_ : ∀ t : Fin cfg0.N, win0_0.index t = ![0, 0] := (by decide +kernel : ∀ t : Fin grid0.N, _)
theorem ix1_ : ∀ t : Fin cfg0.N, win0_1.index t = ![0, 0] := (by decide +kernel : ∀ t : Fin grid0.N, _)
theorem ix2_ : ∀ t : Fin cfg0.N, win0_2.index t = ![0, 0] := (by decide +kernel : ∀ t : Fin grid0.N, _)
theorem ix3_ : ∀ t : Fin cfg0.N, win0_3.index t = ![t.val % 8, 0] := (by decide +kernel : ∀ t : Fin grid0.N, _)
theorem ix4_ : ∀ t : Fin cfg0.N, win0_4.index t = ![t.val % 8, 0] := (by decide +kernel : ∀ t : Fin grid0.N, _)
theorem ix5_ : ∀ t : Fin cfg0.N, win0_5.index t = ![t.val % 8, 0] := (by decide +kernel : ∀ t : Fin grid0.N, _)
theorem ix6_ : ∀ t : Fin cfg0.N, win0_6.index t = ![0, t.val / 8] := (by decide +kernel : ∀ t : Fin grid0.N, _)
theorem ix7_ : ∀ t : Fin cfg0.N, win0_7.index t = ![0, t.val / 8] := (by decide +kernel : ∀ t : Fin grid0.N, _)
theorem ix8_ : ∀ t : Fin cfg0.N, win0_8.index t = ![t.val / 8, 0] := (by decide +kernel : ∀ t : Fin grid0.N, _)
theorem ix9_ : ∀ t : Fin cfg0.N, win0_9.index t = ![0, t.val / 8] := (by decide +kernel : ∀ t : Fin grid0.N, _)
theorem ix10_ : ∀ t : Fin cfg0.N, win0_10.index t = ![t.val % 8, t.val / 8] := (by decide +kernel : ∀ t : Fin grid0.N, _)
theorem ix11_ : ∀ t : Fin cfg0.N, win0_11.index t = ![t.val % 8, t.val / 8] := (by decide +kernel : ∀ t : Fin grid0.N, _)
theorem ix12_ : ∀ t : Fin cfg0.N, win0_12.index t = ![t.val % 8, t.val / 8] := (by decide +kernel : ∀ t : Fin grid0.N, _)

variable (m : (ℓ : Loc nD τ sig) → Buf (Elt Ideal) ℓ)

/-- Column `n` of row `r`, for any number `n`. -/
def entry (A : Vec Ideal S4096x6912 .f32) (r : Fin 4096) (n : ℕ) : EReal := A (ix2 r ⟨n % 6912, Nat.mod_lt _ (by norm_num)⟩)
def weight (w : Vec Ideal S1x6912 .f32) (n : ℕ) : EReal := w (ix2 0 ⟨n % 6912, Nat.mod_lt _ (by norm_num)⟩)

/-- The row of the whole array that row `r` of point `t`'s block is. -/
def rowOf (t : Fin cfg0.N) (r : Fin 512) : Fin 4096 := ⟨512 * (t.val % 8) + r.val, by have := r.isLt; have := Nat.mod_lt t.val (show 0 < 8 by norm_num); omega⟩

/-- The whole arrays on device `c`. -/
abbrev Gw (c : Dev nD) := Pre (m ((c : Thread nD τ).loc main_arg3)) (m ((c : Thread nD τ).loc main_arg4)) (m ((c : Thread nD τ).loc main_arg6)) (m ((c : Thread nD τ).loc main_arg0))
abbrev Uw (c : Dev nD) := Pre (m ((c : Thread nD τ).loc main_arg3)) (m ((c : Thread nD τ).loc main_arg4)) (m ((c : Thread nD τ).loc main_arg7)) (m ((c : Thread nD τ).loc main_arg1))
abbrev Ew (c : Dev nD) := Grad (m ((c : Thread nD τ).loc main_arg5)) (m ((c : Thread nD τ).loc main_arg8)) (m ((c : Thread nD τ).loc main_arg2))
/-- Their blocks at point `t`. -/
abbrev gB (c : Dev nD) (t : Fin cfg0.N) := pre (iblk m c 3 t) (iblk m c 4 t) (iblk m c 6 t) (iblk m c 0 t)
abbrev uB (c : Dev nD) (t : Fin cfg0.N) := pre (iblk m c 3 t) (iblk m c 4 t) (iblk m c 7 t) (iblk m c 1 t)
abbrev eB (c : Dev nD) (t : Fin cfg0.N) := grad (iblk m c 5 t) (iblk m c 8 t) (iblk m c 2 t)

theorem mod_eq {t : Fin cfg0.N} (f : Fin 768) : (768 * (t.val / 8) + f.val) % 6912 = 768 * (t.val / 8) + f.val :=
  Nat.mod_eq_of_lt (by have := f.isLt; have : t.val < 72 := lt_of_lt_of_eq t.isLt N_0; omega)

theorem gB_apply (c : Dev nD) (t : Fin cfg0.N) (y : S512x768.Idx) :
    gB m c t y = entry (Gw m c) (rowOf t (y 0)) (768 * (t.val / 8) + (y 1).val) := by
  have hm := mod_eq (t := t) (y 1)
  unfold gB pre entry Gw Pre rowOf
  refine congrArg₂ (· * ·) (congrArg₂ (· * ·) (Finset.sum_congr rfl fun k _ => ?_) ?_) ?_
  · refine congrArg₂ (· * ·) (congrArg _ ?_) (congrArg _ ?_)
    · blk_ext [iblk, V, ix3_]
    · blk_ext [iblk, V, ix6_, hm]
  · blk_ext [iblk, V, ix4_]
  · blk_ext [iblk, V, ix0_]

theorem uB_apply (c : Dev nD) (t : Fin cfg0.N) (y : S512x768.Idx) :
    uB m c t y = entry (Uw m c) (rowOf t (y 0)) (768 * (t.val / 8) + (y 1).val) := by
  have hm := mod_eq (t := t) (y 1)
  unfold uB pre entry Uw Pre rowOf
  refine congrArg₂ (· * ·) (congrArg₂ (· * ·) (Finset.sum_congr rfl fun k _ => ?_) ?_) ?_
  · refine congrArg₂ (· * ·) (congrArg _ ?_) (congrArg _ ?_)
    · blk_ext [iblk, V, ix3_]
    · blk_ext [iblk, V, ix7_, hm]
  · blk_ext [iblk, V, ix4_]
  · blk_ext [iblk, V, ix1_]

theorem eB_apply (c : Dev nD) (t : Fin cfg0.N) (y : S512x768.Idx) :
    eB m c t y = entry (Ew m c) (rowOf t (y 0)) (768 * (t.val / 8) + (y 1).val) := by
  have hm := mod_eq (t := t) (y 1)
  unfold eB grad entry Ew Grad rowOf
  refine congrArg₂ (· * ·) (Finset.sum_congr rfl fun k _ => ?_) ?_
  · refine congrArg₂ (· * ·) ?_ (congrArg _ ?_)
    · blk_ext [iblk, V, ix5_]
    · blk_ext [iblk, V, ix8_, hm]
  · blk_ext [iblk, V, ix2_]

theorem w_apply (c : Dev nD) (t : Fin cfg0.N) (f : Fin 768) :
    iblk m c 9 t (ix2 0 f) = weight (m ((c : Thread nD τ).loc main_arg9)) (768 * (t.val / 8) + f.val) := by
  have hm := mod_eq (t := t) f
  unfold weight
  blk_ext [iblk, V, ix9_, hm]

/-- After the grid the first three output arrays are the whole arrays. -/
theorem final10 (c : Dev nD) : (dats m 0 c).arrAt 10 cfg0.N = Gw m c := by
  refine (dats m 0 c).arrAt_eq_of_covers 10 _ (by decide +kernel) fun t hf y => ?_
  blk_simp
  rw [after0_10, gOut_eq]
  refine (gB_apply m c t _).trans ?_
  unfold entry
  refine congrArg (Gw m c) ?_
  have hm := mod_eq (t := t) (y 1)
  blk_ext [rowOf, ix10_, hm]

theorem final11 (c : Dev nD) : (dats m 0 c).arrAt 11 cfg0.N = Uw m c := by
  refine (dats m 0 c).arrAt_eq_of_covers 11 _ (by decide +kernel) fun t hf y => ?_
  blk_simp
  rw [after0_11, uOut_eq]
  refine (uB_apply m c t _).trans ?_
  unfold entry
  refine congrArg (Uw m c) ?_
  have hm := mod_eq (t := t) (y 1)
  blk_ext [rowOf, ix11_, hm]

theorem final12 (c : Dev nD) : (dats m 0 c).arrAt 12 cfg0.N = Ew m c := by
  refine (dats m 0 c).arrAt_eq_of_covers 12 _ (by decide +kernel) fun t hf y => ?_
  blk_simp
  rw [after0_12, dOut_eq]
  refine (eB_apply m c t _).trans ?_
  unfold entry
  refine congrArg (Ew m c) ?_
  have hm := mod_eq (t := t) (y 1)
  blk_ext [rowOf, ix12_, hm]

end Cert.Proof.Up

end
-- ==== Proof.UpStats.lean ====
/- The up call's row statistics: the scratches after the last column step, and the three output arrays made of them. -/
module

public import proofs.«01_k».proof.Proof.UpWhole

@[expose] public section

noncomputable section

namespace Cert.Proof.Up

open Cert.UpIdeal Cert.UpIdeal.Gen Idealize.ShloMosaic Idealize.ShloMosaic.TcCoe Idealize.SL.Sem
open scoped BigOperators

/-- Lanes, column steps and lane groups together run over all columns. -/
theorem regroup (F : ℕ → EReal) :
    ∑ x : Fin 128, ∑ i ∈ Finset.range 9, ∑ c : Fin 6, F (768 * i + (128 * c.val + x.val)) = ∑ f : Fin 6912, F f.val := by
  have h1 (i : ℕ) : ∑ x : Fin 128, ∑ c : Fin 6, F (768 * i + (128 * c.val + x.val)) = ∑ l : Fin 768, F (768 * i + l.val) := by
    rw [Finset.sum_comm, ← Fin.sum_mul_add_fin 6 128 (fun l : Fin 768 => F (768 * i + l.val)) rfl]
    refine Finset.sum_congr rfl fun c _ => Finset.sum_congr rfl fun x _ => ?_
    show F (768 * i + (128 * c.val + x.val)) = F (768 * i + (c.val * 128 + x.val))
    rw [mul_comm 128]
  rw [Finset.sum_comm, Finset.sum_congr rfl fun i _ => h1 i, Finset.sum_range,
    ← Fin.sum_mul_add_fin 9 768 (fun f : Fin 6912 => F f.val) rfl]
  refine Finset.sum_congr rfl fun i _ => Finset.sum_congr rfl fun l _ => ?_
  show F (768 * i.val + l.val) = F (i.val * 768 + l.val)
  rw [mul_comm 768]

/-- A bound for every lane, column step and lane group is a bound for every column. -/
theorem regroup_le (F : ℕ → EReal) (b : EReal) :
    (∀ x : Fin 128, ∀ i < 9, ∀ c : Fin 6, F (768 * i + (128 * c.val + x.val)) ≤ b) ↔ ∀ f : Fin 6912, F f.val ≤ b := by
  constructor
  · intro h f
    have hf := f.isLt
    have := h ⟨f.val % 128, Nat.mod_lt _ (by norm_num)⟩ (f.val / 768) (by omega) ⟨f.val % 768 / 128, by omega⟩
    rwa [show 768 * (f.val / 768) + (128 * (f.val % 768 / 128) + f.val % 128) = f.val by omega] at this
  · intro h x i hi c
    exact h ⟨768 * i + (128 * c.val + x.val), by have := x.isLt; have := c.isLt; omega⟩

variable (m : (ℓ : Loc nD τ sig) → Buf (Elt Ideal) ℓ)

/-- The activation on device `c`, and the norm's weight. -/
abbrev Aw (c : Dev nD) := Act (Gw m c) (Uw m c)
abbrev Ww (c : Dev nD) : Vec Ideal S1x6912 .f32 := m ((c : Thread nD τ).loc main_arg9)

theorem act_apply (c : Dev nD) (t : Fin cfg0.N) (y : S512x768.Idx) :
    act (gB m c t) (uB m c t) y = entry (Aw m c) (rowOf t (y 0)) (768 * (t.val / 8) + (y 1).val) := by
  unfold act
  rw [gB_apply, uB_apply]
  rfl

theorem pt_mod {i k : ℕ} (hi : i < 9) (hk : k < 8) : (pt (8 * i + k)).val % 8 = k := by
  show (8 * i + k) % 72 % 8 = k
  omega
theorem pt_div {i k : ℕ} (hi : i < 9) (hk : k < 8) : (pt (8 * i + k)).val / 8 = i := by
  show (8 * i + k) % 72 / 8 = i
  omega

/-- The row of the whole array that row `r` of row block `k` is. -/
def rowK (k : Fin 8) (r : Fin 512) : Fin 4096 := ⟨512 * k.val + r.val, by have := r.isLt; have := k.isLt; omega⟩

theorem rowOf_pt {i : ℕ} (hi : i < 9) (k : Fin 8) (r : Fin 512) : rowOf (pt (8 * i + k.val)) r = rowK k r :=
  Fin.ext (by show 512 * ((pt (8 * i + k.val)).val % 8) + r.val = 512 * k.val + r.val; rw [pt_mod hi k.isLt])

theorem act_pt (c : Dev nD) {i : ℕ} (hi : i < 9) (k : Fin 8) (r : Fin 512) (x : Fin 128) (l : Fin 6) :
    act (gB m c (pt (8 * i + k.val))) (uB m c (pt (8 * i + k.val))) (lane r x l) = entry (Aw m c) (rowK k r) (768 * i + (128 * l.val + x.val)) := by
  rw [act_apply, pt_div hi k.isLt]
  exact congrArg (fun R => entry (Aw m c) R (768 * i + (128 * l.val + x.val))) (rowOf_pt hi k r)

theorem eB_pt (c : Dev nD) {i : ℕ} (hi : i < 9) (k : Fin 8) (r : Fin 512) (x : Fin 128) (l : Fin 6) :
    eB m c (pt (8 * i + k.val)) (lane r x l) = entry (Ew m c) (rowK k r) (768 * i + (128 * l.val + x.val)) := by
  rw [eB_apply, pt_div hi k.isLt]
  exact congrArg (fun R => entry (Ew m c) R (768 * i + (128 * l.val + x.val))) (rowOf_pt hi k r)

theorem w_pt (c : Dev nD) {i : ℕ} (hi : i < 9) (k : Fin 8) (r : Fin 512) (x : Fin 128) (l : Fin 6) :
    iblk m c 9 (pt (8 * i + k.val)) (ix2 0 (lane r x l 1)) = weight (Ww m c) (768 * i + (128 * l.val + x.val)) := by
  refine (w_apply m c _ (lane r x l 1)).trans ?_
  rw [pt_div hi k.isLt]
  rfl

/-- The first scratch adds up squares. -/
theorem sum_sq (c : Dev nD) (k : Fin 8) (r : Fin 512) (x : Fin 128) : ∀ j < 9, (rowAt m c k.val j).1 (ix2 r x)
    = ∑ i ∈ Finset.range (j + 1), ∑ l : Fin 6, entry (Aw m c) (rowK k r) (768 * i + (128 * l.val + x.val)) * entry (Aw m c) (rowK k r) (768 * i + (128 * l.val + x.val)) := by
  have hs : ∀ i < 9, sqs (gB m c (pt (8 * i + k.val))) (uB m c (pt (8 * i + k.val))) (ix2 r x)
      = ∑ l : Fin 6, entry (Aw m c) (rowK k r) (768 * i + (128 * l.val + x.val)) * entry (Aw m c) (rowK k r) (768 * i + (128 * l.val + x.val)) := by
    intro i hi
    unfold sqs
    refine Finset.sum_congr rfl fun l _ => ?_
    exact congrArg₂ (· * ·) (act_pt m c hi k r x l) (act_pt m c hi k r x l)
  intro j
  induction j with
  | zero =>
    intro hj
    rw [Finset.sum_range_one, ← hs 0 hj, show pt (8 * 0 + k.val) = pt k.val by rw [Nat.mul_zero, Nat.zero_add]]
    exact rowA0_eq _ _ _ _ _ _ _
  | succ j ih =>
    intro hj
    rw [Finset.sum_range_succ, ← ih (by omega), ← hs (j + 1) hj]
    exact rowB0_eq _ _ _ _ _ _ _ _

/-- The second scratch keeps the largest magnitude. -/
theorem max_abs (c : Dev nD) (k : Fin 8) (r : Fin 512) (x : Fin 128) (b : EReal) : ∀ j < 9, ((rowAt m c k.val j).2.1 (ix2 r x) ≤ b
    ↔ 0 ≤ b ∧ ∀ i < j + 1, ∀ l : Fin 6, FloatOps.absf (F := Ideal) (φ := .f32) (entry (Aw m c) (rowK k r) (768 * i + (128 * l.val + x.val)) * weight (Ww m c) (768 * i + (128 * l.val + x.val))) ≤ b) := by
  have hs : ∀ i < 9, ∀ l : Fin 6, mags (gB m c (pt (8 * i + k.val))) (uB m c (pt (8 * i + k.val))) (iblk m c 9 (pt (8 * i + k.val))) (ix2 r x) l
      = FloatOps.absf (F := Ideal) (φ := .f32) (entry (Aw m c) (rowK k r) (768 * i + (128 * l.val + x.val)) * weight (Ww m c) (768 * i + (128 * l.val + x.val))) := by
    intro i hi l
    unfold mags
    exact congrArg _ (congrArg₂ (· * ·) (act_pt m c hi k r x l) (w_pt m c hi k r x l))
  intro j
  induction j with
  | zero =>
    intro hj
    refine (rowA1_eq _ _ _ _ _ _ _ _ _).trans (and_congr_right fun _ => ?_)
    constructor
    · intro h i hi l
      obtain rfl : i = 0 := by omega
      rw [← hs 0 hj l, show pt (8 * 0 + k.val) = pt k.val by rw [Nat.mul_zero, Nat.zero_add]]
      exact h l
    · intro h l
      have := h 0 (by omega) l
      rw [← hs 0 hj l, show pt (8 * 0 + k.val) = pt k.val by rw [Nat.mul_zero, Nat.zero_add]] at this
      exact this
  | succ j ih =>
    intro hj
    rw [show (rowAt m c k.val (j + 1)).2.1 (ix2 r x) = _ from rowB1_eq _ _ _ _ _ _ _ _ _, max_le_iff, rowA1_eq]
    refine (and_congr_left fun _ => ih (by omega)).trans ?_
    constructor
    · rintro ⟨⟨h0, h1⟩, -, h2⟩
      refine ⟨h0, fun i hi l => ?_⟩
      rcases Nat.lt_succ_iff_lt_or_eq.mp hi with h | rfl
      · exact h1 i h l
      · rw [← hs (j + 1) hj l]; exact h2 l
    · rintro ⟨h0, h1⟩
      refine ⟨⟨h0, fun i hi l => h1 i (by omega) l⟩, h0, fun l => ?_⟩
      have := h1 (j + 1) (by omega) l
      rw [← hs (j + 1) hj l] at this
      exact this

/-- The third scratch adds up the weighted products. -/
theorem sum_dot (c : Dev nD) (k : Fin 8) (r : Fin 512) (x : Fin 128) : ∀ j < 9, (rowAt m c k.val j).2.2 (ix2 r x)
    = ∑ i ∈ Finset.range (j + 1), ∑ l : Fin 6, entry (Ew m c) (rowK k r) (768 * i + (128 * l.val + x.val))
        * (entry (Aw m c) (rowK k r) (768 * i + (128 * l.val + x.val)) * weight (Ww m c) (768 * i + (128 * l.val + x.val))) := by
  have hs : ∀ i < 9, dots (gB m c (pt (8 * i + k.val))) (uB m c (pt (8 * i + k.val))) (eB m c (pt (8 * i + k.val))) (iblk m c 9 (pt (8 * i + k.val))) (ix2 r x)
      = ∑ l : Fin 6, entry (Ew m c) (rowK k r) (768 * i + (128 * l.val + x.val))
        * (entry (Aw m c) (rowK k r) (768 * i + (128 * l.val + x.val)) * weight (Ww m c) (768 * i + (128 * l.val + x.val))) := by
    intro i hi
    unfold dots
    refine Finset.sum_congr rfl fun l _ => ?_
    exact congrArg₂ (· * ·) (eB_pt m c hi k r x l) (congrArg₂ (· * ·) (act_pt m c hi k r x l) (w_pt m c hi k r x l))
  intro j
  induction j with
  | zero =>
    intro hj
    rw [Finset.sum_range_one, ← hs 0 hj, show pt (8 * 0 + k.val) = pt k.val by rw [Nat.mul_zero, Nat.zero_add]]
    exact rowA2_eq _ _ _ _ _ _ _ _ _ _ _
  | succ j ih =>
    intro hj
    rw [Finset.sum_range_succ, ← ih (by omega), ← hs (j + 1) hj, ← rowA2_eq]
    exact rowB2_eq _ _ _ _ _ _ _ _ _ _ _ _

theorem entry_val (A : Vec Ideal S4096x6912 .f32) (r : Fin 4096) (f : Fin 6912) : entry A r f.val = A (ix2 r f) :=
  congrArg (fun g => A (ix2 r g)) (Fin.ext (Nat.mod_eq_of_lt f.isLt))
theorem weight_val (w : Vec Ideal S1x6912 .f32) (f : Fin 6912) : weight w f.val = w (ix2 0 f) :=
  congrArg (fun g => w (ix2 0 g)) (Fin.ext (Nat.mod_eq_of_lt f.isLt))

theorem total_sq (c : Dev nD) (k : Fin 8) (r : Fin 512) : ∑ x : Fin 128, (rowAt m c k.val 8).1 (ix2 r x)
    = ∑ f : Fin 6912, Aw m c (ix2 (rowK k r) f) * Aw m c (ix2 (rowK k r) f) := by
  rw [Finset.sum_congr rfl fun x _ => sum_sq m c k r x 8 (by norm_num)]
  refine (regroup fun n => entry (Aw m c) (rowK k r) n * entry (Aw m c) (rowK k r) n).trans ?_
  refine Finset.sum_congr rfl fun f _ => ?_
  rw [entry_val]

theorem total_max (c : Dev nD) (k : Fin 8) (r : Fin 512) : (Finset.univ.fold max ⊥ fun x : Fin 128 => (rowAt m c k.val 8).2.1 (ix2 r x))
    = Finset.univ.fold max ⊥ fun f : Fin 6912 => FloatOps.absf (F := Ideal) (φ := .f32) (Aw m c (ix2 (rowK k r) f) * Ww m c (ix2 0 f)) := by
  refine eq_of_forall_ge_iff fun b => ?_
  rw [Finset.fold_max_le, Finset.fold_max_le]
  refine and_congr_right fun _ => ?_
  have hr := regroup_le (fun n => FloatOps.absf (F := Ideal) (φ := .f32) (entry (Aw m c) (rowK k r) n * weight (Ww m c) n)) b
  constructor
  · intro h f _
    have h' := hr.mp (fun x i hi l => ((max_abs m c k r x b 8 (by norm_num)).mp (h x (Finset.mem_univ _))).2 i hi l) f
    rwa [entry_val, weight_val] at h'
  · intro h x _
    have h' : ∀ f : Fin 6912, FloatOps.absf (F := Ideal) (φ := .f32) (entry (Aw m c) (rowK k r) f.val * weight (Ww m c) f.val) ≤ b := by
      intro f
      rw [entry_val, weight_val]
      exact h f (Finset.mem_univ _)
    refine (max_abs m c k r x b 8 (by norm_num)).mpr ⟨(absf_nonneg _).trans (h' 0), fun i hi l => hr.mpr h' x i hi l⟩

theorem total_dot (c : Dev nD) (k : Fin 8) (r : Fin 512) : ∑ x : Fin 128, (rowAt m c k.val 8).2.2 (ix2 r x)
    = ∑ f : Fin 6912, Ew m c (ix2 (rowK k r) f) * (Aw m c (ix2 (rowK k r) f) * Ww m c (ix2 0 f)) := by
  rw [Finset.sum_congr rfl fun x _ => sum_dot m c k r x 8 (by norm_num)]
  refine (regroup fun n => entry (Ew m c) (rowK k r) n * (entry (Aw m c) (rowK k r) n * weight (Ww m c) n)).trans ?_
  refine Finset.sum_congr rfl fun f _ => ?_
  rw [entry_val, entry_val, weight_val]

theorem rms_spec (A : Vec Ideal S4096x6912 .f32) (r : Fin 4096) : 0 ≤ rms A r ∧ rms A r ≠ ⊤ :=
  inverse_spec _ (by norm_num) _ _ lit_eps (Finset.sum_nonneg fun _ _ => sq_nonneg _)

theorem peak_eq (c : Dev nD) (k : Fin 8) (r : Fin 512) : peak (Aw m c) (Ww m c) (rowK k r)
    = (Finset.univ.fold max ⊥ fun x : Fin 128 => (rowAt m c k.val 8).2.1 (ix2 r x)) * rms (Aw m c) (rowK k r) := by
  have h := rms_spec (Aw m c) (rowK k r)
  rw [total_max, fold_mul _ (fun _ => absf_nonneg _) _ h.1]
  unfold peak
  refine congrArg (fun g => Finset.univ.fold max ⊥ g) (funext fun f => ?_)
  rw [absf_mul _ _ h.1, mul_right_comm]

theorem reorder (e a w r : EReal) : e * w * (a * r) = e * (a * w) * r := by
  rw [mul_mul_mul_comm, ← mul_assoc, mul_assoc e a w]

theorem dot_eq (c : Dev nD) (k : Fin 8) (r : Fin 512) :
    ∑ f : Fin 6912, Ew m c (ix2 (rowK k r) f) * Ww m c (ix2 0 f) * (Aw m c (ix2 (rowK k r) f) * rms (Aw m c) (rowK k r))
      = (∑ x : Fin 128, (rowAt m c k.val 8).2.2 (ix2 r x)) * rms (Aw m c) (rowK k r) := by
  have h := rms_spec (Aw m c) (rowK k r)
  rw [total_dot, sum_mul_nonneg _ _ _ h.1 h.2]
  exact Finset.sum_congr rfl fun f _ => reorder _ _ _ _

/-- The three values a row block's last step computes from its scratches. -/
theorem rms_eq (c : Dev nD) (k : Fin 8) (y : S512x128.Idx) : k0_pay13 (rowAt m c k.val 8).1 y = rms (Aw m c) (rowK k (y 0)) := by
  unfold_payloads
  pointwise []
  unfold rms inverse
  rw [← total_sq m c k (y 0), lit_6912]

theorem scale_eq (c : Dev nD) (k : Fin 8) (y : S512x128.Idx) : k0_pay14 (rowAt m c k.val 8).1 (rowAt m c k.val 8).2.1 y
    = if peak (Aw m c) (Ww m c) (rowK k (y 0)) = 0 then 1 else Ideal.div (peak (Aw m c) (Ww m c) (rowK k (y 0))) (Ideal.ofBits .f32 0x42FE0000#32) := by
  rw [peak_eq m c k (y 0)]
  unfold_payloads
  pointwise []
  unfold rms inverse
  rw [← total_sq m c k (y 0), lit_6912, lit_bot]

theorem mean_eq (c : Dev nD) (k : Fin 8) (y : S512x128.Idx) : k0_pay15 (rowAt m c k.val 8).1 (rowAt m c k.val 8).2.2 y
    = mean (Aw m c) (Ew m c) (Ww m c) (rowK k (y 0)) := by
  unfold mean
  rw [dot_eq m c k (y 0)]
  unfold_payloads
  pointwise []
  unfold rms inverse
  rw [← total_sq m c k (y 0), lit_6912]

theorem ix13_ : ∀ t : Fin cfg0.N, (cfg0.win 13).flush t = true → t.val / 8 = 8 := (by decide +kernel : ∀ t : Fin grid0.N, _)
theorem ix14_ : ∀ t : Fin cfg0.N, (cfg0.win 14).flush t = true → t.val / 8 = 8 := (by decide +kernel : ∀ t : Fin grid0.N, _)
theorem ix15_ : ∀ t : Fin cfg0.N, (cfg0.win 15).flush t = true → t.val / 8 = 8 := (by decide +kernel : ∀ t : Fin grid0.N, _)
theorem jx13_ : ∀ t : Fin cfg0.N, win0_13.index t = ![if t.val / 8 = 8 then t.val % 8 else 0, 0] := (by decide +kernel : ∀ t : Fin grid0.N, _)
theorem jx14_ : ∀ t : Fin cfg0.N, win0_14.index t = ![if t.val / 8 = 8 then t.val % 8 else 0, 0] := (by decide +kernel : ∀ t : Fin grid0.N, _)
theorem jx15_ : ∀ t : Fin cfg0.N, win0_15.index t = ![if t.val / 8 = 8 then t.val % 8 else 0, 0] := (by decide +kernel : ∀ t : Fin grid0.N, _)

/-- The row block of a point. -/
def kOf (t : Fin cfg0.N) : Fin 8 := ⟨t.val % 8, Nat.mod_lt _ (by norm_num)⟩

/-- At a point of the last column step the scratches' row block is complete. -/
theorem rowT_last (c : Dev nD) (t : Fin cfg0.N) (h : t.val / 8 = 8) : rowT m c t = rowAt m c (kOf t).val 8 := by
  unfold rowT; rw [h]; rfl

/-- After the grid the last three output arrays are the row statistics. -/
theorem final13 (c : Dev nD) : (dats m 0 c).arrAt 13 cfg0.N = Rms (Aw m c) := by
  refine (dats m 0 c).arrAt_eq_of_covers 13 _ (by decide +kernel) fun t hf y => ?_
  have h8 := ix13_ t hf
  have hx := jx13_ t
  rw [if_pos h8] at hx
  blk_simp
  rw [after0_13, rowT_last m c t h8]
  refine (rms_eq m c (kOf t) _).trans ?_
  show Rms (Aw m c) (ix2 (rowK (kOf t) (y 0)) (y 1)) = _
  refine congrArg (Rms (Aw m c)) ?_
  blk_ext [rowK, kOf, hx]

theorem final14 (c : Dev nD) : (dats m 0 c).arrAt 14 cfg0.N = Scale (Aw m c) (Ww m c) := by
  refine (dats m 0 c).arrAt_eq_of_covers 14 _ (by decide +kernel) fun t hf y => ?_
  have h8 := ix14_ t hf
  have hx := jx14_ t
  rw [if_pos h8] at hx
  blk_simp
  rw [after0_14, rowT_last m c t h8]
  refine (scale_eq m c (kOf t) _).trans ?_
  show Scale (Aw m c) (Ww m c) (ix2 (rowK (kOf t) (y 0)) (y 1)) = _
  refine congrArg (Scale (Aw m c) (Ww m c)) ?_
  blk_ext [rowK, kOf, hx]

theorem final15 (c : Dev nD) : (dats m 0 c).arrAt 15 cfg0.N = Mean (Aw m c) (Ew m c) (Ww m c) := by
  refine (dats m 0 c).arrAt_eq_of_covers 15 _ (by decide +kernel) fun t hf y => ?_
  have h8 := ix15_ t hf
  have hx := jx15_ t
  rw [if_pos h8] at hx
  blk_simp
  rw [after0_15, rowT_last m c t h8]
  refine (mean_eq m c (kOf t) _).trans ?_
  show Mean (Aw m c) (Ew m c) (Ww m c) (ix2 (rowK (kOf t) (y 0)) (y 1)) = _
  refine congrArg (Mean (Aw m c) (Ew m c) (Ww m c)) ?_
  blk_ext [rowK, kOf, hx]

end Cert.Proof.Up

end
-- ==== Proof.UpRef.lean ====
/- The up reference's results, entry by entry. -/
module

public import proofs.«01_k».proof.Proof.UpWhole
public import proofs.«01_k».proof.Proof.Gen.RefUpIdeal.Read

@[expose] public section

noncomputable section

namespace Cert.Proof.Up

open Cert.RefUpIdeal Cert.RefUpIdeal.Read Idealize.ShloMosaic Idealize.ShloMosaic.TcCoe Idealize.SL.Sem
open scoped BigOperators

variable (x0 x1 x2 : Vec Ideal S1x1 .f32) (x3 : Vec Ideal S4096x2560 .i8) (x4 : Vec Ideal S4096x128 .f32) (x5 : Vec Ideal S4096x2560 .bf16)
  (x6 x7 : Vec Ideal S2560x6912 .i8) (x8 : Vec Ideal S6912x2560 .i8) (x9 : Vec Ideal S1x6912 .f32)

theorem ref11 : val_main_v11 x0 x3 x4 x6 = Pre x3 x4 x6 x0 := by
  funext y
  pointwise [val_main_v11, val_main_v10, val_main_v9, val_main_v8, val_main_v7, val_main_v6, val_main_v5, val_main_v4, val_main_v3,
    val_main_v2, val_main_v1, val_main_v0]
  unfold Pre
  exact congrArg₂ (· * ·) (congrArg₂ (· * ·) (Finset.sum_congr rfl fun k _ => congrArg₂ (· * ·) (sitofp_ext _ _ _) (sitofp_ext _ _ _)) rfl) rfl

theorem ref19 : val_main_v19 x1 x3 x4 x7 = Pre x3 x4 x7 x1 := by
  funext y
  pointwise [val_main_v19, val_main_v18, val_main_v17, val_main_v16, val_main_v15, val_main_v14, val_main_v13, val_main_v12, val_main_v3,
    val_main_v2, val_main_v1, val_main_v0]
  unfold Pre
  exact congrArg₂ (· * ·) (congrArg₂ (· * ·) (Finset.sum_congr rfl fun k _ => congrArg₂ (· * ·) (sitofp_ext _ _ _) (sitofp_ext _ _ _)) rfl) rfl

theorem ref50 : val_main_v50 x2 x5 x8 = Grad x5 x8 x2 := by
  funext y
  pointwise [val_main_v50, val_main_v49, val_main_v48, val_main_v47, val_main_v46, val_main_v45]
  unfold Grad
  exact congrArg₂ (· * ·) (Finset.sum_congr rfl fun k _ => congrArg₂ (· * ·) rfl (sitofp_ext _ _ _)) rfl

theorem ref22 : val_main_v22 x0 x1 x3 x4 x6 x7 = Act (Pre x3 x4 x6 x0) (Pre x3 x4 x7 x1) := by
  unfold val_main_v22 val_main_v21 val_main_v20
  rw [ref11, ref19]
  generalize Pre x3 x4 x6 x0 = G
  generalize Pre x3 x4 x7 x1 = U
  funext y
  unfold Act
  pointwise [val_main_call0_v0, val_main_call0_cst]

theorem ref32 (r : Fin 4096) : val_main_v32 x0 x1 x3 x4 x6 x7 (ix2 r 0) = rms (Act (Pre x3 x4 x6 x0) (Pre x3 x4 x7 x1)) r := by
  unfold val_main_v32 val_main_v30 val_main_v29 val_main_v27 val_main_v25 val_main_v24 val_main_v23
  rw [ref22]
  generalize Act (Pre x3 x4 x6 x0) (Pre x3 x4 x7 x1) = A
  pointwise [val_main_v31, val_main_v28, val_main_v26, val_main_cst_2, val_main_cst, val_main_cst_0, val_main_cst_1]
  unfold rms inverse
  rw [lit_6912]

theorem ref34 : val_main_v34 x0 x1 x3 x4 x6 x7 = fun y => Act (Pre x3 x4 x6 x0) (Pre x3 x4 x7 x1) y * rms (Act (Pre x3 x4 x6 x0) (Pre x3 x4 x7 x1)) (y 0) := by
  funext y
  rw [val_main_v34_apply, val_main_v33_apply, ref22]
  refine congrArg₂ (· * ·) rfl (Eq.trans (congrArg _ ?_) (ref32 _ _ _ _ _ _ (y 0)))
  funext a; fin_cases a <;> rfl

theorem ref58 : val_main_v58 x0 x1 x3 x4 x6 x7 = Rms (Act (Pre x3 x4 x6 x0) (Pre x3 x4 x7 x1)) := by
  funext y
  rw [val_main_v58_apply]
  refine Eq.trans (congrArg _ ?_) (ref32 _ _ _ _ _ _ (y 0))
  funext a; fin_cases a <;> rfl

theorem ref39 (r : Fin 4096) : val_main_v39 x0 x1 x3 x4 x6 x7 x9 (ix2 r 0) = peak (Act (Pre x3 x4 x6 x0) (Pre x3 x4 x7 x1)) x9 r := by
  unfold val_main_v39 val_main_v38 val_main_v37 val_main_v36
  rw [ref34]
  generalize Act (Pre x3 x4 x6 x0) (Pre x3 x4 x7 x1) = A
  pointwise [val_main_v35, val_main_cst_3]
  unfold peak
  refine congrArg₂ (fun b g => Finset.univ.fold max b g) lit_bot ?_
  rfl

theorem one_apply (i : S4096x1.Idx) : val_main_call1_v1 (F := Ideal) i = 1 := by
  pointwise [val_main_call1_v1, val_main_call1_v0_apply, val_main_cst_6_apply]

theorem sel (P : EReal) : Scalar.select (FloatOps.cmpf (F := Ideal) (φ := .f32) .oeq P (FloatOps.ofBits (F := Ideal) .f32 0x00000000#32)) (1 : EReal)
      (FloatOps.hostDivf (F := Ideal) (φ := .f32) P (FloatOps.ofBits (F := Ideal) .f32 0x42FE0000#32))
    = if P = 0 then 1 else Ideal.div P (Ideal.ofBits .f32 0x42FE0000#32) := by
  by_cases h : P = 0
  · rw [if_pos h]; pointwise []; simp [h]
  · rw [if_neg h]; pointwise []; simp [h]

theorem ref44 (r : Fin 4096) : val_main_v44 x0 x1 x3 x4 x6 x7 x9 (ix2 r 0)
    = if peak (Act (Pre x3 x4 x6 x0) (Pre x3 x4 x7 x1)) x9 r = 0 then 1
      else Ideal.div (peak (Act (Pre x3 x4 x6 x0) (Pre x3 x4 x7 x1)) x9 r) (Ideal.ofBits .f32 0x42FE0000#32) := by
  have h := ref39 x0 x1 x3 x4 x6 x7 x9 r
  rw [val_main_v44_apply, val_main_v43_apply, val_main_v41_apply, h, one_apply, val_main_v40_apply, val_main_v42_apply]
  exact sel _

theorem ref59 : val_main_v59 x0 x1 x3 x4 x6 x7 x9 = Scale (Act (Pre x3 x4 x6 x0) (Pre x3 x4 x7 x1)) x9 := by
  funext y
  rw [val_main_v59_apply]
  refine Eq.trans (congrArg _ ?_) (ref44 _ _ _ _ _ _ _ (y 0))
  funext a; fin_cases a <;> rfl

theorem ref60 : val_main_v60 x0 x1 x2 x3 x4 x5 x6 x7 x8 x9 = Mean (Act (Pre x3 x4 x6 x0) (Pre x3 x4 x7 x1)) (Grad x5 x8 x2) x9 := by
  funext y
  unfold val_main_v60 val_main_v57 val_main_v55 val_main_v54 val_main_v53 val_main_v52
  rw [ref34, ref50]
  generalize Act (Pre x3 x4 x6 x0) (Pre x3 x4 x7 x1) = A
  generalize Grad x5 x8 x2 = E
  pointwise [val_main_v51, val_main_cst_7, val_main_v56, val_main_cst_8]
  unfold Mean mean
  rw [lit_6912]

end Cert.Proof.Up

end
-- ==== Proof.UpClaim.lean ====
/- The up call and its reference end with the same six arrays, over the extended reals. -/
module

public import proofs.«01_k».proof.Defs
public import proofs.«01_k».proof.Proof.UpStats
public import proofs.«01_k».proof.Proof.UpRef
public import proofs.«01_k».proof.Proof.Gen.UpIdeal
public import proofs.«01_k».proof.Proof.Gen.RefUpIdeal
public import proofs.«01_k».proof.Proof.Gen.RefUpIdeal.Run
public import Idealize.ShloMosaic.Lib.Claim

@[expose] public section

noncomputable section

namespace Cert.Proof.Up

open Idealize.ShloMosaic Idealize.ShloMosaic.TcCoe Idealize.SL.Sem

set_option maxHeartbeats 1000000 in
theorem algebraic : Cert.algebraic_UpIdeal_RefUpIdeal (hUpIdeal := Cert.UpIdeal.Gen.facts)
    (hRefUpIdeal := Cert.RefUpIdeal.Gen.facts) := by
  intro m g m' g' _ hag
  refine ⟨fun c => Gw m c,
    fun c => Uw m c,
    fun c => Ew m c,
    fun c => Rms (Aw m c),
    fun c => Scale (Aw m c) (Ww m c),
    fun c => Mean (Aw m c) (Ew m c) (Ww m c), ?_, ?_⟩
  · refine (θ_run Cert.UpIdeal.defs _ _).mono (fun r h c => ?_) (Cert.UpIdeal.Gen.run_main (F := Ideal) m g)
    exact ⟨((h c).1 10).trans (final10 m c),
      ((h c).1 11).trans (final11 m c),
      ((h c).1 12).trans (final12 m c),
      ((h c).1 13).trans (final13 m c),
      ((h c).1 14).trans (final14 m c),
      ((h c).1 15).trans (final15 m c),
      ((h c).1 0).trans (((Cert.UpIdeal.Gen.dats m 0 c).arrAt_in 0 rfl _).trans ((Cert.UpIdeal.Gen.A_eq m c 0).trans (Cert.UpIdeal.Gen.V_main_arg0 m c))),
      ((h c).1 1).trans (((Cert.UpIdeal.Gen.dats m 0 c).arrAt_in 1 rfl _).trans ((Cert.UpIdeal.Gen.A_eq m c 1).trans (Cert.UpIdeal.Gen.V_main_arg1 m c))),
      ((h c).1 2).trans (((Cert.UpIdeal.Gen.dats m 0 c).arrAt_in 2 rfl _).trans ((Cert.UpIdeal.Gen.A_eq m c 2).trans (Cert.UpIdeal.Gen.V_main_arg2 m c))),
      ((h c).1 3).trans (((Cert.UpIdeal.Gen.dats m 0 c).arrAt_in 3 rfl _).trans ((Cert.UpIdeal.Gen.A_eq m c 3).trans (Cert.UpIdeal.Gen.V_main_arg3 m c))),
      ((h c).1 4).trans (((Cert.UpIdeal.Gen.dats m 0 c).arrAt_in 4 rfl _).trans ((Cert.UpIdeal.Gen.A_eq m c 4).trans (Cert.UpIdeal.Gen.V_main_arg4 m c))),
      ((h c).1 5).trans (((Cert.UpIdeal.Gen.dats m 0 c).arrAt_in 5 rfl _).trans ((Cert.UpIdeal.Gen.A_eq m c 5).trans (Cert.UpIdeal.Gen.V_main_arg5 m c))),
      ((h c).1 6).trans (((Cert.UpIdeal.Gen.dats m 0 c).arrAt_in 6 rfl _).trans ((Cert.UpIdeal.Gen.A_eq m c 6).trans (Cert.UpIdeal.Gen.V_main_arg6 m c))),
      ((h c).1 7).trans (((Cert.UpIdeal.Gen.dats m 0 c).arrAt_in 7 rfl _).trans ((Cert.UpIdeal.Gen.A_eq m c 7).trans (Cert.UpIdeal.Gen.V_main_arg7 m c))),
      ((h c).1 8).trans (((Cert.UpIdeal.Gen.dats m 0 c).arrAt_in 8 rfl _).trans ((Cert.UpIdeal.Gen.A_eq m c 8).trans (Cert.UpIdeal.Gen.V_main_arg8 m c))),
      ((h c).1 9).trans (((Cert.UpIdeal.Gen.dats m 0 c).arrAt_in 9 rfl _).trans ((Cert.UpIdeal.Gen.A_eq m c 9).trans (Cert.UpIdeal.Gen.V_main_arg9 m c)))⟩
  · refine (θ_run Cert.RefUpIdeal.defs _ _).mono (fun r h c => ?_) (Cert.RefUpIdeal.Value.run (F := Ideal) m' g')
    obtain ⟨h0, h1, h2, h3, h4, h5, hs⟩ := h c
    obtain ⟨e0, e1, e2, e3, e4, e5, e6, e7, e8, e9⟩ := hag c
    refine ⟨h0.trans ?_, h1.trans ?_, h2.trans ?_, h3.trans ?_, h4.trans ?_, h5.trans ?_, hs⟩
    · rw [Cert.RefUpIdeal.Read.val_main_v11_eq, e0, e3, e4, e6]
      exact ref11 _ _ _ _
    · rw [Cert.RefUpIdeal.Read.val_main_v19_eq, e1, e3, e4, e7]
      exact ref19 _ _ _ _
    · rw [Cert.RefUpIdeal.Read.val_main_v50_eq, e2, e5, e8]
      exact ref50 _ _ _
    · rw [Cert.RefUpIdeal.Read.val_main_v58_eq, e0, e1, e3, e4, e6, e7]
      exact ref58 _ _ _ _ _ _
    · rw [Cert.RefUpIdeal.Read.val_main_v59_eq, e0, e1, e3, e4, e6, e7, e9]
      exact ref59 _ _ _ _ _ _ _
    · rw [Cert.RefUpIdeal.Read.val_main_v60_eq, e0, e1, e2, e3, e4, e5, e6, e7, e8, e9]
      exact ref60 _ _ _ _ _ _ _ _ _ _

end Cert.Proof.Up

end
-- ==== Proof.DownIdealRunA.lean ====
/- GENERATED, UNTRUSTED: the whole-body RUN of `proofs.«01_k».proof.DownIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.DownIdeal.Frame.Runs

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 taken, `scf.if` 2 not taken: points 0), WITH the
    proof that on whole staging memrefs — the inputs' at their contents, the outputs it leaves idle (19, 20, 21: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole) (hc0 : cond0_0 i) (hc1 : cond0_1 i) (hc2 : ¬cond0_2 i)
    (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) :
    Σ' (L16 : List (View.Piece (Elt F) S512x256 .i8)), Σ' (L17 : List (View.Piece (Elt F) S512x256 .bf16)), Σ' (L18 : List (View.Piece (Elt F) S512x256 .bf16)), Σ' (L19 : List (View.Piece (Elt F) S512x2560 .bf16)), Σ' (L20 : List (View.Piece (Elt F) S512x2560 .bf16)), Σ' (L21 : List (View.Piece (Elt F) S512x128 .f32)), Σ' (L22 : List (View.Piece (Elt F) S8x6912 .f32)), Σ' (L23 : List (View.Piece (Elt F) S8x2560 .f32)), Σ' (LS0 : List (View.Piece (Elt F) S512x2560 .f32)), Σ' (LS1 : List (View.Piece (Elt F) S512x2560 .f32)), { LT2 : List (View.Piece (Elt F) S512x256 .bf16) //
      ∀ (xi19 : Vec F S512x2560 .bf16) (xi20 : Vec F S512x2560 .bf16) (xi21 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xi19 ∗ owns (c : Thread nD τ) arg22 fullShare xi20 ∗ owns (c : Thread nD τ) arg23 fullShare xi21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare xi19 ∗ owns (c : Thread nD τ) arg22 fullShare xi20 ∗ owns (c : Thread nD τ) arg23 fullShare xi21 ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LT2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, [], [], [], ?_, ?_, ?_, ?_, ?_, fun xi19 xi20 xi21 E K => ?run⟩
  case run =>
    simp only [cc0_down_eq_skeleton]; unfold cc0_down_skel
    simp only [k0_part13_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%d22, %f22, -, H22⟩, ⟨%d23, %f23, -, H23⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hf19; obtain rfl := harg22.eq_unread hf20; obtain rfl := harg23.eq_unread hf21
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexists _; iexact H22
    isplitl [H23]; · iexists _; iexact H23
    isplitl [HS0]; · iexists _; iexact HS0
    isplitl [HS1]; · iexists _; iexact HS1
    iexists _; iexact HS2

end Cert.DownIdeal.Gen

end
-- ==== Proof.DownIdealRows.lean ====
/- What one grid point of the down call computes, as functions of its blocks; and the columns of the gamma accumulator that a point replaces. -/
module

public import proofs.«01_k».proof.Proof.Gen.DownIdeal.Skeleton
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks' payloads -/

/-- Column 0 of a block of row statistics, and the one entry of a scalar block. -/
abbrev col (x : Vec F S512x128 .f32) : Vec F S512x1 .f32 := View.ld x (Rect.unit ![0, 0] ![512, 1] inb_S512x128_S512x1_0_0)
abbrev one (x : Vec F S1x1 .f32) : Elt F .f32 := View.ld x (Rect.unit ![0, 0] ![1, 1] inb_S1x1_S1x1_0_0) (Shape.Idx.first (by decide))

/-- The normalised activation, the codes (as stored and as multiplied), and the two gradients of the hidden layer. -/
def n2 (x3 x4 : Vec F S512x256 .f32) (x6 : Vec F S512x128 .f32) : FVec F S512x256 .f32 := k0_pay17 (col x6) x3 x4
def qa (x3 x4 : Vec F S512x256 .f32) (x6 x7 : Vec F S512x128 .f32) (x9 : Vec F S1x256 .f32) : Vec F S512x256 .i8 :=
  k0_pay19 (col x6) (col x7) x9 x3 x4
def q16 (x3 x4 : Vec F S512x256 .f32) (x6 x7 : Vec F S512x128 .f32) (x9 : Vec F S1x256 .f32) : Vec F S512x256 .bf16 :=
  k0_pay24 (k0_pay18 (col x6) (col x7) x9 x3 x4)
def dg (x3 x4 x5 : Vec F S512x256 .f32) (x6 x8 : Vec F S512x128 .f32) (x9 : Vec F S1x256 .f32) : Vec F S512x256 .bf16 :=
  k0_pay23 (col x6) (col x8) x9 (k0_pay15 x3) x4 x5 (n2 x3 x4 x6)
def du (x3 x4 x5 : Vec F S512x256 .f32) (x6 x8 : Vec F S512x128 .f32) (x9 : Vec F S1x256 .f32) : Vec F S512x256 .bf16 :=
  k0_pay22 (col x6) (col x8) x9 x5 (k0_pay16 x3) (n2 x3 x4 x6)

/-- The stores of a step of the output's accumulator: its ten column tiles, the last first, each over what it held. -/
def yTiles (p : Vec F S512x2560 .f32) (q : Vec F S512x256 .bf16) (x12 : Vec F S256x2560 .i8) : List (View.Piece (Elt F) S512x2560 .f32) :=
  [⟨Rect.unit ![0, 2304] ![512, 256] inb_S512x2560_S512x256_0_2304, k0_pay26 (View.ld p (Rect.unit ![0, 2304] ![512, 256] inb_S512x2560_S512x256_0_2304)) q
    (k0_pay25 (View.ld x12 (Rect.unit ![0, 2304] ![256, 256] inb_S256x2560_S256x256_0_2304))) (constant S512x256 .f32 0#32)⟩,
  ⟨Rect.unit ![0, 2048] ![512, 256] inb_S512x2560_S512x256_0_2048, k0_pay26 (View.ld p (Rect.unit ![0, 2048] ![512, 256] inb_S512x2560_S512x256_0_2048)) q
    (k0_pay25 (View.ld x12 (Rect.unit ![0, 2048] ![256, 256] inb_S256x2560_S256x256_0_2048))) (constant S512x256 .f32 0#32)⟩,
  ⟨Rect.unit ![0, 1792] ![512, 256] inb_S512x2560_S512x256_0_1792, k0_pay26 (View.ld p (Rect.unit ![0, 1792] ![512, 256] inb_S512x2560_S512x256_0_1792)) q
    (k0_pay25 (View.ld x12 (Rect.unit ![0, 1792] ![256, 256] inb_S256x2560_S256x256_0_1792))) (constant S512x256 .f32 0#32)⟩,
  ⟨Rect.unit ![0, 1536] ![512, 256] inb_S512x2560_S512x256_0_1536, k0_pay26 (View.ld p (Rect.unit ![0, 1536] ![512, 256] inb_S512x2560_S512x256_0_1536)) q
    (k0_pay25 (View.ld x12 (Rect.unit ![0, 1536] ![256, 256] inb_S256x2560_S256x256_0_1536))) (constant S512x256 .f32 0#32)⟩,
  ⟨Rect.unit ![0, 1280] ![512, 256] inb_S512x2560_S512x256_0_1280, k0_pay26 (View.ld p (Rect.unit ![0, 1280] ![512, 256] inb_S512x2560_S512x256_0_1280)) q
    (k0_pay25 (View.ld x12 (Rect.unit ![0, 1280] ![256, 256] inb_S256x2560_S256x256_0_1280))) (constant S512x256 .f32 0#32)⟩,
  ⟨Rect.unit ![0, 1024] ![512, 256] inb_S512x2560_S512x256_0_1024, k0_pay26 (View.ld p (Rect.unit ![0, 1024] ![512, 256] inb_S512x2560_S512x256_0_1024)) q
    (k0_pay25 (View.ld x12 (Rect.unit ![0, 1024] ![256, 256] inb_S256x2560_S256x256_0_1024))) (constant S512x256 .f32 0#32)⟩,
  ⟨Rect.unit ![0, 768] ![512, 256] inb_S512x2560_S512x256_0_768, k0_pay26 (View.ld p (Rect.unit ![0, 768] ![512, 256] inb_S512x2560_S512x256_0_768)) q
    (k0_pay25 (View.ld x12 (Rect.unit ![0, 768] ![256, 256] inb_S256x2560_S256x256_0_768))) (constant S512x256 .f32 0#32)⟩,
  ⟨Rect.unit ![0, 512] ![512, 256] inb_S512x2560_S512x256_0_512, k0_pay26 (View.ld p (Rect.unit ![0, 512] ![512, 256] inb_S512x2560_S512x256_0_512)) q
    (k0_pay25 (View.ld x12 (Rect.unit ![0, 512] ![256, 256] inb_S256x2560_S256x256_0_512))) (constant S512x256 .f32 0#32)⟩,
  ⟨Rect.unit ![0, 256] ![512, 256] inb_S512x2560_S512x256_0_256, k0_pay26 (View.ld p (Rect.unit ![0, 256] ![512, 256] inb_S512x2560_S512x256_0_256)) q
    (k0_pay25 (View.ld x12 (Rect.unit ![0, 256] ![256, 256] inb_S256x2560_S256x256_0_256))) (constant S512x256 .f32 0#32)⟩,
  ⟨Rect.unit ![0, 0] ![512, 256] inb_S512x2560_S512x256_0_0, k0_pay26 (View.ld p (Rect.unit ![0, 0] ![512, 256] inb_S512x2560_S512x256_0_0)) q
    (k0_pay25 (View.ld x12 (Rect.unit ![0, 0] ![256, 256] inb_S256x2560_S256x256_0_0))) (constant S512x256 .f32 0#32)⟩]

/-- The same for the accumulator of the input's gradient. -/
def xTiles (p : Vec F S512x2560 .f32) (dg du : Vec F S512x256 .bf16) (x10 x11 : Vec F S2560x256 .i8) (s0 s1 : Elt F .f32) :
    List (View.Piece (Elt F) S512x2560 .f32) :=
  [⟨Rect.unit ![0, 2304] ![512, 256] inb_S512x2560_S512x256_0_2304, k0_pay27 (View.ld p (Rect.unit ![0, 2304] ![512, 256] inb_S512x2560_S512x256_0_2304)) dg
    (View.ld x10 (Rect.unit ![2304, 0] ![256, 256] inb_S2560x256_S256x256_2304_0)) s0 du
    (View.ld x11 (Rect.unit ![2304, 0] ![256, 256] inb_S2560x256_S256x256_2304_0)) s1⟩,
  ⟨Rect.unit ![0, 2048] ![512, 256] inb_S512x2560_S512x256_0_2048, k0_pay27 (View.ld p (Rect.unit ![0, 2048] ![512, 256] inb_S512x2560_S512x256_0_2048)) dg
    (View.ld x10 (Rect.unit ![2048, 0] ![256, 256] inb_S2560x256_S256x256_2048_0)) s0 du
    (View.ld x11 (Rect.unit ![2048, 0] ![256, 256] inb_S2560x256_S256x256_2048_0)) s1⟩,
  ⟨Rect.unit ![0, 1792] ![512, 256] inb_S512x2560_S512x256_0_1792, k0_pay27 (View.ld p (Rect.unit ![0, 1792] ![512, 256] inb_S512x2560_S512x256_0_1792)) dg
    (View.ld x10 (Rect.unit ![1792, 0] ![256, 256] inb_S2560x256_S256x256_1792_0)) s0 du
    (View.ld x11 (Rect.unit ![1792, 0] ![256, 256] inb_S2560x256_S256x256_1792_0)) s1⟩,
  ⟨Rect.unit ![0, 1536] ![512, 256] inb_S512x2560_S512x256_0_1536, k0_pay27 (View.ld p (Rect.unit ![0, 1536] ![512, 256] inb_S512x2560_S512x256_0_1536)) dg
    (View.ld x10 (Rect.unit ![1536, 0] ![256, 256] inb_S2560x256_S256x256_1536_0)) s0 du
    (View.ld x11 (Rect.unit ![1536, 0] ![256, 256] inb_S2560x256_S256x256_1536_0)) s1⟩,
  ⟨Rect.unit ![0, 1280] ![512, 256] inb_S512x2560_S512x256_0_1280, k0_pay27 (View.ld p (Rect.unit ![0, 1280] ![512, 256] inb_S512x2560_S512x256_0_1280)) dg
    (View.ld x10 (Rect.unit ![1280, 0] ![256, 256] inb_S2560x256_S256x256_1280_0)) s0 du
    (View.ld x11 (Rect.unit ![1280, 0] ![256, 256] inb_S2560x256_S256x256_1280_0)) s1⟩,
  ⟨Rect.unit ![0, 1024] ![512, 256] inb_S512x2560_S512x256_0_1024, k0_pay27 (View.ld p (Rect.unit ![0, 1024] ![512, 256] inb_S512x2560_S512x256_0_1024)) dg
    (View.ld x10 (Rect.unit ![1024, 0] ![256, 256] inb_S2560x256_S256x256_1024_0)) s0 du
    (View.ld x11 (Rect.unit ![1024, 0] ![256, 256] inb_S2560x256_S256x256_1024_0)) s1⟩,
  ⟨Rect.unit ![0, 768] ![512, 256] inb_S512x2560_S512x256_0_768, k0_pay27 (View.ld p (Rect.unit ![0, 768] ![512, 256] inb_S512x2560_S512x256_0_768)) dg
    (View.ld x10 (Rect.unit ![768, 0] ![256, 256] inb_S2560x256_S256x256_768_0)) s0 du
    (View.ld x11 (Rect.unit ![768, 0] ![256, 256] inb_S2560x256_S256x256_768_0)) s1⟩,
  ⟨Rect.unit ![0, 512] ![512, 256] inb_S512x2560_S512x256_0_512, k0_pay27 (View.ld p (Rect.unit ![0, 512] ![512, 256] inb_S512x2560_S512x256_0_512)) dg
    (View.ld x10 (Rect.unit ![512, 0] ![256, 256] inb_S2560x256_S256x256_512_0)) s0 du
    (View.ld x11 (Rect.unit ![512, 0] ![256, 256] inb_S2560x256_S256x256_512_0)) s1⟩,
  ⟨Rect.unit ![0, 256] ![512, 256] inb_S512x2560_S512x256_0_256, k0_pay27 (View.ld p (Rect.unit ![0, 256] ![512, 256] inb_S512x2560_S512x256_0_256)) dg
    (View.ld x10 (Rect.unit ![256, 0] ![256, 256] inb_S2560x256_S256x256_256_0)) s0 du
    (View.ld x11 (Rect.unit ![256, 0] ![256, 256] inb_S2560x256_S256x256_256_0)) s1⟩,
  ⟨Rect.unit ![0, 0] ![512, 256] inb_S512x2560_S512x256_0_0, k0_pay27 (View.ld p (Rect.unit ![0, 0] ![512, 256] inb_S512x2560_S512x256_0_0)) dg
    (View.ld x10 (Rect.unit ![0, 0] ![256, 256] inb_S2560x256_S256x256_0_0)) s0 du
    (View.ld x11 (Rect.unit ![0, 0] ![256, 256] inb_S2560x256_S256x256_0_0)) s1⟩]

theorem yTiles_cover (p : Vec F S512x2560 .f32) (q : Vec F S512x256 .bf16) (x12 : Vec F S256x2560 .i8) (y : S512x2560.Idx) :
    ∃ w ∈ yTiles p q x12, y ∈ w.1.set :=
  View.cover_of_tiled_head _ _ _ (by sl_kernel_rfl) y

theorem xTiles_cover (p : Vec F S512x2560 .f32) (dg du : Vec F S512x256 .bf16) (x10 x11 : Vec F S2560x256 .i8) (s0 s1 : Elt F .f32)
    (y : S512x2560.Idx) : ∃ w ∈ xTiles p dg du x10 x11 s0 s1, y ∈ w.1.set :=
  View.cover_of_tiled_head _ _ _ (by sl_kernel_rfl) y

section Step
variable (x0 x1 x2 : Vec F S1x1 .f32) (x3 x4 x5 : Vec F S512x256 .f32) (x6 x7 x8 : Vec F S512x128 .f32) (x9 : Vec F S1x256 .f32)
  (x10 x11 : Vec F S2560x256 .i8) (x12 : Vec F S256x2560 .i8) (x13 x14 : Vec F S512x2560 .bf16) (x15 : Vec F S1x2560 .f32)

/-- What the two accumulators hold after a step from `p`. -/
def accY (p : Vec F S512x2560 .f32) : Vec F S512x2560 .f32 := View.canon (yTiles p (q16 x3 x4 x6 x7 x9) x12)
def accX (p : Vec F S512x2560 .f32) : Vec F S512x2560 .f32 :=
  View.canon (xTiles p (dg x3 x4 x5 x6 x8 x9) (du x3 x4 x5 x6 x8 x9) x10 x11 (one x0) (one x1))

end Step

/-- What the last column step writes, from the finished accumulators `ay` and `ax`. -/
def yOut (x2 : Vec F S1x1 .f32) (x7 : Vec F S512x128 .f32) (x13 : Vec F S512x2560 .bf16) (ay : Vec F S512x2560 .f32) : Vec F S512x2560 .bf16 :=
  k0_pay5 (col x7) x13 ay (one x2)
def dxOut (x13 x14 : Vec F S512x2560 .bf16) (x15 : Vec F S1x2560 .f32) (ax : Vec F S512x2560 .f32) : Vec F S512x2560 .bf16 :=
  k0_pay3 (k0_pay6 x13) (k0_pay7 x13) (k0_pay9 ax x15) (k0_pay10 x13 ax x15) x14
def cOut (x13 : Vec F S512x2560 .bf16) (x15 : Vec F S1x2560 .f32) (ax : Vec F S512x2560 .f32) : Vec F S512x128 .f32 :=
  k0_pay2 (k0_pay10 x13 ax x15)

/-! ## Columns of the gamma accumulator -/

/-- Column block `k`: columns `256 k` to `256 k + 255`. -/
def cols (k : Fin 27) (s : Vec F S8x6912 .f32) : Vec F S8x256 .f32 :=
  fun y => s (ix2 (y 0) ⟨256 * k.val + (y 1).val, by have h : (y 1).val < 256 := (y 1).isLt; have := k.isLt; omega⟩)

/-- The accumulator with column block `k` replaced. -/
def setCols (k : Fin 27) (v : Vec F S8x256 .f32) (s : Vec F S8x6912 .f32) : Vec F S8x6912 .f32 :=
  fun y => if h : 256 * k.val ≤ (y 1).val ∧ (y 1).val < 256 * k.val + 256 then v (ix2 (y 0) ⟨(y 1).val - 256 * k.val, by omega⟩) else s y

/-- A load of column block `k`. -/
theorem ld_cols (k : Fin 27) (s : Vec F S8x6912 .f32) {off : Fin 2 → ℕ} (inb) (h : off = ![0, 256 * k.val]) :
    View.ld s (Rect.unit (s := S8x6912) off ![8, 256] inb) = cols k s := by
  subst h
  funext y
  refine congrArg s ?_
  funext a
  fin_cases a
  · exact Fin.ext ((Rect.idx_unit_val _ _ _ y 0).trans (Nat.zero_add _))
  · exact Fin.ext (Rect.idx_unit_val _ _ _ y 1)

/-- A store of column block `k`, read back whole. -/
theorem read_store (v : View sig .tc .vmem S8x6912 .f32) (f : v.ty.Contents (Elt F)) (L : List (View.Piece (Elt F) S8x6912 .f32))
    (s : Vec F S8x6912 .f32) (hs : v.read (Elt F) (v.writes (Elt F) f L) = s) (k : Fin 27) {off : Fin 2 → ℕ} (inb) (w : Vec F S8x256 .f32)
    (h : off = ![0, 256 * k.val]) :
    v.read (Elt F) (v.writes (Elt F) f ((⟨Rect.unit (s := S8x6912) off ![8, 256] inb, w⟩ : View.Piece (Elt F) S8x6912 .f32) :: L))
      = setCols k w s := by
  subst hs
  funext y
  unfold setCols
  split
  · rename_i hy
    exact View.read_writes_cons_unit_of_mem v f inb w L y _ h (Fin.forall_fin_two.mpr
      ⟨(Nat.zero_add _).symm, by show (y 1).val = 256 * k.val + ((y 1).val - 256 * k.val); omega⟩)
  · rename_i hy
    exact View.read_writes_cons_unit_of_not_mem v f inb w L y h 1 (by
      show (y 1).val < 256 * k.val ∨ 256 * k.val + 256 ≤ (y 1).val
      omega)

/-- A zero fill, read back whole. -/
theorem read_fill (v : View sig .tc .vmem S8x6912 .f32) (f : v.ty.Contents (Elt F)) (w : Vec F S8x6912 .f32) :
    v.read (Elt F) (v.writes (Elt F) f [⟨Rect.unit ![0, 0] ![8, 6912] inb_S8x6912_S8x6912_0_0, w⟩]) = w := by
  refine (View.read_writes_eq_canon _ _ _ (fun y => View.cover_of_tiled_head _ _ _ (by sl_kernel_rfl) y)).trans ?_
  simp (disch := decide) only [View.canon_cons_unit_lit']

/-- A whole load of an accumulator its ten tiles cover. -/
theorem readCov_whole (v : View sig .tc .vmem S512x2560 .f32) (L : List (View.Piece (Elt F) S512x2560 .f32)) :
    v.readCov L (Rect.unit ![0, 0] ![512, 2560] inb_S512x2560_S512x2560_0_0).toLoadRect = View.canon L := by
  rw [View.readCov_eq_canon']
  funext y
  refine congrArg (View.canon L) ?_
  funext a
  fin_cases a <;> exact Fin.ext ((Rect.idx_unit_val _ _ _ y _).trans (Nat.zero_add _))

end Cert.DownIdeal.Gen

end
-- ==== Proof.DownIdealTripleA.lean ====
/- The triple of one grid point of the down call, case A, with what it leaves in closed form. -/
module

public import proofs.«01_k».proof.Proof.DownIdealRunA
public import proofs.«01_k».proof.Proof.DownIdealRows

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole)
  (hc0 : cond0_0 i) (hc1 : cond0_1 i) (hc2 : ¬cond0_2 i)
  (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32)

theorem piecesA_16 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15).1 = [⟨Rect.unit ![0, 0] ![512, 256] inb_S512x256_S512x256_0_0, qa x3 x4 x6 x7 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesA_17 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15).2.1 = [⟨Rect.unit ![0, 0] ![512, 256] inb_S512x256_S512x256_0_0, dg x3 x4 x5 x6 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesA_18 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15).2.2.1 = [⟨Rect.unit ![0, 0] ![512, 256] inb_S512x256_S512x256_0_0, du x3 x4 x5 x6 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesA_22 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15).2.2.2.2.2.2.1 = [⟨Rect.unit (s := S8x6912) (k0_off1 i) ![8, 256] (k0_off1_inb i), k0_pay20 x5 (n2 x3 x4 x6) (cols ⟨(i 1).val, (i 1).isLt⟩ k0_pay11)⟩, ⟨Rect.unit ![0, 0] ![8, 6912] inb_S8x6912_S8x6912_0_0, k0_pay11⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [read_fill, ld_cols (F := F) ⟨(i 1).val, (i 1).isLt⟩ k0_pay11 _ (k0_off1_eq i)]
  first | done | rfl

theorem piecesA_23 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15).2.2.2.2.2.2.2.1 = [⟨Rect.unit ![0, 0] ![8, 2560] inb_S8x2560_S8x2560_0_0, k0_pay12⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesA_24 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15).2.2.2.2.2.2.2.2.1 = yTiles (k0_pay13 (F := F)) (q16 x3 x4 x6 x7 x9) x12 ++ [⟨Rect.unit ![0, 0] ![512, 2560] inb_S512x2560_S512x2560_0_0, k0_pay13⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesA_25 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15).2.2.2.2.2.2.2.2.2.1 = xTiles (k0_pay14 (F := F)) (dg x3 x4 x5 x6 x8 x9) (du x3 x4 x5 x6 x8 x9) x10 x11 (one x0) (one x1) ++ [⟨Rect.unit ![0, 0] ![512, 2560] inb_S512x2560_S512x2560_0_0, k0_pay14⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

end

set_option maxHeartbeats 2000000 in
/-- The triple, every written block in closed form. -/
theorem triple_A (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole)
    (hc0 : cond0_0 i) (hc1 : cond0_1 i) (hc2 : ¬cond0_2 i)
    (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32)
    (xi19 : Vec F S512x2560 .bf16) (xi20 : Vec F S512x2560 .bf16) (xi21 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xi19 ∗ owns (c : Thread nD τ) arg22 fullShare xi20 ∗ owns (c : Thread nD τ) arg23 fullShare xi21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (qa x3 x4 x6 x7 x9) ∗ owns (c : Thread nD τ) arg19 fullShare (dg x3 x4 x5 x6 x8 x9) ∗ owns (c : Thread nD τ) arg20 fullShare (du x3 x4 x5 x6 x8 x9) ∗ owns (c : Thread nD τ) arg21 fullShare xi19 ∗ owns (c : Thread nD τ) arg22 fullShare xi20 ∗ owns (c : Thread nD τ) arg23 fullShare xi21 ∗ owns (c : Thread nD τ) arg24 fullShare (setCols ⟨(i 1).val, (i 1).isLt⟩ (k0_pay20 x5 (n2 x3 x4 x6) (cols ⟨(i 1).val, (i 1).isLt⟩ k0_pay11)) k0_pay11) ∗ owns (c : Thread nD τ) arg25 fullShare (k0_pay12) ∗ owns (c : Thread nD τ) arg26 fullShare (accY x3 x4 x6 x7 x9 x12 (k0_pay13 (F := F))) ∗ owns (c : Thread nD τ) arg27 fullShare (accX x0 x1 x3 x4 x5 x6 x8 x9 x10 x11 (k0_pay14 (F := F))) ∗ (∃ d, owns (c : Thread nD τ) arg28 fullShare d)) -∗ K ⟨⟩))
    ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  iintro ⟨H0, H1, H2, H3, H4, H5, H6, H7, H8, H9, H10, H11, H12, H13, H14, H15, H16, H17, H18, H19, H20, H21, H22, H23, HS0, HS1, HS2, Hk⟩
  iapply ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15).2.2.2.2.2.2.2.2.2.2.2 xi19 xi20 xi21 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, H19, H20, H21, ⟨%e22, H22⟩, ⟨%e23, H23⟩, ⟨%e24, HS0⟩, ⟨%e25, HS1⟩, ⟨%e26, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; rw [piecesA_16]; refine (View.read_writes_eq_canon _ _ _ (fun y => View.cover_of_tiled_head _ _ _ (by sl_kernel_rfl) y)).trans ?_; simp (disch := decide) only [View.canon_cons_unit_lit']
  isplitl [H17]
  · unfold owns; iexists _; isplitr
    swap; · iexact H17
    ipureintro; rw [piecesA_17]; refine (View.read_writes_eq_canon _ _ _ (fun y => View.cover_of_tiled_head _ _ _ (by sl_kernel_rfl) y)).trans ?_; simp (disch := decide) only [View.canon_cons_unit_lit']
  isplitl [H18]
  · unfold owns; iexists _; isplitr
    swap; · iexact H18
    ipureintro; rw [piecesA_18]; refine (View.read_writes_eq_canon _ _ _ (fun y => View.cover_of_tiled_head _ _ _ (by sl_kernel_rfl) y)).trans ?_; simp (disch := decide) only [View.canon_cons_unit_lit']
  isplitl [H19]; · iexact H19
  isplitl [H20]; · iexact H20
  isplitl [H21]; · iexact H21
  isplitl [H22]
  · unfold owns; iexists _; isplitr
    swap; · iexact H22
    ipureintro; rw [piecesA_22]; exact read_store _ _ _ _ (read_fill _ _ _) ⟨(i 1).val, (i 1).isLt⟩ _ _ (k0_off1_eq i)
  isplitl [H23]
  · unfold owns; iexists _; isplitr
    swap; · iexact H23
    ipureintro; rw [piecesA_23]; refine (View.read_writes_eq_canon _ _ _ (fun y => View.cover_of_tiled_head _ _ _ (by sl_kernel_rfl) y)).trans ?_; simp (disch := decide) only [View.canon_cons_unit_lit']
  isplitl [HS0]
  · unfold owns; iexists _; isplitr
    swap; · iexact HS0
    ipureintro; rw [piecesA_24, View.writes_append]; exact View.read_writes_eq_canon _ _ _ (yTiles_cover _ _ _)
  isplitl [HS1]
  · unfold owns; iexists _; isplitr
    swap; · iexact HS1
    ipureintro; rw [piecesA_25, View.writes_append]; exact View.read_writes_eq_canon _ _ _ (xTiles_cover _ _ _ _ _ _ _)
  iexists _; unfold owns; iexists _; isplitr
  swap; · iexact HS2
  ipureintro; rfl

end Cert.DownIdeal.Gen

end
-- ==== Proof.DownIdealRunB.lean ====
/- GENERATED, UNTRUSTED: the whole-body RUN of `proofs.«01_k».proof.DownIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.DownIdealRunA

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken, `scf.if` 2 not taken: points 1, 2, … 214: 200 of 216), WITH the
    proof that on whole staging memrefs — the inputs' at their contents, the outputs it reads before covering (22) at their running contents `xo·`, the outputs it leaves idle (19, 20, 21, 23: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole) (hc0 : ¬cond0_0 i) (hc1 : ¬cond0_1 i) (hc2 : ¬cond0_2 i)
    (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32) (xs0 : Vec F S512x2560 .f32) (xs1 : Vec F S512x2560 .f32) :
    Σ' (L16 : List (View.Piece (Elt F) S512x256 .i8)), Σ' (L17 : List (View.Piece (Elt F) S512x256 .bf16)), Σ' (L18 : List (View.Piece (Elt F) S512x256 .bf16)), Σ' (L19 : List (View.Piece (Elt F) S512x2560 .bf16)), Σ' (L20 : List (View.Piece (Elt F) S512x2560 .bf16)), Σ' (L21 : List (View.Piece (Elt F) S512x128 .f32)), Σ' (L22 : List (View.Piece (Elt F) S8x6912 .f32)), Σ' (L23 : List (View.Piece (Elt F) S8x2560 .f32)), Σ' (LS0 : List (View.Piece (Elt F) S512x2560 .f32)), Σ' (LS1 : List (View.Piece (Elt F) S512x2560 .f32)), { LT2 : List (View.Piece (Elt F) S512x256 .bf16) //
      ∀ (xi19 : Vec F S512x2560 .bf16) (xi20 : Vec F S512x2560 .bf16) (xi21 : Vec F S512x128 .f32) (xi23 : Vec F S8x2560 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xi19 ∗ owns (c : Thread nD τ) arg22 fullShare xi20 ∗ owns (c : Thread nD τ) arg23 fullShare xi21 ∗ owns (c : Thread nD τ) arg24 fullShare xo22 ∗ owns (c : Thread nD τ) arg25 fullShare xi23 ∗ owns (c : Thread nD τ) arg26 fullShare xs0 ∗ owns (c : Thread nD τ) arg27 fullShare xs1 ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare xi19 ∗ owns (c : Thread nD τ) arg22 fullShare xi20 ∗ owns (c : Thread nD τ) arg23 fullShare xi21 ∗ (arg24.view.loc (c : Thread nD τ) ↦[arg24.view.set]{fullShare} arg24.view.writes (Elt F) (harg24.unread xo22) L22) ∗ owns (c : Thread nD τ) arg25 fullShare xi23 ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LT2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, [], [], [], ?_, [], ?_, ?_, ?_, fun xi19 xi20 xi21 xi23 E K => ?run⟩
  case run =>
    simp only [cc0_down_eq_skeleton]; unfold cc0_down_skel
    simp only [k0_part13_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%f22, %hf22, H22⟩, ⟨%f23, %hf23, H23⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hf19; obtain rfl := harg22.eq_unread hf20; obtain rfl := harg23.eq_unread hf21; obtain rfl := harg24.eq_unread hf22; obtain rfl := harg25.eq_unread hf23; obtain rfl := harg26.eq_unread hfs0; obtain rfl := harg27.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexact H22
    isplitl [H23]
    · iexists _; isplitr; · ipureintro; exact harg25.read_unread _
      iexact H23
    isplitl [HS0]; · iexists _; iexact HS0
    isplitl [HS1]; · iexists _; iexact HS1
    iexists _; iexact HS2

end Cert.DownIdeal.Gen

end
-- ==== Proof.DownIdealTripleB.lean ====
/- The triple of one grid point of the down call, case B, with what it leaves in closed form. -/
module

public import proofs.«01_k».proof.Proof.DownIdealRunB
public import proofs.«01_k».proof.Proof.DownIdealRows

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole)
  (hc0 : ¬cond0_0 i) (hc1 : ¬cond0_1 i) (hc2 : ¬cond0_2 i)
  (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32) (xs0 : Vec F S512x2560 .f32) (xs1 : Vec F S512x2560 .f32)

theorem piecesB_16 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xs0 xs1).1 = [⟨Rect.unit ![0, 0] ![512, 256] inb_S512x256_S512x256_0_0, qa x3 x4 x6 x7 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesB_17 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xs0 xs1).2.1 = [⟨Rect.unit ![0, 0] ![512, 256] inb_S512x256_S512x256_0_0, dg x3 x4 x5 x6 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesB_18 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xs0 xs1).2.2.1 = [⟨Rect.unit ![0, 0] ![512, 256] inb_S512x256_S512x256_0_0, du x3 x4 x5 x6 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesB_22 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xs0 xs1).2.2.2.2.2.2.1 = [⟨Rect.unit (s := S8x6912) (k0_off1 i) ![8, 256] (k0_off1_inb i), k0_pay20 x5 (n2 x3 x4 x6) (cols ⟨(i 1).val, (i 1).isLt⟩ xo22)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_cols (F := F) ⟨(i 1).val, (i 1).isLt⟩ xo22 _ (k0_off1_eq i)]
  rfl

theorem piecesB_24 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xs0 xs1).2.2.2.2.2.2.2.2.1 = yTiles xs0 (q16 x3 x4 x6 x7 x9) x12 := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesB_25 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xs0 xs1).2.2.2.2.2.2.2.2.2.1 = xTiles xs1 (dg x3 x4 x5 x6 x8 x9) (du x3 x4 x5 x6 x8 x9) x10 x11 (one x0) (one x1) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

end

set_option maxHeartbeats 2000000 in
/-- The triple, every written block in closed form. -/
theorem triple_B (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole)
    (hc0 : ¬cond0_0 i) (hc1 : ¬cond0_1 i) (hc2 : ¬cond0_2 i)
    (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32) (xs0 : Vec F S512x2560 .f32) (xs1 : Vec F S512x2560 .f32)
    (xi19 : Vec F S512x2560 .bf16) (xi20 : Vec F S512x2560 .bf16) (xi21 : Vec F S512x128 .f32) (xi23 : Vec F S8x2560 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xi19 ∗ owns (c : Thread nD τ) arg22 fullShare xi20 ∗ owns (c : Thread nD τ) arg23 fullShare xi21 ∗ owns (c : Thread nD τ) arg24 fullShare xo22 ∗ owns (c : Thread nD τ) arg25 fullShare xi23 ∗ owns (c : Thread nD τ) arg26 fullShare xs0 ∗ owns (c : Thread nD τ) arg27 fullShare xs1 ∗ (∃ d, owns (c : Thread nD τ) arg28 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (qa x3 x4 x6 x7 x9) ∗ owns (c : Thread nD τ) arg19 fullShare (dg x3 x4 x5 x6 x8 x9) ∗ owns (c : Thread nD τ) arg20 fullShare (du x3 x4 x5 x6 x8 x9) ∗ owns (c : Thread nD τ) arg21 fullShare xi19 ∗ owns (c : Thread nD τ) arg22 fullShare xi20 ∗ owns (c : Thread nD τ) arg23 fullShare xi21 ∗ owns (c : Thread nD τ) arg24 fullShare (setCols ⟨(i 1).val, (i 1).isLt⟩ (k0_pay20 x5 (n2 x3 x4 x6) (cols ⟨(i 1).val, (i 1).isLt⟩ xo22)) xo22) ∗ owns (c : Thread nD τ) arg25 fullShare xi23 ∗ owns (c : Thread nD τ) arg26 fullShare (accY x3 x4 x6 x7 x9 x12 xs0) ∗ owns (c : Thread nD τ) arg27 fullShare (accX x0 x1 x3 x4 x5 x6 x8 x9 x10 x11 xs1) ∗ (∃ d, owns (c : Thread nD τ) arg28 fullShare d)) -∗ K ⟨⟩))
    ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  iintro ⟨H0, H1, H2, H3, H4, H5, H6, H7, H8, H9, H10, H11, H12, H13, H14, H15, H16, H17, H18, H19, H20, H21, H22, H23, HS0, HS1, HS2, Hk⟩
  iapply ((kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xs0 xs1).2.2.2.2.2.2.2.2.2.2.2 xi19 xi20 xi21 xi23 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, H19, H20, H21, H22, H23, ⟨%e24, HS0⟩, ⟨%e25, HS1⟩, ⟨%e26, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; rw [piecesB_16]; refine (View.read_writes_eq_canon _ _ _ (fun y => View.cover_of_tiled_head _ _ _ (by sl_kernel_rfl) y)).trans ?_; simp (disch := decide) only [View.canon_cons_unit_lit']
  isplitl [H17]
  · unfold owns; iexists _; isplitr
    swap; · iexact H17
    ipureintro; rw [piecesB_17]; refine (View.read_writes_eq_canon _ _ _ (fun y => View.cover_of_tiled_head _ _ _ (by sl_kernel_rfl) y)).trans ?_; simp (disch := decide) only [View.canon_cons_unit_lit']
  isplitl [H18]
  · unfold owns; iexists _; isplitr
    swap; · iexact H18
    ipureintro; rw [piecesB_18]; refine (View.read_writes_eq_canon _ _ _ (fun y => View.cover_of_tiled_head _ _ _ (by sl_kernel_rfl) y)).trans ?_; simp (disch := decide) only [View.canon_cons_unit_lit']
  isplitl [H19]; · iexact H19
  isplitl [H20]; · iexact H20
  isplitl [H21]; · iexact H21
  isplitl [H22]
  · unfold owns; iexists _; isplitr
    swap; · iexact H22
    ipureintro; rw [piecesB_22]; exact read_store _ _ _ _ (harg24.read_unread _) ⟨(i 1).val, (i 1).isLt⟩ _ _ (k0_off1_eq i)
  isplitl [H23]; · iexact H23
  isplitl [HS0]
  · unfold owns; iexists _; isplitr
    swap; · iexact HS0
    ipureintro; rw [piecesB_24]; exact View.read_writes_eq_canon _ _ _ (yTiles_cover _ _ _)
  isplitl [HS1]
  · unfold owns; iexists _; isplitr
    swap; · iexact HS1
    ipureintro; rw [piecesB_25]; exact View.read_writes_eq_canon _ _ _ (xTiles_cover _ _ _ _ _ _ _)
  iexists _; unfold owns; iexists _; isplitr
  swap; · iexact HS2
  ipureintro; rfl

end Cert.DownIdeal.Gen

end
-- ==== Proof.DownIdealRunC.lean ====
/- GENERATED, UNTRUSTED: the whole-body RUN of `proofs.«01_k».proof.DownIdeal`'s kernel in
   case C of its frame certificate (`Gen.kernelRun0_C`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.DownIdealRunB

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE C (`scf.if` 0 not taken, `scf.if` 1 not taken, `scf.if` 2 taken: points 26, 53, … 215: 8 of 216), WITH the
    proof that on whole staging memrefs — the inputs' at their contents, the outputs it reads before covering (22, 23) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole) (hc0 : ¬cond0_0 i) (hc1 : ¬cond0_1 i) (hc2 : cond0_2 i)
    (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32) (xo23 : Vec F S8x2560 .f32) (xs0 : Vec F S512x2560 .f32) (xs1 : Vec F S512x2560 .f32) :
    Σ' (L16 : List (View.Piece (Elt F) S512x256 .i8)), Σ' (L17 : List (View.Piece (Elt F) S512x256 .bf16)), Σ' (L18 : List (View.Piece (Elt F) S512x256 .bf16)), Σ' (L19 : List (View.Piece (Elt F) S512x2560 .bf16)), Σ' (L20 : List (View.Piece (Elt F) S512x2560 .bf16)), Σ' (L21 : List (View.Piece (Elt F) S512x128 .f32)), Σ' (L22 : List (View.Piece (Elt F) S8x6912 .f32)), Σ' (L23 : List (View.Piece (Elt F) S8x2560 .f32)), Σ' (LS0 : List (View.Piece (Elt F) S512x2560 .f32)), Σ' (LS1 : List (View.Piece (Elt F) S512x2560 .f32)), { LT2 : List (View.Piece (Elt F) S512x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xo22 ∗ owns (c : Thread nD τ) arg25 fullShare xo23 ∗ owns (c : Thread nD τ) arg26 fullShare xs0 ∗ owns (c : Thread nD τ) arg27 fullShare xs1 ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (arg24.view.loc (c : Thread nD τ) ↦[arg24.view.set]{fullShare} arg24.view.writes (Elt F) (harg24.unread xo22) L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LT2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, fun E K => ?run⟩
  case run =>
    simp only [cc0_down_eq_skeleton]; unfold cc0_down_skel
    simp only [k0_part13_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%f22, %hf22, H22⟩, ⟨%f23, %hf23, H23⟩, ⟨%fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg24.eq_unread hf22; obtain rfl := harg25.eq_unread hf23; obtain rfl := harg26.eq_unread hfs0; obtain rfl := harg27.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexact H22
    isplitl [H23]; · iexists _; iexact H23
    isplitl [HS0]; · iexists _; iexact HS0
    isplitl [HS1]; · iexists _; iexact HS1
    iexists _; iexact HS2

end Cert.DownIdeal.Gen

end
-- ==== Proof.DownIdealTripleC.lean ====
/- The triple of one grid point of the down call, case C, with what it leaves in closed form. -/
module

public import proofs.«01_k».proof.Proof.DownIdealRunC
public import proofs.«01_k».proof.Proof.DownIdealRows

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole)
  (hc0 : ¬cond0_0 i) (hc1 : ¬cond0_1 i) (hc2 : cond0_2 i)
  (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32) (xo23 : Vec F S8x2560 .f32) (xs0 : Vec F S512x2560 .f32) (xs1 : Vec F S512x2560 .f32)

theorem piecesC_16 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).1 = [⟨Rect.unit ![0, 0] ![512, 256] inb_S512x256_S512x256_0_0, qa x3 x4 x6 x7 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesC_17 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.1 = [⟨Rect.unit ![0, 0] ![512, 256] inb_S512x256_S512x256_0_0, dg x3 x4 x5 x6 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesC_18 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.1 = [⟨Rect.unit ![0, 0] ![512, 256] inb_S512x256_S512x256_0_0, du x3 x4 x5 x6 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesC_19 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.2.1 = [⟨Rect.unit ![0, 0] ![512, 2560] inb_S512x2560_S512x2560_0_0, yOut x2 x7 x13 (accY x3 x4 x6 x7 x9 x12 xs0)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [readCov_whole]
  rfl

theorem piecesC_20 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.2.2.1 = [⟨Rect.unit ![0, 0] ![512, 2560] inb_S512x2560_S512x2560_0_0, dxOut x13 x14 x15 (accX x0 x1 x3 x4 x5 x6 x8 x9 x10 x11 xs1)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [readCov_whole]
  rfl

theorem piecesC_21 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.2.2.2.1 = [⟨Rect.unit ![0, 0] ![512, 128] inb_S512x128_S512x128_0_0, cOut x13 x15 (accX x0 x1 x3 x4 x5 x6 x8 x9 x10 x11 xs1)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [readCov_whole]
  rfl

theorem piecesC_22 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.2.2.2.2.1 = [⟨Rect.unit (s := S8x6912) (k0_off1 i) ![8, 256] (k0_off1_inb i), k0_pay20 x5 (n2 x3 x4 x6) (cols ⟨(i 1).val, (i 1).isLt⟩ xo22)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_cols (F := F) ⟨(i 1).val, (i 1).isLt⟩ xo22 _ (k0_off1_eq i)]
  rfl

theorem piecesC_23 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.2.2.2.2.2.1 = [⟨Rect.unit ![0, 0] ![8, 2560] inb_S8x2560_S8x2560_0_0, k0_pay8 x13 (accX x0 x1 x3 x4 x5 x6 x8 x9 x10 x11 xs1) xo23⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [readCov_whole]
  rfl

theorem piecesC_24 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.2.2.2.2.2.2.1 = yTiles xs0 (q16 x3 x4 x6 x7 x9) x12 := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesC_25 : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.2.2.2.2.2.2.2.1 = xTiles xs1 (dg x3 x4 x5 x6 x8 x9) (du x3 x4 x5 x6 x8 x9) x10 x11 (one x0) (one x1) := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

end

set_option maxHeartbeats 2000000 in
/-- The triple, every written block in closed form. -/
theorem triple_C (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole)
    (hc0 : ¬cond0_0 i) (hc1 : ¬cond0_1 i) (hc2 : cond0_2 i)
    (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32) (xo23 : Vec F S8x2560 .f32) (xs0 : Vec F S512x2560 .f32) (xs1 : Vec F S512x2560 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xo22 ∗ owns (c : Thread nD τ) arg25 fullShare xo23 ∗ owns (c : Thread nD τ) arg26 fullShare xs0 ∗ owns (c : Thread nD τ) arg27 fullShare xs1 ∗ (∃ d, owns (c : Thread nD τ) arg28 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (qa x3 x4 x6 x7 x9) ∗ owns (c : Thread nD τ) arg19 fullShare (dg x3 x4 x5 x6 x8 x9) ∗ owns (c : Thread nD τ) arg20 fullShare (du x3 x4 x5 x6 x8 x9) ∗ owns (c : Thread nD τ) arg21 fullShare (yOut x2 x7 x13 (accY x3 x4 x6 x7 x9 x12 xs0)) ∗ owns (c : Thread nD τ) arg22 fullShare (dxOut x13 x14 x15 (accX x0 x1 x3 x4 x5 x6 x8 x9 x10 x11 xs1)) ∗ owns (c : Thread nD τ) arg23 fullShare (cOut x13 x15 (accX x0 x1 x3 x4 x5 x6 x8 x9 x10 x11 xs1)) ∗ owns (c : Thread nD τ) arg24 fullShare (setCols ⟨(i 1).val, (i 1).isLt⟩ (k0_pay20 x5 (n2 x3 x4 x6) (cols ⟨(i 1).val, (i 1).isLt⟩ xo22)) xo22) ∗ owns (c : Thread nD τ) arg25 fullShare (k0_pay8 x13 (accX x0 x1 x3 x4 x5 x6 x8 x9 x10 x11 xs1) xo23) ∗ owns (c : Thread nD τ) arg26 fullShare (accY x3 x4 x6 x7 x9 x12 xs0) ∗ owns (c : Thread nD τ) arg27 fullShare (accX x0 x1 x3 x4 x5 x6 x8 x9 x10 x11 xs1) ∗ (∃ d, owns (c : Thread nD τ) arg28 fullShare d)) -∗ K ⟨⟩))
    ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  iintro ⟨H0, H1, H2, H3, H4, H5, H6, H7, H8, H9, H10, H11, H12, H13, H14, H15, H16, H17, H18, H19, H20, H21, H22, H23, HS0, HS1, HS2, Hk⟩
  iapply ((kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22 xo23 xs0 xs1).2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, H22, ⟨%e23, H23⟩, ⟨%e24, HS0⟩, ⟨%e25, HS1⟩, ⟨%e26, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; rw [piecesC_16]; refine (View.read_writes_eq_canon _ _ _ (fun y => View.cover_of_tiled_head _ _ _ (by sl_kernel_rfl) y)).trans ?_; simp (disch := decide) only [View.canon_cons_unit_lit']
  isplitl [H17]
  · unfold owns; iexists _; isplitr
    swap; · iexact H17
    ipureintro; rw [piecesC_17]; refine (View.read_writes_eq_canon _ _ _ (fun y => View.cover_of_tiled_head _ _ _ (by sl_kernel_rfl) y)).trans ?_; simp (disch := decide) only [View.canon_cons_unit_lit']
  isplitl [H18]
  · unfold owns; iexists _; isplitr
    swap; · iexact H18
    ipureintro; rw [piecesC_18]; refine (View.read_writes_eq_canon _ _ _ (fun y => View.cover_of_tiled_head _ _ _ (by sl_kernel_rfl) y)).trans ?_; simp (disch := decide) only [View.canon_cons_unit_lit']
  isplitl [H19]
  · unfold owns; iexists _; isplitr
    swap; · iexact H19
    ipureintro; rw [piecesC_19]; refine (View.read_writes_eq_canon _ _ _ (fun y => View.cover_of_tiled_head _ _ _ (by sl_kernel_rfl) y)).trans ?_; simp (disch := decide) only [View.canon_cons_unit_lit']
  isplitl [H20]
  · unfold owns; iexists _; isplitr
    swap; · iexact H20
    ipureintro; rw [piecesC_20]; refine (View.read_writes_eq_canon _ _ _ (fun y => View.cover_of_tiled_head _ _ _ (by sl_kernel_rfl) y)).trans ?_; simp (disch := decide) only [View.canon_cons_unit_lit']
  isplitl [H21]
  · unfold owns; iexists _; isplitr
    swap; · iexact H21
    ipureintro; rw [piecesC_21]; refine (View.read_writes_eq_canon _ _ _ (fun y => View.cover_of_tiled_head _ _ _ (by sl_kernel_rfl) y)).trans ?_; simp (disch := decide) only [View.canon_cons_unit_lit']
  isplitl [H22]
  · unfold owns; iexists _; isplitr
    swap; · iexact H22
    ipureintro; rw [piecesC_22]; exact read_store _ _ _ _ (harg24.read_unread _) ⟨(i 1).val, (i 1).isLt⟩ _ _ (k0_off1_eq i)
  isplitl [H23]
  · unfold owns; iexists _; isplitr
    swap; · iexact H23
    ipureintro; rw [piecesC_23]; refine (View.read_writes_eq_canon _ _ _ (fun y => View.cover_of_tiled_head _ _ _ (by sl_kernel_rfl) y)).trans ?_; simp (disch := decide) only [View.canon_cons_unit_lit']
  isplitl [HS0]
  · unfold owns; iexists _; isplitr
    swap; · iexact HS0
    ipureintro; rw [piecesC_24]; exact View.read_writes_eq_canon _ _ _ (yTiles_cover _ _ _)
  isplitl [HS1]
  · unfold owns; iexists _; isplitr
    swap; · iexact HS1
    ipureintro; rw [piecesC_25]; exact View.read_writes_eq_canon _ _ _ (xTiles_cover _ _ _ _ _ _ _)
  iexists _; unfold owns; iexists _; isplitr
  swap; · iexact HS2
  ipureintro; rfl

end Cert.DownIdeal.Gen

end
-- ==== Proof.DownIdealRunD.lean ====
/- GENERATED, UNTRUSTED: the whole-body RUN of `proofs.«01_k».proof.DownIdeal`'s kernel in
   case D of its frame certificate (`Gen.kernelRun0_D`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.DownIdealRunC

@[expose] public section

-- membership in a rectangle of production extents (`View.cover_of_tiled`): the elaborator's structural look
-- recurses once per coordinate of the long axes
set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE D (`scf.if` 0 not taken, `scf.if` 1 taken, `scf.if` 2 not taken: points 27, 54, … 189: 7 of 216), WITH the
    proof that on whole staging memrefs — the inputs' at their contents, the outputs it reads before covering (22) at their running contents `xo·`, the outputs it leaves idle (19, 20, 21, 23: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole) (hc0 : ¬cond0_0 i) (hc1 : cond0_1 i) (hc2 : ¬cond0_2 i)
    (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32) :
    Σ' (L16 : List (View.Piece (Elt F) S512x256 .i8)), Σ' (L17 : List (View.Piece (Elt F) S512x256 .bf16)), Σ' (L18 : List (View.Piece (Elt F) S512x256 .bf16)), Σ' (L19 : List (View.Piece (Elt F) S512x2560 .bf16)), Σ' (L20 : List (View.Piece (Elt F) S512x2560 .bf16)), Σ' (L21 : List (View.Piece (Elt F) S512x128 .f32)), Σ' (L22 : List (View.Piece (Elt F) S8x6912 .f32)), Σ' (L23 : List (View.Piece (Elt F) S8x2560 .f32)), Σ' (LS0 : List (View.Piece (Elt F) S512x2560 .f32)), Σ' (LS1 : List (View.Piece (Elt F) S512x2560 .f32)), { LT2 : List (View.Piece (Elt F) S512x256 .bf16) //
      ∀ (xi19 : Vec F S512x2560 .bf16) (xi20 : Vec F S512x2560 .bf16) (xi21 : Vec F S512x128 .f32) (xi23 : Vec F S8x2560 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xi19 ∗ owns (c : Thread nD τ) arg22 fullShare xi20 ∗ owns (c : Thread nD τ) arg23 fullShare xi21 ∗ owns (c : Thread nD τ) arg24 fullShare xo22 ∗ owns (c : Thread nD τ) arg25 fullShare xi23 ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare xi19 ∗ owns (c : Thread nD τ) arg22 fullShare xi20 ∗ owns (c : Thread nD τ) arg23 fullShare xi21 ∗ (arg24.view.loc (c : Thread nD τ) ↦[arg24.view.set]{fullShare} arg24.view.writes (Elt F) (harg24.unread xo22) L22) ∗ owns (c : Thread nD τ) arg25 fullShare xi23 ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1) ∗ (∃ f, arg28.view.loc (c : Thread nD τ) ↦[arg28.view.set]{fullShare} arg28.view.writes (Elt F) f LT2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, [], [], [], ?_, [], ?_, ?_, ?_, fun xi19 xi20 xi21 xi23 E K => ?run⟩
  case run =>
    simp only [cc0_down_eq_skeleton]; unfold cc0_down_skel
    simp only [k0_part13_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%f20, %hf20, H20⟩, ⟨%f21, %hf21, H21⟩, ⟨%f22, %hf22, H22⟩, ⟨%f23, %hf23, H23⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hf19; obtain rfl := harg22.eq_unread hf20; obtain rfl := harg23.eq_unread hf21; obtain rfl := harg24.eq_unread hf22; obtain rfl := harg25.eq_unread hf23
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]; · iexact H22
    isplitl [H23]
    · iexists _; isplitr; · ipureintro; exact harg25.read_unread _
      iexact H23
    isplitl [HS0]; · iexists _; iexact HS0
    isplitl [HS1]; · iexists _; iexact HS1
    iexists _; iexact HS2

end Cert.DownIdeal.Gen

end
-- ==== Proof.DownIdealTripleD.lean ====
/- The triple of one grid point of the down call, case D, with what it leaves in closed form. -/
module

public import proofs.«01_k».proof.Proof.DownIdealRunD
public import proofs.«01_k».proof.Proof.DownIdealRows

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole)
  (hc0 : ¬cond0_0 i) (hc1 : cond0_1 i) (hc2 : ¬cond0_2 i)
  (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32)

theorem piecesD_16 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22).1 = [⟨Rect.unit ![0, 0] ![512, 256] inb_S512x256_S512x256_0_0, qa x3 x4 x6 x7 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesD_17 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22).2.1 = [⟨Rect.unit ![0, 0] ![512, 256] inb_S512x256_S512x256_0_0, dg x3 x4 x5 x6 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesD_18 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22).2.2.1 = [⟨Rect.unit ![0, 0] ![512, 256] inb_S512x256_S512x256_0_0, du x3 x4 x5 x6 x8 x9⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  first | done | rfl

theorem piecesD_22 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22).2.2.2.2.2.2.1 = [⟨Rect.unit (s := S8x6912) (k0_off1 i) ![8, 256] (k0_off1_inb i), k0_pay20 x5 (n2 x3 x4 x6) (cols ⟨(i 1).val, (i 1).isLt⟩ xo22)⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rw [ld_cols (F := F) ⟨(i 1).val, (i 1).isLt⟩ xo22 _ (k0_off1_eq i)]
  rfl

theorem piecesD_24 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22).2.2.2.2.2.2.2.2.1 = yTiles (k0_pay13 (F := F)) (q16 x3 x4 x6 x7 x9) x12 ++ [⟨Rect.unit ![0, 0] ![512, 2560] inb_S512x2560_S512x2560_0_0, k0_pay13⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

theorem piecesD_25 : (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22).2.2.2.2.2.2.2.2.2.1 = xTiles (k0_pay14 (F := F)) (dg x3 x4 x5 x6 x8 x9) (du x3 x4 x5 x6 x8 x9) x10 x11 (one x0) (one x1) ++ [⟨Rect.unit ![0, 0] ![512, 2560] inb_S512x2560_S512x2560_0_0, k0_pay14⟩] := by
  frame_open
  simp (disch := decide) only [↓ View.readCov_skip, ↓ View.readCov_cons_toLoadRect, ↓ View.readCov_fill, View.ld_unit_lit', View.readCov_unit_lit', View.readCov_cons_unit_lit', View.readAt_eq_ld, Memref.IsWhole.read_unread]
  rfl

end

set_option maxHeartbeats 2000000 in
/-- The triple, every written block in closed form. -/
theorem triple_D (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x256 .f32) (harg11 : arg11.IsWhole) (arg12 : Memref sig .tc .vmem S2560x256 .i8) (harg12 : arg12.IsWhole) (arg13 : Memref sig .tc .vmem S2560x256 .i8) (harg13 : arg13.IsWhole) (arg14 : Memref sig .tc .vmem S256x2560 .i8) (harg14 : arg14.IsWhole) (arg15 : Memref sig .tc .vmem S512x2560 .bf16) (harg15 : arg15.IsWhole) (arg16 : Memref sig .tc .vmem S512x2560 .bf16) (harg16 : arg16.IsWhole) (arg17 : Memref sig .tc .vmem S1x2560 .f32) (harg17 : arg17.IsWhole) (arg18 : Memref sig .tc .vmem S512x256 .i8) (harg18 : arg18.IsWhole) (arg19 : Memref sig .tc .vmem S512x256 .bf16) (harg19 : arg19.IsWhole) (arg20 : Memref sig .tc .vmem S512x256 .bf16) (harg20 : arg20.IsWhole) (arg21 : Memref sig .tc .vmem S512x2560 .bf16) (harg21 : arg21.IsWhole) (arg22 : Memref sig .tc .vmem S512x2560 .bf16) (harg22 : arg22.IsWhole) (arg23 : Memref sig .tc .vmem S512x128 .f32) (harg23 : arg23.IsWhole) (arg24 : Memref sig .tc .vmem S8x6912 .f32) (harg24 : arg24.IsWhole) (arg25 : Memref sig .tc .vmem S8x2560 .f32) (harg25 : arg25.IsWhole) (arg26 : Memref sig .tc .vmem S512x2560 .f32) (harg26 : arg26.IsWhole) (arg27 : Memref sig .tc .vmem S512x2560 .f32) (harg27 : arg27.IsWhole) (arg28 : Memref sig .tc .vmem S512x256 .bf16) (harg28 : arg28.IsWhole)
    (hc0 : ¬cond0_0 i) (hc1 : cond0_1 i) (hc2 : ¬cond0_2 i)
    (x0 : Vec F S1x1 .f32) (x1 : Vec F S1x1 .f32) (x2 : Vec F S1x1 .f32) (x3 : Vec F S512x256 .f32) (x4 : Vec F S512x256 .f32) (x5 : Vec F S512x256 .f32) (x6 : Vec F S512x128 .f32) (x7 : Vec F S512x128 .f32) (x8 : Vec F S512x128 .f32) (x9 : Vec F S1x256 .f32) (x10 : Vec F S2560x256 .i8) (x11 : Vec F S2560x256 .i8) (x12 : Vec F S256x2560 .i8) (x13 : Vec F S512x2560 .bf16) (x14 : Vec F S512x2560 .bf16) (x15 : Vec F S1x2560 .f32) (xo22 : Vec F S8x6912 .f32)
    (xi19 : Vec F S512x2560 .bf16) (xi20 : Vec F S512x2560 .bf16) (xi21 : Vec F S512x128 .f32) (xi23 : Vec F S8x2560 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xi19 ∗ owns (c : Thread nD τ) arg22 fullShare xi20 ∗ owns (c : Thread nD τ) arg23 fullShare xi21 ∗ owns (c : Thread nD τ) arg24 fullShare xo22 ∗ owns (c : Thread nD τ) arg25 fullShare xi23 ∗ (∃ d, owns (c : Thread nD τ) arg26 fullShare d) ∗ (∃ d, owns (c : Thread nD τ) arg27 fullShare d) ∗ (∃ d, owns (c : Thread nD τ) arg28 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (qa x3 x4 x6 x7 x9) ∗ owns (c : Thread nD τ) arg19 fullShare (dg x3 x4 x5 x6 x8 x9) ∗ owns (c : Thread nD τ) arg20 fullShare (du x3 x4 x5 x6 x8 x9) ∗ owns (c : Thread nD τ) arg21 fullShare xi19 ∗ owns (c : Thread nD τ) arg22 fullShare xi20 ∗ owns (c : Thread nD τ) arg23 fullShare xi21 ∗ owns (c : Thread nD τ) arg24 fullShare (setCols ⟨(i 1).val, (i 1).isLt⟩ (k0_pay20 x5 (n2 x3 x4 x6) (cols ⟨(i 1).val, (i 1).isLt⟩ xo22)) xo22) ∗ owns (c : Thread nD τ) arg25 fullShare xi23 ∗ owns (c : Thread nD τ) arg26 fullShare (accY x3 x4 x6 x7 x9 x12 (k0_pay13 (F := F))) ∗ owns (c : Thread nD τ) arg27 fullShare (accX x0 x1 x3 x4 x5 x6 x8 x9 x10 x11 (k0_pay14 (F := F))) ∗ (∃ d, owns (c : Thread nD τ) arg28 fullShare d)) -∗ K ⟨⟩))
    ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  iintro ⟨H0, H1, H2, H3, H4, H5, H6, H7, H8, H9, H10, H11, H12, H13, H14, H15, H16, H17, H18, H19, H20, H21, H22, H23, HS0, HS1, HS2, Hk⟩
  iapply ((kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 hc1 hc2 x0 x1 x2 x3 x4 x5 x6 x7 x8 x9 x10 x11 x12 x13 x14 x15 xo22).2.2.2.2.2.2.2.2.2.2.2 xi19 xi20 xi21 xi23 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, H19, H20, H21, H22, H23, ⟨%e24, HS0⟩, ⟨%e25, HS1⟩, ⟨%e26, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; rw [piecesD_16]; refine (View.read_writes_eq_canon _ _ _ (fun y => View.cover_of_tiled_head _ _ _ (by sl_kernel_rfl) y)).trans ?_; simp (disch := decide) only [View.canon_cons_unit_lit']
  isplitl [H17]
  · unfold owns; iexists _; isplitr
    swap; · iexact H17
    ipureintro; rw [piecesD_17]; refine (View.read_writes_eq_canon _ _ _ (fun y => View.cover_of_tiled_head _ _ _ (by sl_kernel_rfl) y)).trans ?_; simp (disch := decide) only [View.canon_cons_unit_lit']
  isplitl [H18]
  · unfold owns; iexists _; isplitr
    swap; · iexact H18
    ipureintro; rw [piecesD_18]; refine (View.read_writes_eq_canon _ _ _ (fun y => View.cover_of_tiled_head _ _ _ (by sl_kernel_rfl) y)).trans ?_; simp (disch := decide) only [View.canon_cons_unit_lit']
  isplitl [H19]; · iexact H19
  isplitl [H20]; · iexact H20
  isplitl [H21]; · iexact H21
  isplitl [H22]
  · unfold owns; iexists _; isplitr
    swap; · iexact H22
    ipureintro; rw [piecesD_22]; exact read_store _ _ _ _ (harg24.read_unread _) ⟨(i 1).val, (i 1).isLt⟩ _ _ (k0_off1_eq i)
  isplitl [H23]; · iexact H23
  isplitl [HS0]
  · unfold owns; iexists _; isplitr
    swap; · iexact HS0
    ipureintro; rw [piecesD_24, View.writes_append]; exact View.read_writes_eq_canon _ _ _ (yTiles_cover _ _ _)
  isplitl [HS1]
  · unfold owns; iexists _; isplitr
    swap; · iexact HS1
    ipureintro; rw [piecesD_25, View.writes_append]; exact View.read_writes_eq_canon _ _ _ (xTiles_cover _ _ _ _ _ _ _)
  iexists _; unfold owns; iexists _; isplitr
  swap; · iexact HS2
  ipureintro; rfl

end Cert.DownIdeal.Gen

end
-- ==== Proof.DownIdealFrame.lean ====
/- The frame of the down call: the proof data of its pipeline, with what each carried accumulator holds after each point. -/
module

public import proofs.«01_k».proof.Proof.DownIdealTripleA
public import proofs.«01_k».proof.Proof.DownIdealTripleB
public import proofs.«01_k».proof.Proof.DownIdealTripleC
public import proofs.«01_k».proof.Proof.DownIdealTripleD
public import proofs.«01_k».proof.Proof.Gen.DownIdeal.Frame.Runs
public import Idealize.ShloMosaic.Lib.Claim

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the carried buffers hold -/

/-- The column block of point `t`, and point number `n` (the grid has 216). -/
def blkCol (t : Fin cfg0.N) : Fin 27 := ⟨(grid0.coords t 1).val, (grid0.coords t 1).isLt⟩

theorem blkCol_val : ∀ t : Fin cfg0.N, (blkCol t).val = t.val % 27 := (by decide +kernel : ∀ t : Fin grid0.N, _)

def pt (n : ℕ) : Fin cfg0.N := ⟨n % 216, lt_of_lt_of_eq (Nat.mod_lt _ (by norm_num)) N_0.symm⟩

theorem pt_val (t : Fin cfg0.N) (n : ℕ) (h : n = t.val) : pt n = t :=
  Fin.ext (by subst h; exact Nat.mod_eq_of_lt (lt_of_lt_of_eq t.isLt N_0))

/-- One step of each accumulator, from what it held. -/
def stepY (c : Dev nD) (t : Fin cfg0.N) (p : Vec F S512x2560 .f32) : Vec F S512x2560 .f32 := accY (iblk m c 3 t) (iblk m c 4 t) (iblk m c 6 t) (iblk m c 7 t) (iblk m c 9 t) (iblk m c 12 t) p
def stepX (c : Dev nD) (t : Fin cfg0.N) (p : Vec F S512x2560 .f32) : Vec F S512x2560 .f32 := accX (iblk m c 0 t) (iblk m c 1 t) (iblk m c 3 t) (iblk m c 4 t) (iblk m c 5 t) (iblk m c 6 t) (iblk m c 8 t) (iblk m c 9 t) (iblk m c 10 t) (iblk m c 11 t) p
def stepS (c : Dev nD) (t : Fin cfg0.N) (p : Vec F S8x6912 .f32) : Vec F S8x6912 .f32 :=
  setCols (blkCol t) (k0_pay20 (iblk m c 5 t) (n2 (iblk m c 3 t) (iblk m c 4 t) (iblk m c 6 t)) (cols (blkCol t) p)) p

/-- The output's accumulator after point `n`: begun again at every row block. -/
def yAt (c : Dev nD) : ℕ → Vec F S512x2560 .f32
  | 0 => stepY m c (pt 0) k0_pay13
  | n + 1 => stepY m c (pt (n + 1)) (if (n + 1) % 27 = 0 then k0_pay13 else yAt c n)

/-- The accumulator of the input's gradient. -/
def xAt (c : Dev nD) : ℕ → Vec F S512x2560 .f32
  | 0 => stepX m c (pt 0) k0_pay14
  | n + 1 => stepX m c (pt (n + 1)) (if (n + 1) % 27 = 0 then k0_pay14 else xAt c n)

/-- The gamma accumulator of the hidden layer, through the whole grid. -/
def sAt (c : Dev nD) : ℕ → Vec F S8x6912 .f32
  | 0 => stepS m c (pt 0) k0_pay11
  | n + 1 => stepS m c (pt (n + 1)) (sAt c n)

/-- The gamma accumulator of the input, updated at the last column step of each row block. -/
def iAt (c : Dev nD) : ℕ → Vec F S8x2560 .f32
  | 0 => k0_pay12
  | n + 1 => if (n + 1) % 27 = 26 then k0_pay8 (iblk m c 13 (pt (n + 1))) (xAt m c (n + 1)) (iAt c n) else iAt c n

theorem yAt_start (c : Dev nD) (t : Fin cfg0.N) (h : t.val % 27 = 0) : yAt m c t.val = stepY m c t k0_pay13 := by
  obtain ⟨n, hn⟩ := t
  cases n with
  | zero => show stepY m c (pt 0) _ = _; rw [pt_val ⟨0, hn⟩ 0 rfl]
  | succ n => show stepY m c (pt (n + 1)) _ = _; rw [pt_val ⟨n + 1, hn⟩ (n + 1) rfl, if_pos h]

theorem yAt_step (c : Dev nD) (t : Fin cfg0.N) (h : ¬t.val % 27 = 0) : yAt m c t.val = stepY m c t (yAt m c (t.val - 1)) := by
  obtain ⟨n, hn⟩ := t
  cases n with
  | zero => exact absurd rfl h
  | succ n => show stepY m c (pt (n + 1)) _ = _; rw [pt_val ⟨n + 1, hn⟩ (n + 1) rfl, if_neg h]; rfl

theorem xAt_start (c : Dev nD) (t : Fin cfg0.N) (h : t.val % 27 = 0) : xAt m c t.val = stepX m c t k0_pay14 := by
  obtain ⟨n, hn⟩ := t
  cases n with
  | zero => show stepX m c (pt 0) _ = _; rw [pt_val ⟨0, hn⟩ 0 rfl]
  | succ n => show stepX m c (pt (n + 1)) _ = _; rw [pt_val ⟨n + 1, hn⟩ (n + 1) rfl, if_pos h]

theorem xAt_step (c : Dev nD) (t : Fin cfg0.N) (h : ¬t.val % 27 = 0) : xAt m c t.val = stepX m c t (xAt m c (t.val - 1)) := by
  obtain ⟨n, hn⟩ := t
  cases n with
  | zero => exact absurd rfl h
  | succ n => show stepX m c (pt (n + 1)) _ = _; rw [pt_val ⟨n + 1, hn⟩ (n + 1) rfl, if_neg h]; rfl

theorem sAt_start (c : Dev nD) (t : Fin cfg0.N) (h : t.val = 0) : sAt m c t.val = stepS m c t k0_pay11 := by
  rw [h]; show stepS m c (pt 0) _ = _; rw [pt_val t 0 h.symm]

theorem sAt_step (c : Dev nD) (t : Fin cfg0.N) (h : ¬t.val = 0) : sAt m c t.val = stepS m c t (sAt m c (t.val - 1)) := by
  obtain ⟨n, hn⟩ := t
  cases n with
  | zero => exact absurd rfl h
  | succ n => show stepS m c (pt (n + 1)) _ = _; rw [pt_val ⟨n + 1, hn⟩ (n + 1) rfl]; rfl

theorem iAt_start (c : Dev nD) (t : Fin cfg0.N) (h : t.val = 0) : iAt m c t.val = k0_pay12 := by
  rw [h]; rfl

theorem iAt_keep (c : Dev nD) (t : Fin cfg0.N) (h0 : ¬t.val = 0) (h : ¬t.val % 27 = 26) : iAt m c t.val = iAt m c (t.val - 1) := by
  obtain ⟨n, hn⟩ := t
  cases n with
  | zero => exact absurd rfl h0
  | succ n => exact if_neg h

theorem iAt_step (c : Dev nD) (t : Fin cfg0.N) (h : t.val % 27 = 26) :
    iAt m c t.val = k0_pay8 (iblk m c 13 t) (xAt m c t.val) (iAt m c (t.val - 1)) := by
  obtain ⟨n, hn⟩ := t
  cases n with
  | zero => exact absurd h (show ¬(0 : ℕ) % 27 = 26 by decide)
  | succ n => exact (if_pos h).trans (by rw [pt_val ⟨n + 1, hn⟩ (n + 1) rfl]; rfl)

/-- The invariant between points: after point `n` the two scratch accumulators hold `yAt n` and `xAt n`. -/
def PhiS (c : Dev nD) : ℕ → sProp 𝕄
  | 0 => Pipeline.ΦA spec0 c
  | n + 1 => iprop(iprop(owns (c : Thread nD τ) scM0_0 fullShare (yAt m c n) ∗ owns (c : Thread nD τ) scM0_1 fullShare (xAt m c n) ∗ (∃ d, owns (c : Thread nD τ) scM0_2 fullShare d)) ∗ (∃ r, prngReg c r))

theorem PhiS_succ (c : Dev nD) (n : ℕ) :
    PhiS m c (n + 1) = iprop(iprop(owns (c : Thread nD τ) scM0_0 fullShare (yAt m c n) ∗ owns (c : Thread nD τ) scM0_1 fullShare (xAt m c n) ∗ (∃ d, owns (c : Thread nD τ) scM0_2 fullShare d)) ∗ (∃ r, prngReg c r)) := rfl

theorem PhiS_pos (c : Dev nD) (n : ℕ) (hz : n ≠ 0) :
    PhiS m c n = iprop(iprop(owns (c : Thread nD τ) scM0_0 fullShare (yAt m c (n - 1)) ∗ owns (c : Thread nD τ) scM0_1 fullShare (xAt m c (n - 1)) ∗ (∃ d, owns (c : Thread nD τ) scM0_2 fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => qa (iblk m c 3 t) (iblk m c 4 t) (iblk m c 6 t) (iblk m c 7 t) (iblk m c 9 t)
    | ⟨17, _⟩ => dg (iblk m c 3 t) (iblk m c 4 t) (iblk m c 5 t) (iblk m c 6 t) (iblk m c 8 t) (iblk m c 9 t)
    | ⟨18, _⟩ => du (iblk m c 3 t) (iblk m c 4 t) (iblk m c 5 t) (iblk m c 6 t) (iblk m c 8 t) (iblk m c 9 t)
    | ⟨19, _⟩ => yOut (iblk m c 2 t) (iblk m c 7 t) (iblk m c 13 t) (yAt m c t.val)
    | ⟨20, _⟩ => dxOut (iblk m c 13 t) (iblk m c 14 t) (iblk m c 15 t) (xAt m c t.val)
    | ⟨21, _⟩ => cOut (iblk m c 13 t) (iblk m c 15 t) (xAt m c t.val)
    | ⟨22, _⟩ => sAt m c t.val
    | ⟨23, _⟩ => iAt m c t.val
    | ⟨_ + 24, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = qa (iblk m c 3 t) (iblk m c 4 t) (iblk m c 6 t) (iblk m c 7 t) (iblk m c 9 t) := by dsimp only [dats]
theorem after0_17 (c : Dev nD) (t : Fin cfg0.N) : (dats m 0 c).after 17 t = dg (iblk m c 3 t) (iblk m c 4 t) (iblk m c 5 t) (iblk m c 6 t) (iblk m c 8 t) (iblk m c 9 t) := by dsimp only [dats]
theorem after0_18 (c : Dev nD) (t : Fin cfg0.N) : (dats m 0 c).after 18 t = du (iblk m c 3 t) (iblk m c 4 t) (iblk m c 5 t) (iblk m c 6 t) (iblk m c 8 t) (iblk m c 9 t) := by dsimp only [dats]
theorem after0_19 (c : Dev nD) (t : Fin cfg0.N) : (dats m 0 c).after 19 t = yOut (iblk m c 2 t) (iblk m c 7 t) (iblk m c 13 t) (yAt m c t.val) := by dsimp only [dats]
theorem after0_20 (c : Dev nD) (t : Fin cfg0.N) : (dats m 0 c).after 20 t = dxOut (iblk m c 13 t) (iblk m c 14 t) (iblk m c 15 t) (xAt m c t.val) := by dsimp only [dats]
theorem after0_21 (c : Dev nD) (t : Fin cfg0.N) : (dats m 0 c).after 21 t = cOut (iblk m c 13 t) (iblk m c 15 t) (xAt m c t.val) := by dsimp only [dats]
theorem after0_22 (c : Dev nD) (t : Fin cfg0.N) : (dats m 0 c).after 22 t = sAt m c t.val := by dsimp only [dats]
theorem after0_23 (c : Dev nD) (t : Fin cfg0.N) : (dats m 0 c).after 23 t = iAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- The input's gamma accumulator carries through the points that leave it idle. -/
theorem hcarry0_23 (c : Dev nD) : ∀ (t : Fin cfg0.N) (_ : t.val ≠ 0), cfg0.idle 23 (grid0.coords t) = true → cfg0.fresh 23 t.val = false →
    (dats m 0 c).after 23 t = (dats m 0 c).after 23 ⟨t.val - 1, by omega⟩ := by
  intro t hz hi _
  have hN : t.val < 216 := lt_of_lt_of_eq t.isLt (show cfg0.N = 216 from N_0)
  rw [after0_23, after0_23]
  by_cases h2 : t.val % 27 = 26
  · have h0 : ¬t.val % 216 = 0 := by omega
    have h1 : ¬t.val % 27 = 0 := by omega
    rw [liveAt0_23_C t (fun h => h0 ((hcond0_0 t).mp h)) (fun h => h1 ((hcond0_1 t).mp h)) ((hcond0_2 t).mpr h2)] at hi
    exact absurd hi Bool.false_ne_true
  · exact iAt_keep m c t hz h2

/-- At a point that is not the first the hidden layer's gamma accumulator holds what the point before left. -/
theorem before0_22 (c : Dev nD) (t : Fin cfg0.N) (h0 : ¬t.val % 216 = 0) (d) :
    (dats m 0 c).before 22 t d = sAt m c (t.val - 1) := by
  have hN : t.val < 216 := lt_of_lt_of_eq t.isLt (show cfg0.N = 216 from N_0)
  rw [Dat.before_out_kept _ 22 rfl t (by omega) (Bool.eq_false_iff.mpr fun h => by have := (flush0_22 _).mp h; dsimp only at this; omega)
    (fun _ => rfl) (fun _ _ => rfl)]
  dsimp only [dats]

/-- At a last column step the input's gamma accumulator holds what the point before left. -/
theorem before0_23 (c : Dev nD) (t : Fin cfg0.N) (h0 : ¬t.val % 216 = 0) (h1 : ¬t.val % 27 = 0) (h2 : t.val % 27 = 26) (d) :
    (dats m 0 c).before 23 t d = iAt m c (t.val - 1) := by
  rw [Dat.before_out_traj _ 23 rfl (fun _ _ => rfl) (hcarry0_23 m c) t.val t rfl d,
    if_neg (by rw [notFresh0_23_C t (fun h => h0 ((hcond0_0 t).mp h)) (fun h => h1 ((hcond0_1 t).mp h)) ((hcond0_2 t).mpr h2)]; exact Bool.false_ne_true)]
  dsimp only [dats]

/-! ## The body at a point -/

def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)))

def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t ∗ (dats m 0 c).leavesExact 20 t ∗ (dats m 0 c).leavesExact 21 t ∗ (dats m 0 c).leavesExact 22 t ∗ (dats m 0 c).leavesExact 23 t)

set_option maxHeartbeats 8000000 in
theorem sound_A (c : Dev nD) (t : Fin cfg0.N) (h0 : t.val % 216 = 0) (h1 : t.val % 27 = 0) (h2 : ¬t.val % 27 = 26) :
    bodyPre m c t ⊢ wp frame (wpE (defs₀ (F := F)) Variants.none c none) Set.univ (bodyAt0 t) (fun _ => bodyPost m c t) := by
  have hN : t.val < 216 := lt_of_lt_of_eq t.isLt (show cfg0.N = 216 from N_0)
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 22 t = owns (c : Thread nD τ) (ms0_22 t) fullShare ((dats m 0 c).after 22 t) from by
    unfold Dat.leavesExact; rw [liveAt0_22 t], after0_22]
  rw [Dat.leavesExact_idle (dats m 0 c) 19 t (idleAt0_19_A t ((hcond0_0 t).mpr h0) ((hcond0_1 t).mpr h1) (fun h => h2 ((hcond0_2 t).mp h))) (noFlush0_19_A t ((hcond0_0 t).mpr h0) ((hcond0_1 t).mpr h1) (fun h => h2 ((hcond0_2 t).mp h)))]
  rw [Dat.leavesExact_idle (dats m 0 c) 20 t (idleAt0_20_A t ((hcond0_0 t).mpr h0) ((hcond0_1 t).mpr h1) (fun h => h2 ((hcond0_2 t).mp h))) (noFlush0_20_A t ((hcond0_0 t).mpr h0) ((hcond0_1 t).mpr h1) (fun h => h2 ((hcond0_2 t).mp h)))]
  rw [Dat.leavesExact_idle (dats m 0 c) 21 t (idleAt0_21_A t ((hcond0_0 t).mpr h0) ((hcond0_1 t).mpr h1) (fun h => h2 ((hcond0_2 t).mp h))) (noFlush0_21_A t ((hcond0_0 t).mpr h0) ((hcond0_1 t).mpr h1) (fun h => h2 ((hcond0_2 t).mp h)))]
  rw [show (dats m 0 c).leavesExact 23 t = owns (c : Thread nD τ) (ms0_23 t) fullShare ((dats m 0 c).after 23 t) from by
    unfold Dat.leavesExact; rw [liveAt0_23_A t ((hcond0_0 t).mpr h0) ((hcond0_1 t).mpr h1) (fun h => h2 ((hcond0_2 t).mp h))], after0_23]
  rw [show PhiS m c t.val = Pipeline.ΦA spec0 c by rw [show t.val = 0 by omega]; rfl, PhiA0_eq]
  have hy := yAt_start m c t h1
  have hx := xAt_start m c t h1
  have hs := sAt_start m c t (by omega)
  have hi := iAt_start m c t (by omega)
  iintro ⟨⟨⟨⟨%d0s, HS0⟩, ⟨%d1s, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (triple_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexists _; iexact H22
  isplitl [H23]; · iexists _; iexact H23
  isplitl [HS0]; · iexists _; iexact HS0
  isplitl [HS1]; · iexists _; iexact HS1
  isplitl [HS2]; · iexact HS2
  iintro ⟨H0, H1, H2, H3, H4, H5, H6, H7, H8, H9, H10, H11, H12, H13, H14, H15, H16, H17, H18, H19, H20, H21, H22, H23, HS0, HS1, HS2⟩
  isplitl [HS0 HS1 HS2 Hg]
  · isplitl [HS0 HS1 HS2]
    · isplitl [HS0]; · rw [hy]; iexact HS0
      isplitl [HS1]; · rw [hx]; iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · rw [hs]; iexact H22
  rw [hi]; iexact H23

set_option maxHeartbeats 8000000 in
theorem sound_B (c : Dev nD) (t : Fin cfg0.N) (h0 : ¬t.val % 216 = 0) (h1 : ¬t.val % 27 = 0) (h2 : ¬t.val % 27 = 26) :
    bodyPre m c t ⊢ wp frame (wpE (defs₀ (F := F)) Variants.none c none) Set.univ (bodyAt0 t) (fun _ => bodyPost m c t) := by
  have hN : t.val < 216 := lt_of_lt_of_eq t.isLt (show cfg0.N = 216 from N_0)
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 22 t = owns (c : Thread nD τ) (ms0_22 t) fullShare ((dats m 0 c).after 22 t) from by
    unfold Dat.leavesExact; rw [liveAt0_22 t], after0_22]
  rw [Dat.leavesExact_idle (dats m 0 c) 19 t (idleAt0_19_B t (fun h => h0 ((hcond0_0 t).mp h)) (fun h => h1 ((hcond0_1 t).mp h)) (fun h => h2 ((hcond0_2 t).mp h))) (noFlush0_19_B t (fun h => h0 ((hcond0_0 t).mp h)) (fun h => h1 ((hcond0_1 t).mp h)) (fun h => h2 ((hcond0_2 t).mp h)))]
  rw [Dat.leavesExact_idle (dats m 0 c) 20 t (idleAt0_20_B t (fun h => h0 ((hcond0_0 t).mp h)) (fun h => h1 ((hcond0_1 t).mp h)) (fun h => h2 ((hcond0_2 t).mp h))) (noFlush0_20_B t (fun h => h0 ((hcond0_0 t).mp h)) (fun h => h1 ((hcond0_1 t).mp h)) (fun h => h2 ((hcond0_2 t).mp h)))]
  rw [Dat.leavesExact_idle (dats m 0 c) 21 t (idleAt0_21_B t (fun h => h0 ((hcond0_0 t).mp h)) (fun h => h1 ((hcond0_1 t).mp h)) (fun h => h2 ((hcond0_2 t).mp h))) (noFlush0_21_B t (fun h => h0 ((hcond0_0 t).mp h)) (fun h => h1 ((hcond0_1 t).mp h)) (fun h => h2 ((hcond0_2 t).mp h)))]
  rw [Dat.leavesExact_idle (dats m 0 c) 23 t (idleAt0_23_B t (fun h => h0 ((hcond0_0 t).mp h)) (fun h => h1 ((hcond0_1 t).mp h)) (fun h => h2 ((hcond0_2 t).mp h))) (noFlush0_23_B t (fun h => h0 ((hcond0_0 t).mp h)) (fun h => h1 ((hcond0_1 t).mp h)) (fun h => h2 ((hcond0_2 t).mp h)))]
  rw [PhiS_pos m c _ (by omega : t.val ≠ 0)]
  simp only [before0_22 m c t h0]
  have hy := yAt_step m c t h1
  have hx := xAt_step m c t h1
  have hs := sAt_step m c t (by omega)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (triple_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (sAt m c (t.val - 1)) (yAt m c (t.val - 1)) (xAt m c (t.val - 1)) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, HS0, HS1, HS2⟩
  isplitl [HS0 HS1 HS2 Hg]
  · isplitl [HS0 HS1 HS2]
    · isplitl [HS0]; · rw [hy]; iexact HS0
      isplitl [HS1]; · rw [hx]; iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · rw [hs]; iexact H22
  iexists _; iexact H23

set_option maxHeartbeats 8000000 in
theorem sound_C (c : Dev nD) (t : Fin cfg0.N) (h0 : ¬t.val % 216 = 0) (h1 : ¬t.val % 27 = 0) (h2 : t.val % 27 = 26) :
    bodyPre m c t ⊢ wp frame (wpE (defs₀ (F := F)) Variants.none c none) Set.univ (bodyAt0 t) (fun _ => bodyPost m c t) := by
  have hN : t.val < 216 := lt_of_lt_of_eq t.isLt (show cfg0.N = 216 from N_0)
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 22 t = owns (c : Thread nD τ) (ms0_22 t) fullShare ((dats m 0 c).after 22 t) from by
    unfold Dat.leavesExact; rw [liveAt0_22 t], after0_22]
  rw [show (dats m 0 c).leavesExact 19 t = owns (c : Thread nD τ) (ms0_19 t) fullShare ((dats m 0 c).after 19 t) from by
    unfold Dat.leavesExact; rw [liveAt0_19_C t (fun h => h0 ((hcond0_0 t).mp h)) (fun h => h1 ((hcond0_1 t).mp h)) ((hcond0_2 t).mpr h2)], after0_19]
  rw [show (dats m 0 c).leavesExact 20 t = owns (c : Thread nD τ) (ms0_20 t) fullShare ((dats m 0 c).after 20 t) from by
    unfold Dat.leavesExact; rw [liveAt0_20_C t (fun h => h0 ((hcond0_0 t).mp h)) (fun h => h1 ((hcond0_1 t).mp h)) ((hcond0_2 t).mpr h2)], after0_20]
  rw [show (dats m 0 c).leavesExact 21 t = owns (c : Thread nD τ) (ms0_21 t) fullShare ((dats m 0 c).after 21 t) from by
    unfold Dat.leavesExact; rw [liveAt0_21_C t (fun h => h0 ((hcond0_0 t).mp h)) (fun h => h1 ((hcond0_1 t).mp h)) ((hcond0_2 t).mpr h2)], after0_21]
  rw [show (dats m 0 c).leavesExact 23 t = owns (c : Thread nD τ) (ms0_23 t) fullShare ((dats m 0 c).after 23 t) from by
    unfold Dat.leavesExact; rw [liveAt0_23_C t (fun h => h0 ((hcond0_0 t).mp h)) (fun h => h1 ((hcond0_1 t).mp h)) ((hcond0_2 t).mpr h2)], after0_23]
  rw [PhiS_pos m c _ (by omega : t.val ≠ 0)]
  simp only [before0_22 m c t h0]
  simp only [before0_23 m c t h0 h1 h2]
  have hy := yAt_step m c t h1
  have hx := xAt_step m c t h1
  have hs := sAt_step m c t (by omega)
  have hi := iAt_step m c t h2
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (triple_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (sAt m c (t.val - 1)) (iAt m c (t.val - 1)) (yAt m c (t.val - 1)) (xAt m c (t.val - 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexact H22
  isplitl [H23]; · iexact H23
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, HS0, HS1, HS2⟩
  isplitl [HS0 HS1 HS2 Hg]
  · isplitl [HS0 HS1 HS2]
    · isplitl [HS0]; · rw [hy]; iexact HS0
      isplitl [HS1]; · rw [hx]; iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · rw [hy]; iexact H19
  isplitl [H20]; · rw [hx]; iexact H20
  isplitl [H21]; · rw [hx]; iexact H21
  isplitl [H22]; · rw [hs]; iexact H22
  rw [hi, hx]; iexact H23

set_option maxHeartbeats 8000000 in
theorem sound_D (c : Dev nD) (t : Fin cfg0.N) (h0 : ¬t.val % 216 = 0) (h1 : t.val % 27 = 0) (h2 : ¬t.val % 27 = 26) :
    bodyPre m c t ⊢ wp frame (wpE (defs₀ (F := F)) Variants.none c none) Set.univ (bodyAt0 t) (fun _ => bodyPost m c t) := by
  have hN : t.val < 216 := lt_of_lt_of_eq t.isLt (show cfg0.N = 216 from N_0)
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 22 t = owns (c : Thread nD τ) (ms0_22 t) fullShare ((dats m 0 c).after 22 t) from by
    unfold Dat.leavesExact; rw [liveAt0_22 t], after0_22]
  rw [Dat.leavesExact_idle (dats m 0 c) 19 t (idleAt0_19_D t (fun h => h0 ((hcond0_0 t).mp h)) ((hcond0_1 t).mpr h1) (fun h => h2 ((hcond0_2 t).mp h))) (noFlush0_19_D t (fun h => h0 ((hcond0_0 t).mp h)) ((hcond0_1 t).mpr h1) (fun h => h2 ((hcond0_2 t).mp h)))]
  rw [Dat.leavesExact_idle (dats m 0 c) 20 t (idleAt0_20_D t (fun h => h0 ((hcond0_0 t).mp h)) ((hcond0_1 t).mpr h1) (fun h => h2 ((hcond0_2 t).mp h))) (noFlush0_20_D t (fun h => h0 ((hcond0_0 t).mp h)) ((hcond0_1 t).mpr h1) (fun h => h2 ((hcond0_2 t).mp h)))]
  rw [Dat.leavesExact_idle (dats m 0 c) 21 t (idleAt0_21_D t (fun h => h0 ((hcond0_0 t).mp h)) ((hcond0_1 t).mpr h1) (fun h => h2 ((hcond0_2 t).mp h))) (noFlush0_21_D t (fun h => h0 ((hcond0_0 t).mp h)) ((hcond0_1 t).mpr h1) (fun h => h2 ((hcond0_2 t).mp h)))]
  rw [Dat.leavesExact_idle (dats m 0 c) 23 t (idleAt0_23_D t (fun h => h0 ((hcond0_0 t).mp h)) ((hcond0_1 t).mpr h1) (fun h => h2 ((hcond0_2 t).mp h))) (noFlush0_23_D t (fun h => h0 ((hcond0_0 t).mp h)) ((hcond0_1 t).mpr h1) (fun h => h2 ((hcond0_2 t).mp h)))]
  rw [PhiS_pos m c _ (by omega : t.val ≠ 0)]
  simp only [before0_22 m c t h0]
  have hy := yAt_start m c t h1
  have hx := xAt_start m c t h1
  have hs := sAt_step m c t (by omega)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (triple_D c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (sAt m c (t.val - 1)) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [HS0]; · iexists _; iexact HS0
  isplitl [HS1]; · iexists _; iexact HS1
  isplitl [HS2]; · iexact HS2
  iintro ⟨H0, H1, H2, H3, H4, H5, H6, H7, H8, H9, H10, H11, H12, H13, H14, H15, H16, H17, H18, H19, H20, H21, H22, H23, HS0, HS1, HS2⟩
  isplitl [HS0 HS1 HS2 Hg]
  · isplitl [HS0 HS1 HS2]
    · isplitl [HS0]; · rw [hy]; iexact HS0
      isplitl [HS1]; · rw [hx]; iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · rw [hs]; iexact H22
  iexists _; iexact H23

theorem sound_body (c : Dev nD) (t : Fin cfg0.N) :
    bodyPre m c t ⊢ wp frame (wpE (defs₀ (F := F)) Variants.none c none) Set.univ (bodyAt0 t) (fun _ => bodyPost m c t) := by
  by_cases h0 : t.val % 216 = 0
  · exact sound_A m c t h0 (by omega) (by omega)
  by_cases h1 : t.val % 27 = 0
  · exact sound_D m c t h0 h1 (by omega)
  by_cases h2 : t.val % 27 = 26
  · exact sound_C m c t h0 h1 h2
  · exact sound_B m c t h0 h1 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 216 := N_0; omega), PhiA0_eq]
  iintro ⟨⟨HS0, HS1, HS2⟩, Hg⟩
  isplitl [HS0 HS1 HS2]
  · isplitl [HS0]
    · iexists _; iexact HS0
    isplitl [HS1]
    · iexists _; iexact HS1
    iexact HS2
  iexact Hg

/-! ## The run and the frame -/

set_option backward.isDefEq.respectTransparency.types false in
/-- The launch: the pipeline's post and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
    ∧ r.2.sem = fun _ => 0) :=
  θ_run_and (frame_of m ρ (dats m) (A_eq m) (run_main m ρ)) ((θ_run defs _ _).mono (fun _ h => h.2) (run_main_quiescent m ρ))

end Cert.DownIdeal.Gen

end
-- ==== Proof.DownMachine.lean ====
/- The program printed with floats as bit patterns has the same definitions as the one printed for the extended reals,
   so its frame is that one's, which is proved for any floats. -/
module

public import proofs.«01_k».proof.Defs
public import proofs.«01_k».proof.Proof.Gen.Down
public import proofs.«01_k».proof.Proof.DownIdealFrame

@[expose] public section

set_option maxHeartbeats 8000000
set_option maxRecDepth 65536

noncomputable section

namespace Cert.Proof.Down

open Idealize.ShloMosaic Idealize.SL.Sem

theorem body_eq : @Cert.Down.defs₀ Bits _ _ = @Cert.DownIdeal.defs₀ Bits _ _ := by
  unfold Cert.Down.defs₀ Cert.DownIdeal.defs₀
  refine congrArg _ (funext fun l => funext fun a => ?_)
  match l, a with
  | 0, (t, s) => rfl

theorem defs_eq : @Cert.Down.defs Bits _ _ = @Cert.DownIdeal.defs Bits _ _ := congrArg (Pipeline.defs _) body_eq

theorem frame_machine : Cert.quiescent_Down (hDown := Cert.Down.Gen.facts) := by
  intro m g _
  have h := Cert.DownIdeal.Gen.frame (F := Bits) m g
  rw [defs_eq]
  exact h

end Cert.Proof.Down

end
-- ==== Proof.DownBlock.lean ====
/- The blocks one grid point of the down call computes, entry by entry. -/
module

public import proofs.«01_k».proof.Proof.DownIdealRows
public import proofs.«01_k».proof.Proof.Extended
public import proofs.«01_k».proof.Proof.Codes
public import Idealize.ShloMosaic.Lib.Pointwise

@[expose] public section

noncomputable section

namespace Cert.Proof.Down

open Cert.DownIdeal Cert.DownIdeal.Gen Idealize.ShloMosaic Idealize.ShloMosaic.TcCoe Idealize.SL.Sem
open scoped BigOperators

/-- The normalised activation, from one entry of the gate, of the up projection, and the row's inverse root mean square. -/
def norm (g u r : EReal) : EReal := max g 0 * max g 0 * u * r

/-- The gradient of the activation before the norm, from entries of gate, up, incoming gradient, and the row's statistics and weight. -/
def grad (g u e r c w : EReal) : EReal := r * (e * w - norm g u r * c)

/-- The gradients of the gate and of the up projection. -/
def gradG (g u e r c w : EReal) : EReal := grad g u e r c w * Ideal.ofBits .f32 0x40000000#32 * max g 0 * u
def gradU (g u e r c w : EReal) : EReal := grad g u e r c w * (max g 0 * max g 0)

variable (x0 x1 x2 : Vec Ideal S1x1 .f32) (x3 x4 x5 : Vec Ideal S512x256 .f32) (x6 x7 x8 : Vec Ideal S512x128 .f32) (x9 : Vec Ideal S1x256 .f32)
  (x10 x11 : Vec Ideal S2560x256 .i8) (x12 : Vec Ideal S256x2560 .i8) (x13 x14 : Vec Ideal S512x2560 .bf16) (x15 : Vec Ideal S1x2560 .f32)

theorem col_apply (r : Fin 512) : col x6 (ix2 r 0) = x6 (ix2 r 0) := by
  refine congrArg x6 (funext fun a => ?_)
  fin_cases a
  · exact Fin.ext (by show 0 + 1 * r.val = r.val; omega)
  · rfl

theorem one_eq : one x0 = x0 (ix2 0 0) := by
  refine congrArg x0 (funext fun a => ?_)
  fin_cases a <;> rfl

theorem n2_apply (r : Fin 512) (k : Fin 256) : n2 x3 x4 x6 (ix2 r k) = norm (x3 (ix2 r k)) (x4 (ix2 r k)) (x6 (ix2 r 0)) := by
  unfold n2 norm
  unfold_payloads
  pointwise []
  exact congrArg (_ * ·) (col_apply x6 r)

/-- The code of one entry: the weighted normalised activation over the row's scale, rounded to an integer and clipped to 8 signed bits. -/
def code (g u r w z : EReal) : EReal := clip (Ideal.div (norm g u r * w) z)

theorem q16_apply (r : Fin 512) (k : Fin 256) : q16 x3 x4 x6 x7 x9 (ix2 r k)
    = code (x3 (ix2 r k)) (x4 (ix2 r k)) (x6 (ix2 r 0)) (x9 (ix2 0 k)) (x7 (ix2 r 0)) := by
  unfold q16 code clip norm
  unfold_payloads
  pointwise []
  rw [show col x6 (ix2 r 0) = _ from col_apply x6 r, show col x7 (ix2 r 0) = _ from col_apply x7 r]

theorem qa_apply (r : Fin 512) (k : Fin 256) : qa x3 x4 x6 x7 x9 (ix2 r k)
    = FloatOps.fptosi (F := Ideal) (φ := .f32) 8 (code (x3 (ix2 r k)) (x4 (ix2 r k)) (x6 (ix2 r 0)) (x9 (ix2 0 k)) (x7 (ix2 r 0))) := by
  unfold qa code clip norm
  unfold_payloads
  pointwise []
  rw [show col x6 (ix2 r 0) = _ from col_apply x6 r, show col x7 (ix2 r 0) = _ from col_apply x7 r]

theorem dg_apply (r : Fin 512) (k : Fin 256) : dg x3 x4 x5 x6 x8 x9 (ix2 r k)
    = gradG (x3 (ix2 r k)) (x4 (ix2 r k)) (x5 (ix2 r k)) (x6 (ix2 r 0)) (x8 (ix2 r 0)) (x9 (ix2 0 k)) := by
  have h := n2_apply x3 x4 x6 r k
  unfold dg gradG grad
  rw [← h]
  generalize n2 x3 x4 x6 = n
  unfold_payloads
  pointwise []
  rw [show col x6 (ix2 r 0) = _ from col_apply x6 r, show col x8 (ix2 r 0) = _ from col_apply x8 r]

theorem du_apply (r : Fin 512) (k : Fin 256) : du x3 x4 x5 x6 x8 x9 (ix2 r k)
    = gradU (x3 (ix2 r k)) (x4 (ix2 r k)) (x5 (ix2 r k)) (x6 (ix2 r 0)) (x8 (ix2 r 0)) (x9 (ix2 0 k)) := by
  have h := n2_apply x3 x4 x6 r k
  unfold du gradU grad
  rw [← h]
  generalize n2 x3 x4 x6 = n
  unfold_payloads
  pointwise []
  rw [show col x6 (ix2 r 0) = _ from col_apply x6 r, show col x8 (ix2 r 0) = _ from col_apply x8 r]

/-! ## The two accumulators -/

/-- A step of the output's accumulator: 256 more products. -/
def yG (p : Vec Ideal S512x2560 .f32) (q : Vec Ideal S512x256 .bf16) : Vec Ideal S512x2560 .f32 := fun z =>
  p z + ∑ k : Fin 256, q (ix2 (z 0) k) * FloatOps.sitofp (F := Ideal) .bf16 (x12 (ix2 k (z 1)))

theorem pay26_apply (P : Vec Ideal S512x256 .f32) (q : Vec Ideal S512x256 .bf16) (W : Vec Ideal S256x256 .i8) (x : S512x256.Idx) :
    k0_pay26 P q (k0_pay25 W) (constant S512x256 .f32 0#32) x
      = P x + ∑ k : Fin 256, q (ix2 (x 0) k) * FloatOps.sitofp (F := Ideal) .bf16 (W (ix2 k (x 1))) := by
  unfold_payloads
  pointwise [dot_S512x256_S256x256_S512x256_1_0_0_1_n_n]

theorem yTile (p : Vec Ideal S512x2560 .f32) (q : Vec Ideal S512x256 .bf16) (o : ℕ) (h h') (x : S512x256.Idx) :
    k0_pay26 (View.ld p (Rect.unit ![0, o] ![512, 256] h)) q (k0_pay25 (View.ld x12 (Rect.unit ![0, o] ![256, 256] h'))) (constant S512x256 .f32 0#32) x
      = yG x12 p q ((Rect.unit (s := S512x2560) ![0, o] ![512, 256] h).idx x) := by
  refine (pay26_apply _ _ _ _).trans ?_
  unfold yG
  refine congrArg₂ (· + ·) rfl (Finset.sum_congr rfl fun k _ => congrArg₂ (· * ·) (congrArg q ?_) (congrArg _ (congrArg x12 ?_))) <;> funext a <;> fin_cases a
  · exact Fin.ext (by show (x 0).val = 0 + 1 * (x 0).val; omega)
  · rfl
  · exact Fin.ext (by show 0 + 1 * k.val = k.val; omega)
  · exact Fin.ext (by show o + 1 * (x 1).val = o + 1 * (x 1).val; omega)

theorem accY_apply (p : Vec Ideal S512x2560 .f32) (z : S512x2560.Idx) : accY x3 x4 x6 x7 x9 x12 p z = yG x12 p (q16 x3 x4 x6 x7 x9) z := by
  unfold accY
  refine View.canon_apply_of_pieces (yG x12 p (q16 x3 x4 x6 x7 x9)) _ ?_ z (yTiles_cover _ _ _ z)
  unfold yTiles
  simp only [List.forall_mem_cons, List.not_mem_nil, IsEmpty.forall_iff, implies_true, and_true]
  refine ⟨?_, ?_, ?_, ?_, ?_, ?_, ?_, ?_, ?_, ?_⟩ <;> intro x <;> exact yTile x12 p _ _ _ _ x

/-- A step of the accumulator of the input's gradient: 256 more products of each of the two hidden gradients, scaled. -/
def xG (p : Vec Ideal S512x2560 .f32) (a b : Vec Ideal S512x256 .bf16) : Vec Ideal S512x2560 .f32 := fun z =>
  p z + ((∑ k : Fin 256, a (ix2 (z 0) k) * FloatOps.sitofp (F := Ideal) .bf16 (x10 (ix2 (z 1) k))) * x0 (ix2 0 0)
    + (∑ k : Fin 256, b (ix2 (z 0) k) * FloatOps.sitofp (F := Ideal) .bf16 (x11 (ix2 (z 1) k))) * x1 (ix2 0 0))

theorem pay27_apply (P : Vec Ideal S512x256 .f32) (a b : Vec Ideal S512x256 .bf16) (W W' : Vec Ideal S256x256 .i8) (s s' : EReal) (x : S512x256.Idx) :
    k0_pay27 (F := Ideal) P a W s b W' s' x
      = P x + ((∑ k : Fin 256, a (ix2 (x 0) k) * FloatOps.sitofp (F := Ideal) .bf16 (W (ix2 (x 1) k))) * s
        + (∑ k : Fin 256, b (ix2 (x 0) k) * FloatOps.sitofp (F := Ideal) .bf16 (W' (ix2 (x 1) k))) * s') := by
  unfold_payloads
  pointwise [dot_S512x256_S256x256_S512x256_1_1_0_0_n_n]

theorem xTile (p : Vec Ideal S512x2560 .f32) (a b : Vec Ideal S512x256 .bf16) (o : ℕ) (h h') (x : S512x256.Idx) :
    k0_pay27 (View.ld p (Rect.unit ![0, o] ![512, 256] h)) a (View.ld x10 (Rect.unit ![o, 0] ![256, 256] h')) (one x0) b
        (View.ld x11 (Rect.unit ![o, 0] ![256, 256] h')) (one x1) x
      = xG x0 x1 x10 x11 p a b ((Rect.unit (s := S512x2560) ![0, o] ![512, 256] h).idx x) := by
  refine (pay27_apply _ _ _ _ _ _ _ _).trans ?_
  rw [one_eq, one_eq]
  unfold xG
  have e (q : Vec Ideal S512x256 .bf16) (W : Vec Ideal S2560x256 .i8) :
      ∑ k : Fin 256, q (ix2 (x 0) k) * FloatOps.sitofp (F := Ideal) .bf16 (View.ld W (Rect.unit ![o, 0] ![256, 256] h') (ix2 (x 1) k))
        = ∑ k : Fin 256, q (ix2 ((Rect.unit (s := S512x2560) ![0, o] ![512, 256] h).idx x 0) k)
          * FloatOps.sitofp (F := Ideal) .bf16 (W (ix2 ((Rect.unit (s := S512x2560) ![0, o] ![512, 256] h).idx x 1) k)) := by
    refine Finset.sum_congr rfl fun k _ => congrArg₂ (· * ·) (congrArg q ?_) (congrArg _ (congrArg W ?_)) <;> funext a <;> fin_cases a
    · exact Fin.ext (by show (x 0).val = 0 + 1 * (x 0).val; omega)
    · rfl
    · exact Fin.ext (by show o + 1 * (x 1).val = o + 1 * (x 1).val; omega)
    · exact Fin.ext (by show 0 + 1 * k.val = k.val; omega)
  exact congrArg₂ (· + ·) rfl (congrArg₂ (· + ·) (congrArg (· * _) (e a x10)) (congrArg (· * _) (e b x11)))

theorem accX_apply (p : Vec Ideal S512x2560 .f32) (z : S512x2560.Idx) : accX x0 x1 x3 x4 x5 x6 x8 x9 x10 x11 p z
    = xG x0 x1 x10 x11 p (dg x3 x4 x5 x6 x8 x9) (du x3 x4 x5 x6 x8 x9) z := by
  unfold accX
  refine View.canon_apply_of_pieces (xG x0 x1 x10 x11 p (dg x3 x4 x5 x6 x8 x9) (du x3 x4 x5 x6 x8 x9)) _ ?_ z (xTiles_cover _ _ _ _ _ _ _ z)
  unfold xTiles
  simp only [List.forall_mem_cons, List.not_mem_nil, IsEmpty.forall_iff, implies_true, and_true]
  refine ⟨?_, ?_, ?_, ?_, ?_, ?_, ?_, ?_, ?_, ?_⟩ <;> intro x <;> exact xTile x0 x1 x10 x11 p _ _ _ _ _ x

theorem pay11_apply (y : S8x6912.Idx) : k0_pay11 (F := Ideal) y = 0 := by unfold_payloads; pointwise []
theorem pay12_apply (y : S8x2560.Idx) : k0_pay12 (F := Ideal) y = 0 := by unfold_payloads; pointwise []
theorem pay13_apply (y : S512x2560.Idx) : k0_pay13 (F := Ideal) y = 0 := by unfold_payloads; pointwise []
theorem pay14_apply (y : S512x2560.Idx) : k0_pay14 (F := Ideal) y = 0 := by unfold_payloads; pointwise []

/-- Row `8 j + i` of a block of rows. -/
def row8 (j : Fin 64) (i : Fin 8) : Fin 512 := ⟨j.val * 8 + i.val, by have := j.isLt; have := i.isLt; omega⟩

theorem pay20_apply (e n : FVec Ideal S512x256 .f32) (s : Vec Ideal S8x256 .f32) (i : Fin 8) (k : Fin 256) :
    k0_pay20 e n s (ix2 i k) = s (ix2 i k) + ∑ j : Fin 64, e (ix2 (row8 j i) k) * n (ix2 (row8 j i) k) := by
  unfold_payloads
  pointwise []
  rfl

/-! ## What the last column step computes -/

/-- The inverse root mean square of row `r` of the input. -/
def rms (x : Vec Ideal S512x2560 .bf16) (r : Fin 512) : EReal :=
  inverse 2560 (Ideal.ofBits .f32 0x3727C5AC#32) (∑ n : Fin 2560, x (ix2 r n) * x (ix2 r n))

/-- The weighted mean row `r`'s norm gradient subtracts, from the finished gradient `a`. -/
def mean (x : Vec Ideal S512x2560 .bf16) (w : Vec Ideal S1x2560 .f32) (a : Vec Ideal S512x2560 .f32) (r : Fin 512) : EReal :=
  Ideal.div (∑ n : Fin 2560, a (ix2 r n) * w (ix2 0 n) * (x (ix2 r n) * rms x r)) ((2560 : ℝ) : EReal)

theorem pay6_apply (r : Fin 512) : k0_pay6 x13 (ix2 r 0) = rms x13 r := by
  unfold_payloads
  pointwise []
  unfold rms inverse
  rw [lit_2560]

theorem pay7_apply (r : Fin 512) (n : Fin 2560) : k0_pay7 x13 (ix2 r n) = x13 (ix2 r n) * rms x13 r := by
  have h := pay6_apply x13 r
  unfold k0_pay7 k0_pay4
  generalize k0_pay6 x13 = R at h ⊢
  pointwise []
  rw [h]

theorem pay8_apply (a : Vec Ideal S512x2560 .f32) (s : Vec Ideal S8x2560 .f32) (i : Fin 8) (n : Fin 2560) :
    k0_pay8 x13 a s (ix2 i n) = s (ix2 i n) + ∑ j : Fin 64, a (ix2 (row8 j i) n) * (x13 (ix2 (row8 j i) n) * rms x13 (row8 j i)) := by
  have h (r : Fin 512) := pay7_apply x13 r n
  unfold k0_pay8
  generalize k0_pay7 x13 = R at h ⊢
  pointwise []
  exact congrArg (_ + ·) (Finset.sum_congr rfl fun j _ => congrArg (_ * ·) (h (row8 j i)))

theorem pay1_apply (a : Vec Ideal S512x2560 .f32) (r : Fin 512) : k0_pay1 (k0_pay10 x13 a x15) (ix2 r 0) = mean x13 x15 a r := by
  have h (n : Fin 2560) := pay7_apply x13 r n
  unfold k0_pay1 k0_pay10 k0_pay9 mean
  generalize k0_pay7 x13 = R at h ⊢
  pointwise []
  rw [lit_2560]
  exact congrArg (Ideal.div · _) (Finset.sum_congr rfl fun n _ => congrArg (_ * ·) (h n))

theorem cOut_apply (a : Vec Ideal S512x2560 .f32) (r : Fin 512) (l : Fin 128) : cOut x13 x15 a (ix2 r l) = mean x13 x15 a r := by
  have h := pay1_apply x13 x15 a r
  unfold cOut k0_pay2
  generalize k0_pay1 (k0_pay10 x13 a x15) = R at h ⊢
  pointwise []
  exact h

theorem dxOut_apply (a : Vec Ideal S512x2560 .f32) (r : Fin 512) (n : Fin 2560) : dxOut x13 x14 x15 a (ix2 r n)
    = x14 (ix2 r n) + rms x13 r * (a (ix2 r n) * x15 (ix2 0 n) - x13 (ix2 r n) * rms x13 r * mean x13 x15 a r) := by
  have h := pay1_apply x13 x15 a r
  have h7 := pay7_apply x13 r n
  have h6 := pay6_apply x13 r
  unfold dxOut k0_pay3 k0_pay9
  generalize k0_pay1 (k0_pay10 x13 a x15) = R at h ⊢
  generalize k0_pay7 x13 = S at h7 ⊢
  generalize k0_pay6 x13 = T at h6 ⊢
  pointwise []
  rw [h, h7, h6]

theorem yOut_apply (a : Vec Ideal S512x2560 .f32) (r : Fin 512) (n : Fin 2560) : yOut x2 x7 x13 a (ix2 r n)
    = x13 (ix2 r n) + a (ix2 r n) * x7 (ix2 r 0) * x2 (ix2 0 0) := by
  unfold yOut
  rw [one_eq]
  unfold k0_pay5 k0_pay4
  pointwise []
  rw [show col x7 (ix2 r 0) = _ from col_apply x7 r]

end Cert.Proof.Down

end
-- ==== Proof.DownWhole.lean ====
/- The down call's whole arrays: what its blocks are blocks of. -/
module

public import proofs.«01_k».proof.Proof.DownIdealFrame
public import proofs.«01_k».proof.Proof.DownBlock
public import Idealize.ShloMosaic.Lib.Pipeline.ValueKit
public import Idealize.ShloMosaic.Lib.Pipeline.ReadBack

@[expose] public section

noncomputable section

namespace Cert.Proof.Down

open Cert.DownIdeal Cert.DownIdeal.Gen Idealize.ShloMosaic Idealize.ShloMosaic.TcCoe Idealize.SL.Sem
open scoped BigOperators

/-- The normalised activation, its codes as numbers and as stored, and the gradients of gate and up projection, for all rows and columns. -/
def Norm (G U : Vec Ideal S4096x6912 .f32) (r2 : Vec Ideal S4096x128 .f32) : Vec Ideal S4096x6912 .f32 :=
  fun y => norm (G y) (U y) (r2 (ix2 (y 0) 0))
def Code (G U : Vec Ideal S4096x6912 .f32) (r2 sa : Vec Ideal S4096x128 .f32) (w : Vec Ideal S1x6912 .f32) : Vec Ideal S4096x6912 .f32 :=
  fun y => code (G y) (U y) (r2 (ix2 (y 0) 0)) (w (ix2 0 (y 1))) (sa (ix2 (y 0) 0))
def Codes (G U : Vec Ideal S4096x6912 .f32) (r2 sa : Vec Ideal S4096x128 .f32) (w : Vec Ideal S1x6912 .f32) : Vec Ideal S4096x6912 .i8 :=
  fun y => FloatOps.fptosi (F := Ideal) (φ := .f32) 8 (Code G U r2 sa w y)
def GradG (G U E : Vec Ideal S4096x6912 .f32) (r2 cs : Vec Ideal S4096x128 .f32) (w : Vec Ideal S1x6912 .f32) : Vec Ideal S4096x6912 .bf16 :=
  fun y => gradG (G y) (U y) (E y) (r2 (ix2 (y 0) 0)) (cs (ix2 (y 0) 0)) (w (ix2 0 (y 1)))
def GradU (G U E : Vec Ideal S4096x6912 .f32) (r2 cs : Vec Ideal S4096x128 .f32) (w : Vec Ideal S1x6912 .f32) : Vec Ideal S4096x6912 .bf16 :=
  fun y => gradU (G y) (U y) (E y) (r2 (ix2 (y 0) 0)) (cs (ix2 (y 0) 0)) (w (ix2 0 (y 1)))

/-- The codes times the down weight's codes; a hidden gradient times a transposed weight's codes. -/
def Dot (Q : Vec Ideal S4096x6912 .f32) (W : Vec Ideal S6912x2560 .i8) : Vec Ideal S4096x2560 .f32 :=
  fun y => ∑ f : Fin 6912, Q (ix2 (y 0) f) * FloatOps.sitofp (F := Ideal) .bf16 (W (ix2 f (y 1)))
def DotT (A : Vec Ideal S4096x6912 .bf16) (W : Vec Ideal S2560x6912 .i8) : Vec Ideal S4096x2560 .f32 :=
  fun y => ∑ f : Fin 6912, A (ix2 (y 0) f) * FloatOps.sitofp (F := Ideal) .bf16 (W (ix2 (y 1) f))

/-- The gradient of the normalised input. -/
def GradX (sg su : Vec Ideal S1x1 .f32) (A B : Vec Ideal S4096x6912 .bf16) (W W' : Vec Ideal S2560x6912 .i8) : Vec Ideal S4096x2560 .f32 :=
  fun y => sg (ix2 0 0) * DotT A W y + su (ix2 0 0) * DotT B W' y

/-- The layer's output: the input plus the scaled product. -/
def Out (sd : Vec Ideal S1x1 .f32) (sa : Vec Ideal S4096x128 .f32) (x : Vec Ideal S4096x2560 .bf16) (Y : Vec Ideal S4096x2560 .f32) : Vec Ideal S4096x2560 .bf16 :=
  fun y => x y + Y y * sa (ix2 (y 0) 0) * sd (ix2 0 0)

/-- The inverse root mean square of row `r` of the input, and the weighted mean its norm gradient subtracts. -/
def rmsX (x : Vec Ideal S4096x2560 .bf16) (r : Fin 4096) : EReal :=
  inverse 2560 (Ideal.ofBits .f32 0x3727C5AC#32) (∑ n : Fin 2560, x (ix2 r n) * x (ix2 r n))
def meanX (x : Vec Ideal S4096x2560 .bf16) (w : Vec Ideal S1x2560 .f32) (X : Vec Ideal S4096x2560 .f32) (r : Fin 4096) : EReal :=
  Ideal.div (∑ n : Fin 2560, X (ix2 r n) * w (ix2 0 n) * (x (ix2 r n) * rmsX x r)) ((2560 : ℝ) : EReal)

/-- The gradient of the input, and the weighted means repeated over 128 lanes. -/
def Dx (x d : Vec Ideal S4096x2560 .bf16) (w : Vec Ideal S1x2560 .f32) (X : Vec Ideal S4096x2560 .f32) : Vec Ideal S4096x2560 .bf16 :=
  fun y => d y + rmsX x (y 0) * (X y * w (ix2 0 (y 1)) - x y * rmsX x (y 0) * meanX x w X (y 0))
def MeanX (x : Vec Ideal S4096x2560 .bf16) (w : Vec Ideal S1x2560 .f32) (X : Vec Ideal S4096x2560 .f32) : Vec Ideal S4096x128 .f32 :=
  fun y => meanX x w X (y 0)

/-- Row `8 j + i` of the whole array. -/
def row4096 (j : Fin 512) (i : Fin 8) : Fin 4096 := ⟨j.val * 8 + i.val, by have := j.isLt; have := i.isLt; omega⟩

/-- The gradients of the two norms' weights, as eight partial sums each: row `i` sums the rows `8 j + i`. -/
def GammaSub (E N : Vec Ideal S4096x6912 .f32) : Vec Ideal S8x6912 .f32 :=
  fun y => ∑ j : Fin 512, E (ix2 (row4096 j (y 0)) (y 1)) * N (ix2 (row4096 j (y 0)) (y 1))
def GammaIn (x : Vec Ideal S4096x2560 .bf16) (X : Vec Ideal S4096x2560 .f32) : Vec Ideal S8x2560 .f32 :=
  fun y => ∑ j : Fin 512, X (ix2 (row4096 j (y 0)) (y 1)) * (x (ix2 (row4096 j (y 0)) (y 1)) * rmsX x (row4096 j (y 0)))

/-- The block numbers of the windows at a grid point. -/
theorem ix0_ : ∀ t : Fin cfg0.N, win0_0.index t = ![0, 0] := (by decide +kernel : ∀ t : Fin grid0.N, _)
theorem ix1_ : ∀ t : Fin cfg0.N, win0_1.index t = ![0, 0] := (by decide +kernel : ∀ t : Fin grid0.N, _)
theorem ix2_ : ∀ t : Fin cfg0.N, win0_2.index t = ![0, 0] := (by decide +kernel : ∀ t : Fin grid0.N, _)
theorem ix3_ : ∀ t : Fin cfg0.N, win0_3.index t = ![t.val / 27, t.val % 27] := (by decide +kernel : ∀ t : Fin grid0.N, _)
theorem ix4_ : ∀ t : Fin cfg0.N, win0_4.index t = ![t.val / 27, t.val % 27] := (by decide +kernel : ∀ t : Fin grid0.N, _)
theorem ix5_ : ∀ t : Fin cfg0.N, win0_5.index t = ![t.val / 27, t.val % 27] := (by decide +kernel : ∀ t : Fin grid0.N, _)
theorem ix6_ : ∀ t : Fin cfg0.N, win0_6.index t = ![t.val / 27, 0] := (by decide +kernel : ∀ t : Fin grid0.N, _)
theorem ix7_ : ∀ t : Fin cfg0.N, win0_7.index t = ![t.val / 27, 0] := (by decide +kernel : ∀ t : Fin grid0.N, _)
theorem ix8_ : ∀ t : Fin cfg0.N, win0_8.index t = ![t.val / 27, 0] := (by decide +kernel : ∀ t : Fin grid0.N, _)
theorem ix9_ : ∀ t : Fin cfg0.N, win0_9.index t = ![0, t.val % 27] := (by decide +kernel : ∀ t : Fin grid0.N, _)
theorem ix10_ : ∀ t : Fin cfg0.N, win0_10.index t = ![0, t.val % 27] := (by decide +kernel : ∀ t : Fin grid0.N, _)
theorem ix11_ : ∀ t : Fin cfg0.N, win0_11.index t = ![0, t.val % 27] := (by decide +kernel : ∀ t : Fin grid0.N, _)
theorem ix12_ : ∀ t : Fin cfg0.N, win0_12.index t = ![t.val % 27, 0] := (by decide +kernel : ∀ t : Fin grid0.N, _)
theorem ix13_ : ∀ t : Fin cfg0.N, win0_13.index t = ![t.val / 27, 0] := (by decide +kernel : ∀ t : Fin grid0.N, _)
theorem ix14_ : ∀ t : Fin cfg0.N, win0_14.index t = ![t.val / 27, 0] := (by decide +kernel : ∀ t : Fin grid0.N, _)
theorem ix15_ : ∀ t : Fin cfg0.N, win0_15.index t = ![0, 0] := (by decide +kernel : ∀ t : Fin grid0.N, _)
theorem ix16_ : ∀ t : Fin cfg0.N, win0_16.index t = ![t.val / 27, t.val % 27] := (by decide +kernel : ∀ t : Fin grid0.N, _)
theorem ix17_ : ∀ t : Fin cfg0.N, win0_17.index t = ![t.val / 27, t.val % 27] := (by decide +kernel : ∀ t : Fin grid0.N, _)
theorem ix18_ : ∀ t : Fin cfg0.N, win0_18.index t = ![t.val / 27, t.val % 27] := (by decide +kernel : ∀ t : Fin grid0.N, _)

variable (m : (ℓ : Loc nD τ sig) → Buf (Elt Ideal) ℓ)

/-- Column `n`, for any number `n`; the row of the whole array that row `r` of point `t`'s block is. -/
def colN (n : ℕ) : Fin 6912 := ⟨n % 6912, Nat.mod_lt _ (by norm_num)⟩
def rowT (t : Fin cfg0.N) (r : Fin 512) : Fin 4096 :=
  ⟨512 * (t.val / 27) + r.val, by have := r.isLt; have : t.val < 216 := lt_of_lt_of_eq t.isLt N_0; omega⟩

theorem mod_eq {t : Fin cfg0.N} (l : Fin 256) : (256 * (t.val % 27) + l.val) % 6912 = 256 * (t.val % 27) + l.val :=
  Nat.mod_eq_of_lt (by have := l.isLt; have := Nat.mod_lt t.val (show 0 < 27 by norm_num); omega)

/-- The arguments on device `c`. -/
abbrev a0 (c : Dev nD) : Vec Ideal S1x1 .f32 := m ((c : Thread nD τ).loc main_arg0)
abbrev a1 (c : Dev nD) : Vec Ideal S1x1 .f32 := m ((c : Thread nD τ).loc main_arg1)
abbrev a2 (c : Dev nD) : Vec Ideal S1x1 .f32 := m ((c : Thread nD τ).loc main_arg2)
abbrev a3 (c : Dev nD) : Vec Ideal S4096x6912 .f32 := m ((c : Thread nD τ).loc main_arg3)
abbrev a4 (c : Dev nD) : Vec Ideal S4096x6912 .f32 := m ((c : Thread nD τ).loc main_arg4)
abbrev a5 (c : Dev nD) : Vec Ideal S4096x6912 .f32 := m ((c : Thread nD τ).loc main_arg5)
abbrev a6 (c : Dev nD) : Vec Ideal S4096x128 .f32 := m ((c : Thread nD τ).loc main_arg6)
abbrev a7 (c : Dev nD) : Vec Ideal S4096x128 .f32 := m ((c : Thread nD τ).loc main_arg7)
abbrev a8 (c : Dev nD) : Vec Ideal S4096x128 .f32 := m ((c : Thread nD τ).loc main_arg8)
abbrev a9 (c : Dev nD) : Vec Ideal S1x6912 .f32 := m ((c : Thread nD τ).loc main_arg9)
abbrev a10 (c : Dev nD) : Vec Ideal S2560x6912 .i8 := m ((c : Thread nD τ).loc main_arg10)
abbrev a11 (c : Dev nD) : Vec Ideal S2560x6912 .i8 := m ((c : Thread nD τ).loc main_arg11)
abbrev a12 (c : Dev nD) : Vec Ideal S6912x2560 .i8 := m ((c : Thread nD τ).loc main_arg12)
abbrev a13 (c : Dev nD) : Vec Ideal S4096x2560 .bf16 := m ((c : Thread nD τ).loc main_arg13)
abbrev a14 (c : Dev nD) : Vec Ideal S4096x2560 .bf16 := m ((c : Thread nD τ).loc main_arg14)
abbrev a15 (c : Dev nD) : Vec Ideal S1x2560 .f32 := m ((c : Thread nD τ).loc main_arg15)

variable (c : Dev nD) (t : Fin cfg0.N)

/-- The argument blocks, entry by entry. -/
theorem b0 : iblk m c 0 t (ix2 0 0) = a0 m c (ix2 0 0) := by blk_ext [iblk, V, ix0_]
theorem b1 : iblk m c 1 t (ix2 0 0) = a1 m c (ix2 0 0) := by blk_ext [iblk, V, ix1_]
theorem b2 : iblk m c 2 t (ix2 0 0) = a2 m c (ix2 0 0) := by blk_ext [iblk, V, ix2_]
theorem b3 (r : Fin 512) (l : Fin 256) : iblk m c 3 t (ix2 r l) = a3 m c (ix2 (rowT t r) (colN (256 * (t.val % 27) + l.val))) := by
  have hm := mod_eq (t := t) l
  unfold rowT colN
  blk_ext [iblk, V, ix3_, hm]
theorem b4 (r : Fin 512) (l : Fin 256) : iblk m c 4 t (ix2 r l) = a4 m c (ix2 (rowT t r) (colN (256 * (t.val % 27) + l.val))) := by
  have hm := mod_eq (t := t) l
  unfold rowT colN
  blk_ext [iblk, V, ix4_, hm]
theorem b5 (r : Fin 512) (l : Fin 256) : iblk m c 5 t (ix2 r l) = a5 m c (ix2 (rowT t r) (colN (256 * (t.val % 27) + l.val))) := by
  have hm := mod_eq (t := t) l
  unfold rowT colN
  blk_ext [iblk, V, ix5_, hm]
theorem b6 (r : Fin 512) : iblk m c 6 t (ix2 r 0) = a6 m c (ix2 (rowT t r) 0) := by
  unfold rowT
  blk_ext [iblk, V, ix6_]
theorem b7 (r : Fin 512) : iblk m c 7 t (ix2 r 0) = a7 m c (ix2 (rowT t r) 0) := by
  unfold rowT
  blk_ext [iblk, V, ix7_]
theorem b8 (r : Fin 512) : iblk m c 8 t (ix2 r 0) = a8 m c (ix2 (rowT t r) 0) := by
  unfold rowT
  blk_ext [iblk, V, ix8_]
theorem b9 (l : Fin 256) : iblk m c 9 t (ix2 0 l) = a9 m c (ix2 0 (colN (256 * (t.val % 27) + l.val))) := by
  have hm := mod_eq (t := t) l
  unfold colN
  blk_ext [iblk, V, ix9_, hm]
theorem b10 (n : Fin 2560) (l : Fin 256) : iblk m c 10 t (ix2 n l) = a10 m c (ix2 n (colN (256 * (t.val % 27) + l.val))) := by
  have hm := mod_eq (t := t) l
  unfold colN
  blk_ext [iblk, V, ix10_, hm]
theorem b11 (n : Fin 2560) (l : Fin 256) : iblk m c 11 t (ix2 n l) = a11 m c (ix2 n (colN (256 * (t.val % 27) + l.val))) := by
  have hm := mod_eq (t := t) l
  unfold colN
  blk_ext [iblk, V, ix11_, hm]
theorem b12 (l : Fin 256) (n : Fin 2560) : iblk m c 12 t (ix2 l n) = a12 m c (ix2 (colN (256 * (t.val % 27) + l.val)) n) := by
  have hm := mod_eq (t := t) l
  unfold colN
  blk_ext [iblk, V, ix12_, hm]
theorem b13 (r : Fin 512) (n : Fin 2560) : iblk m c 13 t (ix2 r n) = a13 m c (ix2 (rowT t r) n) := by
  unfold rowT
  blk_ext [iblk, V, ix13_]
theorem b14 (r : Fin 512) (n : Fin 2560) : iblk m c 14 t (ix2 r n) = a14 m c (ix2 (rowT t r) n) := by
  unfold rowT
  blk_ext [iblk, V, ix14_]
theorem b15 (n : Fin 2560) : iblk m c 15 t (ix2 0 n) = a15 m c (ix2 0 n) := by blk_ext [iblk, V, ix15_]

/-- The whole arrays on device `c`. -/
abbrev Nw := Norm (a3 m c) (a4 m c) (a6 m c)
abbrev Qw := Code (a3 m c) (a4 m c) (a6 m c) (a7 m c) (a9 m c)
abbrev Aw := GradG (a3 m c) (a4 m c) (a5 m c) (a6 m c) (a8 m c) (a9 m c)
abbrev Bw := GradU (a3 m c) (a4 m c) (a5 m c) (a6 m c) (a8 m c) (a9 m c)
abbrev Yw := Dot (Qw m c) (a12 m c)
abbrev Xw := GradX (a0 m c) (a1 m c) (Aw m c) (Bw m c) (a10 m c) (a11 m c)

theorem n2_blk (r : Fin 512) (l : Fin 256) : n2 (iblk m c 3 t) (iblk m c 4 t) (iblk m c 6 t) (ix2 r l)
    = Nw m c (ix2 (rowT t r) (colN (256 * (t.val % 27) + l.val))) := by
  rw [n2_apply, b3, b4, b6]; rfl
theorem q16_blk (r : Fin 512) (l : Fin 256) : q16 (iblk m c 3 t) (iblk m c 4 t) (iblk m c 6 t) (iblk m c 7 t) (iblk m c 9 t) (ix2 r l)
    = Qw m c (ix2 (rowT t r) (colN (256 * (t.val % 27) + l.val))) := by
  rw [q16_apply, b3, b4, b6, b7, b9]; rfl
theorem qa_blk (r : Fin 512) (l : Fin 256) : qa (iblk m c 3 t) (iblk m c 4 t) (iblk m c 6 t) (iblk m c 7 t) (iblk m c 9 t) (ix2 r l)
    = Codes (a3 m c) (a4 m c) (a6 m c) (a7 m c) (a9 m c) (ix2 (rowT t r) (colN (256 * (t.val % 27) + l.val))) := by
  rw [qa_apply, b3, b4, b6, b7, b9]; rfl
theorem dg_blk (r : Fin 512) (l : Fin 256) : dg (iblk m c 3 t) (iblk m c 4 t) (iblk m c 5 t) (iblk m c 6 t) (iblk m c 8 t) (iblk m c 9 t) (ix2 r l)
    = Aw m c (ix2 (rowT t r) (colN (256 * (t.val % 27) + l.val))) := by
  rw [dg_apply, b3, b4, b5, b6, b8, b9]; rfl
theorem du_blk (r : Fin 512) (l : Fin 256) : du (iblk m c 3 t) (iblk m c 4 t) (iblk m c 5 t) (iblk m c 6 t) (iblk m c 8 t) (iblk m c 9 t) (ix2 r l)
    = Bw m c (ix2 (rowT t r) (colN (256 * (t.val % 27) + l.val))) := by
  rw [du_apply, b3, b4, b5, b6, b8, b9]; rfl

theorem ix2_self (y : S512x256.Idx) : y = ix2 (y 0) (y 1) := by funext a; fin_cases a <;> rfl

/-- After the grid the codes and the two hidden gradients are the whole arrays. -/
theorem final16 : (dats m 0 c).arrAt 16 cfg0.N = Codes (a3 m c) (a4 m c) (a6 m c) (a7 m c) (a9 m c) := by
  refine (dats m 0 c).arrAt_eq_of_covers 16 _ (by decide +kernel) fun t hf y => ?_
  blk_simp
  rw [after0_16]
  refine (Eq.trans (congrArg _ (ix2_self y)) (qa_blk m c t (y 0) (y 1))).trans ?_
  refine congrArg (Codes (a3 m c) (a4 m c) (a6 m c) (a7 m c) (a9 m c)) ?_
  have hm := mod_eq (t := t) (y 1)
  blk_ext [rowT, colN, ix16_, hm]
theorem final17 : (dats m 0 c).arrAt 17 cfg0.N = Aw m c := by
  refine (dats m 0 c).arrAt_eq_of_covers 17 _ (by decide +kernel) fun t hf y => ?_
  blk_simp
  rw [after0_17]
  refine (Eq.trans (congrArg _ (ix2_self y)) (dg_blk m c t (y 0) (y 1))).trans ?_
  refine congrArg (Aw m c) ?_
  have hm := mod_eq (t := t) (y 1)
  blk_ext [rowT, colN, ix17_, hm]
theorem final18 : (dats m 0 c).arrAt 18 cfg0.N = Bw m c := by
  refine (dats m 0 c).arrAt_eq_of_covers 18 _ (by decide +kernel) fun t hf y => ?_
  blk_simp
  rw [after0_18]
  refine (Eq.trans (congrArg _ (ix2_self y)) (du_blk m c t (y 0) (y 1))).trans ?_
  refine congrArg (Bw m c) ?_
  have hm := mod_eq (t := t) (y 1)
  blk_ext [rowT, colN, ix18_, hm]

end Cert.Proof.Down

end
-- ==== Proof.DownAcc.lean ====
/- The down call's four accumulators: what each holds when its array is written. -/
module

public import proofs.«01_k».proof.Proof.DownWhole

@[expose] public section

noncomputable section

namespace Cert.Proof.Down

open Cert.DownIdeal Cert.DownIdeal.Gen Idealize.ShloMosaic Idealize.ShloMosaic.TcCoe Idealize.SL.Sem
open scoped BigOperators

variable (m : (ℓ : Loc nD τ sig) → Buf (Elt Ideal) ℓ) (c : Dev nD)

/-- Row `r` of row block `i`. -/
def rowI (i : Fin 8) (r : Fin 512) : Fin 4096 := ⟨512 * i.val + r.val, by have := i.isLt; have := r.isLt; omega⟩

theorem pt_div (i : Fin 8) {k : ℕ} (hk : k < 27) : (pt (27 * i.val + k)).val / 27 = i.val := by
  have := i.isLt
  show (27 * i.val + k) % 216 / 27 = i.val
  omega
theorem pt_mod (i : Fin 8) {k : ℕ} (hk : k < 27) : (pt (27 * i.val + k)).val % 27 = k := by
  have := i.isLt
  show (27 * i.val + k) % 216 % 27 = k
  omega
theorem rowT_pt (i : Fin 8) {k : ℕ} (hk : k < 27) (r : Fin 512) : rowT (pt (27 * i.val + k)) r = rowI i r :=
  Fin.ext (by show 512 * ((pt (27 * i.val + k)).val / 27) + r.val = _; rw [pt_div i hk]; rfl)

/-- All column steps together run over all columns. -/
theorem regroup (F : ℕ → EReal) : ∑ k ∈ Finset.range 27, ∑ l : Fin 256, F (256 * k + l.val) = ∑ f : Fin 6912, F f.val := by
  rw [Finset.sum_range, ← Fin.sum_mul_add_fin 27 256 (fun f : Fin 6912 => F f.val) rfl]
  refine Finset.sum_congr rfl fun i _ => Finset.sum_congr rfl fun l _ => ?_
  show F (256 * i.val + l.val) = F (i.val * 256 + l.val)
  rw [mul_comm 256]

theorem colN_val (f : Fin 6912) : colN f.val = f := Fin.ext (Nat.mod_eq_of_lt f.isLt)

/-! ## The output's accumulator -/

/-- One product of the output's sum. -/
def yTerm (R : Fin 4096) (n : Fin 2560) (f : ℕ) : EReal :=
  Qw m c (ix2 R (colN f)) * FloatOps.sitofp (F := Ideal) .bf16 (a12 m c (ix2 (colN f) n))

theorem stepY_apply (t : Fin cfg0.N) (p : Vec Ideal S512x2560 .f32) (r : Fin 512) (n : Fin 2560) :
    stepY m c t p (ix2 r n) = p (ix2 r n) + ∑ l : Fin 256, yTerm m c (rowT t r) n (256 * (t.val % 27) + l.val) := by
  unfold stepY
  refine (accY_apply _ _ _ _ _ _ _ _).trans ?_
  unfold yG yTerm
  refine congrArg (_ + ·) (Finset.sum_congr rfl fun l _ => congrArg₂ (· * ·) (q16_blk m c t r l) (congrArg _ (b12 m c t l n)))

theorem yAt_sum (i : Fin 8) (r : Fin 512) (n : Fin 2560) : ∀ k < 27, yAt m c (27 * i.val + k) (ix2 r n)
    = ∑ j ∈ Finset.range (k + 1), ∑ l : Fin 256, yTerm m c (rowI i r) n (256 * j + l.val) := by
  intro k
  have hi := i.isLt
  have hv (k : ℕ) (hk : k < 27) : (pt (27 * i.val + k)).val = 27 * i.val + k := Nat.mod_eq_of_lt (by omega)
  induction k with
  | zero =>
    intro hk
    have h := yAt_start m c (pt (27 * i.val + 0)) (pt_mod i hk)
    rw [hv 0 hk] at h
    rw [h, stepY_apply, pay13_apply, zero_add, Finset.sum_range_one, pt_mod i hk, rowT_pt i hk]
  | succ k ih =>
    intro hk
    have h := yAt_step m c (pt (27 * i.val + (k + 1))) (by rw [pt_mod i hk]; omega)
    rw [hv (k + 1) hk] at h
    rw [h, stepY_apply, Finset.sum_range_succ, pt_mod i hk, rowT_pt i hk,
      show 27 * i.val + (k + 1) - 1 = 27 * i.val + k by omega, ih (by omega)]

/-- At a row block's last column step the accumulator is the whole product. -/
theorem yAt_last (i : Fin 8) (r : Fin 512) (n : Fin 2560) : yAt m c (27 * i.val + 26) (ix2 r n) = Yw m c (ix2 (rowI i r) n) := by
  rw [yAt_sum m c i r n 26 (by norm_num)]
  refine (regroup (yTerm m c (rowI i r) n)).trans ?_
  unfold yTerm Yw Dot
  refine Finset.sum_congr rfl fun f _ => ?_
  rw [colN_val]
  rfl

/-! ## The accumulator of the input's gradient -/

/-- One product of each of the two sums. -/
def gTerm (R : Fin 4096) (n : Fin 2560) (f : ℕ) : EReal :=
  Aw m c (ix2 R (colN f)) * FloatOps.sitofp (F := Ideal) .bf16 (a10 m c (ix2 n (colN f)))
def uTerm (R : Fin 4096) (n : Fin 2560) (f : ℕ) : EReal :=
  Bw m c (ix2 R (colN f)) * FloatOps.sitofp (F := Ideal) .bf16 (a11 m c (ix2 n (colN f)))

theorem stepX_apply (t : Fin cfg0.N) (p : Vec Ideal S512x2560 .f32) (r : Fin 512) (n : Fin 2560) :
    stepX m c t p (ix2 r n) = p (ix2 r n) + ((∑ l : Fin 256, gTerm m c (rowT t r) n (256 * (t.val % 27) + l.val)) * a0 m c (ix2 0 0)
      + (∑ l : Fin 256, uTerm m c (rowT t r) n (256 * (t.val % 27) + l.val)) * a1 m c (ix2 0 0)) := by
  unfold stepX
  refine (accX_apply _ _ _ _ _ _ _ _ _ _ _ _).trans ?_
  unfold xG gTerm uTerm
  refine congrArg (_ + ·) (congrArg₂ (· + ·) (congrArg₂ (· * ·) (Finset.sum_congr rfl fun l _ => ?_) (b0 m c t)) (congrArg₂ (· * ·) (Finset.sum_congr rfl fun l _ => ?_) (b1 m c t)))
  · exact congrArg₂ (· * ·) (dg_blk m c t r l) (congrArg _ (b10 m c t n l))
  · exact congrArg₂ (· * ·) (du_blk m c t r l) (congrArg _ (b11 m c t n l))

theorem xAt_sum (i : Fin 8) (r : Fin 512) (n : Fin 2560) : ∀ k < 27, xAt m c (27 * i.val + k) (ix2 r n)
    = ∑ j ∈ Finset.range (k + 1), ((∑ l : Fin 256, gTerm m c (rowI i r) n (256 * j + l.val)) * a0 m c (ix2 0 0)
      + (∑ l : Fin 256, uTerm m c (rowI i r) n (256 * j + l.val)) * a1 m c (ix2 0 0)) := by
  intro k
  have hi := i.isLt
  have hv (k : ℕ) (hk : k < 27) : (pt (27 * i.val + k)).val = 27 * i.val + k := Nat.mod_eq_of_lt (by omega)
  induction k with
  | zero =>
    intro hk
    have h := xAt_start m c (pt (27 * i.val + 0)) (pt_mod i hk)
    rw [hv 0 hk] at h
    rw [h, stepX_apply, pay14_apply, zero_add, Finset.sum_range_one, pt_mod i hk, rowT_pt i hk]
  | succ k ih =>
    intro hk
    have h := xAt_step m c (pt (27 * i.val + (k + 1))) (by rw [pt_mod i hk]; omega)
    rw [hv (k + 1) hk] at h
    rw [h, stepX_apply, Finset.sum_range_succ, pt_mod i hk, rowT_pt i hk,
      show 27 * i.val + (k + 1) - 1 = 27 * i.val + k by omega, ih (by omega)]

/-- The two weight scales are finite nonnegative numbers. -/
def Good : Prop := (0 ≤ a0 m c (ix2 0 0) ∧ a0 m c (ix2 0 0) ≠ ⊤) ∧ 0 ≤ a1 m c (ix2 0 0) ∧ a1 m c (ix2 0 0) ≠ ⊤

/-- At a row block's last column step the accumulator is the whole gradient: the scales come out of the sums. -/
theorem xAt_last (hs : Good m c) (i : Fin 8) (r : Fin 512) (n : Fin 2560) : xAt m c (27 * i.val + 26) (ix2 r n) = Xw m c (ix2 (rowI i r) n) := by
  rw [xAt_sum m c i r n 26 (by norm_num), Finset.sum_add_distrib, ← sum_mul_nonneg _ _ _ hs.1.1 hs.1.2, ← sum_mul_nonneg _ _ _ hs.2.1 hs.2.2,
    regroup (gTerm m c (rowI i r) n), regroup (uTerm m c (rowI i r) n), mul_comm _ (a0 m c (ix2 0 0)), mul_comm _ (a1 m c (ix2 0 0))]
  unfold gTerm uTerm Xw GradX DotT
  refine congrArg₂ (· + ·) (congrArg (_ * ·) (Finset.sum_congr rfl fun f _ => ?_)) (congrArg (_ * ·) (Finset.sum_congr rfl fun f _ => ?_))
  · rw [colN_val]; rfl
  · rw [colN_val]; rfl

/-! ## The two gamma accumulators -/

/-- Row blocks and groups of eight rows together run over all groups. -/
theorem regroup8 (F : ℕ → EReal) : ∑ b ∈ Finset.range 8, ∑ j : Fin 64, F (b * 64 + j.val) = ∑ J : Fin 512, F J.val := by
  rw [Finset.sum_range, ← Fin.sum_mul_add_fin 8 64 (fun f : Fin 512 => F f.val) rfl]

/-- Row `8 J + i`, for any number `J`. -/
def row8N (J : ℕ) (i : Fin 8) : Fin 4096 := ⟨(J * 8 + i.val) % 4096, Nat.mod_lt _ (by norm_num)⟩

theorem row8N_val (J : Fin 512) (i : Fin 8) : row8N J.val i = row4096 J i :=
  Fin.ext (Nat.mod_eq_of_lt (by have := J.isLt; have := i.isLt; omega))

theorem rowT_row8 (t : Fin cfg0.N) (j : Fin 64) (i : Fin 8) : rowT t (row8 j i) = row8N (t.val / 27 * 64 + j.val) i :=
  Fin.ext (by
    have := j.isLt; have := i.isLt; have : t.val < 216 := lt_of_lt_of_eq t.isLt N_0
    show 512 * (t.val / 27) + (j.val * 8 + i.val) = ((t.val / 27 * 64 + j.val) * 8 + i.val) % 4096
    omega)

def sTerm (i : Fin 8) (f : Fin 6912) (J : ℕ) : EReal := a5 m c (ix2 (row8N J i) f) * Nw m c (ix2 (row8N J i) f)

theorem stepS_apply (t : Fin cfg0.N) (p : Vec Ideal S8x6912 .f32) (i : Fin 8) (f : Fin 6912) : stepS m c t p (ix2 i f)
    = if f.val / 256 = t.val % 27 then p (ix2 i f) + ∑ j : Fin 64, sTerm m c i f (t.val / 27 * 64 + j.val) else p (ix2 i f) := by
  have hk := blkCol_val t
  unfold stepS setCols
  show (if h : 256 * (blkCol t).val ≤ f.val ∧ f.val < 256 * (blkCol t).val + 256 then
    k0_pay20 (iblk m c 5 t) (n2 (iblk m c 3 t) (iblk m c 4 t) (iblk m c 6 t)) (cols (blkCol t) p) (ix2 i ⟨f.val - 256 * (blkCol t).val, by omega⟩) else p (ix2 i f)) = _
  by_cases h : f.val / 256 = t.val % 27
  · rw [if_pos h, dif_pos (by omega)]
    refine (pay20_apply _ _ _ _ _).trans ?_
    have e : colN (256 * (t.val % 27) + (f.val - 256 * (blkCol t).val)) = f :=
      Fin.ext (by have := f.isLt; show (256 * (t.val % 27) + (f.val - 256 * (blkCol t).val)) % 6912 = f.val; omega)
    refine congrArg₂ (· + ·) ?_ (Finset.sum_congr rfl fun j _ => ?_)
    · exact congrArg (fun g => p (ix2 i g)) (Fin.ext (by show 256 * (blkCol t).val + (f.val - 256 * (blkCol t).val) = f.val; omega))
    · refine (congrArg₂ (fun a b : EReal => a * b) (b5 m c t _ _) (n2_blk m c t _ _)).trans ?_
      unfold sTerm
      show a5 m c (ix2 (rowT t (row8 j i)) (colN (256 * (t.val % 27) + (f.val - 256 * (blkCol t).val))))
        * Nw m c (ix2 (rowT t (row8 j i)) (colN (256 * (t.val % 27) + (f.val - 256 * (blkCol t).val)))) = _
      rw [e, rowT_row8]
  · rw [if_neg h, dif_neg (by omega)]

theorem sAt_sum (i : Fin 8) (f : Fin 6912) : ∀ n < 216, sAt m c n (ix2 i f)
    = ∑ b ∈ Finset.range ((n + 27 - f.val / 256) / 27), ∑ j : Fin 64, sTerm m c i f (b * 64 + j.val) := by
  intro n
  have hf := f.isLt
  have hv (n : ℕ) (hn : n < 216) : (pt n).val = n := Nat.mod_eq_of_lt hn
  induction n with
  | zero =>
    intro hn
    have h := sAt_start m c (pt 0) (hv 0 hn)
    rw [hv 0 hn] at h
    rw [h, stepS_apply, pay11_apply, hv 0 hn]
    split
    · rename_i e
      rw [show (0 + 27 - f.val / 256) / 27 = 1 by omega, Finset.sum_range_one, zero_add]
    · rename_i e
      rw [show (0 + 27 - f.val / 256) / 27 = 0 by omega, Finset.sum_range_zero]
  | succ n ih =>
    intro hn
    have h := sAt_step m c (pt (n + 1)) (by rw [hv (n + 1) hn]; omega)
    rw [hv (n + 1) hn] at h
    rw [h, stepS_apply, hv (n + 1) hn, show n + 1 - 1 = n by omega, ih (by omega)]
    split
    · rename_i e
      rw [show (n + 1 + 27 - f.val / 256) / 27 = (n + 27 - f.val / 256) / 27 + 1 by omega, Finset.sum_range_succ,
        show (n + 1) / 27 = (n + 27 - f.val / 256) / 27 by omega]
    · rename_i e
      rw [show (n + 1 + 27 - f.val / 256) / 27 = (n + 27 - f.val / 256) / 27 by omega]

/-- At the end the hidden norm's accumulator holds its eight partial sums. -/
theorem sAt_last (i : Fin 8) (f : Fin 6912) : sAt m c 215 (ix2 i f) = GammaSub (a5 m c) (Nw m c) (ix2 i f) := by
  have hf := f.isLt
  rw [sAt_sum m c i f 215 (by norm_num), show (215 + 27 - f.val / 256) / 27 = 8 by omega]
  refine (regroup8 (sTerm m c i f)).trans ?_
  unfold sTerm GammaSub
  refine Finset.sum_congr rfl fun J _ => ?_
  rw [row8N_val]
  rfl

def iTerm (i : Fin 8) (n : Fin 2560) (J : ℕ) : EReal :=
  Xw m c (ix2 (row8N J i) n) * (a13 m c (ix2 (row8N J i) n) * rmsX (a13 m c) (row8N J i))

theorem rms_blk (t : Fin cfg0.N) (r : Fin 512) : rms (iblk m c 13 t) r = rmsX (a13 m c) (rowT t r) := by
  unfold rms rmsX
  refine congrArg (inverse _ _) (Finset.sum_congr rfl fun n _ => ?_)
  rw [b13]

/-- At a row block's last column step the gradient's accumulator, row by row of the whole array. -/
theorem xAt_blk (hs : Good m c) (t : Fin cfg0.N) (h : t.val % 27 = 26) (r : Fin 512) (n : Fin 2560) : xAt m c t.val (ix2 r n) = Xw m c (ix2 (rowT t r) n) := by
  have ht : t.val < 216 := lt_of_lt_of_eq t.isLt N_0
  have e := xAt_last m c hs ⟨t.val / 27, by omega⟩ r n
  rwa [show 27 * (⟨t.val / 27, by omega⟩ : Fin 8).val + 26 = t.val by show 27 * (t.val / 27) + 26 = t.val; omega] at e

theorem yAt_blk (t : Fin cfg0.N) (h : t.val % 27 = 26) (r : Fin 512) (n : Fin 2560) : yAt m c t.val (ix2 r n) = Yw m c (ix2 (rowT t r) n) := by
  have ht : t.val < 216 := lt_of_lt_of_eq t.isLt N_0
  have e := yAt_last m c ⟨t.val / 27, by omega⟩ r n
  rwa [show 27 * (⟨t.val / 27, by omega⟩ : Fin 8).val + 26 = t.val by show 27 * (t.val / 27) + 26 = t.val; omega] at e

theorem iAt_sum (hs : Good m c) (i : Fin 8) (k : Fin 2560) : ∀ n < 216, iAt m c n (ix2 i k)
    = ∑ b ∈ Finset.range ((n + 1) / 27), ∑ j : Fin 64, iTerm m c i k (b * 64 + j.val) := by
  intro n
  have hv (n : ℕ) (hn : n < 216) : (pt n).val = n := Nat.mod_eq_of_lt hn
  induction n with
  | zero =>
    intro hn
    rw [show (0 + 1) / 27 = 0 by norm_num, Finset.sum_range_zero]
    exact pay12_apply _
  | succ n ih =>
    intro hn
    by_cases e : (n + 1) % 27 = 26
    · have h := iAt_step m c (pt (n + 1)) (by rw [hv (n + 1) hn]; exact e)
      rw [show iAt m c (n + 1) = iAt m c (pt (n + 1)).val from congrArg (iAt m c) (hv (n + 1) hn).symm, h]
      rw [show (n + 1 + 1) / 27 = (n + 1) / 27 + 1 by omega, Finset.sum_range_succ, ← ih (by omega)]
      refine (pay8_apply _ _ _ _ _).trans ?_
      rw [show (pt (n + 1)).val - 1 = n by rw [hv (n + 1) hn]; omega]
      refine congrArg (_ + ·) (Finset.sum_congr rfl fun j _ => ?_)
      rw [xAt_blk m c hs (pt (n + 1)) (by rw [hv (n + 1) hn]; exact e), b13, rms_blk, rowT_row8, hv (n + 1) hn]
      rfl
    · have h := iAt_keep m c (pt (n + 1)) (by rw [hv (n + 1) hn]; omega) (by rw [hv (n + 1) hn]; exact e)
      rw [hv (n + 1) hn] at h
      rw [h, show n + 1 - 1 = n by omega, ih (by omega), show (n + 1 + 1) / 27 = (n + 1) / 27 by omega]

/-- At the end the input norm's accumulator holds its eight partial sums. -/
theorem iAt_last (hs : Good m c) (i : Fin 8) (k : Fin 2560) : iAt m c 215 (ix2 i k) = GammaIn (a13 m c) (Xw m c) (ix2 i k) := by
  rw [iAt_sum m c hs i k 215 (by norm_num), show (215 + 1) / 27 = 8 by norm_num]
  refine (regroup8 (iTerm m c i k)).trans ?_
  unfold iTerm GammaIn
  refine Finset.sum_congr rfl fun J _ => ?_
  rw [row8N_val]
  rfl

end Cert.Proof.Down

end
-- ==== Proof.DownFinal.lean ====
/- The down call's remaining output arrays. -/
module

public import proofs.«01_k».proof.Proof.DownAcc

@[expose] public section

noncomputable section

namespace Cert.Proof.Down

open Cert.DownIdeal Cert.DownIdeal.Gen Idealize.ShloMosaic Idealize.ShloMosaic.TcCoe Idealize.SL.Sem
open scoped BigOperators

variable (m : (ℓ : Loc nD τ sig) → Buf (Elt Ideal) ℓ) (c : Dev nD)

theorem ix19_ : ∀ t : Fin cfg0.N, win0_19.index t = ![t.val / 27, 0] := (by decide +kernel : ∀ t : Fin grid0.N, _)
theorem ix20_ : ∀ t : Fin cfg0.N, win0_20.index t = ![t.val / 27, 0] := (by decide +kernel : ∀ t : Fin grid0.N, _)
theorem ix21_ : ∀ t : Fin cfg0.N, win0_21.index t = ![t.val / 27, 0] := (by decide +kernel : ∀ t : Fin grid0.N, _)
theorem ix22_ : ∀ t : Fin cfg0.N, win0_22.index t = ![0, 0] := (by decide +kernel : ∀ t : Fin grid0.N, _)
theorem ix23_ : ∀ t : Fin cfg0.N, win0_23.index t = ![0, 0] := (by decide +kernel : ∀ t : Fin grid0.N, _)

/-- The points at which a block is written back. -/
theorem fl19_ : ∀ t : Fin cfg0.N, (cfg0.win 19).flush t = true → t.val % 27 = 26 := (by decide +kernel : ∀ t : Fin grid0.N, _)
theorem fl20_ : ∀ t : Fin cfg0.N, (cfg0.win 20).flush t = true → t.val % 27 = 26 := (by decide +kernel : ∀ t : Fin grid0.N, _)
theorem fl21_ : ∀ t : Fin cfg0.N, (cfg0.win 21).flush t = true → t.val % 27 = 26 := (by decide +kernel : ∀ t : Fin grid0.N, _)
theorem fl22_ : ∀ t : Fin cfg0.N, (cfg0.win 22).flush t = true → t.val = 215 := (by decide +kernel : ∀ t : Fin grid0.N, _)
theorem fl23_ : ∀ t : Fin cfg0.N, (cfg0.win 23).flush t = true → t.val = 215 := (by decide +kernel : ∀ t : Fin grid0.N, _)

theorem selfX (y : S512x2560.Idx) : y = ix2 (y 0) (y 1) := by funext a; fin_cases a <;> rfl
theorem selfC (y : S512x128.Idx) : y = ix2 (y 0) (y 1) := by funext a; fin_cases a <;> rfl
theorem selfS (y : S8x6912.Idx) : y = ix2 (y 0) (y 1) := by funext a; fin_cases a <;> rfl
theorem selfI (y : S8x2560.Idx) : y = ix2 (y 0) (y 1) := by funext a; fin_cases a <;> rfl

variable (t : Fin cfg0.N) (h : t.val % 27 = 26)

theorem yOut_blk (h : t.val % 27 = 26) (r : Fin 512) (n : Fin 2560) : yOut (iblk m c 2 t) (iblk m c 7 t) (iblk m c 13 t) (yAt m c t.val) (ix2 r n)
    = Out (a2 m c) (a7 m c) (a13 m c) (Yw m c) (ix2 (rowT t r) n) := by
  rw [yOut_apply, b2, b7, b13, yAt_blk m c t h]; rfl

theorem mean_blk (hs : Good m c) (h : t.val % 27 = 26) (r : Fin 512) :
    mean (iblk m c 13 t) (iblk m c 15 t) (xAt m c t.val) r = meanX (a13 m c) (a15 m c) (Xw m c) (rowT t r) := by
  unfold mean meanX
  refine congrArg (Ideal.div · _) (Finset.sum_congr rfl fun n _ => ?_)
  rw [xAt_blk m c hs t h, b13, b15, rms_blk]

theorem dxOut_blk (hs : Good m c) (h : t.val % 27 = 26) (r : Fin 512) (n : Fin 2560) :
    dxOut (iblk m c 13 t) (iblk m c 14 t) (iblk m c 15 t) (xAt m c t.val) (ix2 r n)
      = Dx (a13 m c) (a14 m c) (a15 m c) (Xw m c) (ix2 (rowT t r) n) := by
  rw [dxOut_apply, mean_blk m c t hs h, xAt_blk m c hs t h, b13, b14, b15, rms_blk]; rfl

theorem cOut_blk (hs : Good m c) (h : t.val % 27 = 26) (r : Fin 512) (l : Fin 128) :
    cOut (iblk m c 13 t) (iblk m c 15 t) (xAt m c t.val) (ix2 r l) = MeanX (a13 m c) (a15 m c) (Xw m c) (ix2 (rowT t r) l) := by
  rw [cOut_apply, mean_blk m c t hs h]; rfl

/-- After the grid the output array is the whole output. -/
theorem final19 : (dats m 0 c).arrAt 19 cfg0.N = Out (a2 m c) (a7 m c) (a13 m c) (Yw m c) := by
  refine (dats m 0 c).arrAt_eq_of_covers 19 _ (by decide +kernel) fun t hf y => ?_
  have h := fl19_ t hf
  blk_simp
  rw [after0_19]
  refine (Eq.trans (congrArg _ (selfX y)) (yOut_blk m c t h (y 0) (y 1))).trans ?_
  refine congrArg (Out (a2 m c) (a7 m c) (a13 m c) (Yw m c)) ?_
  blk_ext [rowT, ix19_]

/-- The gradient of the input. -/
theorem final20 (hs : Good m c) : (dats m 0 c).arrAt 20 cfg0.N = Dx (a13 m c) (a14 m c) (a15 m c) (Xw m c) := by
  refine (dats m 0 c).arrAt_eq_of_covers 20 _ (by decide +kernel) fun t hf y => ?_
  have h := fl20_ t hf
  blk_simp
  rw [after0_20]
  refine (Eq.trans (congrArg _ (selfX y)) (dxOut_blk m c t hs h (y 0) (y 1))).trans ?_
  refine congrArg (Dx (a13 m c) (a14 m c) (a15 m c) (Xw m c)) ?_
  blk_ext [rowT, ix20_]

/-- The weighted means. -/
theorem final21 (hs : Good m c) : (dats m 0 c).arrAt 21 cfg0.N = MeanX (a13 m c) (a15 m c) (Xw m c) := by
  refine (dats m 0 c).arrAt_eq_of_covers 21 _ (by decide +kernel) fun t hf y => ?_
  have h := fl21_ t hf
  blk_simp
  rw [after0_21]
  refine (Eq.trans (congrArg _ (selfC y)) (cOut_blk m c t hs h (y 0) (y 1))).trans ?_
  refine congrArg (MeanX (a13 m c) (a15 m c) (Xw m c)) ?_
  blk_ext [rowT, ix21_]

/-- The partial sums of the gradients of the two norms' weights. -/
theorem final22 : (dats m 0 c).arrAt 22 cfg0.N = GammaSub (a5 m c) (Nw m c) := by
  refine (dats m 0 c).arrAt_eq_of_covers 22 _ (by decide +kernel) fun t hf y => ?_
  have h := fl22_ t hf
  blk_simp
  rw [after0_22, h]
  refine (Eq.trans (congrArg _ (selfS y)) (sAt_last m c (y 0) (y 1))).trans ?_
  refine congrArg (GammaSub (a5 m c) (Nw m c)) ?_
  blk_ext [ix22_]

theorem final23 (hs : Good m c) : (dats m 0 c).arrAt 23 cfg0.N = GammaIn (a13 m c) (Xw m c) := by
  refine (dats m 0 c).arrAt_eq_of_covers 23 _ (by decide +kernel) fun t hf y => ?_
  have h := fl23_ t hf
  blk_simp
  rw [after0_23, h]
  refine (Eq.trans (congrArg _ (selfI y)) (iAt_last m c hs (y 0) (y 1))).trans ?_
  refine congrArg (GammaIn (a13 m c) (Xw m c)) ?_
  blk_ext [ix23_]

end Cert.Proof.Down

end
-- ==== Proof.DownRef.lean ====
/- The down reference's results, entry by entry. -/
module

public import proofs.«01_k».proof.Proof.DownWhole
public import proofs.«01_k».proof.Proof.Gen.RefDownIdeal.Read

@[expose] public section

noncomputable section

namespace Cert.Proof.Down

open Cert.RefDownIdeal Cert.RefDownIdeal.Read Idealize.ShloMosaic Idealize.ShloMosaic.TcCoe Idealize.SL.Sem
open scoped BigOperators

variable (x0 x1 x2 : Vec Ideal S1x1 .f32) (x3 x4 x5 : Vec Ideal S4096x6912 .f32) (x6 x7 x8 : Vec Ideal S4096x128 .f32) (x9 : Vec Ideal S1x6912 .f32)
  (x10 x11 : Vec Ideal S2560x6912 .i8) (x12 : Vec Ideal S6912x2560 .i8) (x13 x14 : Vec Ideal S4096x2560 .bf16) (x15 : Vec Ideal S1x2560 .f32)

theorem ref8 : val_main_v8 x3 x4 x6 = Norm x3 x4 x6 := by
  funext y
  pointwise [val_main_v8, val_main_v7, val_main_v6, val_main_v5, val_main_v4, val_main_call0_v0, val_main_call0_cst, val_main_v0]
  rfl

theorem ref14 : val_main_v14 x3 x4 x6 x7 x9 = Code x3 x4 x6 x7 x9 := by
  unfold val_main_v14 val_main_call2_v2 val_main_v13 val_main_v12 val_main_v10
  rw [ref8]
  unfold Code code clip
  generalize hN : Norm x3 x4 x6 = N
  funext y
  have hy := congrFun hN y
  unfold Norm at hy
  rw [hy]
  pointwise [val_main_call2_v4, val_main_call2_v3, val_main_c_0, val_main_call2_v1, val_main_call2_v0, val_main_c, val_main_v9, val_main_v11, val_main_v1]
  rfl

theorem ref16 : val_main_v16 x3 x4 x6 x7 x9 = Codes x3 x4 x6 x7 x9 := by
  unfold val_main_v16 val_main_v15
  rw [ref14]
  funext y
  exact code_eq _

theorem ref19 : val_main_v19 x3 x4 x6 x7 x9 = Code x3 x4 x6 x7 x9 := by
  unfold val_main_v19 val_main_v18 val_main_v17
  rw [ref16]
  funext y
  refine (sitofp_ext .f32 .f32 _).trans ?_
  exact decode _ _

theorem ref23 : val_main_v23 x3 x4 x6 x7 x9 x12 = Dot (Code x3 x4 x6 x7 x9) x12 := by
  unfold val_main_v23
  rw [ref19]
  generalize Code x3 x4 x6 x7 x9 = Q
  funext y
  pointwise [val_main_v22, val_main_v21, val_main_v20]
  unfold Dot
  exact Finset.sum_congr rfl fun k _ => congrArg₂ (· * ·) rfl (sitofp_ext _ _ _)

theorem ref29 : val_main_v29 x2 x3 x4 x6 x7 x9 x12 x13 = Out x2 x7 x13 (Dot (Code x3 x4 x6 x7 x9) x12) := by
  unfold val_main_v29 val_main_v28 val_main_v27 val_main_v25
  rw [ref23]
  generalize Dot (Code x3 x4 x6 x7 x9) x12 = Y
  funext y
  pointwise [val_main_v3, val_main_v24, val_main_v1, val_main_v26]
  rfl

theorem ref39 (y : S4096x6912.Idx) : val_main_v39 x3 x4 x5 x6 x8 x9 y
    = grad (x3 y) (x4 y) (x5 y) (x6 (ix2 (y 0) 0)) (x8 (ix2 (y 0) 0)) (x9 (ix2 0 (y 1))) := by
  unfold val_main_v39 val_main_v37 val_main_v36 val_main_v34 grad
  rw [ref8, show norm (x3 y) (x4 y) (x6 (ix2 (y 0) 0)) = Norm x3 x4 x6 y from rfl]
  generalize Norm x3 x4 x6 = N
  pointwise [val_main_v38, val_main_v0, val_main_v33, val_main_v35, val_main_v2]

theorem ref46 : val_main_v46 x3 x4 x5 x6 x8 x9 = GradG x3 x4 x5 x6 x8 x9 := by
  funext y
  have h := ref39 x3 x4 x5 x6 x8 x9 y
  unfold GradG gradG
  rw [← h]
  unfold val_main_v46 val_main_v45 val_main_v44 val_main_v43
  generalize val_main_v39 x3 x4 x5 x6 x8 x9 = D
  pointwise [val_main_v42, val_main_cst_1, val_main_v4, val_main_call0_v0, val_main_call0_cst]

theorem ref41 : val_main_v41 x3 x4 x5 x6 x8 x9 = GradU x3 x4 x5 x6 x8 x9 := by
  funext y
  have h := ref39 x3 x4 x5 x6 x8 x9 y
  unfold GradU gradU
  rw [← h]
  unfold val_main_v41 val_main_v40
  generalize val_main_v39 x3 x4 x5 x6 x8 x9 = D
  pointwise [val_main_v5, val_main_v4, val_main_call0_v0, val_main_call0_cst]

theorem ref59 : val_main_v59 x0 x1 x3 x4 x5 x6 x8 x9 x10 x11
    = GradX x0 x1 (GradG x3 x4 x5 x6 x8 x9) (GradU x3 x4 x5 x6 x8 x9) x10 x11 := by
  unfold val_main_v59 val_main_v58 val_main_v56 val_main_v52 val_main_v50
  rw [ref46, ref41]
  generalize GradG x3 x4 x5 x6 x8 x9 = A
  generalize GradU x3 x4 x5 x6 x8 x9 = B
  funext y
  pointwise [val_main_v51, val_main_v57, val_main_v49, val_main_v48, val_main_v47, val_main_v55, val_main_v54, val_main_v53]
  unfold GradX DotT
  exact congrArg₂ (· + ·) (congrArg₂ (· * ·) rfl (Finset.sum_congr rfl fun k _ => congrArg₂ (· * ·) rfl (sitofp_ext _ _ _)))
    (congrArg₂ (· * ·) rfl (Finset.sum_congr rfl fun k _ => congrArg₂ (· * ·) rfl (sitofp_ext _ _ _)))

theorem ref32 : val_main_v32 x3 x4 x5 x6 = GammaSub x5 (Norm x3 x4 x6) := by
  unfold val_main_v32 val_main_v31 val_main_v30
  rw [ref8]
  generalize Norm x3 x4 x6 = N
  funext y
  pointwise [val_main_cst]
  rfl

theorem ref69 (r : Fin 4096) : val_main_v69 x13 (ix2 r 0) = rmsX x13 r := by
  pointwise [val_main_v69, val_main_v68, val_main_v67, val_main_v66, val_main_v65, val_main_v64, val_main_v63, val_main_v62, val_main_v61,
    val_main_v60, val_main_v3, val_main_cst_5, val_main_cst_4, val_main_cst_3, val_main_cst_2]
  unfold rmsX inverse
  rw [lit_2560]

theorem ref71 : val_main_v71 x13 = fun y => x13 y * rmsX x13 (y 0) := by
  funext y
  have h := ref69 x13 (y 0)
  unfold val_main_v71 val_main_v70
  generalize val_main_v69 x13 = R at h ⊢
  pointwise [val_main_v3]
  exact congrArg (_ * ·) h

theorem ref74 : val_main_v74 x0 x1 x3 x4 x5 x6 x8 x9 x10 x11 x13
    = GammaIn x13 (GradX x0 x1 (GradG x3 x4 x5 x6 x8 x9) (GradU x3 x4 x5 x6 x8 x9) x10 x11) := by
  unfold val_main_v74 val_main_v73 val_main_v72
  rw [ref59, ref71]
  generalize GradX x0 x1 (GradG x3 x4 x5 x6 x8 x9) (GradU x3 x4 x5 x6 x8 x9) x10 x11 = X
  funext y
  pointwise [val_main_cst_6]
  rfl

theorem ref81 (r : Fin 4096) : val_main_v81 x0 x1 x3 x4 x5 x6 x8 x9 x10 x11 x13 x15 (ix2 r 0)
    = meanX x13 x15 (GradX x0 x1 (GradG x3 x4 x5 x6 x8 x9) (GradU x3 x4 x5 x6 x8 x9) x10 x11) r := by
  unfold val_main_v81 val_main_v79 val_main_v78 val_main_v77 val_main_v76
  rw [ref59, ref71]
  generalize GradX x0 x1 (GradG x3 x4 x5 x6 x8 x9) (GradU x3 x4 x5 x6 x8 x9) x10 x11 = X
  pointwise [val_main_v75, val_main_cst_7, val_main_v80, val_main_cst_8]
  unfold meanX
  rw [lit_2560]

theorem ref90 : val_main_v90 x0 x1 x3 x4 x5 x6 x8 x9 x10 x11 x13 x15
    = MeanX x13 x15 (GradX x0 x1 (GradG x3 x4 x5 x6 x8 x9) (GradU x3 x4 x5 x6 x8 x9) x10 x11) := by
  funext y
  rw [val_main_v90_apply]
  refine Eq.trans (congrArg _ ?_) (ref81 _ _ _ _ _ _ _ _ _ _ _ _ (y 0))
  funext a; fin_cases a <;> rfl

theorem ref89 : val_main_v89 x0 x1 x3 x4 x5 x6 x8 x9 x10 x11 x13 x14 x15
    = Dx x13 x14 x15 (GradX x0 x1 (GradG x3 x4 x5 x6 x8 x9) (GradU x3 x4 x5 x6 x8 x9) x10 x11) := by
  funext y
  have h := ref81 x0 x1 x3 x4 x5 x6 x8 x9 x10 x11 x13 x15 (y 0)
  have h9 := ref69 x13 (y 0)
  unfold val_main_v89 val_main_v88 val_main_v87 val_main_v86 val_main_v85 val_main_v84 val_main_v83 val_main_v76
  rw [ref59, ref71]
  generalize val_main_v81 x0 x1 x3 x4 x5 x6 x8 x9 x10 x11 x13 x15 = M at h ⊢
  generalize val_main_v69 x13 = R at h9 ⊢
  generalize GradX x0 x1 (GradG x3 x4 x5 x6 x8 x9) (GradU x3 x4 x5 x6 x8 x9) x10 x11 = X at h ⊢
  pointwise [val_main_v75, val_main_v82]
  unfold Dx
  rw [← h, ← h9]

end Cert.Proof.Down

end
-- ==== Proof.DownPre.lean ====
/- What the precondition of the down call says: the two scales of the weights are neither negative nor
   infinite. -/
module

public import proofs.«01_k».proof.Defs
public import proofs.«01_k».proof.Proof.DownAcc
public import proofs.«01_k».proof.Proof.Gen.Pre_sat

@[expose] public section

noncomputable section

namespace Cert.Proof.Down

open Cert.DownIdeal Cert.DownIdeal.Gen Idealize.ShloMosaic Idealize.ShloMosaic.TcCoe Idealize.SL.Sem

/-- The pattern of positive infinity. -/
theorem lit_top : Ideal.ofBits .f32 0x7F800000#32 = ⊤ := by simp [Ideal.ofBits, Ideal.ieee]

/-- The test of one scale, read as an inequality. -/
theorem test_scale (x : EReal)
    (h : IntOp.andi (Ideal.cmp .oge x (Ideal.ofBits .f32 0x00000000#32)) (Ideal.cmp .olt x (Ideal.ofBits .f32 0x7F800000#32)) = 1#1) :
    0 ≤ x ∧ x ≠ ⊤ := by
  rw [lit_top, show Ideal.ofBits .f32 0x00000000#32 = (0 : EReal) by simp [Ideal.ofBits, Ideal.ieee]] at h
  by_cases h0 : 0 ≤ x
  · by_cases h1 : x < ⊤
    · exact ⟨h0, h1.ne⟩
    · simp [Ideal.cmp, IntOp.andi, h0, h1] at h
  · simp [Ideal.cmp, IntOp.andi, h0] at h

/-- The precondition, at the two scales it tests. -/
theorem fn_scale [Cert.Pre_sat.Facts] (x0 x1 x2 : Vec Ideal S1x1 .f32) (x3 x4 x5 : Vec Ideal S4096x6912 .f32) (x6 x7 x8 : Vec Ideal S4096x128 .f32)
    (x9 : Vec Ideal S1x6912 .f32) (x10 x11 : Vec Ideal S2560x6912 .i8) (x12 : Vec Ideal S6912x2560 .i8)
    (x13 x14 : Vec Ideal S4096x2560 .bf16) (x15 : Vec Ideal S1x2560 .f32)
    (h : Cert.Pre_sat.fn (F := Ideal) x0 x1 x2 x3 x4 x5 x6 x7 x8 x9 x10 x11 x12 x13 x14 x15 = fun _ => 1#1) :
    (0 ≤ x0 (ix2 0 0) ∧ x0 (ix2 0 0) ≠ ⊤) ∧ (0 ≤ x1 (ix2 0 0) ∧ x1 (ix2 0 0) ≠ ⊤) := by
  have h0 := congrFun h (ix2 0 0)
  have h1 := congrFun h (ix2 1 0)
  unfold Cert.Pre_sat.fn at h0 h1
  dsimp only at h0 h1
  refine ⟨test_scale _ ?_, test_scale _ ?_⟩
  · refine Eq.trans ?_ h0
    pointwise []
  · refine Eq.trans ?_ h1
    pointwise []

/-- The precondition gives what the accumulated products need of the two scales. -/
theorem good (m : (ℓ : Loc nD τ sig) → Buf (Elt Ideal) ℓ) (c : Dev nD)
    (h : Cert.Pre_DownIdeal_sat (hPre_sat := Cert.Pre_sat.Gen.facts) m) : Good m c :=
  @fn_scale Cert.Pre_sat.Gen.facts _ _ _ _ _ _ _ _ _ _ _ _ _ _ _ _ (h c)

end Cert.Proof.Down

end
-- ==== Proof.DownClaim.lean ====
/- The down call and its reference end with the same eight arrays, over the extended reals. -/
module

public import proofs.«01_k».proof.Defs
public import proofs.«01_k».proof.Proof.DownFinal
public import proofs.«01_k».proof.Proof.DownRef
public import proofs.«01_k».proof.Proof.DownPre
public import proofs.«01_k».proof.Proof.Gen.DownIdeal
public import proofs.«01_k».proof.Proof.Gen.RefDownIdeal
public import proofs.«01_k».proof.Proof.Gen.RefDownIdeal.Run
public import Idealize.ShloMosaic.Lib.Claim

@[expose] public section

noncomputable section

namespace Cert.Proof.Down

open Idealize.ShloMosaic Idealize.ShloMosaic.TcCoe Idealize.SL.Sem

set_option maxHeartbeats 1000000 in
theorem algebraic : Cert.algebraic_DownIdeal_RefDownIdeal_pre_sat (hDownIdeal := Cert.DownIdeal.Gen.facts)
    (hRefDownIdeal := Cert.RefDownIdeal.Gen.facts) (hPre_sat := Cert.Pre_sat.Gen.facts) := by
  intro m g m' g' hp hag
  refine ⟨fun c => Codes (a3 m c) (a4 m c) (a6 m c) (a7 m c) (a9 m c),
    fun c => Aw m c,
    fun c => Bw m c,
    fun c => Out (a2 m c) (a7 m c) (a13 m c) (Yw m c),
    fun c => Dx (a13 m c) (a14 m c) (a15 m c) (Xw m c),
    fun c => MeanX (a13 m c) (a15 m c) (Xw m c),
    fun c => GammaSub (a5 m c) (Nw m c),
    fun c => GammaIn (a13 m c) (Xw m c), ?_, ?_⟩
  · refine (θ_run Cert.DownIdeal.defs _ _).mono (fun r h c => ?_) (Cert.DownIdeal.Gen.run_main (F := Ideal) m g)
    exact ⟨((h c).1 16).trans (final16 m c),
      ((h c).1 17).trans (final17 m c),
      ((h c).1 18).trans (final18 m c),
      ((h c).1 19).trans (final19 m c),
      ((h c).1 20).trans (final20 m c (good m c hp)),
      ((h c).1 21).trans (final21 m c (good m c hp)),
      ((h c).1 22).trans (final22 m c),
      ((h c).1 23).trans (final23 m c (good m c hp)),
      ((h c).1 0).trans (((Cert.DownIdeal.Gen.dats m 0 c).arrAt_in 0 rfl _).trans ((Cert.DownIdeal.Gen.A_eq m c 0).trans (Cert.DownIdeal.Gen.V_main_arg0 m c))),
      ((h c).1 1).trans (((Cert.DownIdeal.Gen.dats m 0 c).arrAt_in 1 rfl _).trans ((Cert.DownIdeal.Gen.A_eq m c 1).trans (Cert.DownIdeal.Gen.V_main_arg1 m c))),
      ((h c).1 2).trans (((Cert.DownIdeal.Gen.dats m 0 c).arrAt_in 2 rfl _).trans ((Cert.DownIdeal.Gen.A_eq m c 2).trans (Cert.DownIdeal.Gen.V_main_arg2 m c))),
      ((h c).1 3).trans (((Cert.DownIdeal.Gen.dats m 0 c).arrAt_in 3 rfl _).trans ((Cert.DownIdeal.Gen.A_eq m c 3).trans (Cert.DownIdeal.Gen.V_main_arg3 m c))),
      ((h c).1 4).trans (((Cert.DownIdeal.Gen.dats m 0 c).arrAt_in 4 rfl _).trans ((Cert.DownIdeal.Gen.A_eq m c 4).trans (Cert.DownIdeal.Gen.V_main_arg4 m c))),
      ((h c).1 5).trans (((Cert.DownIdeal.Gen.dats m 0 c).arrAt_in 5 rfl _).trans ((Cert.DownIdeal.Gen.A_eq m c 5).trans (Cert.DownIdeal.Gen.V_main_arg5 m c))),
      ((h c).1 6).trans (((Cert.DownIdeal.Gen.dats m 0 c).arrAt_in 6 rfl _).trans ((Cert.DownIdeal.Gen.A_eq m c 6).trans (Cert.DownIdeal.Gen.V_main_arg6 m c))),
      ((h c).1 7).trans (((Cert.DownIdeal.Gen.dats m 0 c).arrAt_in 7 rfl _).trans ((Cert.DownIdeal.Gen.A_eq m c 7).trans (Cert.DownIdeal.Gen.V_main_arg7 m c))),
      ((h c).1 8).trans (((Cert.DownIdeal.Gen.dats m 0 c).arrAt_in 8 rfl _).trans ((Cert.DownIdeal.Gen.A_eq m c 8).trans (Cert.DownIdeal.Gen.V_main_arg8 m c))),
      ((h c).1 9).trans (((Cert.DownIdeal.Gen.dats m 0 c).arrAt_in 9 rfl _).trans ((Cert.DownIdeal.Gen.A_eq m c 9).trans (Cert.DownIdeal.Gen.V_main_arg9 m c))),
      ((h c).1 10).trans (((Cert.DownIdeal.Gen.dats m 0 c).arrAt_in 10 rfl _).trans ((Cert.DownIdeal.Gen.A_eq m c 10).trans (Cert.DownIdeal.Gen.V_main_arg10 m c))),
      ((h c).1 11).trans (((Cert.DownIdeal.Gen.dats m 0 c).arrAt_in 11 rfl _).trans ((Cert.DownIdeal.Gen.A_eq m c 11).trans (Cert.DownIdeal.Gen.V_main_arg11 m c))),
      ((h c).1 12).trans (((Cert.DownIdeal.Gen.dats m 0 c).arrAt_in 12 rfl _).trans ((Cert.DownIdeal.Gen.A_eq m c 12).trans (Cert.DownIdeal.Gen.V_main_arg12 m c))),
      ((h c).1 13).trans (((Cert.DownIdeal.Gen.dats m 0 c).arrAt_in 13 rfl _).trans ((Cert.DownIdeal.Gen.A_eq m c 13).trans (Cert.DownIdeal.Gen.V_main_arg13 m c))),
      ((h c).1 14).trans (((Cert.DownIdeal.Gen.dats m 0 c).arrAt_in 14 rfl _).trans ((Cert.DownIdeal.Gen.A_eq m c 14).trans (Cert.DownIdeal.Gen.V_main_arg14 m c))),
      ((h c).1 15).trans (((Cert.DownIdeal.Gen.dats m 0 c).arrAt_in 15 rfl _).trans ((Cert.DownIdeal.Gen.A_eq m c 15).trans (Cert.DownIdeal.Gen.V_main_arg15 m c)))⟩
  · refine (θ_run Cert.RefDownIdeal.defs _ _).mono (fun r h c => ?_) (Cert.RefDownIdeal.Value.run (F := Ideal) m' g')
    obtain ⟨h0, h1, h2, h3, h4, h5, h6, h7, hs⟩ := h c
    obtain ⟨e0, e1, e2, e3, e4, e5, e6, e7, e8, e9, e10, e11, e12, e13, e14, e15⟩ := hag c
    refine ⟨h0.trans ?_, h1.trans ?_, h2.trans ?_, h3.trans ?_, h4.trans ?_, h5.trans ?_, h6.trans ?_, h7.trans ?_, hs⟩
    · rw [Cert.RefDownIdeal.Read.val_main_v16_eq, e3, e4, e6, e7, e9]
      exact ref16 _ _ _ _ _
    · rw [Cert.RefDownIdeal.Read.val_main_v46_eq, e3, e4, e5, e6, e8, e9]
      exact ref46 _ _ _ _ _ _
    · rw [Cert.RefDownIdeal.Read.val_main_v41_eq, e3, e4, e5, e6, e8, e9]
      exact ref41 _ _ _ _ _ _
    · rw [Cert.RefDownIdeal.Read.val_main_v29_eq, e2, e3, e4, e6, e7, e9, e12, e13]
      exact ref29 _ _ _ _ _ _ _ _
    · rw [Cert.RefDownIdeal.Read.val_main_v89_eq, e0, e1, e3, e4, e5, e6, e8, e9, e10, e11, e13, e14, e15]
      exact ref89 _ _ _ _ _ _ _ _ _ _ _ _ _
    · rw [Cert.RefDownIdeal.Read.val_main_v90_eq, e0, e1, e3, e4, e5, e6, e8, e9, e10, e11, e13, e15]
      exact ref90 _ _ _ _ _ _ _ _ _ _ _ _
    · rw [Cert.RefDownIdeal.Read.val_main_v32_eq, e3, e4, e5, e6]
      exact ref32 _ _ _ _
    · rw [Cert.RefDownIdeal.Read.val_main_v74_eq, e0, e1, e3, e4, e5, e6, e8, e9, e10, e11, e13]
      exact ref74 _ _ _ _ _ _ _ _ _ _ _

end Cert.Proof.Down

end
-- ==== Proof.DwInValue.lean ====
/- What one grid point of the weight gradient product leaves in its output block, and what the output array holds after the
   whole grid: entry (i, j) is the sum over the tokens k of dᵀ(i, k) · g(k, j). -/
module

public import proofs.«01_k».proof.Proof.Gen.DwInIdeal.Value
public import Idealize.ShloMosaic.Lib.Pipeline.ValueKit
public import Idealize.ShloMosaic.Lib.Pointwise

@[expose] public section

noncomputable section

namespace Cert.Proof.DwIn

open Cert.DwInIdeal Cert.DwInIdeal.Gen Idealize.ShloMosaic Idealize.ShloMosaic.TcCoe Idealize.SL.Sem
open scoped BigOperators

/-- The product of a 2560 × 4096 block and a 4096 × 768 block, entry by entry. -/
def prod (x0 : Vec Ideal S2560x4096 .bf16) (x1 : Vec Ideal S4096x768 .bf16) : Vec Ideal S2560x768 .bf16 :=
  fun y => ∑ k : Fin 4096, x0 (ix2 (y 0) k) * x1 (ix2 k (y 1))

/-- The fifteen tiles a grid point stores are the tiles of the product of its two blocks. -/
theorem out_eq (x0 : Vec Ideal S2560x4096 .bf16) (x1 : Vec Ideal S4096x768 .bf16) : out0_2 x0 x1 = prod x0 x1 := by
  funext y
  unfold out0_2
  refine View.canon_apply_of_pieces (prod x0 x1) _ ?_ y (cover0_2 _ _ _ _ _ _ _ _ _ _ _ _ _ _ _ y)
  simp only [List.forall_mem_cons, List.not_mem_nil, IsEmpty.forall_iff, implies_true, and_true]
  refine ⟨?_, ?_, ?_, ?_, ?_, ?_, ?_, ?_, ?_, ?_, ?_, ?_, ?_, ?_, ?_⟩ <;> intro x <;> unfold_payloads <;> unfold prod
  all_goals
    pointwise [dot_S512x4096_S4096x256_S512x256_1_0_0_1_n_n]
    refine Finset.sum_congr rfl fun k _ => ?_
    exact congrArg₂ (fun p q => x0 (ix2 p k) * x1 (ix2 k q)) (Fin.ext ((Rect.idx_unit_val _ _ _ x 0).trans (by first | rfl | exact Nat.zero_add _)).symm)
      (Fin.ext ((Rect.idx_unit_val _ _ _ x 1).trans (by first | rfl | exact Nat.zero_add _)).symm)

variable (m : (ℓ : Loc nD τ sig) → Buf (Elt Ideal) ℓ)

/-- The block numbers of the three windows at a grid point: the left operand is one whole block, the other two move along
    the columns together. -/
theorem ix0_ : ∀ t : Fin cfg0.N, win0_0.index t = ![0, 0] := (by decide +kernel : ∀ t : Fin grid0.N, _)
theorem ix1_ : ∀ t : Fin cfg0.N, win0_1.index t = ![0, t.val] := (by decide +kernel : ∀ t : Fin grid0.N, _)
theorem ix2_ : ∀ t : Fin cfg0.N, win0_2.index t = ![0, t.val] := (by decide +kernel : ∀ t : Fin grid0.N, _)

/-- The product of the two argument arrays, entry by entry. -/
def whole (A : Vec Ideal S2560x4096 .bf16) (B : Vec Ideal S4096x6912 .bf16) : Vec Ideal S2560x6912 .bf16 :=
  fun i => ∑ k : Fin 4096, A (ix2 (i 0) k) * B (ix2 k (i 1))

/-- After the grid the output array is the whole product. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  blk_simp
  rw [after0_2, out_eq]
  unfold prod whole
  refine Fin.sum_fin_congr fun k => ?_
  congr 1 <;> blk_ext [iblk, V, ix0_, ix1_, ix2_]

end Cert.Proof.DwIn

end
-- ==== Proof.DwInClaim.lean ====
/- The weight gradient product kernel and its reference end with the same array, over the extended reals. -/
module

public import proofs.«01_k».proof.Defs
public import proofs.«01_k».proof.Proof.DwInValue
public import proofs.«01_k».proof.Proof.Gen.RefDwInIdeal.Read
public import Idealize.ShloMosaic.Lib.Claim

@[expose] public section

noncomputable section

namespace Cert.Proof.DwIn

open Idealize.ShloMosaic Idealize.ShloMosaic.TcCoe Idealize.SL.Sem
open scoped BigOperators

/-- The reference's result is the product, entry by entry. -/
theorem ref_eq (A : Vec Ideal Cert.DwInIdeal.S2560x4096 .bf16) (B : Vec Ideal Cert.DwInIdeal.S4096x6912 .bf16) :
    Cert.RefDwInIdeal.Read.val_main_v1 (F := Ideal) A B = whole A B := by
  funext i
  refine (Cert.RefDwInIdeal.Read.val_main_v1_apply A B i).trans
    ((Cert.RefDwInIdeal.Read.val_main_v0_apply A B i).trans ?_)
  unfold whole
  refine Fin.sum_fin_congr fun k => ?_
  congr 2 <;> (funext a; fin_cases a <;> rfl)

theorem algebraic : Cert.algebraic_DwInIdeal_RefDwInIdeal (hDwInIdeal := Cert.DwInIdeal.Gen.facts)
    (hRefDwInIdeal := Cert.RefDwInIdeal.Gen.facts) := by
  intro m g m' g' _ hag
  refine ⟨fun c => whole (m ((c.tc : Thread Cert.DwInIdeal.nD Cert.DwInIdeal.τ).loc Cert.DwInIdeal.main_arg0))
    (m ((c.tc : Thread Cert.DwInIdeal.nD Cert.DwInIdeal.τ).loc Cert.DwInIdeal.main_arg1)), ?_, ?_⟩
  · refine (θ_run Cert.DwInIdeal.defs _ _).mono (fun r h c => ?_) (Cert.DwInIdeal.Value.run_blocks (F := Ideal) m g)
    obtain ⟨h0, h1, h2⟩ := h c
    exact ⟨h0.trans (final m c), h1, h2⟩
  · refine (θ_run Cert.RefDwInIdeal.defs _ _).mono (fun r h c => ?_) (Cert.RefDwInIdeal.Value.run (F := Ideal) m' g')
    obtain ⟨h0, h1, h2⟩ := h c
    obtain ⟨e0, e1⟩ := hag c
    refine ⟨h0.trans ?_, h1, h2⟩
    rw [Cert.RefDwInIdeal.Read.val_main_v1_eq, e0, e1]
    exact ref_eq _ _

end Cert.Proof.DwIn

end
-- ==== Proof.DwDownValue.lean ====
/- What one grid point of the down weight gradient leaves in its output block, and what the output array holds at the end. -/
module

public import proofs.«01_k».proof.Proof.Gen.DwDownIdeal.Value
public import Idealize.ShloMosaic.Lib.Pipeline.ValueKit
public import Idealize.ShloMosaic.Lib.Pipeline.ReadBack
public import Idealize.ShloMosaic.Lib.Pointwise

@[expose] public section

noncomputable section

namespace Cert.Proof.DwDown

open Cert.DwDownIdeal Cert.DwDownIdeal.Gen Idealize.ShloMosaic Idealize.ShloMosaic.TcCoe Idealize.SL.Sem
open scoped BigOperators

/-- The block of codes times its row scales, transposed: row `y 0` is a column of the codes. -/
def deq (x0 : Vec Ideal S4096x256 .i8) (x1 : Vec Ideal S4096x128 .f32) : Vec Ideal S256x4096 .bf16 :=
  fun y => FloatOps.sitofp (F := Ideal) .bf16 (x0 (ix2 (y 1) (y 0))) * x1 (ix2 (y 1) 0)

/-- The product of a transposed block with the output gradient. -/
def prod (g : Vec Ideal S256x4096 .bf16) (x2 : Vec Ideal S4096x2560 .bf16) : Vec Ideal S256x2560 .bf16 :=
  fun y => ∑ k : Fin 4096, g (ix2 (y 0) k) * x2 (ix2 k (y 1))

/-- Stores that are blocks of `G` and tile the scratch read back whole as `G`. -/
theorem read_tiles (G : Vec Ideal S256x4096 .bf16) (v : View sig .tc .vmem S256x4096 .bf16)
    (L : List (View.Piece (Elt Ideal) S256x4096 .bf16))
    (inb) (hp : View.PiecesOf G L) (hc : ∀ y, ∃ p ∈ L, y ∈ p.1.set) :
    v.readCov L (Rect.unit (s := S256x4096) ![0, 0] ![256, 4096] inb).toLoadRect = G := by
  rw [View.readCov_eq_canon']
  funext y
  exact (View.canon_apply_of_pieces G L hp.mem _ (hc _)).trans
    (congrArg G (funext fun a => Fin.ext (by
      show (![0, 0] a + 1 * (y a).val) = _
      fin_cases a <;> simp <;> rfl)))

variable (m : (ℓ : Loc nD τ sig) → Buf (Elt Ideal) ℓ)

theorem out_eq (c : Dev nD) (t : Fin cfg0.N) :
    outsAt0 m c t = prod (deq (iblk m c 0 t) (iblk m c 1 t)) (iblk m c 2 t) := by
  unfold outsAt0
  frame_out
  generalize iblk m c 0 t = x0
  generalize iblk m c 1 t = x1
  generalize iblk m c 2 t = x2
  rw [read_tiles (deq x0 x1)]
  · funext y
    refine View.canon_apply_of_pieces (prod (deq x0 x1) x2) _ ?_ y (View.cover_of_tiled_head _ _ _ (by sl_kernel_rfl) y)
    generalize deq x0 x1 = g
    simp only [List.forall_mem_cons, List.not_mem_nil, IsEmpty.forall_iff, implies_true, and_true]
    refine ⟨?_, ?_, ?_, ?_, ?_⟩ <;> intro x <;> unfold_payloads <;> unfold prod
    all_goals
      pointwise [dot_S256x4096_S4096x512_S256x512_1_0_0_1_n_n]
      refine Finset.sum_congr rfl fun k _ => ?_
      exact congrArg₂ (fun p q => g (ix2 p k) * x2 (ix2 k q))
        (Fin.ext ((Rect.idx_unit_val _ _ _ x 0).trans (by first | rfl | exact Nat.zero_add _)).symm)
        (Fin.ext ((Rect.idx_unit_val _ _ _ x 1).trans (by first | rfl | exact Nat.zero_add _)).symm)
  · refine ⟨?_, ?_, ?_, ?_, ?_, ?_, ?_, ?_, ?_, ?_, ?_, ?_, ?_, ?_, ?_, ?_, trivial⟩
      <;> intro x <;> unfold_payloads <;> unfold deq
    all_goals
      pointwise []
      exact congrArg₂ (fun p q => FloatOps.sitofp (F := Ideal) .bf16 (x0 (ix2 q p)) * x1 (ix2 q 0))
        (Fin.ext ((Rect.idx_unit_val _ _ _ x 0).trans (by first | rfl | exact Nat.zero_add _)).symm)
        (Fin.ext ((Rect.idx_unit_val _ _ _ x 1).trans (by first | rfl | exact Nat.zero_add _)).symm)
  · exact fun y => View.cover_of_tiled_head _ _ _ (by sl_kernel_rfl) y

/-- The block numbers of the four windows at a grid point: the codes and the output move together, the other two are whole. -/
theorem ix0_ : ∀ t : Fin cfg0.N, win0_0.index t = ![0, t.val] := (by decide +kernel : ∀ t : Fin grid0.N, _)
theorem ix1_ : ∀ t : Fin cfg0.N, win0_1.index t = ![0, 0] := (by decide +kernel : ∀ t : Fin grid0.N, _)
theorem ix2_ : ∀ t : Fin cfg0.N, win0_2.index t = ![0, 0] := (by decide +kernel : ∀ t : Fin grid0.N, _)
theorem ix3_ : ∀ t : Fin cfg0.N, win0_3.index t = ![t.val, 0] := (by decide +kernel : ∀ t : Fin grid0.N, _)

/-- The transposed dequantised codes times the output gradient, entry by entry. -/
def whole (Q : Vec Ideal S4096x6912 .i8) (s : Vec Ideal S4096x128 .f32) (d : Vec Ideal S4096x2560 .bf16) : Vec Ideal S6912x2560 .bf16 :=
  fun i => ∑ k : Fin 4096, FloatOps.sitofp (F := Ideal) .bf16 (Q (ix2 k (i 0))) * s (ix2 k 0) * d (ix2 k (i 1))

/-- After the grid the output array is the whole product. -/
theorem final (c : Dev nD) : (dats m 0 c).arrAt 3 cfg0.N = whole (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3, out_eq]
  unfold prod deq whole
  refine Fin.sum_fin_congr fun k => ?_
  congr 1
  · congr 1
    · congr 1; blk_ext [iblk, V, ix0_, ix1_, ix2_, ix3_]
    · blk_ext [iblk, V, ix0_, ix1_, ix2_, ix3_]
  · blk_ext [iblk, V, ix0_, ix1_, ix2_, ix3_]

end Cert.Proof.DwDown

end
-- ==== Proof.DwDownClaim.lean ====
/- The down weight gradient kernel and its reference end with the same array, over the extended reals. -/
module

public import proofs.«01_k».proof.Defs
public import proofs.«01_k».proof.Proof.DwDownValue
public import proofs.«01_k».proof.Proof.Gen.RefDwDownIdeal.Read
public import Idealize.ShloMosaic.Lib.Claim

@[expose] public section

noncomputable section

namespace Cert.Proof.DwDown

open Idealize.ShloMosaic Idealize.ShloMosaic.TcCoe Idealize.SL.Sem
open scoped BigOperators

/-- A code widened to 32 bits stands for the same number. -/
theorem sitofp_ext (f g : FTy) (x : BitVec 8) :
    FloatOps.sitofp (F := Ideal) f (x.signExtend 32) = FloatOps.sitofp (F := Ideal) g x := by
  show (((x.signExtend 32).toInt : ℝ) : EReal) = ((x.toInt : ℝ) : EReal)
  rw [BitVec.toInt_signExtend_of_le (by decide)]

/-- The reference's result, entry by entry. -/
theorem ref_eq (Q : Vec Ideal Cert.DwDownIdeal.S4096x6912 .i8) (s : Vec Ideal Cert.DwDownIdeal.S4096x128 .f32)
    (d : Vec Ideal Cert.DwDownIdeal.S4096x2560 .bf16) :
    Cert.RefDwDownIdeal.Read.val_main_v8 (F := Ideal) Q s d = whole Q s d := by
  funext i
  refine (Cert.RefDwDownIdeal.Read.val_main_v8_apply Q s d i).trans
    ((Cert.RefDwDownIdeal.Read.val_main_v7_apply Q s d i).trans ?_)
  unfold whole
  refine Fin.sum_fin_congr fun k => ?_
  refine congrArg₂ (· * ·) (congrArg₂ (· * ·) ((sitofp_ext _ .bf16 _).trans (congrArg _ (congrArg Q ?_))) (congrArg s ?_)) (congrArg d ?_) <;>
    (funext a; fin_cases a <;> first | rfl | exact Fin.ext (Nat.zero_add _))

theorem algebraic : Cert.algebraic_DwDownIdeal_RefDwDownIdeal (hDwDownIdeal := Cert.DwDownIdeal.Gen.facts)
    (hRefDwDownIdeal := Cert.RefDwDownIdeal.Gen.facts) := by
  intro m g m' g' _ hag
  refine ⟨fun c => whole (m ((c.tc : Thread Cert.DwDownIdeal.nD Cert.DwDownIdeal.τ).loc Cert.DwDownIdeal.main_arg0))
    (m ((c.tc : Thread Cert.DwDownIdeal.nD Cert.DwDownIdeal.τ).loc Cert.DwDownIdeal.main_arg1))
    (m ((c.tc : Thread Cert.DwDownIdeal.nD Cert.DwDownIdeal.τ).loc Cert.DwDownIdeal.main_arg2)), ?_, ?_⟩
  · refine (θ_run Cert.DwDownIdeal.defs _ _).mono (fun r h c => ?_) (Cert.DwDownIdeal.Value.run_blocks (F := Ideal) m g)
    obtain ⟨h0, hs⟩ := h c
    exact ⟨h0.trans (final m c), hs⟩
  · refine (θ_run Cert.RefDwDownIdeal.defs _ _).mono (fun r h c => ?_) (Cert.RefDwDownIdeal.Value.run (F := Ideal) m' g')
    obtain ⟨h0, hs⟩ := h c
    obtain ⟨e0, e1, e2⟩ := hag c
    refine ⟨h0.trans ?_, hs⟩
    rw [Cert.RefDwDownIdeal.Read.val_main_v8_eq, e0, e1, e2]
    exact ref_eq _ _ _

end Cert.Proof.DwDown

end
-- ==== Proof.lean ====
/- The claims: every kernel and every reference runs to completion with its arguments unchanged, and over the extended
   reals each kernel ends with the arrays its reference ends with. The value theorems are in the modules named after the kernels. -/
module

public import proofs.«01_k».proof.Defs
public import proofs.«01_k».proof.Proof.Gen.Wscale.Frame
public import proofs.«01_k».proof.Proof.Gen.WscaleIdeal.Frame
public import proofs.«01_k».proof.Proof.Gen.RefWscaleIdeal.Run
public import proofs.«01_k».proof.Proof.WscaleClaim
public import proofs.«01_k».proof.Proof.Gen.Wquant.Frame
public import proofs.«01_k».proof.Proof.Gen.WquantIdeal.Frame
public import proofs.«01_k».proof.Proof.Gen.RefWquantIdeal.Run
public import proofs.«01_k».proof.Proof.WquantClaim
public import proofs.«01_k».proof.Proof.Gen.Xnorm.Frame
public import proofs.«01_k».proof.Proof.Gen.XnormIdeal.Frame
public import proofs.«01_k».proof.Proof.Gen.RefXnormIdeal.Run
public import proofs.«01_k».proof.Proof.XnormClaim
public import proofs.«01_k».proof.Proof.UpMachine
public import proofs.«01_k».proof.Proof.Gen.RefUpIdeal.Run
public import proofs.«01_k».proof.Proof.UpClaim
public import proofs.«01_k».proof.Proof.DownMachine
public import proofs.«01_k».proof.Proof.Gen.RefDownIdeal.Run
public import proofs.«01_k».proof.Proof.DownClaim
public import proofs.«01_k».proof.Proof.Gen.DwIn.Frame
public import proofs.«01_k».proof.Proof.Gen.DwInIdeal.Frame
public import proofs.«01_k».proof.Proof.Gen.RefDwInIdeal.Run
public import proofs.«01_k».proof.Proof.DwInClaim
public import proofs.«01_k».proof.Proof.Gen.DwDown.Frame
public import proofs.«01_k».proof.Proof.Gen.DwDownIdeal.Frame
public import proofs.«01_k».proof.Proof.Gen.RefDwDownIdeal.Run
public import proofs.«01_k».proof.Proof.DwDownClaim
public import proofs.«01_k».proof.Proof.Gen.Pre_sat
public import Idealize.ShloMosaic.Adequacy

@[expose] public section

noncomputable section

namespace Cert.Proof

open Idealize.ShloMosaic Idealize.SL.Sem

/-- The Wscale kernel runs, leaves its arguments unchanged and every semaphore at zero, with floats as bit patterns. -/
theorem frame_Wscale : Cert.quiescent_Wscale (hWscale := Cert.Wscale.Gen.facts) :=
  fun m g _ => Cert.Wscale.Gen.frame (F := Bits) m g

/-- The same over the extended reals. -/
theorem frame_WscaleIdeal : Cert.quiescent_WscaleIdeal (hWscaleIdeal := Cert.WscaleIdeal.Gen.facts) :=
  fun m g _ => Cert.WscaleIdeal.Gen.frame (F := Ideal) m g

/-- The reference runs and leaves its arguments unchanged; it has no semaphore. -/
theorem frame_RefWscaleIdeal : Cert.quiescent_RefWscaleIdeal (hRefWscaleIdeal := Cert.RefWscaleIdeal.Gen.facts) :=
  fun m g _ => (θ_run Cert.RefWscaleIdeal.defs _ _).mono
    (fun r h => ⟨fun c => (h c).2.2.2, sem_eq_zero_of_no_sems (by decide) r.2⟩)
    (Cert.RefWscaleIdeal.Value.run (F := Ideal) m g)

/-- The Wquant kernel runs, leaves its arguments unchanged and every semaphore at zero, with floats as bit patterns. -/
theorem frame_Wquant : Cert.quiescent_Wquant (hWquant := Cert.Wquant.Gen.facts) :=
  fun m g _ => Cert.Wquant.Gen.frame (F := Bits) m g

/-- The same over the extended reals. -/
theorem frame_WquantIdeal : Cert.quiescent_WquantIdeal (hWquantIdeal := Cert.WquantIdeal.Gen.facts) :=
  fun m g _ => Cert.WquantIdeal.Gen.frame (F := Ideal) m g

/-- The reference runs and leaves its arguments unchanged; it has no semaphore. -/
theorem frame_RefWquantIdeal : Cert.quiescent_RefWquantIdeal (hRefWquantIdeal := Cert.RefWquantIdeal.Gen.facts) :=
  fun m g _ => (θ_run Cert.RefWquantIdeal.defs _ _).mono
    (fun r h => ⟨fun c => (h c).2.2.2.2.2.2, sem_eq_zero_of_no_sems (by decide) r.2⟩)
    (Cert.RefWquantIdeal.Value.run (F := Ideal) m g)

/-- The Xnorm kernel runs, leaves its arguments unchanged and every semaphore at zero, with floats as bit patterns. -/
theorem frame_Xnorm : Cert.quiescent_Xnorm (hXnorm := Cert.Xnorm.Gen.facts) :=
  fun m g _ => Cert.Xnorm.Gen.frame (F := Bits) m g

/-- The same over the extended reals. -/
theorem frame_XnormIdeal : Cert.quiescent_XnormIdeal (hXnormIdeal := Cert.XnormIdeal.Gen.facts) :=
  fun m g _ => Cert.XnormIdeal.Gen.frame (F := Ideal) m g

/-- The reference runs and leaves its arguments unchanged; it has no semaphore. -/
theorem frame_RefXnormIdeal : Cert.quiescent_RefXnormIdeal (hRefXnormIdeal := Cert.RefXnormIdeal.Gen.facts) :=
  fun m g _ => (θ_run Cert.RefXnormIdeal.defs _ _).mono
    (fun r h => ⟨fun c => (h c).2.2.2, sem_eq_zero_of_no_sems (by decide) r.2⟩)
    (Cert.RefXnormIdeal.Value.run (F := Ideal) m g)

/-- The Up kernel runs, leaves its arguments unchanged and every semaphore at zero, with floats as bit patterns. -/
theorem frame_Up : Cert.quiescent_Up (hUp := Cert.Up.Gen.facts) :=
  Up.frame_machine

/-- The same over the extended reals. -/
theorem frame_UpIdeal : Cert.quiescent_UpIdeal (hUpIdeal := Cert.UpIdeal.Gen.facts) :=
  fun m g _ => Cert.UpIdeal.Gen.frame (F := Ideal) m g

/-- The reference runs and leaves its arguments unchanged; it has no semaphore. -/
theorem frame_RefUpIdeal : Cert.quiescent_RefUpIdeal (hRefUpIdeal := Cert.RefUpIdeal.Gen.facts) :=
  fun m g _ => (θ_run Cert.RefUpIdeal.defs _ _).mono
    (fun r h => ⟨fun c => (h c).2.2.2.2.2.2, sem_eq_zero_of_no_sems (by decide) r.2⟩)
    (Cert.RefUpIdeal.Value.run (F := Ideal) m g)

/-- The Down kernel runs, leaves its arguments unchanged and every semaphore at zero, with floats as bit patterns. -/
theorem frame_Down : Cert.quiescent_Down (hDown := Cert.Down.Gen.facts) :=
  Down.frame_machine

/-- The same over the extended reals. -/
theorem frame_DownIdeal : Cert.quiescent_DownIdeal (hDownIdeal := Cert.DownIdeal.Gen.facts) :=
  fun m g _ => Cert.DownIdeal.Gen.frame (F := Ideal) m g

/-- The reference runs and leaves its arguments unchanged; it has no semaphore. -/
theorem frame_RefDownIdeal : Cert.quiescent_RefDownIdeal (hRefDownIdeal := Cert.RefDownIdeal.Gen.facts) :=
  fun m g _ => (θ_run Cert.RefDownIdeal.defs _ _).mono
    (fun r h => ⟨fun c => (h c).2.2.2.2.2.2.2.2, sem_eq_zero_of_no_sems (by decide) r.2⟩)
    (Cert.RefDownIdeal.Value.run (F := Ideal) m g)

/-- The frames under the precondition are the frames. -/
theorem frame_DownIdeal_sat : Cert.quiescent_DownIdeal_pre_sat (hDownIdeal := Cert.DownIdeal.Gen.facts) (hPre_sat := Cert.Pre_sat.Gen.facts) :=
  fun m g _ => Cert.DownIdeal.Gen.frame (F := Ideal) m g

theorem frame_RefDownIdeal_sat : Cert.quiescent_RefDownIdeal_pre_sat (hRefDownIdeal := Cert.RefDownIdeal.Gen.facts) (hPre_sat := Cert.Pre_sat.Gen.facts) :=
  fun m g _ => frame_RefDownIdeal m g trivial

/-- The DwIn kernel runs, leaves its arguments unchanged and every semaphore at zero, with floats as bit patterns. -/
theorem frame_DwIn : Cert.quiescent_DwIn (hDwIn := Cert.DwIn.Gen.facts) :=
  fun m g _ => Cert.DwIn.Gen.frame (F := Bits) m g

/-- The same over the extended reals. -/
theorem frame_DwInIdeal : Cert.quiescent_DwInIdeal (hDwInIdeal := Cert.DwInIdeal.Gen.facts) :=
  fun m g _ => Cert.DwInIdeal.Gen.frame (F := Ideal) m g

/-- The reference runs and leaves its arguments unchanged; it has no semaphore. -/
theorem frame_RefDwInIdeal : Cert.quiescent_RefDwInIdeal (hRefDwInIdeal := Cert.RefDwInIdeal.Gen.facts) :=
  fun m g _ => (θ_run Cert.RefDwInIdeal.defs _ _).mono
    (fun r h => ⟨fun c => (h c).2, sem_eq_zero_of_no_sems (by decide) r.2⟩)
    (Cert.RefDwInIdeal.Value.run (F := Ideal) m g)

/-- The DwDown kernel runs, leaves its arguments unchanged and every semaphore at zero, with floats as bit patterns. -/
theorem frame_DwDown : Cert.quiescent_DwDown (hDwDown := Cert.DwDown.Gen.facts) :=
  fun m g _ => Cert.DwDown.Gen.frame (F := Bits) m g

/-- The same over the extended reals. -/
theorem frame_DwDownIdeal : Cert.quiescent_DwDownIdeal (hDwDownIdeal := Cert.DwDownIdeal.Gen.facts) :=
  fun m g _ => Cert.DwDownIdeal.Gen.frame (F := Ideal) m g

/-- The reference runs and leaves its arguments unchanged; it has no semaphore. -/
theorem frame_RefDwDownIdeal : Cert.quiescent_RefDwDownIdeal (hRefDwDownIdeal := Cert.RefDwDownIdeal.Gen.facts) :=
  fun m g _ => (θ_run Cert.RefDwDownIdeal.defs _ _).mono
    (fun r h => ⟨fun c => (h c).2, sem_eq_zero_of_no_sems (by decide) r.2⟩)
    (Cert.RefDwDownIdeal.Value.run (F := Ideal) m g)

theorem claim : Cert.Claim := ⟨Cert.Wscale.Gen.facts, Cert.WscaleIdeal.Gen.facts, Cert.RefWscaleIdeal.Gen.facts, Cert.Wquant.Gen.facts, Cert.WquantIdeal.Gen.facts, Cert.RefWquantIdeal.Gen.facts, Cert.Xnorm.Gen.facts, Cert.XnormIdeal.Gen.facts, Cert.RefXnormIdeal.Gen.facts, Cert.Up.Gen.facts, Cert.UpIdeal.Gen.facts, Cert.RefUpIdeal.Gen.facts, Cert.Down.Gen.facts, Cert.DownIdeal.Gen.facts, Cert.RefDownIdeal.Gen.facts, Cert.DwIn.Gen.facts, Cert.DwInIdeal.Gen.facts, Cert.RefDwInIdeal.Gen.facts, Cert.DwDown.Gen.facts, Cert.DwDownIdeal.Gen.facts, Cert.RefDwDownIdeal.Gen.facts, Cert.Pre_sat.Gen.facts,
  frame_Wscale, frame_WscaleIdeal, frame_RefWscaleIdeal, frame_Wquant, frame_WquantIdeal, frame_RefWquantIdeal, frame_Xnorm, frame_XnormIdeal, frame_RefXnormIdeal, frame_Up, frame_UpIdeal, frame_RefUpIdeal, frame_Down, frame_DownIdeal, frame_DownIdeal_sat, frame_RefDownIdeal, frame_RefDownIdeal_sat, frame_DwIn, frame_DwInIdeal, frame_RefDwInIdeal, frame_DwDown, frame_DwDownIdeal, frame_RefDwDownIdeal, trivial, Wscale.algebraic, trivial, Wquant.algebraic, trivial, Xnorm.algebraic, trivial, Up.algebraic, trivial, Down.algebraic, trivial, DwIn.algebraic, trivial, DwDown.algebraic⟩

end Cert.Proof

end
